-- ==== Defs.lean ====
def Pre_Kernel [hPre_rows_apart : Cert.Pre_rows_apart.Facts] (m : (ℓ : Loc Cert.Kernel.nD Cert.Kernel.τ Cert.Kernel.sig) → Buf (Elt Bits) ℓ) : Prop :=
  ∀ c : Dev Cert.Kernel.nD,
    (Cert.Pre_rows_apart.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_rows_apart : Cert.Pre_rows_apart.Facts] (m : (ℓ : Loc Cert.KernelIdeal.nD Cert.KernelIdeal.τ Cert.KernelIdeal.sig) → Buf (Elt Ideal) ℓ) : Prop :=
  ∀ c : Dev Cert.KernelIdeal.nD,
    (Cert.Pre_rows_apart.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_rows_apart : Cert.Pre_rows_apart.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rows_apart.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Reference [hPre_rows_apart : Cert.Pre_rows_apart.Facts] (m : (ℓ : Loc Cert.Reference.nD Cert.Reference.τ Cert.Reference.sig) → Buf (Elt Bits) ℓ) : Prop :=
  ∀ c : Dev Cert.Reference.nD,
    (Cert.Pre_rows_apart.fn (F := Bits) (m ((c.tc : Thread Cert.Reference.nD Cert.Reference.τ).loc Cert.Reference.main_arg0)) (m ((c.tc : Thread Cert.Reference.nD Cert.Reference.τ).loc Cert.Reference.main_arg1)) (m ((c.tc : Thread Cert.Reference.nD Cert.Reference.τ).loc Cert.Reference.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_all_finite [hPre_all_finite : Cert.Pre_all_finite.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_all_finite.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10)) (m ((c.tc : Thread Cert.Kernel3Ideal.nD Cert.Kernel3Ideal.τ).loc Cert.Kernel3Ideal.main_arg11)) (m ((c.tc : Thread Cert.Kernel3Ideal.nD Cert.Kernel3Ideal.τ).loc Cert.Kernel3Ideal.main_arg12)) (m ((c.tc : Thread Cert.Kernel3Ideal.nD Cert.Kernel3Ideal.τ).loc Cert.Kernel3Ideal.main_arg13)) (m ((c.tc : Thread Cert.Kernel3Ideal.nD Cert.Kernel3Ideal.τ).loc Cert.Kernel3Ideal.main_arg14))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_all_finite [hPre_all_finite : Cert.Pre_all_finite.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_all_finite.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10)) (m ((c.tc : Thread Cert.Reference3Ideal.nD Cert.Reference3Ideal.τ).loc Cert.Reference3Ideal.main_arg11)) (m ((c.tc : Thread Cert.Reference3Ideal.nD Cert.Reference3Ideal.τ).loc Cert.Reference3Ideal.main_arg12)) (m ((c.tc : Thread Cert.Reference3Ideal.nD Cert.Reference3Ideal.τ).loc Cert.Reference3Ideal.main_arg13)) (m ((c.tc : Thread Cert.Reference3Ideal.nD Cert.Reference3Ideal.τ).loc Cert.Reference3Ideal.main_arg14))) = (fun _ => 1#1)

def quiescent_Kernel [hKernel : Cert.Kernel.Facts] [hPre_rows_apart : Cert.Pre_rows_apart.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_rows_apart : Cert.Pre_rows_apart.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] [hPre_rows_apart : Cert.Pre_rows_apart.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Reference [hReference : Cert.Reference.Facts] [hPre_rows_apart : Cert.Pre_rows_apart.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12)
      ∧ r.2.mem ((c.tc : Thread Cert.Kernel3.nD Cert.Kernel3.τ).loc Cert.Kernel3.main_arg13) = m ((c.tc : Thread Cert.Kernel3.nD Cert.Kernel3.τ).loc Cert.Kernel3.main_arg13)
      ∧ r.2.mem ((c.tc : Thread Cert.Kernel3.nD Cert.Kernel3.τ).loc Cert.Kernel3.main_arg14) = m ((c.tc : Thread Cert.Kernel3.nD Cert.Kernel3.τ).loc Cert.Kernel3.main_arg14))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
      ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
      ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14))
      ∧ r.2.sem = fun _ => 0)

def quiescent_Kernel3Ideal_pre_all_finite [hKernel3Ideal : Cert.Kernel3Ideal.Facts] [hPre_all_finite : Cert.Pre_all_finite.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_all_finite m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
      ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
      ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12)
      ∧ r.2.mem ((c.tc : Thread Cert.Reference3Ideal.nD Cert.Reference3Ideal.τ).loc Cert.Reference3Ideal.main_arg13) = m ((c.tc : Thread Cert.Reference3Ideal.nD Cert.Reference3Ideal.τ).loc Cert.Reference3Ideal.main_arg13)
      ∧ r.2.mem ((c.tc : Thread Cert.Reference3Ideal.nD Cert.Reference3Ideal.τ).loc Cert.Reference3Ideal.main_arg14) = m ((c.tc : Thread Cert.Reference3Ideal.nD Cert.Reference3Ideal.τ).loc Cert.Reference3Ideal.main_arg14))
      ∧ r.2.sem = fun _ => 0)

def quiescent_Reference3Ideal_pre_all_finite [hReference3Ideal : Cert.Reference3Ideal.Facts] [hPre_all_finite : Cert.Pre_all_finite.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_all_finite m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12)
      ∧ r.2.mem ((c.tc : Thread Cert.Reference3Ideal.nD Cert.Reference3Ideal.τ).loc Cert.Reference3Ideal.main_arg13) = m ((c.tc : Thread Cert.Reference3Ideal.nD Cert.Reference3Ideal.τ).loc Cert.Reference3Ideal.main_arg13)
      ∧ r.2.mem ((c.tc : Thread Cert.Reference3Ideal.nD Cert.Reference3Ideal.τ).loc Cert.Reference3Ideal.main_arg14) = m ((c.tc : Thread Cert.Reference3Ideal.nD Cert.Reference3Ideal.τ).loc Cert.Reference3Ideal.main_arg14))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_rows_apart : Cert.Pre_rows_apart.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def bitexact_Kernel_Reference [hKernel : Cert.Kernel.Facts] [hReference : Cert.Reference.Facts] [hPre_rows_apart : Cert.Pre_rows_apart.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)
      ∧ m' ((c.tc : Thread Cert.Reference.nD Cert.Reference.τ).loc Cert.Reference.main_arg2) = m ((c.tc : Thread Cert.Kernel.nD Cert.Kernel.τ).loc Cert.Kernel.main_arg2)) →
    ∃ (v0 : (c : Dev Cert.Kernel.nD) → Buf (Elt Bits) ((c.tc : Thread Cert.Kernel.nD Cert.Kernel.τ).loc Cert.Kernel.main_v0)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v0) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1)
          ∧ r.2.mem ((c.tc : Thread Cert.Kernel.nD Cert.Kernel.τ).loc Cert.Kernel.main_arg2) = m ((c.tc : Thread Cert.Kernel.nD Cert.Kernel.τ).loc Cert.Kernel.main_arg2))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v20) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1)
          ∧ r.2.mem ((c.tc : Thread Cert.Reference.nD Cert.Reference.τ).loc Cert.Reference.main_arg2) = m' ((c.tc : Thread Cert.Reference.nD Cert.Reference.τ).loc Cert.Reference.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v9_0)) (v1 : (c : Dev Cert.Kernel2Ideal.nD) → Buf (Elt Ideal) ((c.tc : Thread Cert.Kernel2Ideal.nD Cert.Kernel2Ideal.τ).loc Cert.Kernel2Ideal.main_v9_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v9_0) = v0 c
          ∧ r.2.mem ((c.tc : Thread Cert.Kernel2Ideal.nD Cert.Kernel2Ideal.τ).loc Cert.Kernel2Ideal.main_v9_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v40) = v0 c
          ∧ r.2.mem ((c.tc : Thread Cert.Reference2Ideal.nD Cert.Reference2Ideal.τ).loc Cert.Reference2Ideal.main_v41) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal_pre_all_finite [hKernel3Ideal : Cert.Kernel3Ideal.Facts] [hReference3Ideal : Cert.Reference3Ideal.Facts] [hPre_all_finite : Cert.Pre_all_finite.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_all_finite m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
      ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)
      ∧ m' ((c.tc : Thread Cert.Reference3Ideal.nD Cert.Reference3Ideal.τ).loc Cert.Reference3Ideal.main_arg13) = m ((c.tc : Thread Cert.Kernel3Ideal.nD Cert.Kernel3Ideal.τ).loc Cert.Kernel3Ideal.main_arg13)
      ∧ m' ((c.tc : Thread Cert.Reference3Ideal.nD Cert.Reference3Ideal.τ).loc Cert.Reference3Ideal.main_arg14) = m ((c.tc : Thread Cert.Kernel3Ideal.nD Cert.Kernel3Ideal.τ).loc Cert.Kernel3Ideal.main_arg14)) →
    ∃ (v0 : (c : Dev Cert.Kernel3Ideal.nD) → Buf (Elt Ideal) ((c.tc : Thread Cert.Kernel3Ideal.nD Cert.Kernel3Ideal.τ).loc Cert.Kernel3Ideal.main_v25_0)) (v1 : (c : Dev Cert.Kernel3Ideal.nD) → Buf (Elt Ideal) ((c.tc : Thread Cert.Kernel3Ideal.nD Cert.Kernel3Ideal.τ).loc Cert.Kernel3Ideal.main_v25_1)) (v2 : (c : Dev Cert.Kernel3Ideal.nD) → Buf (Elt Ideal) ((c.tc : Thread Cert.Kernel3Ideal.nD Cert.Kernel3Ideal.τ).loc Cert.Kernel3Ideal.main_v25_2)) (v3 : (c : Dev Cert.Kernel3Ideal.nD) → Buf (Elt Ideal) ((c.tc : Thread Cert.Kernel3Ideal.nD Cert.Kernel3Ideal.τ).loc Cert.Kernel3Ideal.main_v25_3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v25_0) = v0 c
          ∧ r.2.mem ((c.tc : Thread Cert.Kernel3Ideal.nD Cert.Kernel3Ideal.τ).loc Cert.Kernel3Ideal.main_v25_1) = v1 c
          ∧ r.2.mem ((c.tc : Thread Cert.Kernel3Ideal.nD Cert.Kernel3Ideal.τ).loc Cert.Kernel3Ideal.main_v25_2) = v2 c
          ∧ r.2.mem ((c.tc : Thread Cert.Kernel3Ideal.nD Cert.Kernel3Ideal.τ).loc Cert.Kernel3Ideal.main_v25_3) = v3 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
          ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
          ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
          ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v100) = v0 c
          ∧ r.2.mem ((c.tc : Thread Cert.Reference3Ideal.nD Cert.Reference3Ideal.τ).loc Cert.Reference3Ideal.main_v101) = v1 c
          ∧ r.2.mem ((c.tc : Thread Cert.Reference3Ideal.nD Cert.Reference3Ideal.τ).loc Cert.Reference3Ideal.main_v99) = v2 c
          ∧ r.2.mem ((c.tc : Thread Cert.Reference3Ideal.nD Cert.Reference3Ideal.τ).loc Cert.Reference3Ideal.main_v102) = v3 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11)
          ∧ r.2.mem ((c.tc : Thread Cert.Reference3Ideal.nD Cert.Reference3Ideal.τ).loc Cert.Reference3Ideal.main_arg12) = m' ((c.tc : Thread Cert.Reference3Ideal.nD Cert.Reference3Ideal.τ).loc Cert.Reference3Ideal.main_arg12)
          ∧ r.2.mem ((c.tc : Thread Cert.Reference3Ideal.nD Cert.Reference3Ideal.τ).loc Cert.Reference3Ideal.main_arg13) = m' ((c.tc : Thread Cert.Reference3Ideal.nD Cert.Reference3Ideal.τ).loc Cert.Reference3Ideal.main_arg13)
          ∧ r.2.mem ((c.tc : Thread Cert.Reference3Ideal.nD Cert.Reference3Ideal.τ).loc Cert.Reference3Ideal.main_arg14) = m' ((c.tc : Thread Cert.Reference3Ideal.nD Cert.Reference3Ideal.τ).loc Cert.Reference3Ideal.main_arg14))

def Claim : Prop :=
  ∃ (hKernel : Cert.Kernel.Facts) (hKernelIdeal : Cert.KernelIdeal.Facts) (hReferenceIdeal : Cert.ReferenceIdeal.Facts) (hReference : Cert.Reference.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_rows_apart : Cert.Pre_rows_apart.Facts) (hPre_all_finite : Cert.Pre_all_finite.Facts),
    quiescent_Kernel (hKernel := hKernel) (hPre_rows_apart := hPre_rows_apart)
    ∧ quiescent_KernelIdeal (hKernelIdeal := hKernelIdeal) (hPre_rows_apart := hPre_rows_apart)
    ∧ quiescent_ReferenceIdeal (hReferenceIdeal := hReferenceIdeal) (hPre_rows_apart := hPre_rows_apart)
    ∧ quiescent_Reference (hReference := hReference) (hPre_rows_apart := hPre_rows_apart)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_all_finite (hKernel3Ideal := hKernel3Ideal) (hPre_all_finite := hPre_all_finite)
    ∧ quiescent_Reference3Ideal (hReference3Ideal := hReference3Ideal)
    ∧ quiescent_Reference3Ideal_pre_all_finite (hReference3Ideal := hReference3Ideal) (hPre_all_finite := hPre_all_finite)
    ∧ preserves_Kernel_KernelIdeal
    ∧ algebraic_KernelIdeal_ReferenceIdeal (hKernelIdeal := hKernelIdeal) (hReferenceIdeal := hReferenceIdeal) (hPre_rows_apart := hPre_rows_apart)
    ∧ bitexact_Kernel_Reference (hKernel := hKernel) (hReference := hReference) (hPre_rows_apart := hPre_rows_apart)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_all_finite (hKernel3Ideal := hKernel3Ideal) (hReference3Ideal := hReference3Ideal) (hPre_all_finite := hPre_all_finite)
-- ==== Pre_all_finite.lean ====
abbrev S16384x2048 : Shape := ⟨2, ![16384, 2048]⟩
abbrev S16384x11264 : Shape := ⟨2, ![16384, 11264]⟩
abbrev S16384x1024 : Shape := ⟨2, ![16384, 1024]⟩
abbrev S4x4096x1024 : Shape := ⟨3, ![4, 4096, 1024]⟩
abbrev S8x6144 : Shape := ⟨2, ![8, 6144]⟩
abbrev S1x2048 : Shape := ⟨2, ![1, 2048]⟩
abbrev S1x1024 : Shape := ⟨2, ![1, 1024]⟩
abbrev S1x2048x1024 : Shape := ⟨3, ![1, 2048, 1024]⟩
abbrev S1x1024x1024 : Shape := ⟨3, ![1, 1024, 1024]⟩
abbrev S1x1024x32 : Shape := ⟨3, ![1, 1024, 32]⟩
abbrev S1x32 : Shape := ⟨2, ![1, 32]⟩
abbrev S1x1024x4 : Shape := ⟨3, ![1, 1024, 4]⟩
abbrev S1x4 : Shape := ⟨2, ![1, 4]⟩
abbrev S4x2048 : Shape := ⟨2, ![4, 2048]⟩
abbrev S_ : Shape := ⟨0, ![]⟩

class Facts : Prop where
  slices_S16384x11264_S16384x2048_0_4096 : S16384x11264.Slices ![0, 4096] S16384x2048
  slices_S8x6144_S4x2048_0_3072 : S8x6144.Slices ![0, 3072] S4x2048
  bcast_S_S16384x2048 : S_.BroadcastsInDim S16384x2048 (![] : Fin 0 → Fin S16384x2048.rank)
  reducesTo_S16384x2048_S_d0_1 : S16384x2048.ReducesTo [0, 1] S_
  h_S_ : 0 < S_.numel
  bcast_S_S4x2048 : S_.BroadcastsInDim S4x2048 (![] : Fin 0 → Fin S4x2048.rank)
  reducesTo_S4x2048_S_d0_1 : S4x2048.ReducesTo [0, 1] S_
  bcast_S_S1x1024 : S_.BroadcastsInDim S1x1024 (![] : Fin 0 → Fin S1x1024.rank)
  reducesTo_S1x1024_S_d0_1 : S1x1024.ReducesTo [0, 1] S_
  bcast_S_S1x1024x32 : S_.BroadcastsInDim S1x1024x32 (![] : Fin 0 → Fin S1x1024x32.rank)
  reducesTo_S1x1024x32_S_d0_1_2 : S1x1024x32.ReducesTo [0, 1, 2] S_
  bcast_S_S1x1024x4 : S_.BroadcastsInDim S1x1024x4 (![] : Fin 0 → Fin S1x1024x4.rank)
  reducesTo_S1x1024x4_S_d0_1_2 : S1x1024x4.ReducesTo [0, 1, 2] S_

variable [Facts]

def fn_part1 {F : FTy → Type} [FloatOps F] (main_arg11 : FVec F S1x1024x32 .f32) (main_arg13 : FVec F S1x1024x4 .f32) (main_v16 : IVec S_ 1) : IVec S_ 1 :=
  let main_v17 : FVec F S1x1024x32 .f32 := Host.absf main_arg11
  let main_cst_5 : FVec F S_ .f32 := constant S_ .f32 0x7F800000#32
  let main_v18 : FVec F S1x1024x32 .f32 := broadcastInDim S1x1024x32 ![] bcast_S_S1x1024x32 main_cst_5
  let main_v19 : IVec S1x1024x32 1 := cmpf .olt main_v17 main_v18
  let main_c_6 : IVec S_ 1 := constantI S_ 1 1#1
  let main_v20 : IVec S_ 1 := (fun x v => Host.reduce IntOp.andi x v reducesTo_S1x1024x32_S_d0_1_2 h_S_) main_v19 main_c_6
  let main_v21 : IVec S_ 1 := andi main_v16 main_v20
  let main_v22 : FVec F S1x1024x4 .f32 := Host.absf main_arg13
  let main_cst_7 : FVec F S_ .f32 := constant S_ .f32 0x7F800000#32
  let main_v23 : FVec F S1x1024x4 .f32 := broadcastInDim S1x1024x4 ![] bcast_S_S1x1024x4 main_cst_7
  let main_v24 : IVec S1x1024x4 1 := cmpf .olt main_v22 main_v23
  let main_c_8 : IVec S_ 1 := constantI S_ 1 1#1
  let main_v25 : IVec S_ 1 := (fun x v => Host.reduce IntOp.andi x v reducesTo_S1x1024x4_S_d0_1_2 h_S_) main_v24 main_c_8
  let main_v26 : IVec S_ 1 := andi main_v21 main_v25
  main_v26

def fn {F : FTy → Type} [FloatOps F] (main_arg0 : FVec F S16384x2048 .bf16) (main_arg1 : FVec F S16384x2048 .bf16) (main_arg2 : FVec F S16384x11264 .bf16) (main_arg3 : FVec F S16384x1024 .bf16) (main_arg4 : FVec F S4x4096x1024 .f32) (main_arg5 : FVec F S8x6144 .f32) (main_arg6 : FVec F S1x2048 .f32) (main_arg7 : FVec F S1x1024 .f32) (main_arg8 : FVec F S1x2048x1024 .f32) (main_arg9 : FVec F S1x1024x1024 .f32) (main_arg10 : FVec F S1x1024x1024 .f32) (main_arg11 : FVec F S1x1024x32 .f32) (main_arg12 : FVec F S1x32 .f32) (main_arg13 : FVec F S1x1024x4 .f32) (main_arg14 : FVec F S1x4 .f32) : IVec S_ 1 :=
  let main_v0 : FVec F S16384x2048 .bf16 := (extractStridedSlice S16384x2048 ![0, 4096] · slices_S16384x11264_S16384x2048_0_4096) main_arg2
  let main_v1 : FVec F S4x2048 .f32 := (extractStridedSlice S4x2048 ![0, 3072] · slices_S8x6144_S4x2048_0_3072) main_arg5
  let main_v2 : FVec F S16384x2048 .bf16 := Host.absf main_v0
  let main_cst : FVec F S_ .bf16 := constant S_ .bf16 0x7F80#16
  let main_v3 : FVec F S16384x2048 .bf16 := broadcastInDim S16384x2048 ![] bcast_S_S16384x2048 main_cst
  let main_v4 : IVec S16384x2048 1 := cmpf .olt main_v2 main_v3
  let main_c : IVec S_ 1 := constantI S_ 1 1#1
  let main_v5 : IVec S_ 1 := (fun x v => Host.reduce IntOp.andi x v reducesTo_S16384x2048_S_d0_1 h_S_) main_v4 main_c
  let main_c_0 : IVec S_ 1 := constantI S_ 1 1#1
  let main_v6 : IVec S_ 1 := andi main_c_0 main_v5
  let main_v7 : FVec F S4x2048 .f32 := Host.absf main_v1
  let main_cst_1 : FVec F S_ .f32 := constant S_ .f32 0x7F800000#32
  let main_v8 : FVec F S4x2048 .f32 := broadcastInDim S4x2048 ![] bcast_S_S4x2048 main_cst_1
  let main_v9 : IVec S4x2048 1 := cmpf .olt main_v7 main_v8
  let main_c_2 : IVec S_ 1 := constantI S_ 1 1#1
  let main_v10 : IVec S_ 1 := (fun x v => Host.reduce IntOp.andi x v reducesTo_S4x2048_S_d0_1 h_S_) main_v9 main_c_2
  let main_v11 : IVec S_ 1 := andi main_v6 main_v10
  let main_v12 : FVec F S1x1024 .f32 := Host.absf main_arg7
  let main_cst_3 : FVec F S_ .f32 := constant S_ .f32 0x7F800000#32
  let main_v13 : FVec F S1x1024 .f32 := broadcastInDim S1x1024 ![] bcast_S_S1x1024 main_cst_3
  let main_v14 : IVec S1x1024 1 := cmpf .olt main_v12 main_v13
  let main_c_4 : IVec S_ 1 := constantI S_ 1 1#1
  let main_v15 : IVec S_ 1 := (fun x v => Host.reduce IntOp.andi x v reducesTo_S1x1024_S_d0_1 h_S_) main_v14 main_c_4
  let main_v16 : IVec S_ 1 := andi main_v11 main_v15
  fn_part1 (F := F) main_arg11 main_arg13 main_v16
-- ==== Pre_rows_apart.lean ====
abbrev S16384 : Shape := ⟨1, ![16384]⟩
abbrev S16384x512 : Shape := ⟨2, ![16384, 512]⟩
abbrev S32768 : Shape := ⟨1, ![32768]⟩
abbrev S_ : Shape := ⟨0, ![]⟩
abbrev S49152 : Shape := ⟨1, ![49152]⟩
abbrev S32768x1 : Shape := ⟨2, ![32768, 1]⟩

class Facts : Prop where
  concatenates_S16384_S16384_S32768_d0 : Shape.Concatenates [S16384, S16384] S32768 0
  bcast_S_S49152 : S_.BroadcastsInDim S49152 (![] : Fin 0 → Fin S49152.rank)
  bcast_S_S32768 : S_.BroadcastsInDim S32768 (![] : Fin 0 → Fin S32768.rank)
  bcast_S32768_S32768x1_0 : S32768.BroadcastsInDim S32768x1 (![0] : Fin 1 → Fin S32768x1.rank)
  scatter_S49152_S32768x1_S32768_n_0_0_1_wf : ScatterDims.WF S49152 S32768x1 S32768 [] [0] [0] 1
  gather_S49152_S32768x1_S32768_n_0_n_n_0_1_1_wf : GatherDims.WF S49152 S32768x1 S32768 [] [0] [] [0] [] 1 ![1]

variable [Facts]

def scatter_S49152_S32768x1_S32768_n_0_0_1 : ScatterDims S49152 S32768x1 S32768 where
  updateWindowDims := []
  insertedWindowDims := [0]
  scatterDimsToOperandDims := [0]
  indexVectorDim := 1
  wf := scatter_S49152_S32768x1_S32768_n_0_0_1_wf
def gather_S49152_S32768x1_S32768_n_0_n_n_0_1_1 : GatherDims S49152 S32768x1 S32768 where
  offsetDims := []
  collapsedSliceDims := [0]
  operandBatchingDims := []
  startIndicesBatchingDims := []
  startIndexMap := [0]
  indexVectorDim := 1
  sliceSizes := ![1]
  wf := gather_S49152_S32768x1_S32768_n_0_n_n_0_1_1_wf
def fn_part1 {F : FTy → Type} [FloatOps F] (main_v0 : IVec S32768 32) (main_v1 : IVec S32768 32) (main_v9 : IVec S49152 32) (main_v14 : IVec S32768 1) (main_v16 : IVec S32768 1) (main_c_5 : IVec S_ 32) : IVec S32768 1 :=
  let main_v17 : IVec S32768 32 := broadcastInDim S32768 ![] bcast_S_S32768 main_c_5
  let main_v18 : IVec S32768 32 := addi main_v0 main_v17
  let main_v19 : IVec S32768 32 := select main_v16 main_v18 main_v0
  let main_v20 : IVec S32768x1 32 := broadcastInDim S32768x1 ![0] bcast_S32768_S32768x1_0 main_v19
  let main_v21 : IVec S32768 32 := (fun x i => Host.gather gather_S49152_S32768x1_S32768_n_0_n_n_0_1_1 x i) main_v9 main_v20
  let main_v22 : IVec S32768 1 := cmpi .eq main_v21 main_v1
  let main_v23 : IVec S32768 1 := andi main_v14 main_v22
  main_v23

def fn {F : FTy → Type} [FloatOps F] (main_arg0 : IVec S16384 32) (main_arg1 : IVec S16384 32) (main_arg2 : IVec S16384x512 32) : IVec S32768 1 :=
  let main_v0 : IVec S32768 32 := (fun a b => concatenate S32768 0 [⟨S16384, a⟩, ⟨S16384, b⟩] concatenates_S16384_S16384_S32768_d0) main_arg0 main_arg1
  let main_v1 : IVec S32768 32 := iotaInDim S32768 32 0
  let main_c : IVec S_ 32 := constantI S_ 32 0#32
  let main_v2 : IVec S49152 32 := broadcastInDim S49152 ![] bcast_S_S49152 main_c
  let main_c_0 : IVec S_ 32 := constantI S_ 32 0#32
  let main_v3 : IVec S32768 32 := broadcastInDim S32768 ![] bcast_S_S32768 main_c_0
  let main_v4 : IVec S32768 1 := cmpi .slt main_v0 main_v3
  let main_c_1 : IVec S_ 32 := constantI S_ 32 49152#32
  let main_v5 : IVec S32768 32 := broadcastInDim S32768 ![] bcast_S_S32768 main_c_1
  let main_v6 : IVec S32768 32 := addi main_v0 main_v5
  let main_v7 : IVec S32768 32 := select main_v4 main_v6 main_v0
  let main_v8 : IVec S32768x1 32 := broadcastInDim S32768x1 ![0] bcast_S32768_S32768x1_0 main_v7
  let main_v9 : IVec S49152 32 := (fun x i u => Host.scatter scatter_S49152_S32768x1_S32768_n_0_0_1 (fun _ b => b) x i u) main_v2 main_v8 main_v1
  let main_c_2 : IVec S_ 32 := constantI S_ 32 0#32
  let main_v10 : IVec S32768 32 := broadcastInDim S32768 ![] bcast_S_S32768 main_c_2
  let main_v11 : IVec S32768 1 := cmpi .sge main_v0 main_v10
  let main_c_3 : IVec S_ 32 := constantI S_ 32 49152#32
  let main_v12 : IVec S32768 32 := broadcastInDim S32768 ![] bcast_S_S32768 main_c_3
  let main_v13 : IVec S32768 1 := cmpi .slt main_v0 main_v12
  let main_v14 : IVec S32768 1 := andi main_v11 main_v13
  let main_c_4 : IVec S_ 32 := constantI S_ 32 0#32
  let main_v15 : IVec S32768 32 := broadcastInDim S32768 ![] bcast_S_S32768 main_c_4
  let main_v16 : IVec S32768 1 := cmpi .slt main_v0 main_v15
  let main_c_5 : IVec S_ 32 := constantI S_ 32 49152#32
  fn_part1 (F := F) main_v0 main_v1 main_v9 main_v14 main_v16 main_c_5
-- ==== Kernel.lean ====
abbrev S16384 : Shape := ⟨1, ![16384]⟩
abbrev S16384x512 : Shape := ⟨2, ![16384, 512]⟩
abbrev S_ : Shape := ⟨0, ![]⟩
abbrev S49152x512 : Shape := ⟨2, ![49152, 512]⟩
abbrev S16x1x1024 : Shape := ⟨3, ![16, 1, 1024]⟩
abbrev S1x1x1024 : Shape := ⟨3, ![1, 1, 1024]⟩
abbrev S3x1024x512 : Shape := ⟨3, ![3, 1024, 512]⟩
abbrev S3 : Shape := ⟨1, ![3]⟩
abbrev S2 : Shape := ⟨1, ![2]⟩
abbrev S1 : Shape := ⟨1, ![1]⟩
abbrev S1x1024x512 : Shape := ⟨3, ![1, 1024, 512]⟩
abbrev S1024x512 : Shape := ⟨2, ![1024, 512]⟩
abbrev S1x1x1 : Shape := ⟨3, ![1, 1, 1]⟩
abbrev S1x512 : Shape := ⟨2, ![1, 512]⟩
abbrev S1x1x512 : Shape := ⟨3, ![1, 1, 512]⟩

abbrev nBuf : Space → Nat
  | .hbm => 7
  | .vmem => 1
  | .smem => 4
  | _ => 0

abbrev bufTy : (tb : Table) → Fin (tcTables nBuf tb) → BufTy
  | .hbm, ⟨0, _⟩ => ⟨S16384, .i32⟩
  | .hbm, ⟨1, _⟩ => ⟨S16384, .i32⟩
  | .hbm, ⟨2, _⟩ => ⟨S16384x512, .i32⟩
  | .hbm, ⟨3, _⟩ => ⟨S_, .i32⟩
  | .hbm, ⟨4, _⟩ => ⟨S49152x512, .i32⟩
  | .hbm, ⟨5, _⟩ => ⟨S16x1x1024, .i32⟩
  | .hbm, ⟨6, _⟩ => ⟨S16x1x1024, .i32⟩
  | .local _ .vmem, ⟨0, _⟩ => ⟨S3x1024x512, .i32⟩
  | .local _ .smem, ⟨0, _⟩ => ⟨S1x1x1024, .i32⟩
  | .local _ .smem, ⟨1, _⟩ => ⟨S1x1x1024, .i32⟩
  | .local _ .smem, ⟨2, _⟩ => ⟨S1x1x1024, .i32⟩
  | .local _ .smem, ⟨3, _⟩ => ⟨S1x1x1024, .i32⟩
  | _, _ => ⟨S16384, .i32⟩

abbrev bufScoped : (cs : CoreSpace) → Fin (nBuf (.core cs)) → Bool
  | .vmem, ⟨0, _⟩ => true
  | .smem, ⟨0, _⟩ => true
  | .smem, ⟨1, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_scratch0 : Ref sig .tc := ⟨.vmem, 0, rfl⟩
abbrev cc0_stg0_0 : Ref sig .tc := ⟨.smem, 0, rfl⟩
abbrev cc0_stg0_1 : Ref sig .tc := ⟨.smem, 1, rfl⟩
abbrev cc0_stg1_0 : Ref sig .tc := ⟨.smem, 2, rfl⟩
abbrev cc0_stg1_1 : Ref sig .tc := ⟨.smem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v23 : BitVec 1 := Scalar.cmpi .slt arg0 c15_i32
  let v24 : BitVec 32 := Scalar.extui v23
  let c0_i32_10 : BitVec 32 := 0#32
  let v25 : BitVec 1 := Scalar.cmpi .ne v24 c0_i32_10
  v25

def k0_off1 (i : grid0.Coords) : Fin 1 → Nat :=
  let arg0 : BitVec 32 := BitVec.ofNat 32 (i 0).val
  let c1_i32_22 : BitVec 32 := 1#32
  let v40 : BitVec 32 := Scalar.addi arg0 c1_i32_22
  let c3_i32_23 : BitVec 32 := 3#32
  let c0_i32_24 : BitVec 32 := 0#32
  let v41 : BitVec 1 := Scalar.cmpi .eq c3_i32_23 c0_i32_24
  let c1_i32_25 : BitVec 32 := 1#32
  let v42 : BitVec 32 := Scalar.select v41 c1_i32_25 c3_i32_23
  let v43 : BitVec 32 := Scalar.remsi v40 v42
  let c0_i32_27 : BitVec 32 := 0#32
  let v45 : BitVec 1 := Scalar.cmpi .slt v43 c0_i32_27
  let c0_i32_28 : BitVec 32 := 0#32
  let v46 : BitVec 1 := Scalar.cmpi .slt v42 c0_i32_28
  let v47 : BitVec 1 := Scalar.xori v45 v46
  let c0_i32_26 : BitVec 32 := 0#32
  let v44 : BitVec 1 := Scalar.cmpi .ne v43 c0_i32_26
  let v48 : BitVec 1 := Scalar.andi v47 v44
  let v49 : BitVec 32 := Scalar.addi v43 v42
  let v50 : BitVec 32 := Scalar.select v48 v49 v43
  ![v50.toNat]
def k0_off2 (i : grid0.Coords) : Fin 3 → Nat :=
  let arg0 : BitVec 32 := BitVec.ofNat 32 (i 0).val
  let c1_i32_22 : BitVec 32 := 1#32
  let v40 : BitVec 32 := Scalar.addi arg0 c1_i32_22
  let c3_i32_23 : BitVec 32 := 3#32
  let c0_i32_24 : BitVec 32 := 0#32
  let v41 : BitVec 1 := Scalar.cmpi .eq c3_i32_23 c0_i32_24
  let c1_i32_25 : BitVec 32 := 1#32
  let v42 : BitVec 32 := Scalar.select v41 c1_i32_25 c3_i32_23
  let v43 : BitVec 32 := Scalar.remsi v40 v42
  let c0_i32_27 : BitVec 32 := 0#32
  let v45 : BitVec 1 := Scalar.cmpi .slt v43 c0_i32_27
  let c0_i32_28 : BitVec 32 := 0#32
  let v46 : BitVec 1 := Scalar.cmpi .slt v42 c0_i32_28
  let v47 : BitVec 1 := Scalar.xori v45 v46
  let c0_i32_26 : BitVec 32 := 0#32
  let v44 : BitVec 1 := Scalar.cmpi .ne v43 c0_i32_26
  let v48 : BitVec 1 := Scalar.andi v47 v44
  let v49 : BitVec 32 := Scalar.addi v43 v42
  let v50 : BitVec 32 := Scalar.select v48 v49 v43
  let c0_i32_30 : BitVec 32 := 0#32
  let c0_i32_31 : BitVec 32 := 0#32
  ![v50.toNat, 0, 0]
def k0_off3 (i : grid0.Coords) : Fin 2 → Nat :=
  let arg0 : BitVec 32 := BitVec.ofNat 32 (i 0).val
  let c1_i32_21 : BitVec 32 := 1#32
  let v39 : BitVec 32 := Scalar.addi arg0 c1_i32_21
  let c1024_i32_29 : BitVec 32 := 1024#32
  let v51 : BitVec 32 := Scalar.muli v39 c1024_i32_29
  let c0_i32_32 : BitVec 32 := 0#32
  ![v51.toNat, 0]
def k0_off4 (i : grid0.Coords) : Fin 1 → Nat :=
  let arg0 : BitVec 32 := BitVec.ofNat 32 (i 0).val
  let c3_i32 : BitVec 32 := 3#32
  let c0_i32 : BitVec 32 := 0#32
  let v0 : BitVec 1 := Scalar.cmpi .eq c3_i32 c0_i32
  let c1_i32 : BitVec 32 := 1#32
  let v1 : BitVec 32 := Scalar.select v0 c1_i32 c3_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k0_off5 (i : grid0.Coords) : Fin 3 → Nat :=
  let arg0 : BitVec 32 := BitVec.ofNat 32 (i 0).val
  let c3_i32 : BitVec 32 := 3#32
  let c0_i32 : BitVec 32 := 0#32
  let v0 : BitVec 1 := Scalar.cmpi .eq c3_i32 c0_i32
  let c1_i32 : BitVec 32 := 1#32
  let v1 : BitVec 32 := Scalar.select v0 c1_i32 c3_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_11 : BitVec 32 := 0#32
  let c0_i32_12 : BitVec 32 := 0#32
  ![v9.toNat, 0, 0]
def k0_off6 (i : grid0.Coords) : Fin 2 → Nat :=
  let arg0 : BitVec 32 := BitVec.ofNat 32 (i 0).val
  let c1024_i32 : BitVec 32 := 1024#32
  let v26 : BitVec 32 := Scalar.muli arg0 c1024_i32
  let c0_i32_13 : BitVec 32 := 0#32
  ![v26.toNat, 0]
@[reducible] def k0_t1_loop : Scf.Loop 32 :=
  let c0_i32_14 : BitVec 32 := 0#32
  let c64_i32 : BitVec 32 := 64#32
  let v32 : BitVec 32 := Scalar.addi c0_i32_14 c64_i32
  let c1_i32_15 : BitVec 32 := 1#32
  ⟨c0_i32_14, v32, c1_i32_15⟩
def k0_off7 (k0_t1 : Fin k0_t1_loop.trips) : Fin 3 → Nat :=
  let c0 : Index := 0#32
  let c0_22 : Index := 0#32
  let c0_i32_14 : BitVec 32 := 0#32
  let c1_i32_15 : BitVec 32 := 1#32
  let arg9 : BitVec 32 := Scf.iv c0_i32_14 c1_i32_15 k0_t1
  let c16_i32 : BitVec 32 := 16#32
  let v39 : BitVec 32 := Scalar.muli arg9 c16_i32
  let c0_i32_21 : BitVec 32 := 0#32
  let v40 : BitVec 32 := Scalar.addi v39 c0_i32_21
  let v41 : Index := Scalar.indexCast v40
  ![0, 0, v41.toNat]
def k0_off8 (i : grid0.Coords) : Fin 1 → Nat :=
  let arg0 : BitVec 32 := BitVec.ofNat 32 (i 0).val
  let c2_i32 : BitVec 32 := 2#32
  let c0_i32_3 : BitVec 32 := 0#32
  let v10 : BitVec 1 := Scalar.cmpi .eq c2_i32 c0_i32_3
  let c1_i32_4 : BitVec 32 := 1#32
  let v11 : BitVec 32 := Scalar.select v10 c1_i32_4 c2_i32
  let v12 : BitVec 32 := Scalar.remsi arg0 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  ![v19.toNat]
def k0_off9 (v42 : BitVec 32) : Fin 2 → Nat :=
  let c0_i32_23 : BitVec 32 := 0#32
  ![v42.toNat, 0]

def k0_chk1 (v42 : BitVec 32) : Prop :=
  (∀ a, (k0_off9 v42) a + S1x512.size a ≤ S49152x512.size a)
theorem k0_off9_inb : ∀ (v42 : BitVec 32) (k0_hw1 : k0_chk1 v42), ∀ a, (k0_off9 v42) a + S1x512.size a ≤ S49152x512.size a := fun v42 k0_hw1 => k0_hw1

def k0_off10 (i : grid0.Coords) (k0_t1 : Fin k0_t1_loop.trips) : Fin 3 → Nat :=
  let arg0 : BitVec 32 := BitVec.ofNat 32 (i 0).val
  let c3_i32 : BitVec 32 := 3#32
  let c0_i32 : BitVec 32 := 0#32
  let v0 : BitVec 1 := Scalar.cmpi .eq c3_i32 c0_i32
  let c1_i32 : BitVec 32 := 1#32
  let v1 : BitVec 32 := Scalar.select v0 c1_i32 c3_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_14 : BitVec 32 := 0#32
  let c1_i32_15 : BitVec 32 := 1#32
  let arg9 : BitVec 32 := Scf.iv c0_i32_14 c1_i32_15 k0_t1
  let c16_i32 : BitVec 32 := 16#32
  let v39 : BitVec 32 := Scalar.muli arg9 c16_i32
  let c0_i32_21 : BitVec 32 := 0#32
  let v40 : BitVec 32 := Scalar.addi v39 c0_i32_21
  let c0_i32_24 : BitVec 32 := 0#32
  ![v9.toNat, v40.toNat, 0]
def k0_off11 (k0_t1 : Fin k0_t1_loop.trips) : Fin 3 → Nat :=
  let c0_25 : Index := 0#32
  let c0_26 : Index := 0#32
  let c0_i32_14 : BitVec 32 := 0#32
  let c1_i32_15 : BitVec 32 := 1#32
  let arg9 : BitVec 32 := Scf.iv c0_i32_14 c1_i32_15 k0_t1
  let c16_i32 : BitVec 32 := 16#32
  let v39 : BitVec 32 := Scalar.muli arg9 c16_i32
  let c0_i32_21 : BitVec 32 := 0#32
  let v40 : BitVec 32 := Scalar.addi v39 c0_i32_21
  let v48 : Index := Scalar.indexCast v40
  ![0, 0, v48.toNat]
def k0_off12 (i : grid0.Coords) : Fin 1 → Nat :=
  let arg0 : BitVec 32 := BitVec.ofNat 32 (i 0).val
  let c2_i32 : BitVec 32 := 2#32
  let c0_i32_3 : BitVec 32 := 0#32
  let v10 : BitVec 1 := Scalar.cmpi .eq c2_i32 c0_i32_3
  let c1_i32_4 : BitVec 32 := 1#32
  let v11 : BitVec 32 := Scalar.select v10 c1_i32_4 c2_i32
  let v12 : BitVec 32 := Scalar.remsi arg0 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  ![v19.toNat]
def k0_off13 (v49 : BitVec 32) : Fin 2 → Nat :=
  let c0_i32_27 : BitVec 32 := 0#32
  ![v49.toNat, 0]

def k0_chk2 (v49 : BitVec 32) : Prop :=
  (∀ a, (k0_off13 v49) a + S1x512.size a ≤ S49152x512.size a)
theorem k0_off13_inb : ∀ (v49 : BitVec 32) (k0_hw2 : k0_chk2 v49), ∀ a, (k0_off13 v49) a + S1x512.size a ≤ S49152x512.size a := fun v49 k0_hw2 => k0_hw2

def k0_off14 (i : grid0.Coords) (k0_t1 : Fin k0_t1_loop.trips) : Fin 3 → Nat :=
  let arg0 : BitVec 32 := BitVec.ofNat 32 (i 0).val
  let c3_i32 : BitVec 32 := 3#32
  let c0_i32 : BitVec 32 := 0#32
  let v0 : BitVec 1 := Scalar.cmpi .eq c3_i32 c0_i32
  let c1_i32 : BitVec 32 := 1#32
  let v1 : BitVec 32 := Scalar.select v0 c1_i32 c3_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_14 : BitVec 32 := 0#32
  let c1_i32_15 : BitVec 32 := 1#32
  let arg9 : BitVec 32 := Scf.iv c0_i32_14 c1_i32_15 k0_t1
  let c16_i32 : BitVec 32 := 16#32
  let v39 : BitVec 32 := Scalar.muli arg9 c16_i32
  let c0_i32_21 : BitVec 32 := 0#32
  let v40 : BitVec 32 := Scalar.addi v39 c0_i32_21
  let c0_i32_28 : BitVec 32 := 0#32
  ![v9.toNat, v40.toNat, 0]
def k0_off15 (k0_t1 : Fin k0_t1_loop.trips) : Fin 3 → Nat :=
  let c0_31 : Index := 0#32
  let c0_32 : Index := 0#32
  let c0_i32_14 : BitVec 32 := 0#32
  let c1_i32_15 : BitVec 32 := 1#32
  let arg9 : BitVec 32 := Scf.iv c0_i32_14 c1_i32_15 k0_t1
  let c16_i32_29 : BitVec 32 := 16#32
  let v55 : BitVec 32 := Scalar.muli arg9 c16_i32_29
  let c1_i32_30 : BitVec 32 := 1#32
  let v56 : BitVec 32 := Scalar.addi v55 c1_i32_30
  let v57 : Index := Scalar.indexCast v56
  ![0, 0, v57.toNat]
def k0_off16 (i : grid0.Coords) : Fin 1 → Nat :=
  let arg0 : BitVec 32 := BitVec.ofNat 32 (i 0).val
  let c2_i32 : BitVec 32 := 2#32
  let c0_i32_3 : BitVec 32 := 0#32
  let v10 : BitVec 1 := Scalar.cmpi .eq c2_i32 c0_i32_3
  let c1_i32_4 : BitVec 32 := 1#32
  let v11 : BitVec 32 := Scalar.select v10 c1_i32_4 c2_i32
  let v12 : BitVec 32 := Scalar.remsi arg0 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  ![v19.toNat]
def k0_off17 (v58 : BitVec 32) : Fin 2 → Nat :=
  let c0_i32_33 : BitVec 32 := 0#32
  ![v58.toNat, 0]

def k0_chk3 (v58 : BitVec 32) : Prop :=
  (∀ a, (k0_off17 v58) a + S1x512.size a ≤ S49152x512.size a)
theorem k0_off17_inb : ∀ (v58 : BitVec 32) (k0_hw3 : k0_chk3 v58), ∀ a, (k0_off17 v58) a + S1x512.size a ≤ S49152x512.size a := fun v58 k0_hw3 => k0_hw3

def k0_off18 (i : grid0.Coords) (k0_t1 : Fin k0_t1_loop.trips) : Fin 3 → Nat :=
  let arg0 : BitVec 32 := BitVec.ofNat 32 (i 0).val
  let c3_i32 : BitVec 32 := 3#32
  let c0_i32 : BitVec 32 := 0#32
  let v0 : BitVec 1 := Scalar.cmpi .eq c3_i32 c0_i32
  let c1_i32 : BitVec 32 := 1#32
  let v1 : BitVec 32 := Scalar.select v0 c1_i32 c3_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_14 : BitVec 32 := 0#32
  let c1_i32_15 : BitVec 32 := 1#32
  let arg9 : BitVec 32 := Scf.iv c0_i32_14 c1_i32_15 k0_t1
  let c16_i32_29 : BitVec 32 := 16#32
  let v55 : BitVec 32 := Scalar.muli arg9 c16_i32_29
  let c1_i32_30 : BitVec 32 := 1#32
  let v56 : BitVec 32 := Scalar.addi v55 c1_i32_30
  let c0_i32_34 : BitVec 32 := 0#32
  ![v9.toNat, v56.toNat, 0]
def k0_off19 (k0_t1 : Fin k0_t1_loop.trips) : Fin 3 → Nat :=
  let c0_35 : Index := 0#32
  let c0_36 : Index := 0#32
  let c0_i32_14 : BitVec 32 := 0#32
  let c1_i32_15 : BitVec 32 := 1#32
  let arg9 : BitVec 32 := Scf.iv c0_i32_14 c1_i32_15 k0_t1
  let c16_i32_29 : BitVec 32 := 16#32
  let v55 : BitVec 32 := Scalar.muli arg9 c16_i32_29
  let c1_i32_30 : BitVec 32 := 1#32
  let v56 : BitVec 32 := Scalar.addi v55 c1_i32_30
  let v64 : Index := Scalar.indexCast v56
  ![0, 0, v64.toNat]
def k0_off20 (i : grid0.Coords) : Fin 1 → Nat :=
  let arg0 : BitVec 32 := BitVec.ofNat 32 (i 0).val
  let c2_i32 : BitVec 32 := 2#32
  let c0_i32_3 : BitVec 32 := 0#32
  let v10 : BitVec 1 := Scalar.cmpi .eq c2_i32 c0_i32_3
  let c1_i32_4 : BitVec 32 := 1#32
  let v11 : BitVec 32 := Scalar.select v10 c1_i32_4 c2_i32
  let v12 : BitVec 32 := Scalar.remsi arg0 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  ![v19.toNat]
def k0_off21 (v65 : BitVec 32) : Fin 2 → Nat :=
  let c0_i32_37 : BitVec 32 := 0#32
  ![v65.toNat, 0]

def k0_chk4 (v65 : BitVec 32) : Prop :=
  (∀ a, (k0_off21 v65) a + S1x512.size a ≤ S49152x512.size a)
theorem k0_off21_inb : ∀ (v65 : BitVec 32) (k0_hw4 : k0_chk4 v65), ∀ a, (k0_off21 v65) a + S1x512.size a ≤ S49152x512.size a := fun v65 k0_hw4 => k0_hw4

def k0_off22 (i : grid0.Coords) (k0_t1 : Fin k0_t1_loop.trips) : Fin 3 → Nat :=
  let arg0 : BitVec 32 := BitVec.ofNat 32 (i 0).val
  let c3_i32 : BitVec 32 := 3#32
  let c0_i32 : BitVec 32 := 0#32
  let v0 : BitVec 1 := Scalar.cmpi .eq c3_i32 c0_i32
  let c1_i32 : BitVec 32 := 1#32
  let v1 : BitVec 32 := Scalar.select v0 c1_i32 c3_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_14 : BitVec 32 := 0#32
  let c1_i32_15 : BitVec 32 := 1#32
  let arg9 : BitVec 32 := Scf.iv c0_i32_14 c1_i32_15 k0_t1
  let c16_i32_29 : BitVec 32 := 16#32
  let v55 : BitVec 32 := Scalar.muli arg9 c16_i32_29
  let c1_i32_30 : BitVec 32 := 1#32
  let v56 : BitVec 32 := Scalar.addi v55 c1_i32_30
  let c0_i32_38 : BitVec 32 := 0#32
  ![v9.toNat, v56.toNat, 0]
def k0_off23 (k0_t1 : Fin k0_t1_loop.trips) : Fin 3 → Nat :=
  let c0_41 : Index := 0#32
  let c0_42 : Index := 0#32
  let c0_i32_14 : BitVec 32 := 0#32
  let c1_i32_15 : BitVec 32 := 1#32
  let arg9 : BitVec 32 := Scf.iv c0_i32_14 c1_i32_15 k0_t1
  let c16_i32_39 : BitVec 32 := 16#32
  let v71 : BitVec 32 := Scalar.muli arg9 c16_i32_39
  let c2_i32_40 : BitVec 32 := 2#32
  let v72 : BitVec 32 := Scalar.addi v71 c2_i32_40
  let v73 : Index := Scalar.indexCast v72
  ![0, 0, v73.toNat]
def k0_off24 (i : grid0.Coords) : Fin 1 → Nat :=
  let arg0 : BitVec 32 := BitVec.ofNat 32 (i 0).val
  let c2_i32 : BitVec 32 := 2#32
  let c0_i32_3 : BitVec 32 := 0#32
  let v10 : BitVec 1 := Scalar.cmpi .eq c2_i32 c0_i32_3
  let c1_i32_4 : BitVec 32 := 1#32
  let v11 : BitVec 32 := Scalar.select v10 c1_i32_4 c2_i32
  let v12 : BitVec 32 := Scalar.remsi arg0 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  ![v19.toNat]
def k0_off25 (v74 : BitVec 32) : Fin 2 → Nat :=
  let c0_i32_43 : BitVec 32 := 0#32
  ![v74.toNat, 0]

def k0_chk5 (v74 : BitVec 32) : Prop :=
  (∀ a, (k0_off25 v74) a + S1x512.size a ≤ S49152x512.size a)
theorem k0_off25_inb : ∀ (v74 : BitVec 32) (k0_hw5 : k0_chk5 v74), ∀ a, (k0_off25 v74) a + S1x512.size a ≤ S49152x512.size a := fun v74 k0_hw5 => k0_hw5

def k0_off26 (i : grid0.Coords) (k0_t1 : Fin k0_t1_loop.trips) : Fin 3 → Nat :=
  let arg0 : BitVec 32 := BitVec.ofNat 32 (i 0).val
  let c3_i32 : BitVec 32 := 3#32
  let c0_i32 : BitVec 32 := 0#32
  let v0 : BitVec 1 := Scalar.cmpi .eq c3_i32 c0_i32
  let c1_i32 : BitVec 32 := 1#32
  let v1 : BitVec 32 := Scalar.select v0 c1_i32 c3_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_14 : BitVec 32 := 0#32
  let c1_i32_15 : BitVec 32 := 1#32
  let arg9 : BitVec 32 := Scf.iv c0_i32_14 c1_i32_15 k0_t1
  let c16_i32_39 : BitVec 32 := 16#32
  let v71 : BitVec 32 := Scalar.muli arg9 c16_i32_39
  let c2_i32_40 : BitVec 32 := 2#32
  let v72 : BitVec 32 := Scalar.addi v71 c2_i32_40
  let c0_i32_44 : BitVec 32 := 0#32
  ![v9.toNat, v72.toNat, 0]
def k0_off27 (k0_t1 : Fin k0_t1_loop.trips) : Fin 3 → Nat :=
  let c0_45 : Index := 0#32
  let c0_46 : Index := 0#32
  let c0_i32_14 : BitVec 32 := 0#32
  let c1_i32_15 : BitVec 32 := 1#32
  let arg9 : BitVec 32 := Scf.iv c0_i32_14 c1_i32_15 k0_t1
  let c16_i32_39 : BitVec 32 := 16#32
  let v71 : BitVec 32 := Scalar.muli arg9 c16_i32_39
  let c2_i32_40 : BitVec 32 := 2#32
  let v72 : BitVec 32 := Scalar.addi v71 c2_i32_40
  let v80 : Index := Scalar.indexCast v72
  ![0, 0, v80.toNat]
def k0_off28 (i : grid0.Coords) : Fin 1 → Nat :=
  let arg0 : BitVec 32 := BitVec.ofNat 32 (i 0).val
  let c2_i32 : BitVec 32 := 2#32
  let c0_i32_3 : BitVec 32 := 0#32
  let v10 : BitVec 1 := Scalar.cmpi .eq c2_i32 c0_i32_3
  let c1_i32_4 : BitVec 32 := 1#32
  let v11 : BitVec 32 := Scalar.select v10 c1_i32_4 c2_i32
  let v12 : BitVec 32 := Scalar.remsi arg0 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  ![v19.toNat]
def k0_off29 (v81 : BitVec 32) : Fin 2 → Nat :=
  let c0_i32_47 : BitVec 32 := 0#32
  ![v81.toNat, 0]

def k0_chk6 (v81 : BitVec 32) : Prop :=
  (∀ a, (k0_off29 v81) a + S1x512.size a ≤ S49152x512.size a)
theorem k0_off29_inb : ∀ (v81 : BitVec 32) (k0_hw6 : k0_chk6 v81), ∀ a, (k0_off29 v81) a + S1x512.size a ≤ S49152x512.size a := fun v81 k0_hw6 => k0_hw6

def k0_off30 (i : grid0.Coords) (k0_t1 : Fin k0_t1_loop.trips) : Fin 3 → Nat :=
  let arg0 : BitVec 32 := BitVec.ofNat 32 (i 0).val
  let c3_i32 : BitVec 32 := 3#32
  let c0_i32 : BitVec 32 := 0#32
  let v0 : BitVec 1 := Scalar.cmpi .eq c3_i32 c0_i32
  let c1_i32 : BitVec 32 := 1#32
  let v1 : BitVec 32 := Scalar.select v0 c1_i32 c3_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_14 : BitVec 32 := 0#32
  let c1_i32_15 : BitVec 32 := 1#32
  let arg9 : BitVec 32 := Scf.iv c0_i32_14 c1_i32_15 k0_t1
  let c16_i32_39 : BitVec 32 := 16#32
  let v71 : BitVec 32 := Scalar.muli arg9 c16_i32_39
  let c2_i32_40 : BitVec 32 := 2#32
  let v72 : BitVec 32 := Scalar.addi v71 c2_i32_40
  let c0_i32_48 : BitVec 32 := 0#32
  ![v9.toNat, v72.toNat, 0]
def k0_off31 (k0_t1 : Fin k0_t1_loop.trips) : Fin 3 → Nat :=
  let c0_51 : Index := 0#32
  let c0_52 : Index := 0#32
  let c0_i32_14 : BitVec 32 := 0#32
  let c1_i32_15 : BitVec 32 := 1#32
  let arg9 : BitVec 32 := Scf.iv c0_i32_14 c1_i32_15 k0_t1
  let c16_i32_49 : BitVec 32 := 16#32
  let v87 : BitVec 32 := Scalar.muli arg9 c16_i32_49
  let c3_i32_50 : BitVec 32 := 3#32
  let v88 : BitVec 32 := Scalar.addi v87 c3_i32_50
  let v89 : Index := Scalar.indexCast v88
  ![0, 0, v89.toNat]
def k0_off32 (i : grid0.Coords) : Fin 1 → Nat :=
  let arg0 : BitVec 32 := BitVec.ofNat 32 (i 0).val
  let c2_i32 : BitVec 32 := 2#32
  let c0_i32_3 : BitVec 32 := 0#32
  let v10 : BitVec 1 := Scalar.cmpi .eq c2_i32 c0_i32_3
  let c1_i32_4 : BitVec 32 := 1#32
  let v11 : BitVec 32 := Scalar.select v10 c1_i32_4 c2_i32
  let v12 : BitVec 32 := Scalar.remsi arg0 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  ![v19.toNat]
def k0_off33 (v90 : BitVec 32) : Fin 2 → Nat :=
  let c0_i32_53 : BitVec 32 := 0#32
  ![v90.toNat, 0]

def k0_chk7 (v90 : BitVec 32) : Prop :=
  (∀ a, (k0_off33 v90) a + S1x512.size a ≤ S49152x512.size a)
theorem k0_off33_inb : ∀ (v90 : BitVec 32) (k0_hw7 : k0_chk7 v90), ∀ a, (k0_off33 v90) a + S1x512.size a ≤ S49152x512.size a := fun v90 k0_hw7 => k0_hw7

def k0_off34 (i : grid0.Coords) (k0_t1 : Fin k0_t1_loop.trips) : Fin 3 → Nat :=
  let arg0 : BitVec 32 := BitVec.ofNat 32 (i 0).val
  let c3_i32 : BitVec 32 := 3#32
  let c0_i32 : BitVec 32 := 0#32
  let v0 : BitVec 1 := Scalar.cmpi .eq c3_i32 c0_i32
  let c1_i32 : BitVec 32 := 1#32
  let v1 : BitVec 32 := Scalar.select v0 c1_i32 c3_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_14 : BitVec 32 := 0#32
  let c1_i32_15 : BitVec 32 := 1#32
  let arg9 : BitVec 32 := Scf.iv c0_i32_14 c1_i32_15 k0_t1
  let c16_i32_49 : BitVec 32 := 16#32
  let v87 : BitVec 32 := Scalar.muli arg9 c16_i32_49
  let c3_i32_50 : BitVec 32 := 3#32
  let v88 : BitVec 32 := Scalar.addi v87 c3_i32_50
  let c0_i32_54 : BitVec 32 := 0#32
  ![v9.toNat, v88.toNat, 0]
def k0_off35 (k0_t1 : Fin k0_t1_loop.trips) : Fin 3 → Nat :=
  let c0_55 : Index := 0#32
  let c0_56 : Index := 0#32
  let c0_i32_14 : BitVec 32 := 0#32
  let c1_i32_15 : BitVec 32 := 1#32
  let arg9 : BitVec 32 := Scf.iv c0_i32_14 c1_i32_15 k0_t1
  let c16_i32_49 : BitVec 32 := 16#32
  let v87 : BitVec 32 := Scalar.muli arg9 c16_i32_49
  let c3_i32_50 : BitVec 32 := 3#32
  let v88 : BitVec 32 := Scalar.addi v87 c3_i32_50
  let v96 : Index := Scalar.indexCast v88
  ![0, 0, v96.toNat]
def k0_off36 (i : grid0.Coords) : Fin 1 → Nat :=
  let arg0 : BitVec 32 := BitVec.ofNat 32 (i 0).val
  let c2_i32 : BitVec 32 := 2#32
  let c0_i32_3 : BitVec 32 := 0#32
  let v10 : BitVec 1 := Scalar.cmpi .eq c2_i32 c0_i32_3
  let c1_i32_4 : BitVec 32 := 1#32
  let v11 : BitVec 32 := Scalar.select v10 c1_i32_4 c2_i32
  let v12 : BitVec 32 := Scalar.remsi arg0 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  ![v19.toNat]
def k0_off37 (v97 : BitVec 32) : Fin 2 → Nat :=
  let c0_i32_57 : BitVec 32 := 0#32
  ![v97.toNat, 0]

def k0_chk8 (v97 : BitVec 32) : Prop :=
  (∀ a, (k0_off37 v97) a + S1x512.size a ≤ S49152x512.size a)
theorem k0_off37_inb : ∀ (v97 : BitVec 32) (k0_hw8 : k0_chk8 v97), ∀ a, (k0_off37 v97) a + S1x512.size a ≤ S49152x512.size a := fun v97 k0_hw8 => k0_hw8

def k0_off38 (i : grid0.Coords) (k0_t1 : Fin k0_t1_loop.trips) : Fin 3 → Nat :=
  let arg0 : BitVec 32 := BitVec.ofNat 32 (i 0).val
  let c3_i32 : BitVec 32 := 3#32
  let c0_i32 : BitVec 32 := 0#32
  let v0 : BitVec 1 := Scalar.cmpi .eq c3_i32 c0_i32
  let c1_i32 : BitVec 32 := 1#32
  let v1 : BitVec 32 := Scalar.select v0 c1_i32 c3_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_14 : BitVec 32 := 0#32
  let c1_i32_15 : BitVec 32 := 1#32
  let arg9 : BitVec 32 := Scf.iv c0_i32_14 c1_i32_15 k0_t1
  let c16_i32_49 : BitVec 32 := 16#32
  let v87 : BitVec 32 := Scalar.muli arg9 c16_i32_49
  let c3_i32_50 : BitVec 32 := 3#32
  let v88 : BitVec 32 := Scalar.addi v87 c3_i32_50
  let c0_i32_58 : BitVec 32 := 0#32
  ![v9.toNat, v88.toNat, 0]
def k0_off39 (k0_t1 : Fin k0_t1_loop.trips) : Fin 3 → Nat :=
  let c0_60 : Index := 0#32
  let c0_61 : Index := 0#32
  let c0_i32_14 : BitVec 32 := 0#32
  let c1_i32_15 : BitVec 32 := 1#32
  let arg9 : BitVec 32 := Scf.iv c0_i32_14 c1_i32_15 k0_t1
  let c16_i32_59 : BitVec 32 := 16#32
  let v103 : BitVec 32 := Scalar.muli arg9 c16_i32_59
  let c4_i32 : BitVec 32 := 4#32
  let v104 : BitVec 32 := Scalar.addi v103 c4_i32
  let v105 : Index := Scalar.indexCast v104
  ![0, 0, v105.toNat]
def k0_off40 (i : grid0.Coords) : Fin 1 → Nat :=
  let arg0 : BitVec 32 := BitVec.ofNat 32 (i 0).val
  let c2_i32 : BitVec 32 := 2#32
  let c0_i32_3 : BitVec 32 := 0#32
  let v10 : BitVec 1 := Scalar.cmpi .eq c2_i32 c0_i32_3
  let c1_i32_4 : BitVec 32 := 1#32
  let v11 : BitVec 32 := Scalar.select v10 c1_i32_4 c2_i32
  let v12 : BitVec 32 := Scalar.remsi arg0 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  ![v19.toNat]
def k0_off41 (v106 : BitVec 32) : Fin 2 → Nat :=
  let c0_i32_62 : BitVec 32 := 0#32
  ![v106.toNat, 0]

def k0_chk9 (v106 : BitVec 32) : Prop :=
  (∀ a, (k0_off41 v106) a + S1x512.size a ≤ S49152x512.size a)
theorem k0_off41_inb : ∀ (v106 : BitVec 32) (k0_hw9 : k0_chk9 v106), ∀ a, (k0_off41 v106) a + S1x512.size a ≤ S49152x512.size a := fun v106 k0_hw9 => k0_hw9

def k0_off42 (i : grid0.Coords) (k0_t1 : Fin k0_t1_loop.trips) : Fin 3 → Nat :=
  let arg0 : BitVec 32 := BitVec.ofNat 32 (i 0).val
  let c3_i32 : BitVec 32 := 3#32
  let c0_i32 : BitVec 32 := 0#32
  let v0 : BitVec 1 := Scalar.cmpi .eq c3_i32 c0_i32
  let c1_i32 : BitVec 32 := 1#32
  let v1 : BitVec 32 := Scalar.select v0 c1_i32 c3_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_14 : BitVec 32 := 0#32
  let c1_i32_15 : BitVec 32 := 1#32
  let arg9 : BitVec 32 := Scf.iv c0_i32_14 c1_i32_15 k0_t1
  let c16_i32_59 : BitVec 32 := 16#32
  let v103 : BitVec 32 := Scalar.muli arg9 c16_i32_59
  let c4_i32 : BitVec 32 := 4#32
  let v104 : BitVec 32 := Scalar.addi v103 c4_i32
  let c0_i32_63 : BitVec 32 := 0#32
  ![v9.toNat, v104.toNat, 0]
def k0_off43 (k0_t1 : Fin k0_t1_loop.trips) : Fin 3 → Nat :=
  let c0_64 : Index := 0#32
  let c0_65 : Index := 0#32
  let c0_i32_14 : BitVec 32 := 0#32
  let c1_i32_15 : BitVec 32 := 1#32
  let arg9 : BitVec 32 := Scf.iv c0_i32_14 c1_i32_15 k0_t1
  let c16_i32_59 : BitVec 32 := 16#32
  let v103 : BitVec 32 := Scalar.muli arg9 c16_i32_59
  let c4_i32 : BitVec 32 := 4#32
  let v104 : BitVec 32 := Scalar.addi v103 c4_i32
  let v112 : Index := Scalar.indexCast v104
  ![0, 0, v112.toNat]
def k0_off44 (i : grid0.Coords) : Fin 1 → Nat :=
  let arg0 : BitVec 32 := BitVec.ofNat 32 (i 0).val
  let c2_i32 : BitVec 32 := 2#32
  let c0_i32_3 : BitVec 32 := 0#32
  let v10 : BitVec 1 := Scalar.cmpi .eq c2_i32 c0_i32_3
  let c1_i32_4 : BitVec 32 := 1#32
  let v11 : BitVec 32 := Scalar.select v10 c1_i32_4 c2_i32
  let v12 : BitVec 32 := Scalar.remsi arg0 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  ![v19.toNat]
def k0_off45 (v113 : BitVec 32) : Fin 2 → Nat :=
  let c0_i32_66 : BitVec 32 := 0#32
  ![v113.toNat, 0]

def k0_chk10 (v113 : BitVec 32) : Prop :=
  (∀ a, (k0_off45 v113) a + S1x512.size a ≤ S49152x512.size a)
theorem k0_off45_inb : ∀ (v113 : BitVec 32) (k0_hw10 : k0_chk10 v113), ∀ a, (k0_off45 v113) a + S1x512.size a ≤ S49152x512.size a := fun v113 k0_hw10 => k0_hw10

def k0_off46 (i : grid0.Coords) (k0_t1 : Fin k0_t1_loop.trips) : Fin 3 → Nat :=
  let arg0 : BitVec 32 := BitVec.ofNat 32 (i 0).val
  let c3_i32 : BitVec 32 := 3#32
  let c0_i32 : BitVec 32 := 0#32
  let v0 : BitVec 1 := Scalar.cmpi .eq c3_i32 c0_i32
  let c1_i32 : BitVec 32 := 1#32
  let v1 : BitVec 32 := Scalar.select v0 c1_i32 c3_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_14 : BitVec 32 := 0#32
  let c1_i32_15 : BitVec 32 := 1#32
  let arg9 : BitVec 32 := Scf.iv c0_i32_14 c1_i32_15 k0_t1
  let c16_i32_59 : BitVec 32 := 16#32
  let v103 : BitVec 32 := Scalar.muli arg9 c16_i32_59
  let c4_i32 : BitVec 32 := 4#32
  let v104 : BitVec 32 := Scalar.addi v103 c4_i32
  let c0_i32_67 : BitVec 32 := 0#32
  ![v9.toNat, v104.toNat, 0]
def k0_off47 (k0_t1 : Fin k0_t1_loop.trips) : Fin 3 → Nat :=
  let c0_69 : Index := 0#32
  let c0_70 : Index := 0#32
  let c0_i32_14 : BitVec 32 := 0#32
  let c1_i32_15 : BitVec 32 := 1#32
  let arg9 : BitVec 32 := Scf.iv c0_i32_14 c1_i32_15 k0_t1
  let c16_i32_68 : BitVec 32 := 16#32
  let v119 : BitVec 32 := Scalar.muli arg9 c16_i32_68
  let c5_i32 : BitVec 32 := 5#32
  let v120 : BitVec 32 := Scalar.addi v119 c5_i32
  let v121 : Index := Scalar.indexCast v120
  ![0, 0, v121.toNat]
def k0_off48 (i : grid0.Coords) : Fin 1 → Nat :=
  let arg0 : BitVec 32 := BitVec.ofNat 32 (i 0).val
  let c2_i32 : BitVec 32 := 2#32
  let c0_i32_3 : BitVec 32 := 0#32
  let v10 : BitVec 1 := Scalar.cmpi .eq c2_i32 c0_i32_3
  let c1_i32_4 : BitVec 32 := 1#32
  let v11 : BitVec 32 := Scalar.select v10 c1_i32_4 c2_i32
  let v12 : BitVec 32 := Scalar.remsi arg0 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  ![v19.toNat]
def k0_off49 (v122 : BitVec 32) : Fin 2 → Nat :=
  let c0_i32_71 : BitVec 32 := 0#32
  ![v122.toNat, 0]

def k0_chk11 (v122 : BitVec 32) : Prop :=
  (∀ a, (k0_off49 v122) a + S1x512.size a ≤ S49152x512.size a)
theorem k0_off49_inb : ∀ (v122 : BitVec 32) (k0_hw11 : k0_chk11 v122), ∀ a, (k0_off49 v122) a + S1x512.size a ≤ S49152x512.size a := fun v122 k0_hw11 => k0_hw11

def k0_off50 (i : grid0.Coords) (k0_t1 : Fin k0_t1_loop.trips) : Fin 3 → Nat :=
  let arg0 : BitVec 32 := BitVec.ofNat 32 (i 0).val
  let c3_i32 : BitVec 32 := 3#32
  let c0_i32 : BitVec 32 := 0#32
  let v0 : BitVec 1 := Scalar.cmpi .eq c3_i32 c0_i32
  let c1_i32 : BitVec 32 := 1#32
  let v1 : BitVec 32 := Scalar.select v0 c1_i32 c3_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_14 : BitVec 32 := 0#32
  let c1_i32_15 : BitVec 32 := 1#32
  let arg9 : BitVec 32 := Scf.iv c0_i32_14 c1_i32_15 k0_t1
  let c16_i32_68 : BitVec 32 := 16#32
  let v119 : BitVec 32 := Scalar.muli arg9 c16_i32_68
  let c5_i32 : BitVec 32 := 5#32
  let v120 : BitVec 32 := Scalar.addi v119 c5_i32
  let c0_i32_72 : BitVec 32 := 0#32
  ![v9.toNat, v120.toNat, 0]
def k0_off51 (k0_t1 : Fin k0_t1_loop.trips) : Fin 3 → Nat :=
  let c0_73 : Index := 0#32
  let c0_74 : Index := 0#32
  let c0_i32_14 : BitVec 32 := 0#32
  let c1_i32_15 : BitVec 32 := 1#32
  let arg9 : BitVec 32 := Scf.iv c0_i32_14 c1_i32_15 k0_t1
  let c16_i32_68 : BitVec 32 := 16#32
  let v119 : BitVec 32 := Scalar.muli arg9 c16_i32_68
  let c5_i32 : BitVec 32 := 5#32
  let v120 : BitVec 32 := Scalar.addi v119 c5_i32
  let v128 : Index := Scalar.indexCast v120
  ![0, 0, v128.toNat]
def k0_off52 (i : grid0.Coords) : Fin 1 → Nat :=
  let arg0 : BitVec 32 := BitVec.ofNat 32 (i 0).val
  let c2_i32 : BitVec 32 := 2#32
  let c0_i32_3 : BitVec 32 := 0#32
  let v10 : BitVec 1 := Scalar.cmpi .eq c2_i32 c0_i32_3
  let c1_i32_4 : BitVec 32 := 1#32
  let v11 : BitVec 32 := Scalar.select v10 c1_i32_4 c2_i32
  let v12 : BitVec 32 := Scalar.remsi arg0 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  ![v19.toNat]
def k0_off53 (v129 : BitVec 32) : Fin 2 → Nat :=
  let c0_i32_75 : BitVec 32 := 0#32
  ![v129.toNat, 0]

def k0_chk12 (v129 : BitVec 32) : Prop :=
  (∀ a, (k0_off53 v129) a + S1x512.size a ≤ S49152x512.size a)
theorem k0_off53_inb : ∀ (v129 : BitVec 32) (k0_hw12 : k0_chk12 v129), ∀ a, (k0_off53 v129) a + S1x512.size a ≤ S49152x512.size a := fun v129 k0_hw12 => k0_hw12

def k0_off54 (i : grid0.Coords) (k0_t1 : Fin k0_t1_loop.trips) : Fin 3 → Nat :=
  let arg0 : BitVec 32 := BitVec.ofNat 32 (i 0).val
  let c3_i32 : BitVec 32 := 3#32
  let c0_i32 : BitVec 32 := 0#32
  let v0 : BitVec 1 := Scalar.cmpi .eq c3_i32 c0_i32
  let c1_i32 : BitVec 32 := 1#32
  let v1 : BitVec 32 := Scalar.select v0 c1_i32 c3_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_14 : BitVec 32 := 0#32
  let c1_i32_15 : BitVec 32 := 1#32
  let arg9 : BitVec 32 := Scf.iv c0_i32_14 c1_i32_15 k0_t1
  let c16_i32_68 : BitVec 32 := 16#32
  let v119 : BitVec 32 := Scalar.muli arg9 c16_i32_68
  let c5_i32 : BitVec 32 := 5#32
  let v120 : BitVec 32 := Scalar.addi v119 c5_i32
  let c0_i32_76 : BitVec 32 := 0#32
  ![v9.toNat, v120.toNat, 0]
def k0_off55 (k0_t1 : Fin k0_t1_loop.trips) : Fin 3 → Nat :=
  let c0_78 : Index := 0#32
  let c0_79 : Index := 0#32
  let c0_i32_14 : BitVec 32 := 0#32
  let c1_i32_15 : BitVec 32 := 1#32
  let arg9 : BitVec 32 := Scf.iv c0_i32_14 c1_i32_15 k0_t1
  let c16_i32_77 : BitVec 32 := 16#32
  let v135 : BitVec 32 := Scalar.muli arg9 c16_i32_77
  let c6_i32 : BitVec 32 := 6#32
  let v136 : BitVec 32 := Scalar.addi v135 c6_i32
  let v137 : Index := Scalar.indexCast v136
  ![0, 0, v137.toNat]
def k0_off56 (i : grid0.Coords) : Fin 1 → Nat :=
  let arg0 : BitVec 32 := BitVec.ofNat 32 (i 0).val
  let c2_i32 : BitVec 32 := 2#32
  let c0_i32_3 : BitVec 32 := 0#32
  let v10 : BitVec 1 := Scalar.cmpi .eq c2_i32 c0_i32_3
  let c1_i32_4 : BitVec 32 := 1#32
  let v11 : BitVec 32 := Scalar.select v10 c1_i32_4 c2_i32
  let v12 : BitVec 32 := Scalar.remsi arg0 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  ![v19.toNat]
def k0_off57 (v138 : BitVec 32) : Fin 2 → Nat :=
  let c0_i32_80 : BitVec 32 := 0#32
  ![v138.toNat, 0]

def k0_chk13 (v138 : BitVec 32) : Prop :=
  (∀ a, (k0_off57 v138) a + S1x512.size a ≤ S49152x512.size a)
theorem k0_off57_inb : ∀ (v138 : BitVec 32) (k0_hw13 : k0_chk13 v138), ∀ a, (k0_off57 v138) a + S1x512.size a ≤ S49152x512.size a := fun v138 k0_hw13 => k0_hw13

def k0_off58 (i : grid0.Coords) (k0_t1 : Fin k0_t1_loop.trips) : Fin 3 → Nat :=
  let arg0 : BitVec 32 := BitVec.ofNat 32 (i 0).val
  let c3_i32 : BitVec 32 := 3#32
  let c0_i32 : BitVec 32 := 0#32
  let v0 : BitVec 1 := Scalar.cmpi .eq c3_i32 c0_i32
  let c1_i32 : BitVec 32 := 1#32
  let v1 : BitVec 32 := Scalar.select v0 c1_i32 c3_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_14 : BitVec 32 := 0#32
  let c1_i32_15 : BitVec 32 := 1#32
  let arg9 : BitVec 32 := Scf.iv c0_i32_14 c1_i32_15 k0_t1
  let c16_i32_77 : BitVec 32 := 16#32
  let v135 : BitVec 32 := Scalar.muli arg9 c16_i32_77
  let c6_i32 : BitVec 32 := 6#32
  let v136 : BitVec 32 := Scalar.addi v135 c6_i32
  let c0_i32_81 : BitVec 32 := 0#32
  ![v9.toNat, v136.toNat, 0]
def k0_off59 (k0_t1 : Fin k0_t1_loop.trips) : Fin 3 → Nat :=
  let c0_82 : Index := 0#32
  let c0_83 : Index := 0#32
  let c0_i32_14 : BitVec 32 := 0#32
  let c1_i32_15 : BitVec 32 := 1#32
  let arg9 : BitVec 32 := Scf.iv c0_i32_14 c1_i32_15 k0_t1
  let c16_i32_77 : BitVec 32 := 16#32
  let v135 : BitVec 32 := Scalar.muli arg9 c16_i32_77
  let c6_i32 : BitVec 32 := 6#32
  let v136 : BitVec 32 := Scalar.addi v135 c6_i32
  let v144 : Index := Scalar.indexCast v136
  ![0, 0, v144.toNat]
def k0_off60 (i : grid0.Coords) : Fin 1 → Nat :=
  let arg0 : BitVec 32 := BitVec.ofNat 32 (i 0).val
  let c2_i32 : BitVec 32 := 2#32
  let c0_i32_3 : BitVec 32 := 0#32
  let v10 : BitVec 1 := Scalar.cmpi .eq c2_i32 c0_i32_3
  let c1_i32_4 : BitVec 32 := 1#32
  let v11 : BitVec 32 := Scalar.select v10 c1_i32_4 c2_i32
  let v12 : BitVec 32 := Scalar.remsi arg0 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  ![v19.toNat]
def k0_off61 (v145 : BitVec 32) : Fin 2 → Nat :=
  let c0_i32_84 : BitVec 32 := 0#32
  ![v145.toNat, 0]

def k0_chk14 (v145 : BitVec 32) : Prop :=
  (∀ a, (k0_off61 v145) a + S1x512.size a ≤ S49152x512.size a)
theorem k0_off61_inb : ∀ (v145 : BitVec 32) (k0_hw14 : k0_chk14 v145), ∀ a, (k0_off61 v145) a + S1x512.size a ≤ S49152x512.size a := fun v145 k0_hw14 => k0_hw14

def k0_off62 (i : grid0.Coords) (k0_t1 : Fin k0_t1_loop.trips) : Fin 3 → Nat :=
  let arg0 : BitVec 32 := BitVec.ofNat 32 (i 0).val
  let c3_i32 : BitVec 32 := 3#32
  let c0_i32 : BitVec 32 := 0#32
  let v0 : BitVec 1 := Scalar.cmpi .eq c3_i32 c0_i32
  let c1_i32 : BitVec 32 := 1#32
  let v1 : BitVec 32 := Scalar.select v0 c1_i32 c3_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_14 : BitVec 32 := 0#32
  let c1_i32_15 : BitVec 32 := 1#32
  let arg9 : BitVec 32 := Scf.iv c0_i32_14 c1_i32_15 k0_t1
  let c16_i32_77 : BitVec 32 := 16#32
  let v135 : BitVec 32 := Scalar.muli arg9 c16_i32_77
  let c6_i32 : BitVec 32 := 6#32
  let v136 : BitVec 32 := Scalar.addi v135 c6_i32
  let c0_i32_85 : BitVec 32 := 0#32
  ![v9.toNat, v136.toNat, 0]
def k0_off63 (k0_t1 : Fin k0_t1_loop.trips) : Fin 3 → Nat :=
  let c0_87 : Index := 0#32
  let c0_88 : Index := 0#32
  let c0_i32_14 : BitVec 32 := 0#32
  let c1_i32_15 : BitVec 32 := 1#32
  let arg9 : BitVec 32 := Scf.iv c0_i32_14 c1_i32_15 k0_t1
  let c16_i32_86 : BitVec 32 := 16#32
  let v151 : BitVec 32 := Scalar.muli arg9 c16_i32_86
  let c7_i32 : BitVec 32 := 7#32
  let v152 : BitVec 32 := Scalar.addi v151 c7_i32
  let v153 : Index := Scalar.indexCast v152
  ![0, 0, v153.toNat]
def k0_off64 (i : grid0.Coords) : Fin 1 → Nat :=
  let arg0 : BitVec 32 := BitVec.ofNat 32 (i 0).val
  let c2_i32 : BitVec 32 := 2#32
  let c0_i32_3 : BitVec 32 := 0#32
  let v10 : BitVec 1 := Scalar.cmpi .eq c2_i32 c0_i32_3
  let c1_i32_4 : BitVec 32 := 1#32
  let v11 : BitVec 32 := Scalar.select v10 c1_i32_4 c2_i32
  let v12 : BitVec 32 := Scalar.remsi arg0 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  ![v19.toNat]
def k0_off65 (v154 : BitVec 32) : Fin 2 → Nat :=
  let c0_i32_89 : BitVec 32 := 0#32
  ![v154.toNat, 0]

def k0_chk15 (v154 : BitVec 32) : Prop :=
  (∀ a, (k0_off65 v154) a + S1x512.size a ≤ S49152x512.size a)
theorem k0_off65_inb : ∀ (v154 : BitVec 32) (k0_hw15 : k0_chk15 v154), ∀ a, (k0_off65 v154) a + S1x512.size a ≤ S49152x512.size a := fun v154 k0_hw15 => k0_hw15

def k0_off66 (i : grid0.Coords) (k0_t1 : Fin k0_t1_loop.trips) : Fin 3 → Nat :=
  let arg0 : BitVec 32 := BitVec.ofNat 32 (i 0).val
  let c3_i32 : BitVec 32 := 3#32
  let c0_i32 : BitVec 32 := 0#32
  let v0 : BitVec 1 := Scalar.cmpi .eq c3_i32 c0_i32
  let c1_i32 : BitVec 32 := 1#32
  let v1 : BitVec 32 := Scalar.select v0 c1_i32 c3_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_14 : BitVec 32 := 0#32
  let c1_i32_15 : BitVec 32 := 1#32
  let arg9 : BitVec 32 := Scf.iv c0_i32_14 c1_i32_15 k0_t1
  let c16_i32_86 : BitVec 32 := 16#32
  let v151 : BitVec 32 := Scalar.muli arg9 c16_i32_86
  let c7_i32 : BitVec 32 := 7#32
  let v152 : BitVec 32 := Scalar.addi v151 c7_i32
  let c0_i32_90 : BitVec 32 := 0#32
  ![v9.toNat, v152.toNat, 0]
def k0_off67 (k0_t1 : Fin k0_t1_loop.trips) : Fin 3 → Nat :=
  let c0_91 : Index := 0#32
  let c0_92 : Index := 0#32
  let c0_i32_14 : BitVec 32 := 0#32
  let c1_i32_15 : BitVec 32 := 1#32
  let arg9 : BitVec 32 := Scf.iv c0_i32_14 c1_i32_15 k0_t1
  let c16_i32_86 : BitVec 32 := 16#32
  let v151 : BitVec 32 := Scalar.muli arg9 c16_i32_86
  let c7_i32 : BitVec 32 := 7#32
  let v152 : BitVec 32 := Scalar.addi v151 c7_i32
  let v160 : Index := Scalar.indexCast v152
  ![0, 0, v160.toNat]
def k0_off68 (i : grid0.Coords) : Fin 1 → Nat :=
  let arg0 : BitVec 32 := BitVec.ofNat 32 (i 0).val
  let c2_i32 : BitVec 32 := 2#32
  let c0_i32_3 : BitVec 32 := 0#32
  let v10 : BitVec 1 := Scalar.cmpi .eq c2_i32 c0_i32_3
  let c1_i32_4 : BitVec 32 := 1#32
  let v11 : BitVec 32 := Scalar.select v10 c1_i32_4 c2_i32
  let v12 : BitVec 32 := Scalar.remsi arg0 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  ![v19.toNat]
def k0_off69 (v161 : BitVec 32) : Fin 2 → Nat :=
  let c0_i32_93 : BitVec 32 := 0#32
  ![v161.toNat, 0]

def k0_chk16 (v161 : BitVec 32) : Prop :=
  (∀ a, (k0_off69 v161) a + S1x512.size a ≤ S49152x512.size a)
theorem k0_off69_inb : ∀ (v161 : BitVec 32) (k0_hw16 : k0_chk16 v161), ∀ a, (k0_off69 v161) a + S1x512.size a ≤ S49152x512.size a := fun v161 k0_hw16 => k0_hw16

def k0_off70 (i : grid0.Coords) (k0_t1 : Fin k0_t1_loop.trips) : Fin 3 → Nat :=
  let arg0 : BitVec 32 := BitVec.ofNat 32 (i 0).val
  let c3_i32 : BitVec 32 := 3#32
  let c0_i32 : BitVec 32 := 0#32
  let v0 : BitVec 1 := Scalar.cmpi .eq c3_i32 c0_i32
  let c1_i32 : BitVec 32 := 1#32
  let v1 : BitVec 32 := Scalar.select v0 c1_i32 c3_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_14 : BitVec 32 := 0#32
  let c1_i32_15 : BitVec 32 := 1#32
  let arg9 : BitVec 32 := Scf.iv c0_i32_14 c1_i32_15 k0_t1
  let c16_i32_86 : BitVec 32 := 16#32
  let v151 : BitVec 32 := Scalar.muli arg9 c16_i32_86
  let c7_i32 : BitVec 32 := 7#32
  let v152 : BitVec 32 := Scalar.addi v151 c7_i32
  let c0_i32_94 : BitVec 32 := 0#32
  ![v9.toNat, v152.toNat, 0]
def k0_off71 (k0_t1 : Fin k0_t1_loop.trips) : Fin 3 → Nat :=
  let c0_96 : Index := 0#32
  let c0_97 : Index := 0#32
  let c0_i32_14 : BitVec 32 := 0#32
  let c1_i32_15 : BitVec 32 := 1#32
  let arg9 : BitVec 32 := Scf.iv c0_i32_14 c1_i32_15 k0_t1
  let c16_i32_95 : BitVec 32 := 16#32
  let v167 : BitVec 32 := Scalar.muli arg9 c16_i32_95
  let c8_i32 : BitVec 32 := 8#32
  let v168 : BitVec 32 := Scalar.addi v167 c8_i32
  let v169 : Index := Scalar.indexCast v168
  ![0, 0, v169.toNat]
def k0_off72 (i : grid0.Coords) : Fin 1 → Nat :=
  let arg0 : BitVec 32 := BitVec.ofNat 32 (i 0).val
  let c2_i32 : BitVec 32 := 2#32
  let c0_i32_3 : BitVec 32 := 0#32
  let v10 : BitVec 1 := Scalar.cmpi .eq c2_i32 c0_i32_3
  let c1_i32_4 : BitVec 32 := 1#32
  let v11 : BitVec 32 := Scalar.select v10 c1_i32_4 c2_i32
  let v12 : BitVec 32 := Scalar.remsi arg0 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  ![v19.toNat]
def k0_off73 (v170 : BitVec 32) : Fin 2 → Nat :=
  let c0_i32_98 : BitVec 32 := 0#32
  ![v170.toNat, 0]

def k0_chk17 (v170 : BitVec 32) : Prop :=
  (∀ a, (k0_off73 v170) a + S1x512.size a ≤ S49152x512.size a)
theorem k0_off73_inb : ∀ (v170 : BitVec 32) (k0_hw17 : k0_chk17 v170), ∀ a, (k0_off73 v170) a + S1x512.size a ≤ S49152x512.size a := fun v170 k0_hw17 => k0_hw17

def k0_off74 (i : grid0.Coords) (k0_t1 : Fin k0_t1_loop.trips) : Fin 3 → Nat :=
  let arg0 : BitVec 32 := BitVec.ofNat 32 (i 0).val
  let c3_i32 : BitVec 32 := 3#32
  let c0_i32 : BitVec 32 := 0#32
  let v0 : BitVec 1 := Scalar.cmpi .eq c3_i32 c0_i32
  let c1_i32 : BitVec 32 := 1#32
  let v1 : BitVec 32 := Scalar.select v0 c1_i32 c3_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_14 : BitVec 32 := 0#32
  let c1_i32_15 : BitVec 32 := 1#32
  let arg9 : BitVec 32 := Scf.iv c0_i32_14 c1_i32_15 k0_t1
  let c16_i32_95 : BitVec 32 := 16#32
  let v167 : BitVec 32 := Scalar.muli arg9 c16_i32_95
  let c8_i32 : BitVec 32 := 8#32
  let v168 : BitVec 32 := Scalar.addi v167 c8_i32
  let c0_i32_99 : BitVec 32 := 0#32
  ![v9.toNat, v168.toNat, 0]
def k0_off75 (k0_t1 : Fin k0_t1_loop.trips) : Fin 3 → Nat :=
  let c0_100 : Index := 0#32
  let c0_101 : Index := 0#32
  let c0_i32_14 : BitVec 32 := 0#32
  let c1_i32_15 : BitVec 32 := 1#32
  let arg9 : BitVec 32 := Scf.iv c0_i32_14 c1_i32_15 k0_t1
  let c16_i32_95 : BitVec 32 := 16#32
  let v167 : BitVec 32 := Scalar.muli arg9 c16_i32_95
  let c8_i32 : BitVec 32 := 8#32
  let v168 : BitVec 32 := Scalar.addi v167 c8_i32
  let v176 : Index := Scalar.indexCast v168
  ![0, 0, v176.toNat]
def k0_off76 (i : grid0.Coords) : Fin 1 → Nat :=
  let arg0 : BitVec 32 := BitVec.ofNat 32 (i 0).val
  let c2_i32 : BitVec 32 := 2#32
  let c0_i32_3 : BitVec 32 := 0#32
  let v10 : BitVec 1 := Scalar.cmpi .eq c2_i32 c0_i32_3
  let c1_i32_4 : BitVec 32 := 1#32
  let v11 : BitVec 32 := Scalar.select v10 c1_i32_4 c2_i32
  let v12 : BitVec 32 := Scalar.remsi arg0 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  ![v19.toNat]
def k0_off77 (v177 : BitVec 32) : Fin 2 → Nat :=
  let c0_i32_102 : BitVec 32 := 0#32
  ![v177.toNat, 0]

def k0_chk18 (v177 : BitVec 32) : Prop :=
  (∀ a, (k0_off77 v177) a + S1x512.size a ≤ S49152x512.size a)
theorem k0_off77_inb : ∀ (v177 : BitVec 32) (k0_hw18 : k0_chk18 v177), ∀ a, (k0_off77 v177) a + S1x512.size a ≤ S49152x512.size a := fun v177 k0_hw18 => k0_hw18

def k0_off78 (i : grid0.Coords) (k0_t1 : Fin k0_t1_loop.trips) : Fin 3 → Nat :=
  let arg0 : BitVec 32 := BitVec.ofNat 32 (i 0).val
  let c3_i32 : BitVec 32 := 3#32
  let c0_i32 : BitVec 32 := 0#32
  let v0 : BitVec 1 := Scalar.cmpi .eq c3_i32 c0_i32
  let c1_i32 : BitVec 32 := 1#32
  let v1 : BitVec 32 := Scalar.select v0 c1_i32 c3_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_14 : BitVec 32 := 0#32
  let c1_i32_15 : BitVec 32 := 1#32
  let arg9 : BitVec 32 := Scf.iv c0_i32_14 c1_i32_15 k0_t1
  let c16_i32_95 : BitVec 32 := 16#32
  let v167 : BitVec 32 := Scalar.muli arg9 c16_i32_95
  let c8_i32 : BitVec 32 := 8#32
  let v168 : BitVec 32 := Scalar.addi v167 c8_i32
  let c0_i32_103 : BitVec 32 := 0#32
  ![v9.toNat, v168.toNat, 0]
def k0_off79 (k0_t1 : Fin k0_t1_loop.trips) : Fin 3 → Nat :=
  let c0_105 : Index := 0#32
  let c0_106 : Index := 0#32
  let c0_i32_14 : BitVec 32 := 0#32
  let c1_i32_15 : BitVec 32 := 1#32
  let arg9 : BitVec 32 := Scf.iv c0_i32_14 c1_i32_15 k0_t1
  let c16_i32_104 : BitVec 32 := 16#32
  let v183 : BitVec 32 := Scalar.muli arg9 c16_i32_104
  let c9_i32 : BitVec 32 := 9#32
  let v184 : BitVec 32 := Scalar.addi v183 c9_i32
  let v185 : Index := Scalar.indexCast v184
  ![0, 0, v185.toNat]
def k0_off80 (i : grid0.Coords) : Fin 1 → Nat :=
  let arg0 : BitVec 32 := BitVec.ofNat 32 (i 0).val
  let c2_i32 : BitVec 32 := 2#32
  let c0_i32_3 : BitVec 32 := 0#32
  let v10 : BitVec 1 := Scalar.cmpi .eq c2_i32 c0_i32_3
  let c1_i32_4 : BitVec 32 := 1#32
  let v11 : BitVec 32 := Scalar.select v10 c1_i32_4 c2_i32
  let v12 : BitVec 32 := Scalar.remsi arg0 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  ![v19.toNat]
def k0_off81 (v186 : BitVec 32) : Fin 2 → Nat :=
  let c0_i32_107 : BitVec 32 := 0#32
  ![v186.toNat, 0]

def k0_chk19 (v186 : BitVec 32) : Prop :=
  (∀ a, (k0_off81 v186) a + S1x512.size a ≤ S49152x512.size a)
theorem k0_off81_inb : ∀ (v186 : BitVec 32) (k0_hw19 : k0_chk19 v186), ∀ a, (k0_off81 v186) a + S1x512.size a ≤ S49152x512.size a := fun v186 k0_hw19 => k0_hw19

def k0_off82 (i : grid0.Coords) (k0_t1 : Fin k0_t1_loop.trips) : Fin 3 → Nat :=
  let arg0 : BitVec 32 := BitVec.ofNat 32 (i 0).val
  let c3_i32 : BitVec 32 := 3#32
  let c0_i32 : BitVec 32 := 0#32
  let v0 : BitVec 1 := Scalar.cmpi .eq c3_i32 c0_i32
  let c1_i32 : BitVec 32 := 1#32
  let v1 : BitVec 32 := Scalar.select v0 c1_i32 c3_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_14 : BitVec 32 := 0#32
  let c1_i32_15 : BitVec 32 := 1#32
  let arg9 : BitVec 32 := Scf.iv c0_i32_14 c1_i32_15 k0_t1
  let c16_i32_104 : BitVec 32 := 16#32
  let v183 : BitVec 32 := Scalar.muli arg9 c16_i32_104
  let c9_i32 : BitVec 32 := 9#32
  let v184 : BitVec 32 := Scalar.addi v183 c9_i32
  let c0_i32_108 : BitVec 32 := 0#32
  ![v9.toNat, v184.toNat, 0]
def k0_off83 (k0_t1 : Fin k0_t1_loop.trips) : Fin 3 → Nat :=
  let c0_109 : Index := 0#32
  let c0_110 : Index := 0#32
  let c0_i32_14 : BitVec 32 := 0#32
  let c1_i32_15 : BitVec 32 := 1#32
  let arg9 : BitVec 32 := Scf.iv c0_i32_14 c1_i32_15 k0_t1
  let c16_i32_104 : BitVec 32 := 16#32
  let v183 : BitVec 32 := Scalar.muli arg9 c16_i32_104
  let c9_i32 : BitVec 32 := 9#32
  let v184 : BitVec 32 := Scalar.addi v183 c9_i32
  let v192 : Index := Scalar.indexCast v184
  ![0, 0, v192.toNat]
def k0_off84 (i : grid0.Coords) : Fin 1 → Nat :=
  let arg0 : BitVec 32 := BitVec.ofNat 32 (i 0).val
  let c2_i32 : BitVec 32 := 2#32
  let c0_i32_3 : BitVec 32 := 0#32
  let v10 : BitVec 1 := Scalar.cmpi .eq c2_i32 c0_i32_3
  let c1_i32_4 : BitVec 32 := 1#32
  let v11 : BitVec 32 := Scalar.select v10 c1_i32_4 c2_i32
  let v12 : BitVec 32 := Scalar.remsi arg0 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  ![v19.toNat]
def k0_off85 (v193 : BitVec 32) : Fin 2 → Nat :=
  let c0_i32_111 : BitVec 32 := 0#32
  ![v193.toNat, 0]

def k0_chk20 (v193 : BitVec 32) : Prop :=
  (∀ a, (k0_off85 v193) a + S1x512.size a ≤ S49152x512.size a)
theorem k0_off85_inb : ∀ (v193 : BitVec 32) (k0_hw20 : k0_chk20 v193), ∀ a, (k0_off85 v193) a + S1x512.size a ≤ S49152x512.size a := fun v193 k0_hw20 => k0_hw20

def k0_off86 (i : grid0.Coords) (k0_t1 : Fin k0_t1_loop.trips) : Fin 3 → Nat :=
  let arg0 : BitVec 32 := BitVec.ofNat 32 (i 0).val
  let c3_i32 : BitVec 32 := 3#32
  let c0_i32 : BitVec 32 := 0#32
  let v0 : BitVec 1 := Scalar.cmpi .eq c3_i32 c0_i32
  let c1_i32 : BitVec 32 := 1#32
  let v1 : BitVec 32 := Scalar.select v0 c1_i32 c3_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_14 : BitVec 32 := 0#32
  let c1_i32_15 : BitVec 32 := 1#32
  let arg9 : BitVec 32 := Scf.iv c0_i32_14 c1_i32_15 k0_t1
  let c16_i32_104 : BitVec 32 := 16#32
  let v183 : BitVec 32 := Scalar.muli arg9 c16_i32_104
  let c9_i32 : BitVec 32 := 9#32
  let v184 : BitVec 32 := Scalar.addi v183 c9_i32
  let c0_i32_112 : BitVec 32 := 0#32
  ![v9.toNat, v184.toNat, 0]
def k0_off87 (k0_t1 : Fin k0_t1_loop.trips) : Fin 3 → Nat :=
  let c0_114 : Index := 0#32
  let c0_115 : Index := 0#32
  let c0_i32_14 : BitVec 32 := 0#32
  let c1_i32_15 : BitVec 32 := 1#32
  let arg9 : BitVec 32 := Scf.iv c0_i32_14 c1_i32_15 k0_t1
  let c16_i32_113 : BitVec 32 := 16#32
  let v199 : BitVec 32 := Scalar.muli arg9 c16_i32_113
  let c10_i32 : BitVec 32 := 10#32
  let v200 : BitVec 32 := Scalar.addi v199 c10_i32
  let v201 : Index := Scalar.indexCast v200
  ![0, 0, v201.toNat]
def k0_off88 (i : grid0.Coords) : Fin 1 → Nat :=
  let arg0 : BitVec 32 := BitVec.ofNat 32 (i 0).val
  let c2_i32 : BitVec 32 := 2#32
  let c0_i32_3 : BitVec 32 := 0#32
  let v10 : BitVec 1 := Scalar.cmpi .eq c2_i32 c0_i32_3
  let c1_i32_4 : BitVec 32 := 1#32
  let v11 : BitVec 32 := Scalar.select v10 c1_i32_4 c2_i32
  let v12 : BitVec 32 := Scalar.remsi arg0 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  ![v19.toNat]
def k0_off89 (v202 : BitVec 32) : Fin 2 → Nat :=
  let c0_i32_116 : BitVec 32 := 0#32
  ![v202.toNat, 0]

def k0_chk21 (v202 : BitVec 32) : Prop :=
  (∀ a, (k0_off89 v202) a + S1x512.size a ≤ S49152x512.size a)
theorem k0_off89_inb : ∀ (v202 : BitVec 32) (k0_hw21 : k0_chk21 v202), ∀ a, (k0_off89 v202) a + S1x512.size a ≤ S49152x512.size a := fun v202 k0_hw21 => k0_hw21

def k0_off90 (i : grid0.Coords) (k0_t1 : Fin k0_t1_loop.trips) : Fin 3 → Nat :=
  let arg0 : BitVec 32 := BitVec.ofNat 32 (i 0).val
  let c3_i32 : BitVec 32 := 3#32
  let c0_i32 : BitVec 32 := 0#32
  let v0 : BitVec 1 := Scalar.cmpi .eq c3_i32 c0_i32
  let c1_i32 : BitVec 32 := 1#32
  let v1 : BitVec 32 := Scalar.select v0 c1_i32 c3_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_14 : BitVec 32 := 0#32
  let c1_i32_15 : BitVec 32 := 1#32
  let arg9 : BitVec 32 := Scf.iv c0_i32_14 c1_i32_15 k0_t1
  let c16_i32_113 : BitVec 32 := 16#32
  let v199 : BitVec 32 := Scalar.muli arg9 c16_i32_113
  let c10_i32 : BitVec 32 := 10#32
  let v200 : BitVec 32 := Scalar.addi v199 c10_i32
  let c0_i32_117 : BitVec 32 := 0#32
  ![v9.toNat, v200.toNat, 0]
def k0_off91 (k0_t1 : Fin k0_t1_loop.trips) : Fin 3 → Nat :=
  let c0_118 : Index := 0#32
  let c0_119 : Index := 0#32
  let c0_i32_14 : BitVec 32 := 0#32
  let c1_i32_15 : BitVec 32 := 1#32
  let arg9 : BitVec 32 := Scf.iv c0_i32_14 c1_i32_15 k0_t1
  let c16_i32_113 : BitVec 32 := 16#32
  let v199 : BitVec 32 := Scalar.muli arg9 c16_i32_113
  let c10_i32 : BitVec 32 := 10#32
  let v200 : BitVec 32 := Scalar.addi v199 c10_i32
  let v208 : Index := Scalar.indexCast v200
  ![0, 0, v208.toNat]
def k0_off92 (i : grid0.Coords) : Fin 1 → Nat :=
  let arg0 : BitVec 32 := BitVec.ofNat 32 (i 0).val
  let c2_i32 : BitVec 32 := 2#32
  let c0_i32_3 : BitVec 32 := 0#32
  let v10 : BitVec 1 := Scalar.cmpi .eq c2_i32 c0_i32_3
  let c1_i32_4 : BitVec 32 := 1#32
  let v11 : BitVec 32 := Scalar.select v10 c1_i32_4 c2_i32
  let v12 : BitVec 32 := Scalar.remsi arg0 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  ![v19.toNat]
def k0_off93 (v209 : BitVec 32) : Fin 2 → Nat :=
  let c0_i32_120 : BitVec 32 := 0#32
  ![v209.toNat, 0]

def k0_chk22 (v209 : BitVec 32) : Prop :=
  (∀ a, (k0_off93 v209) a + S1x512.size a ≤ S49152x512.size a)
theorem k0_off93_inb : ∀ (v209 : BitVec 32) (k0_hw22 : k0_chk22 v209), ∀ a, (k0_off93 v209) a + S1x512.size a ≤ S49152x512.size a := fun v209 k0_hw22 => k0_hw22

def k0_off94 (i : grid0.Coords) (k0_t1 : Fin k0_t1_loop.trips) : Fin 3 → Nat :=
  let arg0 : BitVec 32 := BitVec.ofNat 32 (i 0).val
  let c3_i32 : BitVec 32 := 3#32
  let c0_i32 : BitVec 32 := 0#32
  let v0 : BitVec 1 := Scalar.cmpi .eq c3_i32 c0_i32
  let c1_i32 : BitVec 32 := 1#32
  let v1 : BitVec 32 := Scalar.select v0 c1_i32 c3_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_14 : BitVec 32 := 0#32
  let c1_i32_15 : BitVec 32 := 1#32
  let arg9 : BitVec 32 := Scf.iv c0_i32_14 c1_i32_15 k0_t1
  let c16_i32_113 : BitVec 32 := 16#32
  let v199 : BitVec 32 := Scalar.muli arg9 c16_i32_113
  let c10_i32 : BitVec 32 := 10#32
  let v200 : BitVec 32 := Scalar.addi v199 c10_i32
  let c0_i32_121 : BitVec 32 := 0#32
  ![v9.toNat, v200.toNat, 0]
def k0_off95 (k0_t1 : Fin k0_t1_loop.trips) : Fin 3 → Nat :=
  let c0_123 : Index := 0#32
  let c0_124 : Index := 0#32
  let c0_i32_14 : BitVec 32 := 0#32
  let c1_i32_15 : BitVec 32 := 1#32
  let arg9 : BitVec 32 := Scf.iv c0_i32_14 c1_i32_15 k0_t1
  let c16_i32_122 : BitVec 32 := 16#32
  let v215 : BitVec 32 := Scalar.muli arg9 c16_i32_122
  let c11_i32 : BitVec 32 := 11#32
  let v216 : BitVec 32 := Scalar.addi v215 c11_i32
  let v217 : Index := Scalar.indexCast v216
  ![0, 0, v217.toNat]
def k0_off96 (i : grid0.Coords) : Fin 1 → Nat :=
  let arg0 : BitVec 32 := BitVec.ofNat 32 (i 0).val
  let c2_i32 : BitVec 32 := 2#32
  let c0_i32_3 : BitVec 32 := 0#32
  let v10 : BitVec 1 := Scalar.cmpi .eq c2_i32 c0_i32_3
  let c1_i32_4 : BitVec 32 := 1#32
  let v11 : BitVec 32 := Scalar.select v10 c1_i32_4 c2_i32
  let v12 : BitVec 32 := Scalar.remsi arg0 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  ![v19.toNat]
def k0_off97 (v218 : BitVec 32) : Fin 2 → Nat :=
  let c0_i32_125 : BitVec 32 := 0#32
  ![v218.toNat, 0]

def k0_chk23 (v218 : BitVec 32) : Prop :=
  (∀ a, (k0_off97 v218) a + S1x512.size a ≤ S49152x512.size a)
theorem k0_off97_inb : ∀ (v218 : BitVec 32) (k0_hw23 : k0_chk23 v218), ∀ a, (k0_off97 v218) a + S1x512.size a ≤ S49152x512.size a := fun v218 k0_hw23 => k0_hw23

def k0_off98 (i : grid0.Coords) (k0_t1 : Fin k0_t1_loop.trips) : Fin 3 → Nat :=
  let arg0 : BitVec 32 := BitVec.ofNat 32 (i 0).val
  let c3_i32 : BitVec 32 := 3#32
  let c0_i32 : BitVec 32 := 0#32
  let v0 : BitVec 1 := Scalar.cmpi .eq c3_i32 c0_i32
  let c1_i32 : BitVec 32 := 1#32
  let v1 : BitVec 32 := Scalar.select v0 c1_i32 c3_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_14 : BitVec 32 := 0#32
  let c1_i32_15 : BitVec 32 := 1#32
  let arg9 : BitVec 32 := Scf.iv c0_i32_14 c1_i32_15 k0_t1
  let c16_i32_122 : BitVec 32 := 16#32
  let v215 : BitVec 32 := Scalar.muli arg9 c16_i32_122
  let c11_i32 : BitVec 32 := 11#32
  let v216 : BitVec 32 := Scalar.addi v215 c11_i32
  let c0_i32_126 : BitVec 32 := 0#32
  ![v9.toNat, v216.toNat, 0]
def k0_off99 (k0_t1 : Fin k0_t1_loop.trips) : Fin 3 → Nat :=
  let c0_127 : Index := 0#32
  let c0_128 : Index := 0#32
  let c0_i32_14 : BitVec 32 := 0#32
  let c1_i32_15 : BitVec 32 := 1#32
  let arg9 : BitVec 32 := Scf.iv c0_i32_14 c1_i32_15 k0_t1
  let c16_i32_122 : BitVec 32 := 16#32
  let v215 : BitVec 32 := Scalar.muli arg9 c16_i32_122
  let c11_i32 : BitVec 32 := 11#32
  let v216 : BitVec 32 := Scalar.addi v215 c11_i32
  let v224 : Index := Scalar.indexCast v216
  ![0, 0, v224.toNat]
def k0_off100 (i : grid0.Coords) : Fin 1 → Nat :=
  let arg0 : BitVec 32 := BitVec.ofNat 32 (i 0).val
  let c2_i32 : BitVec 32 := 2#32
  let c0_i32_3 : BitVec 32 := 0#32
  let v10 : BitVec 1 := Scalar.cmpi .eq c2_i32 c0_i32_3
  let c1_i32_4 : BitVec 32 := 1#32
  let v11 : BitVec 32 := Scalar.select v10 c1_i32_4 c2_i32
  let v12 : BitVec 32 := Scalar.remsi arg0 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  ![v19.toNat]
def k0_off101 (v225 : BitVec 32) : Fin 2 → Nat :=
  let c0_i32_129 : BitVec 32 := 0#32
  ![v225.toNat, 0]

def k0_chk24 (v225 : BitVec 32) : Prop :=
  (∀ a, (k0_off101 v225) a + S1x512.size a ≤ S49152x512.size a)
theorem k0_off101_inb : ∀ (v225 : BitVec 32) (k0_hw24 : k0_chk24 v225), ∀ a, (k0_off101 v225) a + S1x512.size a ≤ S49152x512.size a := fun v225 k0_hw24 => k0_hw24

def k0_off102 (i : grid0.Coords) (k0_t1 : Fin k0_t1_loop.trips) : Fin 3 → Nat :=
  let arg0 : BitVec 32 := BitVec.ofNat 32 (i 0).val
  let c3_i32 : BitVec 32 := 3#32
  let c0_i32 : BitVec 32 := 0#32
  let v0 : BitVec 1 := Scalar.cmpi .eq c3_i32 c0_i32
  let c1_i32 : BitVec 32 := 1#32
  let v1 : BitVec 32 := Scalar.select v0 c1_i32 c3_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_14 : BitVec 32 := 0#32
  let c1_i32_15 : BitVec 32 := 1#32
  let arg9 : BitVec 32 := Scf.iv c0_i32_14 c1_i32_15 k0_t1
  let c16_i32_122 : BitVec 32 := 16#32
  let v215 : BitVec 32 := Scalar.muli arg9 c16_i32_122
  let c11_i32 : BitVec 32 := 11#32
  let v216 : BitVec 32 := Scalar.addi v215 c11_i32
  let c0_i32_130 : BitVec 32 := 0#32
  ![v9.toNat, v216.toNat, 0]
def k0_off103 (k0_t1 : Fin k0_t1_loop.trips) : Fin 3 → Nat :=
  let c0_132 : Index := 0#32
  let c0_133 : Index := 0#32
  let c0_i32_14 : BitVec 32 := 0#32
  let c1_i32_15 : BitVec 32 := 1#32
  let arg9 : BitVec 32 := Scf.iv c0_i32_14 c1_i32_15 k0_t1
  let c16_i32_131 : BitVec 32 := 16#32
  let v231 : BitVec 32 := Scalar.muli arg9 c16_i32_131
  let c12_i32 : BitVec 32 := 12#32
  let v232 : BitVec 32 := Scalar.addi v231 c12_i32
  let v233 : Index := Scalar.indexCast v232
  ![0, 0, v233.toNat]
def k0_off104 (i : grid0.Coords) : Fin 1 → Nat :=
  let arg0 : BitVec 32 := BitVec.ofNat 32 (i 0).val
  let c2_i32 : BitVec 32 := 2#32
  let c0_i32_3 : BitVec 32 := 0#32
  let v10 : BitVec 1 := Scalar.cmpi .eq c2_i32 c0_i32_3
  let c1_i32_4 : BitVec 32 := 1#32
  let v11 : BitVec 32 := Scalar.select v10 c1_i32_4 c2_i32
  let v12 : BitVec 32 := Scalar.remsi arg0 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  ![v19.toNat]
def k0_off105 (v234 : BitVec 32) : Fin 2 → Nat :=
  let c0_i32_134 : BitVec 32 := 0#32
  ![v234.toNat, 0]

def k0_chk25 (v234 : BitVec 32) : Prop :=
  (∀ a, (k0_off105 v234) a + S1x512.size a ≤ S49152x512.size a)
theorem k0_off105_inb : ∀ (v234 : BitVec 32) (k0_hw25 : k0_chk25 v234), ∀ a, (k0_off105 v234) a + S1x512.size a ≤ S49152x512.size a := fun v234 k0_hw25 => k0_hw25

def k0_off106 (i : grid0.Coords) (k0_t1 : Fin k0_t1_loop.trips) : Fin 3 → Nat :=
  let arg0 : BitVec 32 := BitVec.ofNat 32 (i 0).val
  let c3_i32 : BitVec 32 := 3#32
  let c0_i32 : BitVec 32 := 0#32
  let v0 : BitVec 1 := Scalar.cmpi .eq c3_i32 c0_i32
  let c1_i32 : BitVec 32 := 1#32
  let v1 : BitVec 32 := Scalar.select v0 c1_i32 c3_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_14 : BitVec 32 := 0#32
  let c1_i32_15 : BitVec 32 := 1#32
  let arg9 : BitVec 32 := Scf.iv c0_i32_14 c1_i32_15 k0_t1
  let c16_i32_131 : BitVec 32 := 16#32
  let v231 : BitVec 32 := Scalar.muli arg9 c16_i32_131
  let c12_i32 : BitVec 32 := 12#32
  let v232 : BitVec 32 := Scalar.addi v231 c12_i32
  let c0_i32_135 : BitVec 32 := 0#32
  ![v9.toNat, v232.toNat, 0]
def k0_off107 (k0_t1 : Fin k0_t1_loop.trips) : Fin 3 → Nat :=
  let c0_136 : Index := 0#32
  let c0_137 : Index := 0#32
  let c0_i32_14 : BitVec 32 := 0#32
  let c1_i32_15 : BitVec 32 := 1#32
  let arg9 : BitVec 32 := Scf.iv c0_i32_14 c1_i32_15 k0_t1
  let c16_i32_131 : BitVec 32 := 16#32
  let v231 : BitVec 32 := Scalar.muli arg9 c16_i32_131
  let c12_i32 : BitVec 32 := 12#32
  let v232 : BitVec 32 := Scalar.addi v231 c12_i32
  let v240 : Index := Scalar.indexCast v232
  ![0, 0, v240.toNat]
def k0_off108 (i : grid0.Coords) : Fin 1 → Nat :=
  let arg0 : BitVec 32 := BitVec.ofNat 32 (i 0).val
  let c2_i32 : BitVec 32 := 2#32
  let c0_i32_3 : BitVec 32 := 0#32
  let v10 : BitVec 1 := Scalar.cmpi .eq c2_i32 c0_i32_3
  let c1_i32_4 : BitVec 32 := 1#32
  let v11 : BitVec 32 := Scalar.select v10 c1_i32_4 c2_i32
  let v12 : BitVec 32 := Scalar.remsi arg0 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  ![v19.toNat]
def k0_off109 (v241 : BitVec 32) : Fin 2 → Nat :=
  let c0_i32_138 : BitVec 32 := 0#32
  ![v241.toNat, 0]

def k0_chk26 (v241 : BitVec 32) : Prop :=
  (∀ a, (k0_off109 v241) a + S1x512.size a ≤ S49152x512.size a)
theorem k0_off109_inb : ∀ (v241 : BitVec 32) (k0_hw26 : k0_chk26 v241), ∀ a, (k0_off109 v241) a + S1x512.size a ≤ S49152x512.size a := fun v241 k0_hw26 => k0_hw26

def k0_off110 (i : grid0.Coords) (k0_t1 : Fin k0_t1_loop.trips) : Fin 3 → Nat :=
  let arg0 : BitVec 32 := BitVec.ofNat 32 (i 0).val
  let c3_i32 : BitVec 32 := 3#32
  let c0_i32 : BitVec 32 := 0#32
  let v0 : BitVec 1 := Scalar.cmpi .eq c3_i32 c0_i32
  let c1_i32 : BitVec 32 := 1#32
  let v1 : BitVec 32 := Scalar.select v0 c1_i32 c3_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_14 : BitVec 32 := 0#32
  let c1_i32_15 : BitVec 32 := 1#32
  let arg9 : BitVec 32 := Scf.iv c0_i32_14 c1_i32_15 k0_t1
  let c16_i32_131 : BitVec 32 := 16#32
  let v231 : BitVec 32 := Scalar.muli arg9 c16_i32_131
  let c12_i32 : BitVec 32 := 12#32
  let v232 : BitVec 32 := Scalar.addi v231 c12_i32
  let c0_i32_139 : BitVec 32 := 0#32
  ![v9.toNat, v232.toNat, 0]
def k0_off111 (k0_t1 : Fin k0_t1_loop.trips) : Fin 3 → Nat :=
  let c0_141 : Index := 0#32
  let c0_142 : Index := 0#32
  let c0_i32_14 : BitVec 32 := 0#32
  let c1_i32_15 : BitVec 32 := 1#32
  let arg9 : BitVec 32 := Scf.iv c0_i32_14 c1_i32_15 k0_t1
  let c16_i32_140 : BitVec 32 := 16#32
  let v247 : BitVec 32 := Scalar.muli arg9 c16_i32_140
  let c13_i32 : BitVec 32 := 13#32
  let v248 : BitVec 32 := Scalar.addi v247 c13_i32
  let v249 : Index := Scalar.indexCast v248
  ![0, 0, v249.toNat]
def k0_off112 (i : grid0.Coords) : Fin 1 → Nat :=
  let arg0 : BitVec 32 := BitVec.ofNat 32 (i 0).val
  let c2_i32 : BitVec 32 := 2#32
  let c0_i32_3 : BitVec 32 := 0#32
  let v10 : BitVec 1 := Scalar.cmpi .eq c2_i32 c0_i32_3
  let c1_i32_4 : BitVec 32 := 1#32
  let v11 : BitVec 32 := Scalar.select v10 c1_i32_4 c2_i32
  let v12 : BitVec 32 := Scalar.remsi arg0 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  ![v19.toNat]
def k0_off113 (v250 : BitVec 32) : Fin 2 → Nat :=
  let c0_i32_143 : BitVec 32 := 0#32
  ![v250.toNat, 0]

def k0_chk27 (v250 : BitVec 32) : Prop :=
  (∀ a, (k0_off113 v250) a + S1x512.size a ≤ S49152x512.size a)
theorem k0_off113_inb : ∀ (v250 : BitVec 32) (k0_hw27 : k0_chk27 v250), ∀ a, (k0_off113 v250) a + S1x512.size a ≤ S49152x512.size a := fun v250 k0_hw27 => k0_hw27

def k0_off114 (i : grid0.Coords) (k0_t1 : Fin k0_t1_loop.trips) : Fin 3 → Nat :=
  let arg0 : BitVec 32 := BitVec.ofNat 32 (i 0).val
  let c3_i32 : BitVec 32 := 3#32
  let c0_i32 : BitVec 32 := 0#32
  let v0 : BitVec 1 := Scalar.cmpi .eq c3_i32 c0_i32
  let c1_i32 : BitVec 32 := 1#32
  let v1 : BitVec 32 := Scalar.select v0 c1_i32 c3_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_14 : BitVec 32 := 0#32
  let c1_i32_15 : BitVec 32 := 1#32
  let arg9 : BitVec 32 := Scf.iv c0_i32_14 c1_i32_15 k0_t1
  let c16_i32_140 : BitVec 32 := 16#32
  let v247 : BitVec 32 := Scalar.muli arg9 c16_i32_140
  let c13_i32 : BitVec 32 := 13#32
  let v248 : BitVec 32 := Scalar.addi v247 c13_i32
  let c0_i32_144 : BitVec 32 := 0#32
  ![v9.toNat, v248.toNat, 0]
def k0_off115 (k0_t1 : Fin k0_t1_loop.trips) : Fin 3 → Nat :=
  let c0_145 : Index := 0#32
  let c0_146 : Index := 0#32
  let c0_i32_14 : BitVec 32 := 0#32
  let c1_i32_15 : BitVec 32 := 1#32
  let arg9 : BitVec 32 := Scf.iv c0_i32_14 c1_i32_15 k0_t1
  let c16_i32_140 : BitVec 32 := 16#32
  let v247 : BitVec 32 := Scalar.muli arg9 c16_i32_140
  let c13_i32 : BitVec 32 := 13#32
  let v248 : BitVec 32 := Scalar.addi v247 c13_i32
  let v256 : Index := Scalar.indexCast v248
  ![0, 0, v256.toNat]
def k0_off116 (i : grid0.Coords) : Fin 1 → Nat :=
  let arg0 : BitVec 32 := BitVec.ofNat 32 (i 0).val
  let c2_i32 : BitVec 32 := 2#32
  let c0_i32_3 : BitVec 32 := 0#32
  let v10 : BitVec 1 := Scalar.cmpi .eq c2_i32 c0_i32_3
  let c1_i32_4 : BitVec 32 := 1#32
  let v11 : BitVec 32 := Scalar.select v10 c1_i32_4 c2_i32
  let v12 : BitVec 32 := Scalar.remsi arg0 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  ![v19.toNat]
def k0_off117 (v257 : BitVec 32) : Fin 2 → Nat :=
  let c0_i32_147 : BitVec 32 := 0#32
  ![v257.toNat, 0]

def k0_chk28 (v257 : BitVec 32) : Prop :=
  (∀ a, (k0_off117 v257) a + S1x512.size a ≤ S49152x512.size a)
theorem k0_off117_inb : ∀ (v257 : BitVec 32) (k0_hw28 : k0_chk28 v257), ∀ a, (k0_off117 v257) a + S1x512.size a ≤ S49152x512.size a := fun v257 k0_hw28 => k0_hw28

def k0_off118 (i : grid0.Coords) (k0_t1 : Fin k0_t1_loop.trips) : Fin 3 → Nat :=
  let arg0 : BitVec 32 := BitVec.ofNat 32 (i 0).val
  let c3_i32 : BitVec 32 := 3#32
  let c0_i32 : BitVec 32 := 0#32
  let v0 : BitVec 1 := Scalar.cmpi .eq c3_i32 c0_i32
  let c1_i32 : BitVec 32 := 1#32
  let v1 : BitVec 32 := Scalar.select v0 c1_i32 c3_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_14 : BitVec 32 := 0#32
  let c1_i32_15 : BitVec 32 := 1#32
  let arg9 : BitVec 32 := Scf.iv c0_i32_14 c1_i32_15 k0_t1
  let c16_i32_140 : BitVec 32 := 16#32
  let v247 : BitVec 32 := Scalar.muli arg9 c16_i32_140
  let c13_i32 : BitVec 32 := 13#32
  let v248 : BitVec 32 := Scalar.addi v247 c13_i32
  let c0_i32_148 : BitVec 32 := 0#32
  ![v9.toNat, v248.toNat, 0]
def k0_off119 (k0_t1 : Fin k0_t1_loop.trips) : Fin 3 → Nat :=
  let c0_150 : Index := 0#32
  let c0_151 : Index := 0#32
  let c0_i32_14 : BitVec 32 := 0#32
  let c1_i32_15 : BitVec 32 := 1#32
  let arg9 : BitVec 32 := Scf.iv c0_i32_14 c1_i32_15 k0_t1
  let c16_i32_149 : BitVec 32 := 16#32
  let v263 : BitVec 32 := Scalar.muli arg9 c16_i32_149
  let c14_i32 : BitVec 32 := 14#32
  let v264 : BitVec 32 := Scalar.addi v263 c14_i32
  let v265 : Index := Scalar.indexCast v264
  ![0, 0, v265.toNat]
def k0_off120 (i : grid0.Coords) : Fin 1 → Nat :=
  let arg0 : BitVec 32 := BitVec.ofNat 32 (i 0).val
  let c2_i32 : BitVec 32 := 2#32
  let c0_i32_3 : BitVec 32 := 0#32
  let v10 : BitVec 1 := Scalar.cmpi .eq c2_i32 c0_i32_3
  let c1_i32_4 : BitVec 32 := 1#32
  let v11 : BitVec 32 := Scalar.select v10 c1_i32_4 c2_i32
  let v12 : BitVec 32 := Scalar.remsi arg0 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  ![v19.toNat]
def k0_off121 (v266 : BitVec 32) : Fin 2 → Nat :=
  let c0_i32_152 : BitVec 32 := 0#32
  ![v266.toNat, 0]

def k0_chk29 (v266 : BitVec 32) : Prop :=
  (∀ a, (k0_off121 v266) a + S1x512.size a ≤ S49152x512.size a)
theorem k0_off121_inb : ∀ (v266 : BitVec 32) (k0_hw29 : k0_chk29 v266), ∀ a, (k0_off121 v266) a + S1x512.size a ≤ S49152x512.size a := fun v266 k0_hw29 => k0_hw29

def k0_off122 (i : grid0.Coords) (k0_t1 : Fin k0_t1_loop.trips) : Fin 3 → Nat :=
  let arg0 : BitVec 32 := BitVec.ofNat 32 (i 0).val
  let c3_i32 : BitVec 32 := 3#32
  let c0_i32 : BitVec 32 := 0#32
  let v0 : BitVec 1 := Scalar.cmpi .eq c3_i32 c0_i32
  let c1_i32 : BitVec 32 := 1#32
  let v1 : BitVec 32 := Scalar.select v0 c1_i32 c3_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_14 : BitVec 32 := 0#32
  let c1_i32_15 : BitVec 32 := 1#32
  let arg9 : BitVec 32 := Scf.iv c0_i32_14 c1_i32_15 k0_t1
  let c16_i32_149 : BitVec 32 := 16#32
  let v263 : BitVec 32 := Scalar.muli arg9 c16_i32_149
  let c14_i32 : BitVec 32 := 14#32
  let v264 : BitVec 32 := Scalar.addi v263 c14_i32
  let c0_i32_153 : BitVec 32 := 0#32
  ![v9.toNat, v264.toNat, 0]
def k0_off123 (k0_t1 : Fin k0_t1_loop.trips) : Fin 3 → Nat :=
  let c0_154 : Index := 0#32
  let c0_155 : Index := 0#32
  let c0_i32_14 : BitVec 32 := 0#32
  let c1_i32_15 : BitVec 32 := 1#32
  let arg9 : BitVec 32 := Scf.iv c0_i32_14 c1_i32_15 k0_t1
  let c16_i32_149 : BitVec 32 := 16#32
  let v263 : BitVec 32 := Scalar.muli arg9 c16_i32_149
  let c14_i32 : BitVec 32 := 14#32
  let v264 : BitVec 32 := Scalar.addi v263 c14_i32
  let v272 : Index := Scalar.indexCast v264
  ![0, 0, v272.toNat]
def k0_off124 (i : grid0.Coords) : Fin 1 → Nat :=
  let arg0 : BitVec 32 := BitVec.ofNat 32 (i 0).val
  let c2_i32 : BitVec 32 := 2#32
  let c0_i32_3 : BitVec 32 := 0#32
  let v10 : BitVec 1 := Scalar.cmpi .eq c2_i32 c0_i32_3
  let c1_i32_4 : BitVec 32 := 1#32
  let v11 : BitVec 32 := Scalar.select v10 c1_i32_4 c2_i32
  let v12 : BitVec 32 := Scalar.remsi arg0 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  ![v19.toNat]
def k0_off125 (v273 : BitVec 32) : Fin 2 → Nat :=
  let c0_i32_156 : BitVec 32 := 0#32
  ![v273.toNat, 0]

def k0_chk30 (v273 : BitVec 32) : Prop :=
  (∀ a, (k0_off125 v273) a + S1x512.size a ≤ S49152x512.size a)
theorem k0_off125_inb : ∀ (v273 : BitVec 32) (k0_hw30 : k0_chk30 v273), ∀ a, (k0_off125 v273) a + S1x512.size a ≤ S49152x512.size a := fun v273 k0_hw30 => k0_hw30

def k0_off126 (i : grid0.Coords) (k0_t1 : Fin k0_t1_loop.trips) : Fin 3 → Nat :=
  let arg0 : BitVec 32 := BitVec.ofNat 32 (i 0).val
  let c3_i32 : BitVec 32 := 3#32
  let c0_i32 : BitVec 32 := 0#32
  let v0 : BitVec 1 := Scalar.cmpi .eq c3_i32 c0_i32
  let c1_i32 : BitVec 32 := 1#32
  let v1 : BitVec 32 := Scalar.select v0 c1_i32 c3_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_14 : BitVec 32 := 0#32
  let c1_i32_15 : BitVec 32 := 1#32
  let arg9 : BitVec 32 := Scf.iv c0_i32_14 c1_i32_15 k0_t1
  let c16_i32_149 : BitVec 32 := 16#32
  let v263 : BitVec 32 := Scalar.muli arg9 c16_i32_149
  let c14_i32 : BitVec 32 := 14#32
  let v264 : BitVec 32 := Scalar.addi v263 c14_i32
  let c0_i32_157 : BitVec 32 := 0#32
  ![v9.toNat, v264.toNat, 0]
def k0_off127 (k0_t1 : Fin k0_t1_loop.trips) : Fin 3 → Nat :=
  let c0_160 : Index := 0#32
  let c0_161 : Index := 0#32
  let c0_i32_14 : BitVec 32 := 0#32
  let c1_i32_15 : BitVec 32 := 1#32
  let arg9 : BitVec 32 := Scf.iv c0_i32_14 c1_i32_15 k0_t1
  let c16_i32_158 : BitVec 32 := 16#32
  let v279 : BitVec 32 := Scalar.muli arg9 c16_i32_158
  let c15_i32_159 : BitVec 32 := 15#32
  let v280 : BitVec 32 := Scalar.addi v279 c15_i32_159
  let v281 : Index := Scalar.indexCast v280
  ![0, 0, v281.toNat]
def k0_off128 (i : grid0.Coords) : Fin 1 → Nat :=
  let arg0 : BitVec 32 := BitVec.ofNat 32 (i 0).val
  let c2_i32 : BitVec 32 := 2#32
  let c0_i32_3 : BitVec 32 := 0#32
  let v10 : BitVec 1 := Scalar.cmpi .eq c2_i32 c0_i32_3
  let c1_i32_4 : BitVec 32 := 1#32
  let v11 : BitVec 32 := Scalar.select v10 c1_i32_4 c2_i32
  let v12 : BitVec 32 := Scalar.remsi arg0 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  ![v19.toNat]
def k0_off129 (v282 : BitVec 32) : Fin 2 → Nat :=
  let c0_i32_162 : BitVec 32 := 0#32
  ![v282.toNat, 0]

def k0_chk31 (v282 : BitVec 32) : Prop :=
  (∀ a, (k0_off129 v282) a + S1x512.size a ≤ S49152x512.size a)
theorem k0_off129_inb : ∀ (v282 : BitVec 32) (k0_hw31 : k0_chk31 v282), ∀ a, (k0_off129 v282) a + S1x512.size a ≤ S49152x512.size a := fun v282 k0_hw31 => k0_hw31

def k0_off130 (i : grid0.Coords) (k0_t1 : Fin k0_t1_loop.trips) : Fin 3 → Nat :=
  let arg0 : BitVec 32 := BitVec.ofNat 32 (i 0).val
  let c3_i32 : BitVec 32 := 3#32
  let c0_i32 : BitVec 32 := 0#32
  let v0 : BitVec 1 := Scalar.cmpi .eq c3_i32 c0_i32
  let c1_i32 : BitVec 32 := 1#32
  let v1 : BitVec 32 := Scalar.select v0 c1_i32 c3_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_14 : BitVec 32 := 0#32
  let c1_i32_15 : BitVec 32 := 1#32
  let arg9 : BitVec 32 := Scf.iv c0_i32_14 c1_i32_15 k0_t1
  let c16_i32_158 : BitVec 32 := 16#32
  let v279 : BitVec 32 := Scalar.muli arg9 c16_i32_158
  let c15_i32_159 : BitVec 32 := 15#32
  let v280 : BitVec 32 := Scalar.addi v279 c15_i32_159
  let c0_i32_163 : BitVec 32 := 0#32
  ![v9.toNat, v280.toNat, 0]
def k0_off131 (k0_t1 : Fin k0_t1_loop.trips) : Fin 3 → Nat :=
  let c0_164 : Index := 0#32
  let c0_165 : Index := 0#32
  let c0_i32_14 : BitVec 32 := 0#32
  let c1_i32_15 : BitVec 32 := 1#32
  let arg9 : BitVec 32 := Scf.iv c0_i32_14 c1_i32_15 k0_t1
  let c16_i32_158 : BitVec 32 := 16#32
  let v279 : BitVec 32 := Scalar.muli arg9 c16_i32_158
  let c15_i32_159 : BitVec 32 := 15#32
  let v280 : BitVec 32 := Scalar.addi v279 c15_i32_159
  let v288 : Index := Scalar.indexCast v280
  ![0, 0, v288.toNat]
def k0_off132 (i : grid0.Coords) : Fin 1 → Nat :=
  let arg0 : BitVec 32 := BitVec.ofNat 32 (i 0).val
  let c2_i32 : BitVec 32 := 2#32
  let c0_i32_3 : BitVec 32 := 0#32
  let v10 : BitVec 1 := Scalar.cmpi .eq c2_i32 c0_i32_3
  let c1_i32_4 : BitVec 32 := 1#32
  let v11 : BitVec 32 := Scalar.select v10 c1_i32_4 c2_i32
  let v12 : BitVec 32 := Scalar.remsi arg0 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  ![v19.toNat]
def k0_off133 (v289 : BitVec 32) : Fin 2 → Nat :=
  let c0_i32_166 : BitVec 32 := 0#32
  ![v289.toNat, 0]

def k0_chk32 (v289 : BitVec 32) : Prop :=
  (∀ a, (k0_off133 v289) a + S1x512.size a ≤ S49152x512.size a)
theorem k0_off133_inb : ∀ (v289 : BitVec 32) (k0_hw32 : k0_chk32 v289), ∀ a, (k0_off133 v289) a + S1x512.size a ≤ S49152x512.size a := fun v289 k0_hw32 => k0_hw32

def k0_off134 (i : grid0.Coords) (k0_t1 : Fin k0_t1_loop.trips) : Fin 3 → Nat :=
  let arg0 : BitVec 32 := BitVec.ofNat 32 (i 0).val
  let c3_i32 : BitVec 32 := 3#32
  let c0_i32 : BitVec 32 := 0#32
  let v0 : BitVec 1 := Scalar.cmpi .eq c3_i32 c0_i32
  let c1_i32 : BitVec 32 := 1#32
  let v1 : BitVec 32 := Scalar.select v0 c1_i32 c3_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_14 : BitVec 32 := 0#32
  let c1_i32_15 : BitVec 32 := 1#32
  let arg9 : BitVec 32 := Scf.iv c0_i32_14 c1_i32_15 k0_t1
  let c16_i32_158 : BitVec 32 := 16#32
  let v279 : BitVec 32 := Scalar.muli arg9 c16_i32_158
  let c15_i32_159 : BitVec 32 := 15#32
  let v280 : BitVec 32 := Scalar.addi v279 c15_i32_159
  let c0_i32_167 : BitVec 32 := 0#32
  ![v9.toNat, v280.toNat, 0]
def k0_cond3 (i : grid0.Coords) : BitVec 1 :=
  let arg0 : BitVec 32 := BitVec.ofNat 32 (i 0).val
  let c0_i32_17 : BitVec 32 := 0#32
  let v33 : BitVec 1 := Scalar.cmpi .sgt arg0 c0_i32_17
  let v34 : BitVec 32 := Scalar.extui v33
  let c0_i32_18 : BitVec 32 := 0#32
  let v35 : BitVec 1 := Scalar.cmpi .ne v34 c0_i32_18
  v35

@[reducible] def k0_t2_loop : Scf.Loop 32 :=
  let c0_i32_22 : BitVec 32 := 0#32
  let c2048_i32 : BitVec 32 := 2048#32
  let v40 : BitVec 32 := Scalar.addi c0_i32_22 c2048_i32
  let c1_i32_23 : BitVec 32 := 1#32
  ⟨c0_i32_22, v40, c1_i32_23⟩
def k0_off135 (i : grid0.Coords) : Fin 1 → Nat :=
  let c1_i32_21 : BitVec 32 := 1#32
  let arg0 : BitVec 32 := BitVec.ofNat 32 (i 0).val
  let c2_i32 : BitVec 32 := 2#32
  let c0_i32_3 : BitVec 32 := 0#32
  let v10 : BitVec 1 := Scalar.cmpi .eq c2_i32 c0_i32_3
  let c1_i32_4 : BitVec 32 := 1#32
  let v11 : BitVec 32 := Scalar.select v10 c1_i32_4 c2_i32
  let v12 : BitVec 32 := Scalar.remsi arg0 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v39 : BitVec 32 := Scalar.subi c1_i32_21 v19
  ![v39.toNat]
def k0_cond4 (i : grid0.Coords) : BitVec 1 :=
  let arg0 : BitVec 32 := BitVec.ofNat 32 (i 0).val
  let c15_i32_19 : BitVec 32 := 15#32
  let v36 : BitVec 1 := Scalar.cmpi .eq arg0 c15_i32_19
  let v37 : BitVec 32 := Scalar.extui v36
  let c0_i32_20 : BitVec 32 := 0#32
  let v38 : BitVec 1 := Scalar.cmpi .ne v37 c0_i32_20
  v38

@[reducible] def k0_t3_loop : Scf.Loop 32 :=
  let c0_i32_21 : BitVec 32 := 0#32
  let c2048_i32 : BitVec 32 := 2048#32
  let v39 : BitVec 32 := Scalar.addi c0_i32_21 c2048_i32
  let c1_i32_22 : BitVec 32 := 1#32
  ⟨c0_i32_21, v39, c1_i32_22⟩
def k0_off136 (i : grid0.Coords) : Fin 1 → Nat :=
  let arg0 : BitVec 32 := BitVec.ofNat 32 (i 0).val
  let c2_i32 : BitVec 32 := 2#32
  let c0_i32_3 : BitVec 32 := 0#32
  let v10 : BitVec 1 := Scalar.cmpi .eq c2_i32 c0_i32_3
  let c1_i32_4 : BitVec 32 := 1#32
  let v11 : BitVec 32 := Scalar.select v10 c1_i32_4 c2_i32
  let v12 : BitVec 32 := Scalar.remsi arg0 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  ![v19.toNat]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .smem S1x1x1024 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .smem S1x1x1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference.lean ====
abbrev S16384 : Shape := ⟨1, ![16384]⟩
abbrev S16384x512 : Shape := ⟨2, ![16384, 512]⟩
abbrev S32768 : Shape := ⟨1, ![32768]⟩
abbrev S_ : Shape := ⟨0, ![]⟩
abbrev S49152 : Shape := ⟨1, ![49152]⟩
abbrev S32768x1 : Shape := ⟨2, ![32768, 1]⟩
abbrev S1x512 : Shape := ⟨2, ![1, 512]⟩
abbrev S16385x512 : Shape := ⟨2, ![16385, 512]⟩
abbrev S49152x1 : Shape := ⟨2, ![49152, 1]⟩
abbrev S49152x512 : Shape := ⟨2, ![49152, 512]⟩

abbrev nBuf : Space → Nat
  | .hbm => 30
  | .vmem => 0
  | .smem => 0
  | _ => 0

abbrev bufTy : (tb : Table) → Fin (tcTables nBuf tb) → BufTy
  | .hbm, ⟨0, _⟩ => ⟨S16384, .i32⟩
  | .hbm, ⟨1, _⟩ => ⟨S16384, .i32⟩
  | .hbm, ⟨2, _⟩ => ⟨S16384x512, .i32⟩
  | .hbm, ⟨3, _⟩ => ⟨S32768, .i32⟩
  | .hbm, ⟨4, _⟩ => ⟨S16384, .i32⟩
  | .hbm, ⟨5, _⟩ => ⟨S16384, .i32⟩
  | .hbm, ⟨6, _⟩ => ⟨S32768, .i32⟩
  | .hbm, ⟨7, _⟩ => ⟨S_, .i32⟩
  | .hbm, ⟨8, _⟩ => ⟨S49152, .i32⟩
  | .hbm, ⟨9, _⟩ => ⟨S_, .i32⟩
  | .hbm, ⟨10, _⟩ => ⟨S32768, .i32⟩
  | .hbm, ⟨11, _⟩ => ⟨S32768, .i1⟩
  | .hbm, ⟨12, _⟩ => ⟨S_, .i32⟩
  | .hbm, ⟨13, _⟩ => ⟨S32768, .i32⟩
  | .hbm, ⟨14, _⟩ => ⟨S32768, .i32⟩
  | .hbm, ⟨15, _⟩ => ⟨S32768, .i32⟩
  | .hbm, ⟨16, _⟩ => ⟨S32768x1, .i32⟩
  | .hbm, ⟨17, _⟩ => ⟨S49152, .i32⟩
  | .hbm, ⟨18, _⟩ => ⟨S_, .i32⟩
  | .hbm, ⟨19, _⟩ => ⟨S1x512, .i32⟩
  | .hbm, ⟨20, _⟩ => ⟨S16385x512, .i32⟩
  | .hbm, ⟨21, _⟩ => ⟨S_, .i32⟩
  | .hbm, ⟨22, _⟩ => ⟨S49152, .i32⟩
  | .hbm, ⟨23, _⟩ => ⟨S49152, .i1⟩
  | .hbm, ⟨24, _⟩ => ⟨S_, .i32⟩
  | .hbm, ⟨25, _⟩ => ⟨S49152, .i32⟩
  | .hbm, ⟨26, _⟩ => ⟨S49152, .i32⟩
  | .hbm, ⟨27, _⟩ => ⟨S49152, .i32⟩
  | .hbm, ⟨28, _⟩ => ⟨S49152x1, .i32⟩
  | .hbm, ⟨29, _⟩ => ⟨S49152x512, .i32⟩
  | _, _ => ⟨S16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_v4 : Ref sig .tc := ⟨.hbm, 8, rfl⟩
abbrev main_c_0 : Ref sig .tc := ⟨.hbm, 9, rfl⟩
abbrev main_v5 : Ref sig .tc := ⟨.hbm, 10, rfl⟩
abbrev main_v6 : Ref sig .tc := ⟨.hbm, 11, rfl⟩
abbrev main_c_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_c_2 : Ref sig .tc := ⟨.hbm, 18, rfl⟩
abbrev main_v12 : Ref sig .tc := ⟨.hbm, 19, rfl⟩
abbrev main_v13 : Ref sig .tc := ⟨.hbm, 20, rfl⟩
abbrev main_c_3 : Ref sig .tc := ⟨.hbm, 21, rfl⟩
abbrev main_v14 : Ref sig .tc := ⟨.hbm, 22, rfl⟩
abbrev main_v15 : Ref sig .tc := ⟨.hbm, 23, rfl⟩
abbrev main_c_4 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩

abbrev nD : Nat := 1
abbrev τ : Topo := Topo.v7x

variable {F : FTy → Type} [FloatOps F]
-- ==== Kernel2.lean ====
abbrev S4x4096x1024 : Shape := ⟨3, ![4, 4096, 1024]⟩
abbrev S8x6144 : Shape := ⟨2, ![8, 6144]⟩
abbrev S1x1024 : Shape := ⟨2, ![1, 1024]⟩
abbrev S1x1024x11328 : Shape := ⟨3, ![1, 1024, 11328]⟩
abbrev S48x1x1024 : Shape := ⟨3, ![48, 1, 1024]⟩
abbrev S1024x11328 : Shape := ⟨2, ![1024, 11328]⟩
abbrev S1024x5120 : Shape := ⟨2, ![1024, 5120]⟩
abbrev S1024x64 : Shape := ⟨2, ![1024, 64]⟩
abbrev S_ : Shape := ⟨0, ![]⟩
abbrev S1024x128 : Shape := ⟨2, ![1024, 128]⟩
abbrev S1024 : Shape := ⟨1, ![1024]⟩
abbrev S16384x1024 : Shape := ⟨2, ![16384, 1024]⟩
abbrev S16384x11264 : Shape := ⟨2, ![16384, 11264]⟩
abbrev S16384x128 : Shape := ⟨2, ![16384, 128]⟩
abbrev S2048x1024 : Shape := ⟨2, ![2048, 1024]⟩
abbrev S1x1x1024 : Shape := ⟨3, ![1, 1, 1024]⟩
abbrev S1024x1024 : Shape := ⟨2, ![1024, 1024]⟩
abbrev S2048x128 : Shape := ⟨2, ![2048, 128]⟩
abbrev S128x1024 : Shape := ⟨2, ![128, 1024]⟩
abbrev S128 : Shape := ⟨1, ![128]⟩
abbrev S128x1 : Shape := ⟨2, ![128, 1]⟩

abbrev nBuf : Space → Nat
  | .hbm => 17
  | .vmem => 17
  | .smem => 0
  | _ => 0

abbrev bufTy : (tb : Table) → Fin (tcTables nBuf tb) → BufTy
  | .hbm, ⟨0, _⟩ => ⟨S4x4096x1024, .f32⟩
  | .hbm, ⟨1, _⟩ => ⟨S8x6144, .f32⟩
  | .hbm, ⟨2, _⟩ => ⟨S1x1024, .f32⟩
  | .hbm, ⟨3, _⟩ => ⟨S1x1024x11328, .f32⟩
  | .hbm, ⟨4, _⟩ => ⟨S48x1x1024, .f32⟩
  | .hbm, ⟨5, _⟩ => ⟨S1024x11328, .f32⟩
  | .hbm, ⟨6, _⟩ => ⟨S1024x11328, .bf16⟩
  | .hbm, ⟨7, _⟩ => ⟨S1024x5120, .bf16⟩
  | .hbm, ⟨8, _⟩ => ⟨S1024x64, .bf16⟩
  | .hbm, ⟨9, _⟩ => ⟨S_, .i32⟩
  | .hbm, ⟨10, _⟩ => ⟨S_, .bf16⟩
  | .hbm, ⟨11, _⟩ => ⟨S1024x128, .bf16⟩
  | .hbm, ⟨12, _⟩ => ⟨S1024, .f32⟩
  | .hbm, ⟨13, _⟩ => ⟨S1x1024, .f32⟩
  | .hbm, ⟨14, _⟩ => ⟨S16384x1024, .f32⟩
  | .hbm, ⟨15, _⟩ => ⟨S16384x11264, .bf16⟩
  | .hbm, ⟨16, _⟩ => ⟨S16384x128, .f32⟩
  | .local _ .vmem, ⟨0, _⟩ => ⟨S2048x1024, .f32⟩
  | .local _ .vmem, ⟨1, _⟩ => ⟨S2048x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x128, .bf16⟩
  | .local _ .vmem, ⟨12, _⟩ => ⟨S2048x1024, .bf16⟩
  | .local _ .vmem, ⟨13, _⟩ => ⟨S2048x1024, .bf16⟩
  | .local _ .vmem, ⟨14, _⟩ => ⟨S2048x128, .f32⟩
  | .local _ .vmem, ⟨15, _⟩ => ⟨S2048x128, .f32⟩
  | .local _ .vmem, ⟨16, _⟩ => ⟨S2048x1024, .bf16⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_call0_v0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9_0 : Ref sig .tc := ⟨.hbm, 15, rfl⟩
abbrev main_v9_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![8, 11], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_11 : BitVec 32 := 0#32
  let c16_i32 : BitVec 32 := 16#32
  let v17 : BitVec 32 := Scalar.addi c0_i32_11 c16_i32
  let c1_i32 : BitVec 32 := 1#32
  ⟨c0_i32_11, v17, c1_i32⟩
def k0_mult1 (k0_t1 : Fin k0_t1_loop.trips) : BitVec 32 :=
  let c0_i32_11 : BitVec 32 := 0#32
  let c1_i32 : BitVec 32 := 1#32
  let arg12 : BitVec 32 := Scf.iv c0_i32_11 c1_i32 k0_t1
  let c128_i32 : BitVec 32 := 128#32
  let v23 : BitVec 32 := Scalar.muli arg12 c128_i32
  v23
def k0_off1 (k0_t1 : Fin k0_t1_loop.trips) : Fin 2 → Nat :=
  let c0_i32_11 : BitVec 32 := 0#32
  let c1_i32 : BitVec 32 := 1#32
  let arg12 : BitVec 32 := Scf.iv c0_i32_11 c1_i32 k0_t1
  let c128_i32 : BitVec 32 := 128#32
  let v23 : BitVec 32 := Scalar.muli arg12 c128_i32
  let v24 : BitVec 32 := v23
  let v25 : Index := Scalar.indexCast v24
  let c0_20 : Index := 0#32
  ![v25.toNat, 0]
def k0_cond2 (i : grid0.Coords) : BitVec 1 :=
  let arg1 : BitVec 32 := BitVec.ofNat 32 (i 1).val
  let c6_i32 : BitVec 32 := 6#32
  let v3 : BitVec 1 := Scalar.cmpi .slt arg1 c6_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg1 : BitVec 32 := BitVec.ofNat 32 (i 1).val
  let c6_i32_2 : BitVec 32 := 6#32
  let v6 : BitVec 1 := Scalar.cmpi .sge arg1 c6_i32_2
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c6_i32 : BitVec 32 := 6#32
  let v17 : BitVec 32 := Scalar.muli v16 c6_i32
  let c0_i32_4 : BitVec 32 := 0#32
  let v18 : BitVec 32 := Scalar.addi v17 c0_i32_4
  let c0_i32_5 : BitVec 32 := 0#32
  let c0_i32_6 : BitVec 32 := 0#32
  let c0_i32_7 : BitVec 32 := 0#32
  ![v18.toNat, c0_i32_5.toNat, c0_i32_6.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c6_i32 : BitVec 32 := 6#32
  let v17 : BitVec 32 := Scalar.muli v16 c6_i32
  let c1_i32_4 : BitVec 32 := 1#32
  let v18 : BitVec 32 := Scalar.addi v17 c1_i32_4
  let c0_i32_5 : BitVec 32 := 0#32
  let c0_i32_6 : BitVec 32 := 0#32
  let c0_i32_7 : BitVec 32 := 0#32
  ![v18.toNat, c0_i32_5.toNat, c0_i32_6.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 1 := Scalar.cmpi .sle arg1 c9_i32
  let c1_i32 : BitVec 32 := 1#32
  let c1_i32_0 : BitVec 32 := 1#32
  let v1 : BitVec 32 := Scalar.select v0 c1_i32 c1_i32_0
  let c8_i32 : BitVec 32 := 8#32
  let v2 : BitVec 1 := Scalar.cmpi .sle arg1 c8_i32
  let c1_i32_1 : BitVec 32 := 1#32
  let v3 : BitVec 32 := Scalar.select v2 c1_i32_1 v1
  let c7_i32 : BitVec 32 := 7#32
  let v4 : BitVec 1 := Scalar.cmpi .sle arg1 c7_i32
  let c1_i32_2 : BitVec 32 := 1#32
  let v5 : BitVec 32 := Scalar.select v4 c1_i32_2 v3
  let c6_i32 : BitVec 32 := 6#32
  let v6 : BitVec 1 := Scalar.cmpi .sle arg1 c6_i32
  let c1_i32_3 : BitVec 32 := 1#32
  let v7 : BitVec 32 := Scalar.select v6 c1_i32_3 v5
  let c5_i32 : BitVec 32 := 5#32
  let v8 : BitVec 1 := Scalar.cmpi .sle arg1 c5_i32
  let c1_i32_4 : BitVec 32 := 1#32
  let v9 : BitVec 32 := Scalar.select v8 c1_i32_4 v7
  let c4_i32 : BitVec 32 := 4#32
  let v10 : BitVec 1 := Scalar.cmpi .sle arg1 c4_i32
  let c0_i32 : BitVec 32 := 0#32
  let v11 : BitVec 32 := Scalar.select v10 c0_i32 v9
  let c3_i32 : BitVec 32 := 3#32
  let v12 : BitVec 1 := Scalar.cmpi .sle arg1 c3_i32
  let c5_i32_5 : BitVec 32 := 5#32
  let v13 : BitVec 32 := Scalar.select v12 c5_i32_5 v11
  let c2_i32 : BitVec 32 := 2#32
  let v14 : BitVec 1 := Scalar.cmpi .sle arg1 c2_i32
  let c4_i32_6 : BitVec 32 := 4#32
  let v15 : BitVec 32 := Scalar.select v14 c4_i32_6 v13
  let c1_i32_7 : BitVec 32 := 1#32
  let v16 : BitVec 1 := Scalar.cmpi .sle arg1 c1_i32_7
  let c3_i32_8 : BitVec 32 := 3#32
  let v17 : BitVec 32 := Scalar.select v16 c3_i32_8 v15
  let c0_i32_9 : BitVec 32 := 0#32
  let v18 : BitVec 1 := Scalar.cmpi .sle arg1 c0_i32_9
  let c2_i32_10 : BitVec 32 := 2#32
  let v19 : BitVec 32 := Scalar.select v18 c2_i32_10 v17
  let c0_i32_11 : BitVec 32 := 0#32
  let c0_i32_12 : BitVec 32 := 0#32
  ![c0_i32_11.toNat, v19.toNat]

def cc0_transform_5 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 1 := Scalar.cmpi .sle arg1 c9_i32
  let c1_i32 : BitVec 32 := 1#32
  let c2_i32 : BitVec 32 := 2#32
  let v1 : BitVec 32 := Scalar.select v0 c1_i32 c2_i32
  let c8_i32 : BitVec 32 := 8#32
  let v2 : BitVec 1 := Scalar.cmpi .sle arg1 c8_i32
  let c0_i32 : BitVec 32 := 0#32
  let v3 : BitVec 32 := Scalar.select v2 c0_i32 v1
  let c7_i32 : BitVec 32 := 7#32
  let v4 : BitVec 1 := Scalar.cmpi .sle arg1 c7_i32
  let c4_i32 : BitVec 32 := 4#32
  let v5 : BitVec 32 := Scalar.select v4 c4_i32 v3
  let c6_i32 : BitVec 32 := 6#32
  let v6 : BitVec 1 := Scalar.cmpi .sle arg1 c6_i32
  let c3_i32 : BitVec 32 := 3#32
  let v7 : BitVec 32 := Scalar.select v6 c3_i32 v5
  let c5_i32 : BitVec 32 := 5#32
  let v8 : BitVec 1 := Scalar.cmpi .sle arg1 c5_i32
  let c3_i32_0 : BitVec 32 := 3#32
  let v9 : BitVec 32 := Scalar.select v8 c3_i32_0 v7
  let c4_i32_1 : BitVec 32 := 4#32
  let v10 : BitVec 1 := Scalar.cmpi .sle arg1 c4_i32_1
  let c3_i32_2 : BitVec 32 := 3#32
  let v11 : BitVec 32 := Scalar.select v10 c3_i32_2 v9
  let c3_i32_3 : BitVec 32 := 3#32
  let v12 : BitVec 1 := Scalar.cmpi .sle arg1 c3_i32_3
  let c3_i32_4 : BitVec 32 := 3#32
  let v13 : BitVec 32 := Scalar.select v12 c3_i32_4 v11
  let c2_i32_5 : BitVec 32 := 2#32
  let v14 : BitVec 1 := Scalar.cmpi .sle arg1 c2_i32_5
  let c3_i32_6 : BitVec 32 := 3#32
  let v15 : BitVec 32 := Scalar.select v14 c3_i32_6 v13
  let c1_i32_7 : BitVec 32 := 1#32
  let v16 : BitVec 1 := Scalar.cmpi .sle arg1 c1_i32_7
  let c3_i32_8 : BitVec 32 := 3#32
  let v17 : BitVec 32 := Scalar.select v16 c3_i32_8 v15
  let c0_i32_9 : BitVec 32 := 0#32
  let v18 : BitVec 1 := Scalar.cmpi .sle arg1 c0_i32_9
  let c3_i32_10 : BitVec 32 := 3#32
  let v19 : BitVec 32 := Scalar.select v18 c3_i32_10 v17
  let c0_i32_11 : BitVec 32 := 0#32
  let c0_i32_12 : BitVec 32 := 0#32
  ![c0_i32_11.toNat, v19.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S1024x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S2048x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S2048x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== Reference2Ideal.lean ====
abbrev S4x4096x1024 : Shape := ⟨3, ![4, 4096, 1024]⟩
abbrev S8x6144 : Shape := ⟨2, ![8, 6144]⟩
abbrev S1x1024 : Shape := ⟨2, ![1, 1024]⟩
abbrev S1x1024x11328 : Shape := ⟨3, ![1, 1024, 11328]⟩
abbrev S4x6144 : Shape := ⟨2, ![4, 6144]⟩
abbrev S4x1024 : Shape := ⟨2, ![4, 1024]⟩
abbrev S4x1x1024 : Shape := ⟨3, ![4, 1, 1024]⟩
abbrev S1024 : Shape := ⟨1, ![1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S1024x11328 : Shape := ⟨2, ![1024, 11328]⟩
abbrev S4x4096x11328 : Shape := ⟨3, ![4, 4096, 11328]⟩
abbrev S4x4096x2048 : Shape := ⟨3, ![4, 4096, 2048]⟩
abbrev S4x4096x4096 : Shape := ⟨3, ![4, 4096, 4096]⟩
abbrev S4x4096x64 : Shape := ⟨3, ![4, 4096, 64]⟩
abbrev S4x4096x3072 : Shape := ⟨3, ![4, 4096, 3072]⟩
abbrev S4x4096x11264 : Shape := ⟨3, ![4, 4096, 11264]⟩
abbrev S4x4096x128 : Shape := ⟨3, ![4, 4096, 128]⟩
abbrev S16384x11264 : Shape := ⟨2, ![16384, 11264]⟩
abbrev S16384x128 : Shape := ⟨2, ![16384, 128]⟩

abbrev nBuf : Space → Nat
  | .hbm => 51
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S8x6144, .f32⟩
  | .hbm, ⟨2, _⟩ => ⟨S1x1024, .f32⟩
  | .hbm, ⟨3, _⟩ => ⟨S1x1024x11328, .f32⟩
  | .hbm, ⟨4, _⟩ => ⟨S4x6144, .f32⟩
  | .hbm, ⟨5, _⟩ => ⟨S4x1024, .f32⟩
  | .hbm, ⟨6, _⟩ => ⟨S4x1024, .f32⟩
  | .hbm, ⟨7, _⟩ => ⟨S4x1024, .f32⟩
  | .hbm, ⟨8, _⟩ => ⟨S4x1024, .f32⟩
  | .hbm, ⟨9, _⟩ => ⟨S4x1024, .f32⟩
  | .hbm, ⟨10, _⟩ => ⟨S4x1024, .f32⟩
  | .hbm, ⟨11, _⟩ => ⟨S4x1x1024, .f32⟩
  | .hbm, ⟨12, _⟩ => ⟨S4x1x1024, .f32⟩
  | .hbm, ⟨13, _⟩ => ⟨S1024, .f32⟩
  | .hbm, ⟨14, _⟩ => ⟨S4x4096x1024, .f32⟩
  | .hbm, ⟨15, _⟩ => ⟨S_, .f32⟩
  | .hbm, ⟨16, _⟩ => ⟨S4x4096, .f32⟩
  | .hbm, ⟨17, _⟩ => ⟨S4x4096x1, .f32⟩
  | .hbm, ⟨18, _⟩ => ⟨S_, .f32⟩
  | .hbm, ⟨19, _⟩ => ⟨S4x4096x1, .f32⟩
  | .hbm, ⟨20, _⟩ => ⟨S4x4096x1, .f32⟩
  | .hbm, ⟨21, _⟩ => ⟨S_, .f32⟩
  | .hbm, ⟨22, _⟩ => ⟨S4x4096x1, .f32⟩
  | .hbm, ⟨23, _⟩ => ⟨S4x4096x1, .f32⟩
  | .hbm, ⟨24, _⟩ => ⟨S4x4096x1, .f32⟩
  | .hbm, ⟨25, _⟩ => ⟨S4x4096x1024, .f32⟩
  | .hbm, ⟨26, _⟩ => ⟨S4x4096x1024, .f32⟩
  | .hbm, ⟨27, _⟩ => ⟨S1x1x1024, .f32⟩
  | .hbm, ⟨28, _⟩ => ⟨S4x4096x1024, .f32⟩
  | .hbm, ⟨29, _⟩ => ⟨S4x4096x1024, .f32⟩
  | .hbm, ⟨30, _⟩ => ⟨S_, .f32⟩
  | .hbm, ⟨31, _⟩ => ⟨S4x1x1024, .f32⟩
  | .hbm, ⟨32, _⟩ => ⟨S4x1x1024, .f32⟩
  | .hbm, ⟨33, _⟩ => ⟨S4x4096x1024, .f32⟩
  | .hbm, ⟨34, _⟩ => ⟨S4x4096x1024, .f32⟩
  | .hbm, ⟨35, _⟩ => ⟨S4x4096x1024, .f32⟩
  | .hbm, ⟨36, _⟩ => ⟨S4x4096x1024, .f32⟩
  | .hbm, ⟨37, _⟩ => ⟨S1024x11328, .f32⟩
  | .hbm, ⟨38, _⟩ => ⟨S4x4096x11328, .f32⟩
  | .hbm, ⟨39, _⟩ => ⟨S4x4096x2048, .f32⟩
  | .hbm, ⟨40, _⟩ => ⟨S4x4096x4096, .f32⟩
  | .hbm, ⟨41, _⟩ => ⟨S4x4096x64, .f32⟩
  | .hbm, ⟨42, _⟩ => ⟨S4x4096x3072, .f32⟩
  | .hbm, ⟨43, _⟩ => ⟨S4x4096x2048, .f32⟩
  | .hbm, ⟨44, _⟩ => ⟨S4x4096x11264, .f32⟩
  | .hbm, ⟨45, _⟩ => ⟨S_, .f32⟩
  | .hbm, ⟨46, _⟩ => ⟨S4x4096x64, .f32⟩
  | .hbm, ⟨47, _⟩ => ⟨S4x4096x128, .f32⟩
  | .hbm, ⟨48, _⟩ => ⟨S16384x11264, .f32⟩
  | .hbm, ⟨49, _⟩ => ⟨S16384x11264, .bf16⟩
  | .hbm, ⟨50, _⟩ => ⟨S16384x128, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst : Ref sig .tc := ⟨.hbm, 15, rfl⟩
abbrev main_v11 : Ref sig .tc := ⟨.hbm, 16, rfl⟩
abbrev main_v12 : Ref sig .tc := ⟨.hbm, 17, rfl⟩
abbrev main_cst_0 : Ref sig .tc := ⟨.hbm, 18, rfl⟩
abbrev main_v13 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_2 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_cst_3 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩

abbrev nD : Nat := 1
abbrev τ : Topo := Topo.v7x

variable {F : FTy → Type} [FloatOps F]
-- ==== Kernel3.lean ====
abbrev S16384x2048 : Shape := ⟨2, ![16384, 2048]⟩
abbrev S16384x11264 : Shape := ⟨2, ![16384, 11264]⟩
abbrev S16384x1024 : Shape := ⟨2, ![16384, 1024]⟩
abbrev S4x4096x1024 : Shape := ⟨3, ![4, 4096, 1024]⟩
abbrev S8x6144 : Shape := ⟨2, ![8, 6144]⟩
abbrev S1x2048 : Shape := ⟨2, ![1, 2048]⟩
abbrev S1x1024 : Shape := ⟨2, ![1, 1024]⟩
abbrev S1x2048x1024 : Shape := ⟨3, ![1, 2048, 1024]⟩
abbrev S1x1024x1024 : Shape := ⟨3, ![1, 1024, 1024]⟩
abbrev S1x1024x32 : Shape := ⟨3, ![1, 1024, 32]⟩
abbrev S1x32 : Shape := ⟨2, ![1, 32]⟩
abbrev S1x1024x4 : Shape := ⟨3, ![1, 1024, 4]⟩
abbrev S1x4 : Shape := ⟨2, ![1, 4]⟩
abbrev S48x1x1024 : Shape := ⟨3, ![48, 1, 1024]⟩
abbrev S1024x32 : Shape := ⟨2, ![1024, 32]⟩
abbrev S1024x4 : Shape := ⟨2, ![1024, 4]⟩
abbrev S1024x36 : Shape := ⟨2, ![1024, 36]⟩
abbrev S_ : Shape := ⟨0, ![]⟩
abbrev S1024x128 : Shape := ⟨2, ![1024, 128]⟩
abbrev S32 : Shape := ⟨1, ![32]⟩
abbrev S4 : Shape := ⟨1, ![4]⟩
abbrev S36 : Shape := ⟨1, ![36]⟩
abbrev S1x36 : Shape := ⟨2, ![1, 36]⟩
abbrev S1x128 : Shape := ⟨2, ![1, 128]⟩
abbrev S2048 : Shape := ⟨1, ![2048]⟩
abbrev S1024 : Shape := ⟨1, ![1024]⟩
abbrev S2048x1024 : Shape := ⟨2, ![2048, 1024]⟩
abbrev S1024x1024 : Shape := ⟨2, ![1024, 1024]⟩
abbrev S16384x128 : Shape := ⟨2, ![16384, 128]⟩
abbrev S49152x512 : Shape := ⟨2, ![49152, 512]⟩
abbrev S512x2048 : Shape := ⟨2, ![512, 2048]⟩
abbrev S512x1024 : Shape := ⟨2, ![512, 1024]⟩
abbrev S1x1x1024 : Shape := ⟨3, ![1, 1, 1024]⟩
abbrev S512x128 : Shape := ⟨2, ![512, 128]⟩
abbrev S1536x512 : Shape := ⟨2, ![1536, 512]⟩
abbrev S128x2048 : Shape := ⟨2, ![128, 2048]⟩
abbrev S128 : Shape := ⟨1, ![128]⟩
abbrev S128x1 : Shape := ⟨2, ![128, 1]⟩
abbrev S128x1024 : Shape := ⟨2, ![128, 1024]⟩
abbrev S128x128 : Shape := ⟨2, ![128, 128]⟩

abbrev nBuf : Space → Nat
  | .hbm => 48
  | .vmem => 34
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .bf16⟩
  | .hbm, ⟨2, _⟩ => ⟨S16384x11264, .bf16⟩
  | .hbm, ⟨3, _⟩ => ⟨S16384x1024, .bf16⟩
  | .hbm, ⟨4, _⟩ => ⟨S4x4096x1024, .f32⟩
  | .hbm, ⟨5, _⟩ => ⟨S8x6144, .f32⟩
  | .hbm, ⟨6, _⟩ => ⟨S1x2048, .f32⟩
  | .hbm, ⟨7, _⟩ => ⟨S1x1024, .f32⟩
  | .hbm, ⟨8, _⟩ => ⟨S1x2048x1024, .f32⟩
  | .hbm, ⟨9, _⟩ => ⟨S1x1024x1024, .f32⟩
  | .hbm, ⟨10, _⟩ => ⟨S1x1024x1024, .f32⟩
  | .hbm, ⟨11, _⟩ => ⟨S1x1024x32, .f32⟩
  | .hbm, ⟨12, _⟩ => ⟨S1x32, .f32⟩
  | .hbm, ⟨13, _⟩ => ⟨S1x1024x4, .f32⟩
  | .hbm, ⟨14, _⟩ => ⟨S1x4, .f32⟩
  | .hbm, ⟨15, _⟩ => ⟨S48x1x1024, .f32⟩
  | .hbm, ⟨16, _⟩ => ⟨S16384x1024, .f32⟩
  | .hbm, ⟨17, _⟩ => ⟨S1024x32, .f32⟩
  | .hbm, ⟨18, _⟩ => ⟨S1024x4, .f32⟩
  | .hbm, ⟨19, _⟩ => ⟨S1024x36, .f32⟩
  | .hbm, ⟨20, _⟩ => ⟨S_, .i32⟩
  | .hbm, ⟨21, _⟩ => ⟨S_, .f32⟩
  | .hbm, ⟨22, _⟩ => ⟨S1024x128, .f32⟩
  | .hbm, ⟨23, _⟩ => ⟨S1024x128, .bf16⟩
  | .hbm, ⟨24, _⟩ => ⟨S1024x128, .f32⟩
  | .hbm, ⟨25, _⟩ => ⟨S1024x128, .f32⟩
  | .hbm, ⟨26, _⟩ => ⟨S1024x128, .bf16⟩
  | .hbm, ⟨27, _⟩ => ⟨S32, .f32⟩
  | .hbm, ⟨28, _⟩ => ⟨S4, .f32⟩
  | .hbm, ⟨29, _⟩ => ⟨S36, .f32⟩
  | .hbm, ⟨30, _⟩ => ⟨S1x36, .f32⟩
  | .hbm, ⟨31, _⟩ => ⟨S_, .i32⟩
  | .hbm, ⟨32, _⟩ => ⟨S_, .f32⟩
  | .hbm, ⟨33, _⟩ => ⟨S1x128, .f32⟩
  | .hbm, ⟨34, _⟩ => ⟨S2048, .f32⟩
  | .hbm, ⟨35, _⟩ => ⟨S1x2048, .f32⟩
  | .hbm, ⟨36, _⟩ => ⟨S1024, .f32⟩
  | .hbm, ⟨37, _⟩ => ⟨S1x1024, .f32⟩
  | .hbm, ⟨38, _⟩ => ⟨S2048x1024, .f32⟩
  | .hbm, ⟨39, _⟩ => ⟨S2048x1024, .bf16⟩
  | .hbm, ⟨40, _⟩ => ⟨S1024x1024, .f32⟩
  | .hbm, ⟨41, _⟩ => ⟨S1024x1024, .bf16⟩
  | .hbm, ⟨42, _⟩ => ⟨S1024x1024, .f32⟩
  | .hbm, ⟨43, _⟩ => ⟨S1024x1024, .bf16⟩
  | .hbm, ⟨44, _⟩ => ⟨S16384x1024, .f32⟩
  | .hbm, ⟨45, _⟩ => ⟨S16384x1024, .bf16⟩
  | .hbm, ⟨46, _⟩ => ⟨S16384x128, .f32⟩
  | .hbm, ⟨47, _⟩ => ⟨S49152x512, .i32⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S512x2048, .bf16⟩
  | .local _ .vmem, ⟨5, _⟩ => ⟨S512x2048, .bf16⟩
  | .local _ .vmem, ⟨6, _⟩ => ⟨S512x2048, .bf16⟩
  | .local _ .vmem, ⟨7, _⟩ => ⟨S512x2048, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .f32⟩
  | .local _ .vmem, ⟨11, _⟩ => ⟨S512x1024, .f32⟩
  | .local _ .vmem, ⟨12, _⟩ => ⟨S1x1x1024, .f32⟩
  | .local _ .vmem, ⟨13, _⟩ => ⟨S1x1x1024, .f32⟩
  | .local _ .vmem, ⟨14, _⟩ => ⟨S1x1x1024, .f32⟩
  | .local _ .vmem, ⟨15, _⟩ => ⟨S1x1x1024, .f32⟩
  | .local _ .vmem, ⟨16, _⟩ => ⟨S1x1x1024, .f32⟩
  | .local _ .vmem, ⟨17, _⟩ => ⟨S1x1x1024, .f32⟩
  | .local _ .vmem, ⟨18, _⟩ => ⟨S1x2048, .f32⟩
  | .local _ .vmem, ⟨19, _⟩ => ⟨S1x1024, .f32⟩
  | .local _ .vmem, ⟨20, _⟩ => ⟨S2048x1024, .bf16⟩
  | .local _ .vmem, ⟨21, _⟩ => ⟨S1024x1024, .bf16⟩
  | .local _ .vmem, ⟨22, _⟩ => ⟨S1024x1024, .bf16⟩
  | .local _ .vmem, ⟨23, _⟩ => ⟨S1024x128, .bf16⟩
  | .local _ .vmem, ⟨24, _⟩ => ⟨S1024x128, .bf16⟩
  | .local _ .vmem, ⟨25, _⟩ => ⟨S1x128, .f32⟩
  | .local _ .vmem, ⟨26, _⟩ => ⟨S512x1024, .f32⟩
  | .local _ .vmem, ⟨27, _⟩ => ⟨S512x1024, .f32⟩
  | .local _ .vmem, ⟨28, _⟩ => ⟨S512x1024, .bf16⟩
  | .local _ .vmem, ⟨29, _⟩ => ⟨S512x1024, .bf16⟩
  | .local _ .vmem, ⟨30, _⟩ => ⟨S512x128, .f32⟩
  | .local _ .vmem, ⟨31, _⟩ => ⟨S512x128, .f32⟩
  | .local _ .vmem, ⟨32, _⟩ => ⟨S1536x512, .i32⟩
  | .local _ .vmem, ⟨33, _⟩ => ⟨S1536x512, .i32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_c : Ref sig .tc := ⟨.hbm, 20, rfl⟩
abbrev main_call0_v0 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_c_0 : Ref sig .tc := ⟨.hbm, 31, rfl⟩
abbrev main_call1_v0 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25_0 : Ref sig .tc := ⟨.hbm, 44, rfl⟩
abbrev main_v25_1 : Ref sig .tc := ⟨.hbm, 45, rfl⟩
abbrev main_v25_2 : Ref sig .tc := ⟨.hbm, 46, rfl⟩
abbrev main_v25_3 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg14_0 : Ref sig .tc := ⟨.vmem, 23, rfl⟩
abbrev cc0_stg15_0 : Ref sig .tc := ⟨.vmem, 24, rfl⟩
abbrev cc0_stg16_0 : Ref sig .tc := ⟨.vmem, 25, rfl⟩
abbrev cc0_stg17_0 : Ref sig .tc := ⟨.vmem, 26, rfl⟩
abbrev cc0_stg17_1 : Ref sig .tc := ⟨.vmem, 27, rfl⟩
abbrev cc0_stg18_0 : Ref sig .tc := ⟨.vmem, 28, rfl⟩
abbrev cc0_stg18_1 : Ref sig .tc := ⟨.vmem, 29, rfl⟩
abbrev cc0_stg19_0 : Ref sig .tc := ⟨.vmem, 30, rfl⟩
abbrev cc0_stg19_1 : Ref sig .tc := ⟨.vmem, 31, rfl⟩
abbrev cc0_stg20_0 : Ref sig .tc := ⟨.vmem, 32, rfl⟩
abbrev cc0_stg20_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem12_0 : DmaSem sig := 21
abbrev cc0_sem13_0 : DmaSem sig := 22
abbrev cc0_sem14_0 : DmaSem sig := 23
abbrev cc0_sem15_0 : DmaSem sig := 24
abbrev cc0_sem16_0 : DmaSem sig := 25
abbrev cc0_sem17_0 : DmaSem sig := 26
abbrev cc0_sem17_1 : DmaSem sig := 27
abbrev cc0_sem18_0 : DmaSem sig := 28
abbrev cc0_sem18_1 : DmaSem sig := 29
abbrev cc0_sem19_0 : DmaSem sig := 30
abbrev cc0_sem19_1 : DmaSem sig := 31
abbrev cc0_sem20_0 : DmaSem sig := 32
abbrev cc0_sem20_1 : DmaSem sig := 33

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c6_i32 : BitVec 32 := 6#32
  let v17 : BitVec 32 := Scalar.muli v16 c6_i32
  let c2_i32 : BitVec 32 := 2#32
  let v18 : BitVec 32 := Scalar.addi v17 c2_i32
  let c0_i32_4 : BitVec 32 := 0#32
  let c0_i32_5 : BitVec 32 := 0#32
  let c0_i32_6 : BitVec 32 := 0#32
  ![v18.toNat, c0_i32_4.toNat, c0_i32_5.toNat]

def cc0_transform_7 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c6_i32 : BitVec 32 := 6#32
  let v17 : BitVec 32 := Scalar.muli v16 c6_i32
  let c3_i32 : BitVec 32 := 3#32
  let v18 : BitVec 32 := Scalar.addi v17 c3_i32
  let c0_i32_4 : BitVec 32 := 0#32
  let c0_i32_5 : BitVec 32 := 0#32
  let c0_i32_6 : BitVec 32 := 0#32
  ![v18.toNat, c0_i32_4.toNat, c0_i32_5.toNat]

def cc0_transform_8 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c6_i32 : BitVec 32 := 6#32
  let v17 : BitVec 32 := Scalar.muli v16 c6_i32
  let c4_i32 : BitVec 32 := 4#32
  let v18 : BitVec 32 := Scalar.addi v17 c4_i32
  let c0_i32_4 : BitVec 32 := 0#32
  let c0_i32_5 : BitVec 32 := 0#32
  let c0_i32_6 : BitVec 32 := 0#32
  ![v18.toNat, c0_i32_4.toNat, c0_i32_5.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S2048x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1024x128 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1024x128 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S512x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x1024 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S512x128 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S1536x512 .i32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]
-- ==== Reference3Ideal.lean ====
abbrev S16384x2048 : Shape := ⟨2, ![16384, 2048]⟩
abbrev S16384x11264 : Shape := ⟨2, ![16384, 11264]⟩
abbrev S16384x1024 : Shape := ⟨2, ![16384, 1024]⟩
abbrev S4x4096x1024 : Shape := ⟨3, ![4, 4096, 1024]⟩
abbrev S8x6144 : Shape := ⟨2, ![8, 6144]⟩
abbrev S1x2048 : Shape := ⟨2, ![1, 2048]⟩
abbrev S1x1024 : Shape := ⟨2, ![1, 1024]⟩
abbrev S1x2048x1024 : Shape := ⟨3, ![1, 2048, 1024]⟩
abbrev S1x1024x1024 : Shape := ⟨3, ![1, 1024, 1024]⟩
abbrev S1x1024x32 : Shape := ⟨3, ![1, 1024, 32]⟩
abbrev S1x32 : Shape := ⟨2, ![1, 32]⟩
abbrev S1x1024x4 : Shape := ⟨3, ![1, 1024, 4]⟩
abbrev S1x4 : Shape := ⟨2, ![1, 4]⟩
abbrev S4x4096x2048 : Shape := ⟨3, ![4, 4096, 2048]⟩
abbrev S4x4096x11264 : Shape := ⟨3, ![4, 4096, 11264]⟩
abbrev S4x4096x4096 : Shape := ⟨3, ![4, 4096, 4096]⟩
abbrev S4x4096x3072 : Shape := ⟨3, ![4, 4096, 3072]⟩
abbrev S4x6144 : Shape := ⟨2, ![4, 6144]⟩
abbrev S4x1024 : Shape := ⟨2, ![4, 1024]⟩
abbrev S4x1x1024 : Shape := ⟨3, ![4, 1, 1024]⟩
abbrev S_ : Shape := ⟨0, ![]⟩
abbrev S2048 : Shape := ⟨1, ![2048]⟩
abbrev S4x4096 : Shape := ⟨2, ![4, 4096]⟩
abbrev S4x4096x1 : Shape := ⟨3, ![4, 4096, 1]⟩
abbrev S1x1x2048 : Shape := ⟨3, ![1, 1, 2048]⟩
abbrev S2048x1024 : Shape := ⟨2, ![2048, 1024]⟩
abbrev S1024x1024 : Shape := ⟨2, ![1024, 1024]⟩
abbrev S1024 : Shape := ⟨1, ![1024]⟩
abbrev S1x1x1024 : Shape := ⟨3, ![1, 1, 1024]⟩
abbrev S1024x4 : Shape := ⟨2, ![1024, 4]⟩
abbrev S16384x4 : Shape := ⟨2, ![16384, 4]⟩
abbrev S4 : Shape := ⟨1, ![4]⟩
abbrev S1024x32 : Shape := ⟨2, ![1024, 32]⟩
abbrev S16384x32 : Shape := ⟨2, ![16384, 32]⟩
abbrev S32 : Shape := ⟨1, ![32]⟩
abbrev S16384x92 : Shape := ⟨2, ![16384, 92]⟩
abbrev S16384x128 : Shape := ⟨2, ![16384, 128]⟩
abbrev S49152x512 : Shape := ⟨2, ![49152, 512]⟩

abbrev nBuf : Space → Nat
  | .hbm => 139
  | .vmem => 0
  | .smem => 0
  | _ => 0

abbrev hbmTy0_0 (i : Nat) : BufTy := match i % 128 with
  | 0 => ⟨S16384x2048, .bf16⟩
  | 1 => ⟨S16384x2048, .bf16⟩
  | 2 => ⟨S16384x11264, .bf16⟩
  | 3 => ⟨S16384x1024, .bf16⟩
  | 4 => ⟨S4x4096x1024, .f32⟩
  | 5 => ⟨S8x6144, .f32⟩
  | 6 => ⟨S1x2048, .f32⟩
  | 7 => ⟨S1x1024, .f32⟩
  | 8 => ⟨S1x2048x1024, .f32⟩
  | 9 => ⟨S1x1024x1024, .f32⟩
  | 10 => ⟨S1x1024x1024, .f32⟩
  | 11 => ⟨S1x1024x32, .f32⟩
  | 12 => ⟨S1x32, .f32⟩
  | 13 => ⟨S1x1024x4, .f32⟩
  | 14 => ⟨S1x4, .f32⟩
  | 15 => ⟨S16384x2048, .f32⟩
  | 16 => ⟨S4x4096x2048, .f32⟩
  | 17 => ⟨S16384x2048, .f32⟩
  | 18 => ⟨S4x4096x2048, .f32⟩
  | 19 => ⟨S16384x11264, .f32⟩
  | 20 => ⟨S4x4096x11264, .f32⟩
  | 21 => ⟨S16384x1024, .f32⟩
  | 22 => ⟨S4x4096x1024, .f32⟩
  | 23 => ⟨S4x4096x4096, .f32⟩
  | 24 => ⟨S4x4096x2048, .f32⟩
  | 25 => ⟨S4x4096x2048, .f32⟩
  | 26 => ⟨S4x4096x3072, .f32⟩
  | 27 => ⟨S4x6144, .f32⟩
  | 28 => ⟨S4x1024, .f32⟩
  | 29 => ⟨S4x1024, .f32⟩
  | 30 => ⟨S4x1024, .f32⟩
  | 31 => ⟨S4x1024, .f32⟩
  | 32 => ⟨S4x1024, .f32⟩
  | 33 => ⟨S4x1024, .f32⟩
  | 34 => ⟨S4x1x1024, .f32⟩
  | 35 => ⟨S4x1x1024, .f32⟩
  | 36 => ⟨S4x1x1024, .f32⟩
  | 37 => ⟨S4x4096x2048, .f32⟩
  | 38 => ⟨S4x4096x2048, .f32⟩
  | 39 => ⟨S4x4096x2048, .f32⟩
  | 40 => ⟨S_, .f32⟩
  | 41 => ⟨S4x4096x2048, .f32⟩
  | 42 => ⟨S4x4096x2048, .f32⟩
  | 43 => ⟨S_, .f32⟩
  | 44 => ⟨S4x4096x2048, .f32⟩
  | 45 => ⟨S4x4096x2048, .f32⟩
  | 46 => ⟨S4x4096x2048, .f32⟩
  | 47 => ⟨S4x4096x2048, .f32⟩
  | 48 => ⟨S2048, .f32⟩
  | 49 => ⟨S4x4096x2048, .f32⟩
  | 50 => ⟨S_, .f32⟩
  | 51 => ⟨S4x4096, .f32⟩
  | 52 => ⟨S4x4096x1, .f32⟩
  | 53 => ⟨S_, .f32⟩
  | 54 => ⟨S4x4096x1, .f32⟩
  | 55 => ⟨S4x4096x1, .f32⟩
  | 56 => ⟨S_, .f32⟩
  | 57 => ⟨S4x4096x1, .f32⟩
  | 58 => ⟨S4x4096x1, .f32⟩
  | 59 => ⟨S4x4096x1, .f32⟩
  | 60 => ⟨S4x4096x2048, .f32⟩
  | 61 => ⟨S4x4096x2048, .f32⟩
  | 62 => ⟨S1x1x2048, .f32⟩
  | 63 => ⟨S4x4096x2048, .f32⟩
  | 64 => ⟨S4x4096x2048, .f32⟩
  | 65 => ⟨S2048x1024, .f32⟩
  | 66 => ⟨S1024x1024, .f32⟩
  | 67 => ⟨S1024x1024, .f32⟩
  | 68 => ⟨S4x4096x1024, .f32⟩
  | 69 => ⟨S4x4096x1024, .f32⟩
  | 70 => ⟨S4x4096x1024, .f32⟩
  | 71 => ⟨S4x4096x1024, .f32⟩
  | 72 => ⟨S_, .f32⟩
  | 73 => ⟨S4x4096x1024, .f32⟩
  | 74 => ⟨S4x4096x1024, .f32⟩
  | 75 => ⟨S_, .f32⟩
  | 76 => ⟨S4x4096x1024, .f32⟩
  | 77 => ⟨S4x4096x1024, .f32⟩
  | 78 => ⟨S4x4096x1024, .f32⟩
  | 79 => ⟨S4x4096x1024, .f32⟩
  | 80 => ⟨S4x4096x1024, .f32⟩
  | 81 => ⟨S4x4096x1024, .f32⟩
  | 82 => ⟨S_, .f32⟩
  | 83 => ⟨S4x4096x1024, .f32⟩
  | 84 => ⟨S4x4096x1024, .f32⟩
  | 85 => ⟨S_, .f32⟩
  | 86 => ⟨S4x4096x1024, .f32⟩
  | 87 => ⟨S4x4096x1024, .f32⟩
  | 88 => ⟨S4x4096x1024, .f32⟩
  | 89 => ⟨S4x4096x1024, .f32⟩
  | 90 => ⟨S4x4096x1024, .f32⟩
  | 91 => ⟨S4x4096x1024, .f32⟩
  | 92 => ⟨S4x4096x1024, .f32⟩
  | 93 => ⟨S4x4096x1024, .f32⟩
  | 94 => ⟨S4x4096x1024, .f32⟩
  | 95 => ⟨S1024, .f32⟩
  | 96 => ⟨S4x4096x1024, .f32⟩
  | 97 => ⟨S_, .f32⟩
  | 98 => ⟨S4x4096, .f32⟩
  | 99 => ⟨S4x4096x1, .f32⟩
  | 100 => ⟨S_, .f32⟩
  | 101 => ⟨S4x4096x1, .f32⟩
  | 102 => ⟨S4x4096x1, .f32⟩
  | 103 => ⟨S_, .f32⟩
  | 104 => ⟨S4x4096x1, .f32⟩
  | 105 => ⟨S4x4096x1, .f32⟩
  | 106 => ⟨S4x4096x1, .f32⟩
  | 107 => ⟨S4x4096x1024, .f32⟩
  | 108 => ⟨S4x4096x1024, .f32⟩
  | 109 => ⟨S1x1x1024, .f32⟩
  | 110 => ⟨S4x4096x1024, .f32⟩
  | 111 => ⟨S4x4096x1024, .f32⟩
  | 112 => ⟨S_, .f32⟩
  | 113 => ⟨S4x1x1024, .f32⟩
  | 114 => ⟨S4x1x1024, .f32⟩
  | 115 => ⟨S4x4096x1024, .f32⟩
  | 116 => ⟨S4x4096x1024, .f32⟩
  | 117 => ⟨S4x4096x1024, .f32⟩
  | 118 => ⟨S4x4096x1024, .f32⟩
  | 119 => ⟨S16384x1024, .f32⟩
  | 120 => ⟨S1024x4, .f32⟩
  | 121 => ⟨S16384x4, .f32⟩
  | 122 => ⟨S4, .f32⟩
  | 123 => ⟨S1x4, .f32⟩
  | 124 => ⟨S16384x4, .f32⟩
  | 125 => ⟨S16384x4, .f32⟩
  | 126 => ⟨S1024x32, .f32⟩
  | 127 => ⟨S16384x32, .f32⟩
  | _ => ⟨S16384x2048, .bf16⟩

abbrev hbmTy0_1 (i : Nat) : BufTy := match i % 128 with
  | 0 => ⟨S32, .f32⟩
  | 1 => ⟨S1x32, .f32⟩
  | 2 => ⟨S16384x32, .f32⟩
  | 3 => ⟨S16384x32, .f32⟩
  | 4 => ⟨S_, .f32⟩
  | 5 => ⟨S16384x92, .f32⟩
  | 6 => ⟨S16384x128, .f32⟩
  | 7 => ⟨S16384x1024, .f32⟩
  | 8 => ⟨S16384x1024, .bf16⟩
  | 9 => ⟨S_, .i32⟩
  | 10 => ⟨S49152x512, .i32⟩
  | _ => ⟨S16384x2048, .bf16⟩

abbrev hbmTy (i : Nat) : BufTy := match i / 128 with
  | 0 => hbmTy0_0 i
  | 1 => hbmTy0_1 i
  | _ => ⟨S16384x2048, .bf16⟩

abbrev bufTy : (tb : Table) → Fin (tcTables nBuf tb) → BufTy
  | .hbm, ⟨i, _⟩ => hbmTy i
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_call0_v0 : Ref sig .tc := ⟨.hbm, 38, rfl⟩
abbrev main_call0_v1 : Ref sig .tc := ⟨.hbm, 39, rfl⟩
abbrev main_call0_cst : Ref sig .tc := ⟨.hbm, 40, rfl⟩
abbrev main_call0_v2 : Ref sig .tc := ⟨.hbm, 41, rfl⟩
abbrev main_call0_v3 : Ref sig .tc := ⟨.hbm, 42, rfl⟩
abbrev main_call0_cst_0 : Ref sig .tc := ⟨.hbm, 43, rfl⟩
abbrev main_call0_v4 : Ref sig .tc := ⟨.hbm, 44, rfl⟩
abbrev main_call0_v5 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_cst : Ref sig .tc := ⟨.hbm, 50, rfl⟩
abbrev main_v27 : Ref sig .tc := ⟨.hbm, 51, rfl⟩
abbrev main_v28 : Ref sig .tc := ⟨.hbm, 52, rfl⟩
abbrev main_cst_0 : Ref sig .tc := ⟨.hbm, 53, rfl⟩
abbrev main_v29 : Ref sig .tc := ⟨.hbm, 54, rfl⟩
abbrev main_v30 : Ref sig .tc := ⟨.hbm, 55, rfl⟩
abbrev main_cst_1 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_cst_2 : Ref sig .tc := ⟨.hbm, 72, rfl⟩
abbrev main_v46 : Ref sig .tc := ⟨.hbm, 73, rfl⟩
abbrev main_v47 : Ref sig .tc := ⟨.hbm, 74, rfl⟩
abbrev main_cst_3 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_cst_4 : Ref sig .tc := ⟨.hbm, 82, rfl⟩
abbrev main_v54 : Ref sig .tc := ⟨.hbm, 83, rfl⟩
abbrev main_v55 : Ref sig .tc := ⟨.hbm, 84, rfl⟩
abbrev main_cst_5 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_cst_6 : Ref sig .tc := ⟨.hbm, 97, rfl⟩
abbrev main_v67 : Ref sig .tc := ⟨.hbm, 98, rfl⟩
abbrev main_v68 : Ref sig .tc := ⟨.hbm, 99, rfl⟩
abbrev main_cst_7 : Ref sig .tc := ⟨.hbm, 100, rfl⟩
abbrev main_v69 : Ref sig .tc := ⟨.hbm, 101, rfl⟩
abbrev main_v70 : Ref sig .tc := ⟨.hbm, 102, rfl⟩
abbrev main_cst_8 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_cst_9 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_cst_10 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_c : Ref sig .tc := ⟨.hbm, 137, rfl⟩
abbrev main_v102 : Ref sig .tc := ⟨.hbm, 138, rfl⟩

abbrev nD : Nat := 1
abbrev τ : Topo := Topo.v7x

variable {F : FTy → Type} [FloatOps F]
-- ==== Proof.Rows.lean ====
/-
  The rows the dispatch moves, and one step of it: a row of a tile held in VMEM copied to its place in the result.

  Copy number `n` of the whole run (`n = 2·token + which`, `which` 0 for `d1` and 1 for `d2`) goes to row `pl n` of the
  result. Before copy `n` the rows of the result that no earlier copy has taken are held (`untaken`), at the zeros they
  start from; a copy in flight delivers its own row, already at the final contents `G`, and a half share of the row of
  the tile it reads. A row of a tile is read by two copies, so the even copies take the left halves and the odd copies
  the right halves.
-/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import Idealize.ShloMosaic.Lib.Batch
public import Idealize.ShloMosaic.Lib.Ring
public import Idealize.ShloMosaic.Lib.Tactic
public import Idealize.ShloMosaic.Lib.ValueLayout

@[expose] public section

set_option maxRecDepth 16384

noncomputable section

namespace Cert.KernelIdeal.Dispatch

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type} [FloatOps F]

/-- Memory predicates over the pipeline's resources beside the transfers' counters. -/
local notation "𝕄" => MT nD τ sig Unit (Elt F) ℕ (Pipeline.UD sig nD τ) ℕ

/-- The counters the transfers are followed with. -/
abbrev EC : UEmb Counters (MT nD τ sig Unit (Elt F) ℕ (Pipeline.UD sig nD τ) ℕ) := countersEmb

/-- The result, the tiles in VMEM, and the rows of `h`. -/
abbrev XB : Memref sig .tc .hbm S49152x512 .i32 := Memref.whole main_v0
abbrev HB : Memref sig .tc .vmem S3x1024x512 .i32 := Memref.whole cc0_scratch0
abbrev HH : Memref sig .tc .hbm S16384x512 .i32 := Memref.whole main_arg2

/-- Contents of the result, of the tiles' buffer and of `h`. -/
abbrev XBuf (F : FTy → Type) := S49152x512.Idx → Elt F .i32
abbrev HBuf (F : FTy → Type) := S3x1024x512.Idx → Elt F .i32
abbrev HHBuf (F : FTy → Type) := S16384x512.Idx → Elt F .i32

/-- What a row's copy credits its semaphore with. -/
abbrev rowN : ℕ := ((XB.slice (Rect.unit (s := S49152x512) ![0, 0] S1x512.size (by decide)) (fun _ => rfl)).view).dmaCredit

/-! ## Sets of elements -/

/-- Row `d` of the result. -/
def xrow (d : ℕ) : Finset S49152x512.Idx := Finset.univ.filter fun x => (x 0 : ℕ) = d
/-- The rows of the result that copies `0 … n - 1` do not go to. -/
def untaken (pl : ℕ → ℕ) (n : ℕ) : Finset S49152x512.Idx := Finset.univ.filter fun x => ∀ k < n, pl k ≠ (x 0 : ℕ)
/-- The rows of the result that copies `0 … n - 1` go to. -/
def taken (pl : ℕ → ℕ) (n : ℕ) : Finset S49152x512.Idx := Finset.univ.filter fun x => ∃ k < n, pl k = (x 0 : ℕ)
/-- Slot `s` of the tiles' buffer. -/
def hslot (s : ℕ) : Finset S3x1024x512.Idx := Finset.univ.filter fun x => (x 0 : ℕ) = s
/-- Row `r` of slot `s`. -/
def hrow (s r : ℕ) : Finset S3x1024x512.Idx := Finset.univ.filter fun x => (x 0 : ℕ) = s ∧ (x 1 : ℕ) = r
/-- The rows of slot `s` whose copy of parity `p` is number `j` of its tile or a later one. -/
def hrest (s p j : ℕ) : Finset S3x1024x512.Idx := Finset.univ.filter fun x => (x 0 : ℕ) = s ∧ j ≤ 2 * (x 1 : ℕ) + p

@[simp] theorem mem_xrow {d : ℕ} {x : S49152x512.Idx} : x ∈ xrow d ↔ (x 0 : ℕ) = d := by simp [xrow]
@[simp] theorem mem_untaken {pl : ℕ → ℕ} {n : ℕ} {x : S49152x512.Idx} : x ∈ untaken pl n ↔ ∀ k < n, pl k ≠ (x 0 : ℕ) := by simp [untaken]
@[simp] theorem mem_taken {pl : ℕ → ℕ} {n : ℕ} {x : S49152x512.Idx} : x ∈ taken pl n ↔ ∃ k < n, pl k = (x 0 : ℕ) := by simp [taken]
@[simp] theorem mem_hslot {s : ℕ} {x : S3x1024x512.Idx} : x ∈ hslot s ↔ (x 0 : ℕ) = s := by simp [hslot]
@[simp] theorem mem_hrow {s r : ℕ} {x : S3x1024x512.Idx} : x ∈ hrow s r ↔ (x 0 : ℕ) = s ∧ (x 1 : ℕ) = r := by simp [hrow]
@[simp] theorem mem_hrest {s p j : ℕ} {x : S3x1024x512.Idx} : x ∈ hrest s p j ↔ (x 0 : ℕ) = s ∧ j ≤ 2 * (x 1 : ℕ) + p := by simp [hrest]

/-- Copy `n` takes its row from those not yet taken. -/
theorem untaken_step {pl : ℕ → ℕ} {n : ℕ} (h : ∀ k < n, pl k ≠ pl n) :
    untaken pl n = xrow (pl n) ∪ untaken pl (n + 1) := by
  ext x
  simp only [mem_untaken, Finset.mem_union, mem_xrow]
  constructor
  · intro hx
    by_cases he : (x 0 : ℕ) = pl n
    · exact .inl he
    · refine .inr fun k hk => ?_
      rcases Nat.lt_succ_iff_lt_or_eq.mp hk with hk | rfl
      · exact hx k hk
      · exact fun h => he h.symm
  · rintro (he | hx) k hk
    · rw [he]; exact h k hk
    · exact hx k (by omega)

theorem untaken_step_disjoint {pl : ℕ → ℕ} {n : ℕ} : Disjoint (xrow (pl n)) (untaken pl (n + 1)) := by
  rw [Finset.disjoint_left]
  intro x hx hy
  simp only [mem_xrow, mem_untaken] at hx hy
  exact hy n (by omega) hx.symm

/-- A copy of parity `p` takes its row of the tile. -/
theorem hrest_step {s j : ℕ} : hrest s (j % 2) j = hrow s (j / 2) ∪ hrest s (j % 2) (j + 1) := by
  ext x
  simp only [mem_hrest, Finset.mem_union, mem_hrow]
  constructor
  · rintro ⟨h, h'⟩
    by_cases he : (x 1 : ℕ) = j / 2
    · exact .inl ⟨h, he⟩
    · exact .inr ⟨h, by omega⟩
  · rintro (⟨h, h'⟩ | ⟨h, h'⟩)
    · exact ⟨h, by omega⟩
    · exact ⟨h, by omega⟩

theorem hrest_step_disjoint {s j : ℕ} : Disjoint (hrow s (j / 2)) (hrest s (j % 2) (j + 1)) := by
  rw [Finset.disjoint_left]
  intro x hx hy
  simp only [mem_hrow, mem_hrest] at hx hy
  omega

/-- and leaves the rows of the other parity. -/
theorem hrest_other {s j p : ℕ} (hp : p < 2) (h : p ≠ j % 2) : hrest s p (j + 1) = hrest s p j := by
  ext x
  simp only [mem_hrest]
  constructor <;> rintro ⟨h, h'⟩ <;> exact ⟨h, by omega⟩

/-! ## The views a row's copy names -/

theorem set_xrow {o : Fin 2 → ℕ} {d : ℕ} (ho : o = ![d, 0]) (i : ∀ a, o a + S1x512.size a ≤ S49152x512.size a) :
    ((XB.slice (Rect.unit (s := S49152x512) o S1x512.size i) (fun _ => rfl)).view).set = xrow d := by
  subst ho
  refine (View.set_slice_whole _ _).trans ?_
  ext x
  rw [Rect.mem_set_unit, mem_xrow]
  constructor
  · intro h
    have := h 0
    change d ≤ (x 0 : ℕ) ∧ (x 0 : ℕ) < d + 1 at this
    omega
  · intro h a
    fin_cases a
    · show d ≤ (x 0 : ℕ) ∧ (x 0 : ℕ) < d + 1
      omega
    · show 0 ≤ (x 1 : ℕ) ∧ (x 1 : ℕ) < 0 + 512
      exact ⟨Nat.zero_le _, by have := (x 1).isLt; change (x 1 : ℕ) < 512 at this; omega⟩

theorem set_hrow {o : Fin 3 → ℕ} {s r : ℕ} (ho : o = ![s, r, 0]) (i : ∀ a, o a + S1x1x512.size a ≤ S3x1024x512.size a) :
    (((HB.slice (Rect.unit (s := S3x1024x512) o S1x1x512.size i) (fun _ => rfl)).squeeze S1x512 squeezes_S1x1x512_S1x512).view).set = hrow s r := by
  subst ho
  refine (View.set_reshape _ _).trans ((View.set_slice_whole _ _).trans ?_)
  ext x
  rw [Rect.mem_set_unit, mem_hrow]
  constructor
  · intro h
    have h0 := h 0
    have h1 := h 1
    change s ≤ (x 0 : ℕ) ∧ (x 0 : ℕ) < s + 1 at h0
    change r ≤ (x 1 : ℕ) ∧ (x 1 : ℕ) < r + 1 at h1
    omega
  · intro h a
    fin_cases a
    · show s ≤ (x 0 : ℕ) ∧ (x 0 : ℕ) < s + 1
      omega
    · show r ≤ (x 1 : ℕ) ∧ (x 1 : ℕ) < r + 1
      omega
    · show 0 ≤ (x 2 : ℕ) ∧ (x 2 : ℕ) < 0 + 512
      exact ⟨Nat.zero_le _, by have := (x 2).isLt; change (x 2 : ℕ) < 512 at this; omega⟩

/-- What the copy leaves on its row: the tile's row. -/
theorem landed_row {c : Dev nD} {o5 : Fin 2 → ℕ} {o6 : Fin 3 → ℕ} {d s r : ℕ} (h5 : o5 = ![d, 0]) (h6 : o6 = ![s, r, 0])
    (i5 : ∀ a, o5 a + S1x512.size a ≤ S49152x512.size a) (i6 : ∀ a, o6 a + S1x1x512.size a ≤ S3x1024x512.size a)
    (Z G : XBuf F) (hb : HBuf F)
    (hG : ∀ (x : S49152x512.Idx) (y : S3x1024x512.Idx), (x 0 : ℕ) = d → (y 0 : ℕ) = s → (y 1 : ℕ) = r → (x 1 : ℕ) = y 2 → G x = hb y)
    (x : S49152x512.Idx) (hx : x ∈ xrow d) :
    ((XB.slice (Rect.unit (s := S49152x512) o5 S1x512.size i5) (fun _ => rfl)).view).write (Elt F) Z
      ((ReadAs.same (Val := Elt F)).apply ((((HB.slice (Rect.unit (s := S3x1024x512) o6 S1x1x512.size i6) (fun _ => rfl)).squeeze S1x512 squeezes_S1x1x512_S1x512).view).read (Elt F) hb))
      Finset.univ x = G x := by
  subst h5 h6
  have hx' : x ∈ ((XB.slice (Rect.unit (s := S49152x512) ![d, 0] S1x512.size i5) (fun _ => rfl)).view).set := by
    rw [set_xrow rfl i5]; exact hx
  obtain ⟨y, -, rfl⟩ := Finset.mem_map.mp hx'
  rw [View.write_emb_of_mem _ _ (Finset.mem_univ _)]
  have hy : Shape.reshapeEquiv (squeezes_S1x1x512_S1x512).numel_eq y = ix3 (⟨0, Nat.one_pos⟩ : Fin 1) (y 0) (y 1) :=
    (congrArg _ (eq_ix2 y)).trans (reshapeEquiv_ix2_1ab _ _ _)
  have he : (((HB.slice (Rect.unit (s := S3x1024x512) ![s, r, 0] S1x1x512.size i6) (fun _ => rfl)).squeeze S1x512 squeezes_S1x1x512_S1x512).view).emb y
      = (Rect.unit (s := S3x1024x512) ![s, r, 0] S1x1x512.size i6).emb (ix3 (⟨0, Nat.one_pos⟩ : Fin 1) (y 0) (y 1)) :=
    congrArg (Rect.unit (s := S3x1024x512) ![s, r, 0] S1x1x512.size i6).emb hy
  have h0 : (y 0 : ℕ) = 0 := by have := (y 0).isLt; change (y 0 : ℕ) < 1 at this; omega
  refine (hG _ ((((HB.slice (Rect.unit (s := S3x1024x512) ![s, r, 0] S1x1x512.size i6) (fun _ => rfl)).squeeze S1x512 squeezes_S1x1x512_S1x512).view).emb y)
    (mem_xrow.mp hx) ?_ ?_ ?_).symm
  · rw [he]; show s + 1 * 0 = s; omega
  · rw [he]; show r + 1 * (y 0 : ℕ) = r; omega
  · rw [he]; show 0 + 1 * (y 1 : ℕ) = 0 + 1 * (y 1 : ℕ); rfl

/-! ## One copy -/

/-- The half share that copies of parity `p` read with. -/
def half (p : ℕ) : PosShare TreeShare := if p = 0 then fullShare.left else fullShare.right

/-- What copy `j` of the tile in slot `s`, `base` copies into the run, delivers. -/
def delivered (c : Dev nD) (s base : ℕ) (pl : ℕ → ℕ) (G : XBuf F) (hb : HBuf F) (j : Fin 2048) : sProp 𝕄 :=
  iprop((XB.view.loc (c : Thread nD τ) ↦[xrow (pl (base + j))]{fullShare} G) ∗ (HB.view.loc (c : Thread nD τ) ↦[hrow s (j / 2)]{half (j % 2)} hb))

instance (c : Dev nD) (s base : ℕ) (pl : ℕ → ℕ) (G : XBuf F) (hb : HBuf F) (j : Fin 2048) :
    Storable (upEmb : UEmb _ 𝕄) (delivered c s base pl G hb j) := by unfold delivered; infer_instance

/-- Between the copies of a tile: `j` of them issued on semaphore `sm`. -/
def issuing (c : Dev nD) (sm : DmaSem sig) (s base : ℕ) (pl : ℕ → ℕ) (Z G : XBuf F) (hb : HBuf F) (j : ℕ) : sProp 𝕄 :=
  iprop(Transfers.Batch EC (c : Thread nD τ) (.dma sm) () rowN (delivered c s base pl G hb) j 0
    ∗ (XB.view.loc (c : Thread nD τ) ↦[untaken pl (base + j)]{fullShare} Z)
    ∗ (HB.view.loc (c : Thread nD τ) ↦[hrest s 0 j]{half 0} hb) ∗ (HB.view.loc (c : Thread nD τ) ↦[hrest s 1 j]{half 1} hb))

/-- ONE COPY, whichever the word that names its row. -/
theorem copy_step {α : Type} {c : Dev nD} {sm : DmaSem sig} {s base j d r : ℕ} {pl : ℕ → ℕ} {Z G : XBuf F} {hb : HBuf F}
    {o5 : Fin 2 → ℕ} {o6 : Fin 3 → ℕ} {i5 : ∀ a, o5 a + S1x512.size a ≤ S49152x512.size a} {i6 : ∀ a, o6 a + S1x1x512.size a ≤ S3x1024x512.size a}
    {sem : DmaSem sig}
    {hsrc : (((HB.slice (Rect.unit (s := S3x1024x512) o6 S1x1x512.size i6) (fun _ => rfl)).squeeze S1x512 squeezes_S1x1x512_S1x512).view).WordExact}
    {hdst : ((XB.slice (Rect.unit (s := S49152x512) o5 S1x512.size i5) (fun _ => rfl)).view).WordExact} {hsem}
    {k : PUnit → Prog (TpuEff nD τ sig (Elt F) Λ₀ .tc) α} {Q : α → sProp 𝕄}
    (h5 : o5 = ![d, 0]) (h6 : o6 = ![s, r, 0]) (hs : sem = sm) (hj : j < 2048) (hd : d = pl (base + j)) (hr : r = j / 2)
    (hinj : ∀ k < base + j, pl k ≠ pl (base + j))
    (hG : ∀ (x : S49152x512.Idx) (y : S3x1024x512.Idx), (x 0 : ℕ) = d → (y 0 : ℕ) = s → (y 1 : ℕ) = r → (x 1 : ℕ) = y 2 → G x = hb y) :
    issuing c sm s base pl Z G hb j
      ⊢ iprop((issuing c sm s base pl Z G hb (j + 1) -∗ wp frame (wpE (defs₀ (F := F)) Variants.none (c : Thread nD τ) none) Set.univ (k ⟨⟩) Q)
          -∗ wp frame (wpE (defs₀ (F := F)) Variants.none (c : Thread nD τ) none) Set.univ
              (.op (.enqueueDma ((HB.slice (Rect.unit (s := S3x1024x512) o6 S1x1x512.size i6) (fun _ => rfl)).squeeze S1x512 squeezes_S1x1x512_S1x512)
                (.here (XB.slice (Rect.unit (s := S49152x512) o5 S1x512.size i5) (fun _ => rfl))) (.dma sem) hsrc hdst hsem) k) Q) := by
  subst hs
  have hland := fun x hx => landed_row (c := c) h5 h6 i5 i6 Z G hb hG x hx
  have hset5 := set_xrow h5 i5
  have hset6 := set_hrow h6 i6
  have key : ∀ (p p' : ℕ), j % 2 = p → p' = 1 - p → ∀ R : sProp 𝕄,
      iprop(Transfers.Batch EC (c : Thread nD τ) (.dma sem) () rowN (delivered c s base pl G hb) j 0
        ∗ (XB.view.loc (c : Thread nD τ) ↦[untaken pl (base + j)]{fullShare} Z)
        ∗ (HB.view.loc (c : Thread nD τ) ↦[hrest s p j]{half p} hb) ∗ R)
      ⊢ iprop((iprop(Transfers.Batch EC (c : Thread nD τ) (.dma sem) () rowN (delivered c s base pl G hb) (j + 1) 0
        ∗ (XB.view.loc (c : Thread nD τ) ↦[untaken pl (base + (j + 1))]{fullShare} Z)
        ∗ (HB.view.loc (c : Thread nD τ) ↦[hrest s p (j + 1)]{half p} hb) ∗ R)
          -∗ wp frame (wpE (defs₀ (F := F)) Variants.none (c : Thread nD τ) none) Set.univ (k ⟨⟩) Q)
          -∗ wp frame (wpE (defs₀ (F := F)) Variants.none (c : Thread nD τ) none) Set.univ
              (.op (.enqueueDma ((HB.slice (Rect.unit (s := S3x1024x512) o6 S1x1x512.size i6) (fun _ => rfl)).squeeze S1x512 squeezes_S1x1x512_S1x512)
                (.here (XB.slice (Rect.unit (s := S49152x512) o5 S1x512.size i5) (fun _ => rfl))) (.dma sem) hsrc hdst hsem) k) Q) := by
    rintro p p' rfl rfl R
    rw [untaken_step hinj, hrest_step]
    iintro ⟨HB, HX, HV, HR⟩ Hk
    ihave HX' := (pointsTo_union untaken_step_disjoint).1 $$ HX
    ihave HV' := (pointsTo_union hrest_step_disjoint).1 $$ HV
    icases HX' with ⟨HX0, HX⟩
    icases HV' with ⟨HV0, HV⟩
    iapply (Transfers.wp_dmaBatch EC Variants.none (c : Thread nD τ) none
      (src := (HB.slice (Rect.unit (s := S3x1024x512) o6 S1x1x512.size i6) (fun _ => rfl)).squeeze S1x512 squeezes_S1x1x512_S1x512)
      (dst := XB.slice (Rect.unit (s := S49152x512) o5 S1x512.size i5) (fun _ => rfl))
      (via := ReadAs.same) (q := half (j % 2)) (fs := hb) (fd := Z) (Sd := xrow (pl (base + j)))
      () rowN rfl (hset5.trans (by rw [hd])).subset hj (Nat.zero_le _) (D := delivered c s base pl G hb) ?hD) $$ [HB HX0 HV0]
    case hD =>
      unfold delivered
      refine sep_mono (Entails.of_eq (pointsTo_congr fun x hx => hland x (by rw [hd]; exact hx))) (Entails.of_eq ?_)
      rw [hset6, hr]
    · isplitl [HV0]
      · rw [hset6, hr]; iexact HV0
      · isplitl [HX0]
        · iexact HX0
        · iexact HB
    · iintro HB
      iapply Hk
      isplitl [HB]; · iexact HB
      isplitl [HX]; · iexact HX
      isplitl [HV]; · iexact HV
      iexact HR
  unfold issuing
  rcases Nat.mod_two_eq_zero_or_one j with hp | hp
  · rw [hrest_other (p := 1) (by omega) (by omega)]
    exact key 0 1 hp rfl _
  · rw [hrest_other (p := 0) (by omega) (by omega)]
    refine BIBase.Entails.trans ?_ ((key 1 0 hp rfl (HB.view.loc (c : Thread nD τ) ↦[hrest s 0 j]{half 0} hb)).trans ?_)
    · iintro ⟨H1, H2, H3, H4⟩
      isplitl [H1]; · iexact H1
      isplitl [H2]; · iexact H2
      isplitl [H4]; · iexact H4
      iexact H3
    · iintro Hw Hk
      iapply Hw
      iintro ⟨H1, H2, H3, H4⟩
      iapply Hk
      isplitl [H1]; · iexact H1
      isplitl [H2]; · iexact H2
      isplitl [H4]; · iexact H4
      iexact H3

end Cert.KernelIdeal.Dispatch

end
-- ==== Proof.Offsets.lean ====
/-
  The offsets of the dispatch's views in closed form: at grid point `i` and trip `k` of its loop, which handles tokens
  `16·k … 16·k + 15` of the point's tile, copy `e` of the trip reads word `16·k + e / 2` of its table of places and row
  `16·k + e / 2` of slot `i % 3`, and signals cell `i % 2` of the rows' semaphores. Each is decided over the grid.
-/
module

public import proofs.«01_k».proof.Proof.Rows

@[expose] public section

set_option maxRecDepth 16384

noncomputable section

namespace Cert.KernelIdeal.Dispatch

open Cert.KernelIdeal Cert.KernelIdeal.Gen
open Idealize.ShloMosaic Idealize.ShloMosaic.TcCoe

/-- The grid point at a coordinate. -/
def pt (a : Fin 16) : grid0.Coords := fun x => match x with | ⟨0, _⟩ => a

/-- A grid point is its one coordinate. -/
theorem coords_eq (i : grid0.Coords) : i = pt (i 0) := by
  funext x
  match x with
  | ⟨0, _⟩ => rfl

/-- A closed form decided at every coordinate holds at every grid point. -/
theorem of_coord {P : grid0.Coords → Prop} (h : ∀ a : Fin 16, P (pt a)) (i : grid0.Coords) : P i := by
  rw [coords_eq i]; exact h (i 0)

/-! ## The words read -/

theorem word0 : ∀ k : Fin k0_t1_loop.trips, k0_off7 k = ![0, 0, 16 * k.val + 0] := by decide +kernel
theorem word1 : ∀ k : Fin k0_t1_loop.trips, k0_off11 k = ![0, 0, 16 * k.val + 0] := by decide +kernel
theorem word2 : ∀ k : Fin k0_t1_loop.trips, k0_off15 k = ![0, 0, 16 * k.val + 1] := by decide +kernel
theorem word3 : ∀ k : Fin k0_t1_loop.trips, k0_off19 k = ![0, 0, 16 * k.val + 1] := by decide +kernel
theorem word4 : ∀ k : Fin k0_t1_loop.trips, k0_off23 k = ![0, 0, 16 * k.val + 2] := by decide +kernel
theorem word5 : ∀ k : Fin k0_t1_loop.trips, k0_off27 k = ![0, 0, 16 * k.val + 2] := by decide +kernel
theorem word6 : ∀ k : Fin k0_t1_loop.trips, k0_off31 k = ![0, 0, 16 * k.val + 3] := by decide +kernel
theorem word7 : ∀ k : Fin k0_t1_loop.trips, k0_off35 k = ![0, 0, 16 * k.val + 3] := by decide +kernel
theorem word8 : ∀ k : Fin k0_t1_loop.trips, k0_off39 k = ![0, 0, 16 * k.val + 4] := by decide +kernel
theorem word9 : ∀ k : Fin k0_t1_loop.trips, k0_off43 k = ![0, 0, 16 * k.val + 4] := by decide +kernel
theorem word10 : ∀ k : Fin k0_t1_loop.trips, k0_off47 k = ![0, 0, 16 * k.val + 5] := by decide +kernel
theorem word11 : ∀ k : Fin k0_t1_loop.trips, k0_off51 k = ![0, 0, 16 * k.val + 5] := by decide +kernel
theorem word12 : ∀ k : Fin k0_t1_loop.trips, k0_off55 k = ![0, 0, 16 * k.val + 6] := by decide +kernel
theorem word13 : ∀ k : Fin k0_t1_loop.trips, k0_off59 k = ![0, 0, 16 * k.val + 6] := by decide +kernel
theorem word14 : ∀ k : Fin k0_t1_loop.trips, k0_off63 k = ![0, 0, 16 * k.val + 7] := by decide +kernel
theorem word15 : ∀ k : Fin k0_t1_loop.trips, k0_off67 k = ![0, 0, 16 * k.val + 7] := by decide +kernel
theorem word16 : ∀ k : Fin k0_t1_loop.trips, k0_off71 k = ![0, 0, 16 * k.val + 8] := by decide +kernel
theorem word17 : ∀ k : Fin k0_t1_loop.trips, k0_off75 k = ![0, 0, 16 * k.val + 8] := by decide +kernel
theorem word18 : ∀ k : Fin k0_t1_loop.trips, k0_off79 k = ![0, 0, 16 * k.val + 9] := by decide +kernel
theorem word19 : ∀ k : Fin k0_t1_loop.trips, k0_off83 k = ![0, 0, 16 * k.val + 9] := by decide +kernel
theorem word20 : ∀ k : Fin k0_t1_loop.trips, k0_off87 k = ![0, 0, 16 * k.val + 10] := by decide +kernel
theorem word21 : ∀ k : Fin k0_t1_loop.trips, k0_off91 k = ![0, 0, 16 * k.val + 10] := by decide +kernel
theorem word22 : ∀ k : Fin k0_t1_loop.trips, k0_off95 k = ![0, 0, 16 * k.val + 11] := by decide +kernel
theorem word23 : ∀ k : Fin k0_t1_loop.trips, k0_off99 k = ![0, 0, 16 * k.val + 11] := by decide +kernel
theorem word24 : ∀ k : Fin k0_t1_loop.trips, k0_off103 k = ![0, 0, 16 * k.val + 12] := by decide +kernel
theorem word25 : ∀ k : Fin k0_t1_loop.trips, k0_off107 k = ![0, 0, 16 * k.val + 12] := by decide +kernel
theorem word26 : ∀ k : Fin k0_t1_loop.trips, k0_off111 k = ![0, 0, 16 * k.val + 13] := by decide +kernel
theorem word27 : ∀ k : Fin k0_t1_loop.trips, k0_off115 k = ![0, 0, 16 * k.val + 13] := by decide +kernel
theorem word28 : ∀ k : Fin k0_t1_loop.trips, k0_off119 k = ![0, 0, 16 * k.val + 14] := by decide +kernel
theorem word29 : ∀ k : Fin k0_t1_loop.trips, k0_off123 k = ![0, 0, 16 * k.val + 14] := by decide +kernel
theorem word30 : ∀ k : Fin k0_t1_loop.trips, k0_off127 k = ![0, 0, 16 * k.val + 15] := by decide +kernel
theorem word31 : ∀ k : Fin k0_t1_loop.trips, k0_off131 k = ![0, 0, 16 * k.val + 15] := by decide +kernel

/-! ## The semaphores' cells -/

theorem cell0 : ∀ i : grid0.Coords, k0_off8 i = ![(i 0 : ℕ) % 2] := of_coord (h := by decide +kernel)
theorem cell1 : ∀ i : grid0.Coords, k0_off12 i = ![(i 0 : ℕ) % 2] := of_coord (h := by decide +kernel)
theorem cell2 : ∀ i : grid0.Coords, k0_off16 i = ![(i 0 : ℕ) % 2] := of_coord (h := by decide +kernel)
theorem cell3 : ∀ i : grid0.Coords, k0_off20 i = ![(i 0 : ℕ) % 2] := of_coord (h := by decide +kernel)
theorem cell4 : ∀ i : grid0.Coords, k0_off24 i = ![(i 0 : ℕ) % 2] := of_coord (h := by decide +kernel)
theorem cell5 : ∀ i : grid0.Coords, k0_off28 i = ![(i 0 : ℕ) % 2] := of_coord (h := by decide +kernel)
theorem cell6 : ∀ i : grid0.Coords, k0_off32 i = ![(i 0 : ℕ) % 2] := of_coord (h := by decide +kernel)
theorem cell7 : ∀ i : grid0.Coords, k0_off36 i = ![(i 0 : ℕ) % 2] := of_coord (h := by decide +kernel)
theorem cell8 : ∀ i : grid0.Coords, k0_off40 i = ![(i 0 : ℕ) % 2] := of_coord (h := by decide +kernel)
theorem cell9 : ∀ i : grid0.Coords, k0_off44 i = ![(i 0 : ℕ) % 2] := of_coord (h := by decide +kernel)
theorem cell10 : ∀ i : grid0.Coords, k0_off48 i = ![(i 0 : ℕ) % 2] := of_coord (h := by decide +kernel)
theorem cell11 : ∀ i : grid0.Coords, k0_off52 i = ![(i 0 : ℕ) % 2] := of_coord (h := by decide +kernel)
theorem cell12 : ∀ i : grid0.Coords, k0_off56 i = ![(i 0 : ℕ) % 2] := of_coord (h := by decide +kernel)
theorem cell13 : ∀ i : grid0.Coords, k0_off60 i = ![(i 0 : ℕ) % 2] := of_coord (h := by decide +kernel)
theorem cell14 : ∀ i : grid0.Coords, k0_off64 i = ![(i 0 : ℕ) % 2] := of_coord (h := by decide +kernel)
theorem cell15 : ∀ i : grid0.Coords, k0_off68 i = ![(i 0 : ℕ) % 2] := of_coord (h := by decide +kernel)
theorem cell16 : ∀ i : grid0.Coords, k0_off72 i = ![(i 0 : ℕ) % 2] := of_coord (h := by decide +kernel)
theorem cell17 : ∀ i : grid0.Coords, k0_off76 i = ![(i 0 : ℕ) % 2] := of_coord (h := by decide +kernel)
theorem cell18 : ∀ i : grid0.Coords, k0_off80 i = ![(i 0 : ℕ) % 2] := of_coord (h := by decide +kernel)
theorem cell19 : ∀ i : grid0.Coords, k0_off84 i = ![(i 0 : ℕ) % 2] := of_coord (h := by decide +kernel)
theorem cell20 : ∀ i : grid0.Coords, k0_off88 i = ![(i 0 : ℕ) % 2] := of_coord (h := by decide +kernel)
theorem cell21 : ∀ i : grid0.Coords, k0_off92 i = ![(i 0 : ℕ) % 2] := of_coord (h := by decide +kernel)
theorem cell22 : ∀ i : grid0.Coords, k0_off96 i = ![(i 0 : ℕ) % 2] := of_coord (h := by decide +kernel)
theorem cell23 : ∀ i : grid0.Coords, k0_off100 i = ![(i 0 : ℕ) % 2] := of_coord (h := by decide +kernel)
theorem cell24 : ∀ i : grid0.Coords, k0_off104 i = ![(i 0 : ℕ) % 2] := of_coord (h := by decide +kernel)
theorem cell25 : ∀ i : grid0.Coords, k0_off108 i = ![(i 0 : ℕ) % 2] := of_coord (h := by decide +kernel)
theorem cell26 : ∀ i : grid0.Coords, k0_off112 i = ![(i 0 : ℕ) % 2] := of_coord (h := by decide +kernel)
theorem cell27 : ∀ i : grid0.Coords, k0_off116 i = ![(i 0 : ℕ) % 2] := of_coord (h := by decide +kernel)
theorem cell28 : ∀ i : grid0.Coords, k0_off120 i = ![(i 0 : ℕ) % 2] := of_coord (h := by decide +kernel)
theorem cell29 : ∀ i : grid0.Coords, k0_off124 i = ![(i 0 : ℕ) % 2] := of_coord (h := by decide +kernel)
theorem cell30 : ∀ i : grid0.Coords, k0_off128 i = ![(i 0 : ℕ) % 2] := of_coord (h := by decide +kernel)
theorem cell31 : ∀ i : grid0.Coords, k0_off132 i = ![(i 0 : ℕ) % 2] := of_coord (h := by decide +kernel)

/-! ## The rows read -/

theorem row0 (k : Fin k0_t1_loop.trips) (i : grid0.Coords) : k0_off10 i k = ![(i 0 : ℕ) % 3, 16 * k.val + 0, 0] :=
  of_coord (P := fun i => ∀ k, k0_off10 i k = ![(i 0 : ℕ) % 3, 16 * k.val + 0, 0]) (by decide +kernel) i k
theorem row1 (k : Fin k0_t1_loop.trips) (i : grid0.Coords) : k0_off14 i k = ![(i 0 : ℕ) % 3, 16 * k.val + 0, 0] :=
  of_coord (P := fun i => ∀ k, k0_off14 i k = ![(i 0 : ℕ) % 3, 16 * k.val + 0, 0]) (by decide +kernel) i k
theorem row2 (k : Fin k0_t1_loop.trips) (i : grid0.Coords) : k0_off18 i k = ![(i 0 : ℕ) % 3, 16 * k.val + 1, 0] :=
  of_coord (P := fun i => ∀ k, k0_off18 i k = ![(i 0 : ℕ) % 3, 16 * k.val + 1, 0]) (by decide +kernel) i k
theorem row3 (k : Fin k0_t1_loop.trips) (i : grid0.Coords) : k0_off22 i k = ![(i 0 : ℕ) % 3, 16 * k.val + 1, 0] :=
  of_coord (P := fun i => ∀ k, k0_off22 i k = ![(i 0 : ℕ) % 3, 16 * k.val + 1, 0]) (by decide +kernel) i k
theorem row4 (k : Fin k0_t1_loop.trips) (i : grid0.Coords) : k0_off26 i k = ![(i 0 : ℕ) % 3, 16 * k.val + 2, 0] :=
  of_coord (P := fun i => ∀ k, k0_off26 i k = ![(i 0 : ℕ) % 3, 16 * k.val + 2, 0]) (by decide +kernel) i k
theorem row5 (k : Fin k0_t1_loop.trips) (i : grid0.Coords) : k0_off30 i k = ![(i 0 : ℕ) % 3, 16 * k.val + 2, 0] :=
  of_coord (P := fun i => ∀ k, k0_off30 i k = ![(i 0 : ℕ) % 3, 16 * k.val + 2, 0]) (by decide +kernel) i k
theorem row6 (k : Fin k0_t1_loop.trips) (i : grid0.Coords) : k0_off34 i k = ![(i 0 : ℕ) % 3, 16 * k.val + 3, 0] :=
  of_coord (P := fun i => ∀ k, k0_off34 i k = ![(i 0 : ℕ) % 3, 16 * k.val + 3, 0]) (by decide +kernel) i k
theorem row7 (k : Fin k0_t1_loop.trips) (i : grid0.Coords) : k0_off38 i k = ![(i 0 : ℕ) % 3, 16 * k.val + 3, 0] :=
  of_coord (P := fun i => ∀ k, k0_off38 i k = ![(i 0 : ℕ) % 3, 16 * k.val + 3, 0]) (by decide +kernel) i k
theorem row8 (k : Fin k0_t1_loop.trips) (i : grid0.Coords) : k0_off42 i k = ![(i 0 : ℕ) % 3, 16 * k.val + 4, 0] :=
  of_coord (P := fun i => ∀ k, k0_off42 i k = ![(i 0 : ℕ) % 3, 16 * k.val + 4, 0]) (by decide +kernel) i k
theorem row9 (k : Fin k0_t1_loop.trips) (i : grid0.Coords) : k0_off46 i k = ![(i 0 : ℕ) % 3, 16 * k.val + 4, 0] :=
  of_coord (P := fun i => ∀ k, k0_off46 i k = ![(i 0 : ℕ) % 3, 16 * k.val + 4, 0]) (by decide +kernel) i k
theorem row10 (k : Fin k0_t1_loop.trips) (i : grid0.Coords) : k0_off50 i k = ![(i 0 : ℕ) % 3, 16 * k.val + 5, 0] :=
  of_coord (P := fun i => ∀ k, k0_off50 i k = ![(i 0 : ℕ) % 3, 16 * k.val + 5, 0]) (by decide +kernel) i k
theorem row11 (k : Fin k0_t1_loop.trips) (i : grid0.Coords) : k0_off54 i k = ![(i 0 : ℕ) % 3, 16 * k.val + 5, 0] :=
  of_coord (P := fun i => ∀ k, k0_off54 i k = ![(i 0 : ℕ) % 3, 16 * k.val + 5, 0]) (by decide +kernel) i k
theorem row12 (k : Fin k0_t1_loop.trips) (i : grid0.Coords) : k0_off58 i k = ![(i 0 : ℕ) % 3, 16 * k.val + 6, 0] :=
  of_coord (P := fun i => ∀ k, k0_off58 i k = ![(i 0 : ℕ) % 3, 16 * k.val + 6, 0]) (by decide +kernel) i k
theorem row13 (k : Fin k0_t1_loop.trips) (i : grid0.Coords) : k0_off62 i k = ![(i 0 : ℕ) % 3, 16 * k.val + 6, 0] :=
  of_coord (P := fun i => ∀ k, k0_off62 i k = ![(i 0 : ℕ) % 3, 16 * k.val + 6, 0]) (by decide +kernel) i k
theorem row14 (k : Fin k0_t1_loop.trips) (i : grid0.Coords) : k0_off66 i k = ![(i 0 : ℕ) % 3, 16 * k.val + 7, 0] :=
  of_coord (P := fun i => ∀ k, k0_off66 i k = ![(i 0 : ℕ) % 3, 16 * k.val + 7, 0]) (by decide +kernel) i k
theorem row15 (k : Fin k0_t1_loop.trips) (i : grid0.Coords) : k0_off70 i k = ![(i 0 : ℕ) % 3, 16 * k.val + 7, 0] :=
  of_coord (P := fun i => ∀ k, k0_off70 i k = ![(i 0 : ℕ) % 3, 16 * k.val + 7, 0]) (by decide +kernel) i k
theorem row16 (k : Fin k0_t1_loop.trips) (i : grid0.Coords) : k0_off74 i k = ![(i 0 : ℕ) % 3, 16 * k.val + 8, 0] :=
  of_coord (P := fun i => ∀ k, k0_off74 i k = ![(i 0 : ℕ) % 3, 16 * k.val + 8, 0]) (by decide +kernel) i k
theorem row17 (k : Fin k0_t1_loop.trips) (i : grid0.Coords) : k0_off78 i k = ![(i 0 : ℕ) % 3, 16 * k.val + 8, 0] :=
  of_coord (P := fun i => ∀ k, k0_off78 i k = ![(i 0 : ℕ) % 3, 16 * k.val + 8, 0]) (by decide +kernel) i k
theorem row18 (k : Fin k0_t1_loop.trips) (i : grid0.Coords) : k0_off82 i k = ![(i 0 : ℕ) % 3, 16 * k.val + 9, 0] :=
  of_coord (P := fun i => ∀ k, k0_off82 i k = ![(i 0 : ℕ) % 3, 16 * k.val + 9, 0]) (by decide +kernel) i k
theorem row19 (k : Fin k0_t1_loop.trips) (i : grid0.Coords) : k0_off86 i k = ![(i 0 : ℕ) % 3, 16 * k.val + 9, 0] :=
  of_coord (P := fun i => ∀ k, k0_off86 i k = ![(i 0 : ℕ) % 3, 16 * k.val + 9, 0]) (by decide +kernel) i k
theorem row20 (k : Fin k0_t1_loop.trips) (i : grid0.Coords) : k0_off90 i k = ![(i 0 : ℕ) % 3, 16 * k.val + 10, 0] :=
  of_coord (P := fun i => ∀ k, k0_off90 i k = ![(i 0 : ℕ) % 3, 16 * k.val + 10, 0]) (by decide +kernel) i k
theorem row21 (k : Fin k0_t1_loop.trips) (i : grid0.Coords) : k0_off94 i k = ![(i 0 : ℕ) % 3, 16 * k.val + 10, 0] :=
  of_coord (P := fun i => ∀ k, k0_off94 i k = ![(i 0 : ℕ) % 3, 16 * k.val + 10, 0]) (by decide +kernel) i k
theorem row22 (k : Fin k0_t1_loop.trips) (i : grid0.Coords) : k0_off98 i k = ![(i 0 : ℕ) % 3, 16 * k.val + 11, 0] :=
  of_coord (P := fun i => ∀ k, k0_off98 i k = ![(i 0 : ℕ) % 3, 16 * k.val + 11, 0]) (by decide +kernel) i k
theorem row23 (k : Fin k0_t1_loop.trips) (i : grid0.Coords) : k0_off102 i k = ![(i 0 : ℕ) % 3, 16 * k.val + 11, 0] :=
  of_coord (P := fun i => ∀ k, k0_off102 i k = ![(i 0 : ℕ) % 3, 16 * k.val + 11, 0]) (by decide +kernel) i k
theorem row24 (k : Fin k0_t1_loop.trips) (i : grid0.Coords) : k0_off106 i k = ![(i 0 : ℕ) % 3, 16 * k.val + 12, 0] :=
  of_coord (P := fun i => ∀ k, k0_off106 i k = ![(i 0 : ℕ) % 3, 16 * k.val + 12, 0]) (by decide +kernel) i k
theorem row25 (k : Fin k0_t1_loop.trips) (i : grid0.Coords) : k0_off110 i k = ![(i 0 : ℕ) % 3, 16 * k.val + 12, 0] :=
  of_coord (P := fun i => ∀ k, k0_off110 i k = ![(i 0 : ℕ) % 3, 16 * k.val + 12, 0]) (by decide +kernel) i k
theorem row26 (k : Fin k0_t1_loop.trips) (i : grid0.Coords) : k0_off114 i k = ![(i 0 : ℕ) % 3, 16 * k.val + 13, 0] :=
  of_coord (P := fun i => ∀ k, k0_off114 i k = ![(i 0 : ℕ) % 3, 16 * k.val + 13, 0]) (by decide +kernel) i k
theorem row27 (k : Fin k0_t1_loop.trips) (i : grid0.Coords) : k0_off118 i k = ![(i 0 : ℕ) % 3, 16 * k.val + 13, 0] :=
  of_coord (P := fun i => ∀ k, k0_off118 i k = ![(i 0 : ℕ) % 3, 16 * k.val + 13, 0]) (by decide +kernel) i k
theorem row28 (k : Fin k0_t1_loop.trips) (i : grid0.Coords) : k0_off122 i k = ![(i 0 : ℕ) % 3, 16 * k.val + 14, 0] :=
  of_coord (P := fun i => ∀ k, k0_off122 i k = ![(i 0 : ℕ) % 3, 16 * k.val + 14, 0]) (by decide +kernel) i k
theorem row29 (k : Fin k0_t1_loop.trips) (i : grid0.Coords) : k0_off126 i k = ![(i 0 : ℕ) % 3, 16 * k.val + 14, 0] :=
  of_coord (P := fun i => ∀ k, k0_off126 i k = ![(i 0 : ℕ) % 3, 16 * k.val + 14, 0]) (by decide +kernel) i k
theorem row30 (k : Fin k0_t1_loop.trips) (i : grid0.Coords) : k0_off130 i k = ![(i 0 : ℕ) % 3, 16 * k.val + 15, 0] :=
  of_coord (P := fun i => ∀ k, k0_off130 i k = ![(i 0 : ℕ) % 3, 16 * k.val + 15, 0]) (by decide +kernel) i k
theorem row31 (k : Fin k0_t1_loop.trips) (i : grid0.Coords) : k0_off134 i k = ![(i 0 : ℕ) % 3, 16 * k.val + 15, 0] :=
  of_coord (P := fun i => ∀ k, k0_off134 i k = ![(i 0 : ℕ) % 3, 16 * k.val + 15, 0]) (by decide +kernel) i k

/-! ## The tiles' loads and the waits -/

theorem cond2_iff : ∀ i : grid0.Coords, k0_cond2 i = 1#1 ↔ (i 0 : ℕ) < 15 := of_coord (h := by decide +kernel)
theorem cond3_iff : ∀ i : grid0.Coords, k0_cond3 i = 1#1 ↔ 0 < (i 0 : ℕ) := of_coord (h := by decide +kernel)
theorem cond4_iff : ∀ i : grid0.Coords, k0_cond4 i = 1#1 ↔ (i 0 : ℕ) = 15 := of_coord (h := by decide +kernel)
theorem nextCell : ∀ i : grid0.Coords, k0_off1 i = ![((i 0 : ℕ) + 1) % 3] := of_coord (h := by decide +kernel)
theorem nextSlot : ∀ i : grid0.Coords, k0_off2 i = ![((i 0 : ℕ) + 1) % 3, 0, 0] := of_coord (h := by decide +kernel)
theorem nextTile : ∀ i : grid0.Coords, k0_off3 i = ![1024 * ((i 0 : ℕ) + 1), 0] := of_coord (h := by decide +kernel)
theorem thisCell : ∀ i : grid0.Coords, k0_off4 i = ![(i 0 : ℕ) % 3] := of_coord (h := by decide +kernel)
theorem prevRowCell : ∀ i : grid0.Coords, k0_cond3 i = 1#1 → k0_off135 i = ![((i 0 : ℕ) + 1) % 2] := of_coord (h := by decide +kernel)
theorem lastRowCell : ∀ i : grid0.Coords, k0_off136 i = ![(i 0 : ℕ) % 2] := of_coord (h := by decide +kernel)
theorem trips1 : k0_t1_loop.trips = 64 := by decide +kernel
theorem trips2 : k0_t2_loop.trips = 2048 := by decide +kernel
theorem trips3 : k0_t3_loop.trips = 2048 := by decide +kernel

/-! ## The cells of the semaphores' arrays -/

/-- The loads' cell `s` and the rows' cell `p`. -/
def lsem (s : ℕ) : DmaSem sig := if s = 0 then 4 else if s = 1 then 5 else 6
def rsem (p : ℕ) : DmaSem sig := if p = 0 then 7 else 8

theorem cell_number {n b : ℕ} {o : Fin 1 → ℕ} {p : ℕ} (ho : o = ![p]) (i : ∀ a, o a + S1.size a ≤ n) (x : S1.Idx) :
    b + ((⟨1, ![n]⟩ : Shape).rowMajor ((Rect.unit (s := ⟨1, ![n]⟩) o S1.size (by intro a; rw [Subsingleton.elim a 0]; exact i 0)).emb x) : ℕ) = b + p := by
  subst ho
  rw [Shape.rowMajor_val_one]
  have hx : (x 0 : ℕ) = 0 := by have := (x 0).isLt; change (x 0 : ℕ) < 1 at this; omega
  show b + (p + 1 * (x 0 : ℕ)) = b + p
  omega

theorem sem_rows {o : Fin 1 → ℕ} {p : ℕ} (ho : o = ![p]) (i : ∀ a, o a + S1.size a ≤ S2.size a) :
    ((cc0_scratch2.slice (Rect.unit (s := S2) o S1.size i)).squeeze S_ squeezes_S1_S_).sem = rsem p := by
  have hp : p < 2 := by subst ho; have := i 0; change p + 1 ≤ 2 at this; omega
  refine Fin.ext ((cell_number (n := 2) (b := 7) ho (fun a => by rw [Subsingleton.elim a 0]; exact i 0) _).trans ?_)
  unfold rsem
  interval_cases p <;> rfl

theorem sem_loads {o : Fin 1 → ℕ} {s : ℕ} (ho : o = ![s]) (i : ∀ a, o a + S1.size a ≤ S3.size a) :
    ((cc0_scratch1.slice (Rect.unit (s := S3) o S1.size i)).squeeze S_ squeezes_S1_S_).sem = lsem s := by
  have hs : s < 3 := by subst ho; have := i 0; change s + 1 ≤ 3 at this; omega
  refine Fin.ext ((cell_number (n := 3) (b := 4) ho (fun a => by rw [Subsingleton.elim a 0]; exact i 0) _).trans ?_)
  unfold lsem
  interval_cases s <;> rfl

end Cert.KernelIdeal.Dispatch

end
-- ==== Proof.Trip.lean ====
/-
  One trip of the dispatch's loop: sixteen tokens of the tile, two copies each.
-/
module

public import proofs.«01_k».proof.Proof.Offsets

@[expose] public section

set_option maxRecDepth 16384

noncomputable section

namespace Cert.KernelIdeal.Dispatch

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type} [FloatOps F]

local notation "𝕄" => MT nD τ sig Unit (Elt F) ℕ (Pipeline.UD sig nD τ) ℕ

/-- Weakest preconditions at the dispatch's device, in the body. -/
local notation "wpB" c => wp Idealize.ShloMosaic.frame (wpE (defs₀ (F := F)) Variants.none (c : Thread nD τ) none) Set.univ

/-- READING ONE WORD of a table of places. -/
theorem word_step {c : Dev nD} {m : Memref sig .tc .smem S1x1x1024 .i32} {o : Fin 3 → ℕ} {r : ℕ} (ho : o = ![0, 0, r])
    {i : ∀ a, o a + S1x1x1.size a ≤ S1x1x1024.size a} {h1 : (Rect.unit (s := S1x1x1024) o S1x1x1.size i).shape.numel = 1} {hp : EltTy.i32.packing = 1}
    {d : S1x1x1024.Idx → Elt F .i32} {Q : Elt F .i32 → sProp 𝕄} (hr : r < 1024) :
    (owns (c : Thread nD τ) m fullShare d : sProp 𝕄)
      ⊢ iprop((owns (c : Thread nD τ) m fullShare d -∗ Q (d (ix3 (0 : Fin 1) (0 : Fin 1) ⟨r, hr⟩)))
          -∗ (wpB c) (smemLoad m (Rect.unit (s := S1x1x1024) o S1x1x1.size i) h1 hp) Q) := by
  subst ho
  unfold owns smemLoad
  iintro ⟨%f, %hf, Hf⟩ Hk
  subst hf
  iapply (wp_smemLoadElt Variants.none (c : Thread nD τ) none Set.univ (m := m) (r := Rect.unit (s := S1x1x1024) ![0, 0, r] S1x1x1.size i) (S := m.view.set)
    (View.set_slice_subset _ _)) $$ Hf
  iintro Hf
  rw [wp_ret]
  imodintro
  have hx : (Rect.unit (s := S1x1x1024) ![0, 0, r] S1x1x1.size i).emb (Shape.Idx.first (h1.symm ▸ Nat.one_pos)) = ix3 (0 : Fin 1) (0 : Fin 1) ⟨r, hr⟩ := by
    funext a
    have hz : ∀ (a : Fin 3), ((Shape.Idx.first (s := (Rect.unit (s := S1x1x1024) ![0, 0, r] S1x1x1.size i).shape) (h1.symm ▸ Nat.one_pos) a : Fin _) : ℕ) = 0 := by
      intro a
      have := (Shape.Idx.first (s := (Rect.unit (s := S1x1x1024) ![0, 0, r] S1x1x1.size i).shape) (h1.symm ▸ Nat.one_pos) a).isLt
      have h' : S1x1x1.size a = 1 := by fin_cases a <;> rfl
      change _ < S1x1x1.size a at this
      omega
    refine Fin.ext ?_
    rw [Rect.emb_apply]
    fin_cases a
    · exact congrArg (0 + 1 * ·) (hz 0)
    · exact congrArg (0 + 1 * ·) (hz 1)
    · exact congrArg (r + 1 * ·) (hz 2)
  have hv : (m.access (Rect.unit (s := S1x1x1024) ![0, 0, r] S1x1x1.size i)).read (Elt F) f (Shape.Idx.first (h1.symm ▸ Nat.one_pos))
      = m.view.read (Elt F) f (ix3 (0 : Fin 1) (0 : Fin 1) ⟨r, hr⟩) := congrArg (m.view.read (Elt F) f) hx
  rw [hv]
  iapply Hk
  iexists f
  isplitr; · ipureintro; rfl
  iexact Hf

/-- PASSING A CHECK that holds. -/
theorem check_step {c : Dev nD} {P : Prop} {hd : Decidable P} {Q : PLift P → sProp 𝕄} (h : P) :
    Q ⟨h⟩ ⊢ (wpB c) (Prog.lift (TpuEff.assume P hd)) Q := by
  refine BIBase.Entails.trans ?_ (wp_assume Variants.none (c : Thread nD τ) none Set.univ h)
  rw [wp_ret]
  iintro H
  imodintro
  iexact H

/-- ONE COPY, as the kernel names it. -/
theorem copy_lift {c : Dev nD} {sm : DmaSem sig} {s base j d r : ℕ} {pl : ℕ → ℕ} {Z G : XBuf F} {hb : HBuf F}
    {o5 : Fin 2 → ℕ} {o6 : Fin 3 → ℕ} {i5 : ∀ a, o5 a + S1x512.size a ≤ S49152x512.size a} {i6 : ∀ a, o6 a + S1x1x512.size a ≤ S3x1024x512.size a}
    {sem : DmaSem sig}
    {hsrc : (((HB.slice (Rect.unit (s := S3x1024x512) o6 S1x1x512.size i6) (fun _ => rfl)).squeeze S1x512 squeezes_S1x1x512_S1x512).view).WordExact}
    {hdst : ((XB.slice (Rect.unit (s := S49152x512) o5 S1x512.size i5) (fun _ => rfl)).view).WordExact} {hsem}
    {Q : PUnit → sProp 𝕄}
    (h5 : o5 = ![d, 0]) (h6 : o6 = ![s, r, 0]) (hs : sem = sm) (hj : j < 2048) (hd : d = pl (base + j)) (hr : r = j / 2)
    (hinj : ∀ k < base + j, pl k ≠ pl (base + j))
    (hG : ∀ (x : S49152x512.Idx) (y : S3x1024x512.Idx), (x 0 : ℕ) = d → (y 0 : ℕ) = s → (y 1 : ℕ) = r → (x 1 : ℕ) = y 2 → G x = hb y) :
    issuing c sm s base pl Z G hb j
      ⊢ iprop((issuing c sm s base pl Z G hb (j + 1) -∗ Q ⟨⟩)
          -∗ (wpB c) (Prog.lift (.enqueueDma ((HB.slice (Rect.unit (s := S3x1024x512) o6 S1x1x512.size i6) (fun _ => rfl)).squeeze S1x512 squeezes_S1x1x512_S1x512)
                (.here (XB.slice (Rect.unit (s := S49152x512) o5 S1x512.size i5) (fun _ => rfl))) (.dma sem) hsrc hdst hsem)) Q) := by
  iintro H Hk
  iapply (copy_step (k := Prog.ret) h5 h6 hs hj hd hr hinj hG) $$ H
  iintro H
  rw [wp_ret]
  imodintro
  iapply Hk $$ H

/-- What one tile's copies rely on: the words name the places, the places are rows of the result that no earlier copy
    takes, and the final contents have the tile's rows there. -/
structure Tile (d1 d2 : S1x1x1024.Idx → Elt F .i32) (s base : ℕ) (pl : ℕ → ℕ) (G : XBuf F) (hb : HBuf F) : Prop where
  word1 : ∀ (r : ℕ) (hr : r < 1024), BitVec.toNat (d1 (ix3 (0 : Fin 1) (0 : Fin 1) ⟨r, hr⟩)) = pl (base + 2 * r)
  word2 : ∀ (r : ℕ) (hr : r < 1024), BitVec.toNat (d2 (ix3 (0 : Fin 1) (0 : Fin 1) ⟨r, hr⟩)) = pl (base + (2 * r + 1))
  bound : ∀ j < 2048, pl (base + j) < 49152
  fresh : ∀ j < 2048, ∀ k < base + j, pl k ≠ pl (base + j)
  final : ∀ j < 2048, ∀ (x : S49152x512.Idx) (y : S3x1024x512.Idx), (x 0 : ℕ) = pl (base + j) → (y 0 : ℕ) = s → (y 1 : ℕ) = j / 2
    → (x 1 : ℕ) = y 2 → G x = hb y

/-- The check of a word that names a row. -/
theorem row_ok {v : BitVec 32} {d : ℕ} (h : BitVec.toNat v = d) (hd : d < 49152) :
    ∀ a, (![BitVec.toNat v, 0] : Fin 2 → ℕ) a + S1x512.size a ≤ S49152x512.size a := by
  intro a
  fin_cases a
  · show BitVec.toNat v + 1 ≤ 49152
    omega
  · show 0 + 512 ≤ 512
    omega

theorem trip_step (c : Dev nD) (i : grid0.Coords) (arg1 : Memref sig .tc .smem S1x1x1024 .i32) (harg1 : arg1.IsWhole)
    (arg2 : Memref sig .tc .smem S1x1x1024 .i32) (harg2 : arg2.IsWhole) {d1 d2 : S1x1x1024.Idx → Elt F .i32}
    {base : ℕ} {pl : ℕ → ℕ} {Z G : XBuf F} {hb : HBuf F} (T : Tile d1 d2 ((i 0 : ℕ) % 3) base pl G hb) (k : Fin k0_t1_loop.trips) (b1 b2 : BitVec 32) :
    iprop(issuing c (rsem ((i 0 : ℕ) % 2)) ((i 0 : ℕ) % 3) base pl Z G hb (32 * k.val)
        ∗ owns (c : Thread nD τ) arg1 fullShare d1 ∗ owns (c : Thread nD τ) arg2 fullShare d2)
      ⊢ (wpB c) (k0_t1_body (F := F) i arg1 harg1 arg2 harg2 HH (Memref.isWhole_whole _) XB (Memref.isWhole_whole _)
          XB (Memref.isWhole_whole _) HB (Memref.isWhole_whole _) cc0_scratch1 cc0_scratch2 b1 b2 k ⟨⟩)
        fun _ => iprop(issuing c (rsem ((i 0 : ℕ) % 2)) ((i 0 : ℕ) % 3) base pl Z G hb (32 * (k.val + 1))
          ∗ owns (c : Thread nD τ) arg1 fullShare d1 ∗ owns (c : Thread nD τ) arg2 fullShare d2) := by
  have hk : k.val < 64 := trips1 ▸ k.isLt
  unfold k0_t1_body
  iintro ⟨HI, H1, H2⟩
  rw [wp_bind, k0_part1_eq_skeleton]
  unfold k0_part1_skel
  dsimp only
  rw [wp_bind]
  iapply (word_step (word0 k) (d := d1) (by omega)) $$ H1
  iintro H1
  rw [wp_bind]
  iapply (check_step (row_ok (T.word1 (16 * k.val + 0) (by omega)) (T.bound _ (by omega))))
  rw [wp_bind]
  iapply (copy_lift (j := 32 * k.val + 0) rfl (row0 k i) (sem_rows (cell0 i) _) (by omega)
    ((T.word1 (16 * k.val + 0) (by omega)).trans (congrArg pl (by omega))) (by omega) (T.fresh _ (by omega))
    (fun x y hx h0 h1 h2 => T.final (32 * k.val + 0) (by omega) x y (hx.trans ((T.word1 (16 * k.val + 0) (by omega)).trans (congrArg pl (by omega)))) h0 (by omega) h2)) $$ HI
  iintro HI
  rw [wp_bind]
  iapply (word_step (word1 k) (d := d2) (by omega)) $$ H2
  iintro H2
  rw [wp_bind]
  iapply (check_step (row_ok (T.word2 (16 * k.val + 0) (by omega)) (T.bound _ (by omega))))
  rw [wp_bind]
  iapply (copy_lift (j := 32 * k.val + 1) rfl (row1 k i) (sem_rows (cell1 i) _) (by omega)
    ((T.word2 (16 * k.val + 0) (by omega)).trans (congrArg pl (by omega))) (by omega) (T.fresh _ (by omega))
    (fun x y hx h0 h1 h2 => T.final (32 * k.val + 1) (by omega) x y (hx.trans ((T.word2 (16 * k.val + 0) (by omega)).trans (congrArg pl (by omega)))) h0 (by omega) h2)) $$ HI
  iintro HI
  rw [wp_bind]
  iapply (word_step (word2 k) (d := d1) (by omega)) $$ H1
  iintro H1
  rw [wp_bind]
  iapply (check_step (row_ok (T.word1 (16 * k.val + 1) (by omega)) (T.bound _ (by omega))))
  rw [wp_bind]
  iapply (copy_lift (j := 32 * k.val + 2) rfl (row2 k i) (sem_rows (cell2 i) _) (by omega)
    ((T.word1 (16 * k.val + 1) (by omega)).trans (congrArg pl (by omega))) (by omega) (T.fresh _ (by omega))
    (fun x y hx h0 h1 h2 => T.final (32 * k.val + 2) (by omega) x y (hx.trans ((T.word1 (16 * k.val + 1) (by omega)).trans (congrArg pl (by omega)))) h0 (by omega) h2)) $$ HI
  iintro HI
  rw [wp_bind]
  iapply (word_step (word3 k) (d := d2) (by omega)) $$ H2
  iintro H2
  rw [wp_bind]
  iapply (check_step (row_ok (T.word2 (16 * k.val + 1) (by omega)) (T.bound _ (by omega))))
  rw [wp_pure]
  imodintro
  dsimp only
  rw [wp_bind, k0_part2_eq_skeleton]
  unfold k0_part2_skel
  dsimp only
  rw [wp_bind]
  iapply (copy_lift (j := 32 * k.val + 3) rfl (row3 k i) (sem_rows (cell3 i) _) (by omega)
    ((T.word2 (16 * k.val + 1) (by omega)).trans (congrArg pl (by omega))) (by omega) (T.fresh _ (by omega))
    (fun x y hx h0 h1 h2 => T.final (32 * k.val + 3) (by omega) x y (hx.trans ((T.word2 (16 * k.val + 1) (by omega)).trans (congrArg pl (by omega)))) h0 (by omega) h2)) $$ HI
  iintro HI
  rw [wp_bind]
  iapply (word_step (word4 k) (d := d1) (by omega)) $$ H1
  iintro H1
  rw [wp_bind]
  iapply (check_step (row_ok (T.word1 (16 * k.val + 2) (by omega)) (T.bound _ (by omega))))
  rw [wp_bind]
  iapply (copy_lift (j := 32 * k.val + 4) rfl (row4 k i) (sem_rows (cell4 i) _) (by omega)
    ((T.word1 (16 * k.val + 2) (by omega)).trans (congrArg pl (by omega))) (by omega) (T.fresh _ (by omega))
    (fun x y hx h0 h1 h2 => T.final (32 * k.val + 4) (by omega) x y (hx.trans ((T.word1 (16 * k.val + 2) (by omega)).trans (congrArg pl (by omega)))) h0 (by omega) h2)) $$ HI
  iintro HI
  rw [wp_bind]
  iapply (word_step (word5 k) (d := d2) (by omega)) $$ H2
  iintro H2
  rw [wp_bind]
  iapply (check_step (row_ok (T.word2 (16 * k.val + 2) (by omega)) (T.bound _ (by omega))))
  rw [wp_bind]
  iapply (copy_lift (j := 32 * k.val + 5) rfl (row5 k i) (sem_rows (cell5 i) _) (by omega)
    ((T.word2 (16 * k.val + 2) (by omega)).trans (congrArg pl (by omega))) (by omega) (T.fresh _ (by omega))
    (fun x y hx h0 h1 h2 => T.final (32 * k.val + 5) (by omega) x y (hx.trans ((T.word2 (16 * k.val + 2) (by omega)).trans (congrArg pl (by omega)))) h0 (by omega) h2)) $$ HI
  iintro HI
  rw [wp_bind]
  iapply (word_step (word6 k) (d := d1) (by omega)) $$ H1
  iintro H1
  rw [wp_bind]
  iapply (check_step (row_ok (T.word1 (16 * k.val + 3) (by omega)) (T.bound _ (by omega))))
  rw [wp_bind]
  iapply (copy_lift (j := 32 * k.val + 6) rfl (row6 k i) (sem_rows (cell6 i) _) (by omega)
    ((T.word1 (16 * k.val + 3) (by omega)).trans (congrArg pl (by omega))) (by omega) (T.fresh _ (by omega))
    (fun x y hx h0 h1 h2 => T.final (32 * k.val + 6) (by omega) x y (hx.trans ((T.word1 (16 * k.val + 3) (by omega)).trans (congrArg pl (by omega)))) h0 (by omega) h2)) $$ HI
  iintro HI
  rw [wp_bind]
  iapply (word_step (word7 k) (d := d2) (by omega)) $$ H2
  iintro H2
  rw [wp_bind]
  iapply (check_step (row_ok (T.word2 (16 * k.val + 3) (by omega)) (T.bound _ (by omega))))
  rw [wp_pure]
  imodintro
  dsimp only
  rw [wp_bind, k0_part3_eq_skeleton]
  unfold k0_part3_skel
  dsimp only
  rw [wp_bind]
  iapply (copy_lift (j := 32 * k.val + 7) rfl (row7 k i) (sem_rows (cell7 i) _) (by omega)
    ((T.word2 (16 * k.val + 3) (by omega)).trans (congrArg pl (by omega))) (by omega) (T.fresh _ (by omega))
    (fun x y hx h0 h1 h2 => T.final (32 * k.val + 7) (by omega) x y (hx.trans ((T.word2 (16 * k.val + 3) (by omega)).trans (congrArg pl (by omega)))) h0 (by omega) h2)) $$ HI
  iintro HI
  rw [wp_bind]
  iapply (word_step (word8 k) (d := d1) (by omega)) $$ H1
  iintro H1
  rw [wp_bind]
  iapply (check_step (row_ok (T.word1 (16 * k.val + 4) (by omega)) (T.bound _ (by omega))))
  rw [wp_bind]
  iapply (copy_lift (j := 32 * k.val + 8) rfl (row8 k i) (sem_rows (cell8 i) _) (by omega)
    ((T.word1 (16 * k.val + 4) (by omega)).trans (congrArg pl (by omega))) (by omega) (T.fresh _ (by omega))
    (fun x y hx h0 h1 h2 => T.final (32 * k.val + 8) (by omega) x y (hx.trans ((T.word1 (16 * k.val + 4) (by omega)).trans (congrArg pl (by omega)))) h0 (by omega) h2)) $$ HI
  iintro HI
  rw [wp_bind]
  iapply (word_step (word9 k) (d := d2) (by omega)) $$ H2
  iintro H2
  rw [wp_bind]
  iapply (check_step (row_ok (T.word2 (16 * k.val + 4) (by omega)) (T.bound _ (by omega))))
  rw [wp_bind]
  iapply (copy_lift (j := 32 * k.val + 9) rfl (row9 k i) (sem_rows (cell9 i) _) (by omega)
    ((T.word2 (16 * k.val + 4) (by omega)).trans (congrArg pl (by omega))) (by omega) (T.fresh _ (by omega))
    (fun x y hx h0 h1 h2 => T.final (32 * k.val + 9) (by omega) x y (hx.trans ((T.word2 (16 * k.val + 4) (by omega)).trans (congrArg pl (by omega)))) h0 (by omega) h2)) $$ HI
  iintro HI
  rw [wp_bind]
  iapply (word_step (word10 k) (d := d1) (by omega)) $$ H1
  iintro H1
  rw [wp_bind]
  iapply (check_step (row_ok (T.word1 (16 * k.val + 5) (by omega)) (T.bound _ (by omega))))
  rw [wp_bind]
  iapply (copy_lift (j := 32 * k.val + 10) rfl (row10 k i) (sem_rows (cell10 i) _) (by omega)
    ((T.word1 (16 * k.val + 5) (by omega)).trans (congrArg pl (by omega))) (by omega) (T.fresh _ (by omega))
    (fun x y hx h0 h1 h2 => T.final (32 * k.val + 10) (by omega) x y (hx.trans ((T.word1 (16 * k.val + 5) (by omega)).trans (congrArg pl (by omega)))) h0 (by omega) h2)) $$ HI
  iintro HI
  rw [wp_bind]
  iapply (word_step (word11 k) (d := d2) (by omega)) $$ H2
  iintro H2
  rw [wp_bind]
  iapply (check_step (row_ok (T.word2 (16 * k.val + 5) (by omega)) (T.bound _ (by omega))))
  rw [wp_pure]
  imodintro
  dsimp only
  rw [wp_bind, k0_part4_eq_skeleton]
  unfold k0_part4_skel
  dsimp only
  rw [wp_bind]
  iapply (copy_lift (j := 32 * k.val + 11) rfl (row11 k i) (sem_rows (cell11 i) _) (by omega)
    ((T.word2 (16 * k.val + 5) (by omega)).trans (congrArg pl (by omega))) (by omega) (T.fresh _ (by omega))
    (fun x y hx h0 h1 h2 => T.final (32 * k.val + 11) (by omega) x y (hx.trans ((T.word2 (16 * k.val + 5) (by omega)).trans (congrArg pl (by omega)))) h0 (by omega) h2)) $$ HI
  iintro HI
  rw [wp_bind]
  iapply (word_step (word12 k) (d := d1) (by omega)) $$ H1
  iintro H1
  rw [wp_bind]
  iapply (check_step (row_ok (T.word1 (16 * k.val + 6) (by omega)) (T.bound _ (by omega))))
  rw [wp_bind]
  iapply (copy_lift (j := 32 * k.val + 12) rfl (row12 k i) (sem_rows (cell12 i) _) (by omega)
    ((T.word1 (16 * k.val + 6) (by omega)).trans (congrArg pl (by omega))) (by omega) (T.fresh _ (by omega))
    (fun x y hx h0 h1 h2 => T.final (32 * k.val + 12) (by omega) x y (hx.trans ((T.word1 (16 * k.val + 6) (by omega)).trans (congrArg pl (by omega)))) h0 (by omega) h2)) $$ HI
  iintro HI
  rw [wp_bind]
  iapply (word_step (word13 k) (d := d2) (by omega)) $$ H2
  iintro H2
  rw [wp_bind]
  iapply (check_step (row_ok (T.word2 (16 * k.val + 6) (by omega)) (T.bound _ (by omega))))
  rw [wp_bind]
  iapply (copy_lift (j := 32 * k.val + 13) rfl (row13 k i) (sem_rows (cell13 i) _) (by omega)
    ((T.word2 (16 * k.val + 6) (by omega)).trans (congrArg pl (by omega))) (by omega) (T.fresh _ (by omega))
    (fun x y hx h0 h1 h2 => T.final (32 * k.val + 13) (by omega) x y (hx.trans ((T.word2 (16 * k.val + 6) (by omega)).trans (congrArg pl (by omega)))) h0 (by omega) h2)) $$ HI
  iintro HI
  rw [wp_bind]
  iapply (word_step (word14 k) (d := d1) (by omega)) $$ H1
  iintro H1
  rw [wp_bind]
  iapply (check_step (row_ok (T.word1 (16 * k.val + 7) (by omega)) (T.bound _ (by omega))))
  rw [wp_bind]
  iapply (copy_lift (j := 32 * k.val + 14) rfl (row14 k i) (sem_rows (cell14 i) _) (by omega)
    ((T.word1 (16 * k.val + 7) (by omega)).trans (congrArg pl (by omega))) (by omega) (T.fresh _ (by omega))
    (fun x y hx h0 h1 h2 => T.final (32 * k.val + 14) (by omega) x y (hx.trans ((T.word1 (16 * k.val + 7) (by omega)).trans (congrArg pl (by omega)))) h0 (by omega) h2)) $$ HI
  iintro HI
  rw [wp_bind]
  iapply (word_step (word15 k) (d := d2) (by omega)) $$ H2
  iintro H2
  rw [wp_bind]
  iapply (check_step (row_ok (T.word2 (16 * k.val + 7) (by omega)) (T.bound _ (by omega))))
  rw [wp_pure]
  imodintro
  dsimp only
  rw [wp_bind, k0_part5_eq_skeleton]
  unfold k0_part5_skel
  dsimp only
  rw [wp_bind]
  iapply (copy_lift (j := 32 * k.val + 15) rfl (row15 k i) (sem_rows (cell15 i) _) (by omega)
    ((T.word2 (16 * k.val + 7) (by omega)).trans (congrArg pl (by omega))) (by omega) (T.fresh _ (by omega))
    (fun x y hx h0 h1 h2 => T.final (32 * k.val + 15) (by omega) x y (hx.trans ((T.word2 (16 * k.val + 7) (by omega)).trans (congrArg pl (by omega)))) h0 (by omega) h2)) $$ HI
  iintro HI
  rw [wp_bind]
  iapply (word_step (word16 k) (d := d1) (by omega)) $$ H1
  iintro H1
  rw [wp_bind]
  iapply (check_step (row_ok (T.word1 (16 * k.val + 8) (by omega)) (T.bound _ (by omega))))
  rw [wp_bind]
  iapply (copy_lift (j := 32 * k.val + 16) rfl (row16 k i) (sem_rows (cell16 i) _) (by omega)
    ((T.word1 (16 * k.val + 8) (by omega)).trans (congrArg pl (by omega))) (by omega) (T.fresh _ (by omega))
    (fun x y hx h0 h1 h2 => T.final (32 * k.val + 16) (by omega) x y (hx.trans ((T.word1 (16 * k.val + 8) (by omega)).trans (congrArg pl (by omega)))) h0 (by omega) h2)) $$ HI
  iintro HI
  rw [wp_bind]
  iapply (word_step (word17 k) (d := d2) (by omega)) $$ H2
  iintro H2
  rw [wp_bind]
  iapply (check_step (row_ok (T.word2 (16 * k.val + 8) (by omega)) (T.bound _ (by omega))))
  rw [wp_bind]
  iapply (copy_lift (j := 32 * k.val + 17) rfl (row17 k i) (sem_rows (cell17 i) _) (by omega)
    ((T.word2 (16 * k.val + 8) (by omega)).trans (congrArg pl (by omega))) (by omega) (T.fresh _ (by omega))
    (fun x y hx h0 h1 h2 => T.final (32 * k.val + 17) (by omega) x y (hx.trans ((T.word2 (16 * k.val + 8) (by omega)).trans (congrArg pl (by omega)))) h0 (by omega) h2)) $$ HI
  iintro HI
  rw [wp_bind]
  iapply (word_step (word18 k) (d := d1) (by omega)) $$ H1
  iintro H1
  rw [wp_bind]
  iapply (check_step (row_ok (T.word1 (16 * k.val + 9) (by omega)) (T.bound _ (by omega))))
  rw [wp_bind]
  iapply (copy_lift (j := 32 * k.val + 18) rfl (row18 k i) (sem_rows (cell18 i) _) (by omega)
    ((T.word1 (16 * k.val + 9) (by omega)).trans (congrArg pl (by omega))) (by omega) (T.fresh _ (by omega))
    (fun x y hx h0 h1 h2 => T.final (32 * k.val + 18) (by omega) x y (hx.trans ((T.word1 (16 * k.val + 9) (by omega)).trans (congrArg pl (by omega)))) h0 (by omega) h2)) $$ HI
  iintro HI
  rw [wp_bind]
  iapply (word_step (word19 k) (d := d2) (by omega)) $$ H2
  iintro H2
  rw [wp_bind]
  iapply (check_step (row_ok (T.word2 (16 * k.val + 9) (by omega)) (T.bound _ (by omega))))
  rw [wp_pure]
  imodintro
  dsimp only
  rw [wp_bind, k0_part6_eq_skeleton]
  unfold k0_part6_skel
  dsimp only
  rw [wp_bind]
  iapply (copy_lift (j := 32 * k.val + 19) rfl (row19 k i) (sem_rows (cell19 i) _) (by omega)
    ((T.word2 (16 * k.val + 9) (by omega)).trans (congrArg pl (by omega))) (by omega) (T.fresh _ (by omega))
    (fun x y hx h0 h1 h2 => T.final (32 * k.val + 19) (by omega) x y (hx.trans ((T.word2 (16 * k.val + 9) (by omega)).trans (congrArg pl (by omega)))) h0 (by omega) h2)) $$ HI
  iintro HI
  rw [wp_bind]
  iapply (word_step (word20 k) (d := d1) (by omega)) $$ H1
  iintro H1
  rw [wp_bind]
  iapply (check_step (row_ok (T.word1 (16 * k.val + 10) (by omega)) (T.bound _ (by omega))))
  rw [wp_bind]
  iapply (copy_lift (j := 32 * k.val + 20) rfl (row20 k i) (sem_rows (cell20 i) _) (by omega)
    ((T.word1 (16 * k.val + 10) (by omega)).trans (congrArg pl (by omega))) (by omega) (T.fresh _ (by omega))
    (fun x y hx h0 h1 h2 => T.final (32 * k.val + 20) (by omega) x y (hx.trans ((T.word1 (16 * k.val + 10) (by omega)).trans (congrArg pl (by omega)))) h0 (by omega) h2)) $$ HI
  iintro HI
  rw [wp_bind]
  iapply (word_step (word21 k) (d := d2) (by omega)) $$ H2
  iintro H2
  rw [wp_bind]
  iapply (check_step (row_ok (T.word2 (16 * k.val + 10) (by omega)) (T.bound _ (by omega))))
  rw [wp_bind]
  iapply (copy_lift (j := 32 * k.val + 21) rfl (row21 k i) (sem_rows (cell21 i) _) (by omega)
    ((T.word2 (16 * k.val + 10) (by omega)).trans (congrArg pl (by omega))) (by omega) (T.fresh _ (by omega))
    (fun x y hx h0 h1 h2 => T.final (32 * k.val + 21) (by omega) x y (hx.trans ((T.word2 (16 * k.val + 10) (by omega)).trans (congrArg pl (by omega)))) h0 (by omega) h2)) $$ HI
  iintro HI
  rw [wp_bind]
  iapply (word_step (word22 k) (d := d1) (by omega)) $$ H1
  iintro H1
  rw [wp_bind]
  iapply (check_step (row_ok (T.word1 (16 * k.val + 11) (by omega)) (T.bound _ (by omega))))
  rw [wp_bind]
  iapply (copy_lift (j := 32 * k.val + 22) rfl (row22 k i) (sem_rows (cell22 i) _) (by omega)
    ((T.word1 (16 * k.val + 11) (by omega)).trans (congrArg pl (by omega))) (by omega) (T.fresh _ (by omega))
    (fun x y hx h0 h1 h2 => T.final (32 * k.val + 22) (by omega) x y (hx.trans ((T.word1 (16 * k.val + 11) (by omega)).trans (congrArg pl (by omega)))) h0 (by omega) h2)) $$ HI
  iintro HI
  rw [wp_bind]
  iapply (word_step (word23 k) (d := d2) (by omega)) $$ H2
  iintro H2
  rw [wp_bind]
  iapply (check_step (row_ok (T.word2 (16 * k.val + 11) (by omega)) (T.bound _ (by omega))))
  rw [wp_pure]
  imodintro
  dsimp only
  rw [wp_bind, k0_part7_eq_skeleton]
  unfold k0_part7_skel
  dsimp only
  rw [wp_bind]
  iapply (copy_lift (j := 32 * k.val + 23) rfl (row23 k i) (sem_rows (cell23 i) _) (by omega)
    ((T.word2 (16 * k.val + 11) (by omega)).trans (congrArg pl (by omega))) (by omega) (T.fresh _ (by omega))
    (fun x y hx h0 h1 h2 => T.final (32 * k.val + 23) (by omega) x y (hx.trans ((T.word2 (16 * k.val + 11) (by omega)).trans (congrArg pl (by omega)))) h0 (by omega) h2)) $$ HI
  iintro HI
  rw [wp_bind]
  iapply (word_step (word24 k) (d := d1) (by omega)) $$ H1
  iintro H1
  rw [wp_bind]
  iapply (check_step (row_ok (T.word1 (16 * k.val + 12) (by omega)) (T.bound _ (by omega))))
  rw [wp_bind]
  iapply (copy_lift (j := 32 * k.val + 24) rfl (row24 k i) (sem_rows (cell24 i) _) (by omega)
    ((T.word1 (16 * k.val + 12) (by omega)).trans (congrArg pl (by omega))) (by omega) (T.fresh _ (by omega))
    (fun x y hx h0 h1 h2 => T.final (32 * k.val + 24) (by omega) x y (hx.trans ((T.word1 (16 * k.val + 12) (by omega)).trans (congrArg pl (by omega)))) h0 (by omega) h2)) $$ HI
  iintro HI
  rw [wp_bind]
  iapply (word_step (word25 k) (d := d2) (by omega)) $$ H2
  iintro H2
  rw [wp_bind]
  iapply (check_step (row_ok (T.word2 (16 * k.val + 12) (by omega)) (T.bound _ (by omega))))
  rw [wp_bind]
  iapply (copy_lift (j := 32 * k.val + 25) rfl (row25 k i) (sem_rows (cell25 i) _) (by omega)
    ((T.word2 (16 * k.val + 12) (by omega)).trans (congrArg pl (by omega))) (by omega) (T.fresh _ (by omega))
    (fun x y hx h0 h1 h2 => T.final (32 * k.val + 25) (by omega) x y (hx.trans ((T.word2 (16 * k.val + 12) (by omega)).trans (congrArg pl (by omega)))) h0 (by omega) h2)) $$ HI
  iintro HI
  rw [wp_bind]
  iapply (word_step (word26 k) (d := d1) (by omega)) $$ H1
  iintro H1
  rw [wp_bind]
  iapply (check_step (row_ok (T.word1 (16 * k.val + 13) (by omega)) (T.bound _ (by omega))))
  rw [wp_bind]
  iapply (copy_lift (j := 32 * k.val + 26) rfl (row26 k i) (sem_rows (cell26 i) _) (by omega)
    ((T.word1 (16 * k.val + 13) (by omega)).trans (congrArg pl (by omega))) (by omega) (T.fresh _ (by omega))
    (fun x y hx h0 h1 h2 => T.final (32 * k.val + 26) (by omega) x y (hx.trans ((T.word1 (16 * k.val + 13) (by omega)).trans (congrArg pl (by omega)))) h0 (by omega) h2)) $$ HI
  iintro HI
  rw [wp_bind]
  iapply (word_step (word27 k) (d := d2) (by omega)) $$ H2
  iintro H2
  rw [wp_bind]
  iapply (check_step (row_ok (T.word2 (16 * k.val + 13) (by omega)) (T.bound _ (by omega))))
  rw [wp_pure]
  imodintro
  dsimp only
  rw [wp_bind, k0_part8_eq_skeleton]
  unfold k0_part8_skel
  dsimp only
  rw [wp_bind]
  iapply (copy_lift (j := 32 * k.val + 27) rfl (row27 k i) (sem_rows (cell27 i) _) (by omega)
    ((T.word2 (16 * k.val + 13) (by omega)).trans (congrArg pl (by omega))) (by omega) (T.fresh _ (by omega))
    (fun x y hx h0 h1 h2 => T.final (32 * k.val + 27) (by omega) x y (hx.trans ((T.word2 (16 * k.val + 13) (by omega)).trans (congrArg pl (by omega)))) h0 (by omega) h2)) $$ HI
  iintro HI
  rw [wp_bind]
  iapply (word_step (word28 k) (d := d1) (by omega)) $$ H1
  iintro H1
  rw [wp_bind]
  iapply (check_step (row_ok (T.word1 (16 * k.val + 14) (by omega)) (T.bound _ (by omega))))
  rw [wp_bind]
  iapply (copy_lift (j := 32 * k.val + 28) rfl (row28 k i) (sem_rows (cell28 i) _) (by omega)
    ((T.word1 (16 * k.val + 14) (by omega)).trans (congrArg pl (by omega))) (by omega) (T.fresh _ (by omega))
    (fun x y hx h0 h1 h2 => T.final (32 * k.val + 28) (by omega) x y (hx.trans ((T.word1 (16 * k.val + 14) (by omega)).trans (congrArg pl (by omega)))) h0 (by omega) h2)) $$ HI
  iintro HI
  rw [wp_bind]
  iapply (word_step (word29 k) (d := d2) (by omega)) $$ H2
  iintro H2
  rw [wp_bind]
  iapply (check_step (row_ok (T.word2 (16 * k.val + 14) (by omega)) (T.bound _ (by omega))))
  rw [wp_bind]
  iapply (copy_lift (j := 32 * k.val + 29) rfl (row29 k i) (sem_rows (cell29 i) _) (by omega)
    ((T.word2 (16 * k.val + 14) (by omega)).trans (congrArg pl (by omega))) (by omega) (T.fresh _ (by omega))
    (fun x y hx h0 h1 h2 => T.final (32 * k.val + 29) (by omega) x y (hx.trans ((T.word2 (16 * k.val + 14) (by omega)).trans (congrArg pl (by omega)))) h0 (by omega) h2)) $$ HI
  iintro HI
  rw [wp_bind]
  iapply (word_step (word30 k) (d := d1) (by omega)) $$ H1
  iintro H1
  rw [wp_bind]
  iapply (check_step (row_ok (T.word1 (16 * k.val + 15) (by omega)) (T.bound _ (by omega))))
  rw [wp_bind]
  iapply (copy_lift (j := 32 * k.val + 30) rfl (row30 k i) (sem_rows (cell30 i) _) (by omega)
    ((T.word1 (16 * k.val + 15) (by omega)).trans (congrArg pl (by omega))) (by omega) (T.fresh _ (by omega))
    (fun x y hx h0 h1 h2 => T.final (32 * k.val + 30) (by omega) x y (hx.trans ((T.word1 (16 * k.val + 15) (by omega)).trans (congrArg pl (by omega)))) h0 (by omega) h2)) $$ HI
  iintro HI
  rw [wp_bind]
  iapply (word_step (word31 k) (d := d2) (by omega)) $$ H2
  iintro H2
  rw [wp_bind]
  iapply (check_step (row_ok (T.word2 (16 * k.val + 15) (by omega)) (T.bound _ (by omega))))
  rw [wp_pure]
  imodintro
  dsimp only
  rw [wp_bind]
  iapply (copy_lift (j := 32 * k.val + 31) rfl (row31 k i) (sem_rows (cell31 i) _) (by omega)
    ((T.word2 (16 * k.val + 15) (by omega)).trans (congrArg pl (by omega))) (by omega) (T.fresh _ (by omega))
    (fun x y hx h0 h1 h2 => T.final (32 * k.val + 31) (by omega) x y (hx.trans ((T.word2 (16 * k.val + 15) (by omega)).trans (congrArg pl (by omega)))) h0 (by omega) h2)) $$ HI
  iintro HI
  rw [wp_pure]
  imodintro
  isplitl [HI]; · iexact HI
  isplitl [H1]; · iexact H1
  iexact H2

end Cert.KernelIdeal.Dispatch

end
-- ==== Proof.Flights.lean ====
/-
  The dispatch's transfers in flight: a tile of `h` on its way into a slot, and a tile's rows on their way out, waited
  for a row at a time.
-/
module

public import proofs.«01_k».proof.Proof.Trip

@[expose] public section

set_option maxRecDepth 16384

noncomputable section

namespace Cert.KernelIdeal.Dispatch

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type} [FloatOps F]

local notation "𝕄" => MT nD τ sig Unit (Elt F) ℕ (Pipeline.UD sig nD τ) ℕ

local notation "wpB" c => wp Idealize.ShloMosaic.frame (wpE (defs₀ (F := F)) Variants.none (c : Thread nD τ) none) Set.univ

/-! ## A tile on its way in -/

/-- Rows `1024·t … 1024·t + 1023` of `h`. -/
def tile (t : ℕ) : Finset S16384x512.Idx := Finset.univ.filter fun x => 1024 * t ≤ (x 0 : ℕ) ∧ (x 0 : ℕ) < 1024 * t + 1024
@[simp] theorem mem_tile {t : ℕ} {x : S16384x512.Idx} : x ∈ tile t ↔ 1024 * t ≤ (x 0 : ℕ) ∧ (x 0 : ℕ) < 1024 * t + 1024 := by simp [tile]

/-- Tile `t` of `h`, as a slot holds it (the slot it is in does not matter). -/
def tileOf (H : HHBuf F) (t : ℕ) : HBuf F := fun y => H (ix2 ⟨(1024 * t + (y 1 : ℕ)) % 16384, Nat.mod_lt _ (by decide)⟩ (y 2))

/-- What a tile's load credits its semaphore with. -/
abbrev tileN : ℕ := (((HB.slice (Rect.unit (s := S3x1024x512) ![0, 0, 0] S1x1024x512.size inb_S3x1024x512_S1x1024x512_0_0_0) (fun _ => rfl)).squeeze S1024x512 squeezes_S1x1024x512_S1024x512).view).dmaCredit

/-- What the load delivers. -/
def loaded (c : Dev nD) (H : HHBuf F) (s t : ℕ) (_ : Fin 1) : sProp 𝕄 :=
  iprop((HB.view.loc (c : Thread nD τ) ↦[hslot s]{fullShare} tileOf H t) ∗ (HH.view.loc (c : Thread nD τ) ↦[tile t]{fullShare} H))

instance (c : Dev nD) (H : HHBuf F) (s t : ℕ) (j : Fin 1) : Storable (upEmb : UEmb _ 𝕄) (loaded c H s t j) := by
  unfold loaded; infer_instance

/-- The load in flight. -/
def loading (c : Dev nD) (H : HHBuf F) (s t : ℕ) : sProp 𝕄 :=
  Transfers.Batch EC (c : Thread nD τ) (.dma (lsem s)) () tileN (loaded c H s t) 1 0

/-- A semaphore's counter at zero. -/
def idle (c : Dev nD) (sm : DmaSem sig) : sProp 𝕄 := semVal ((c : Thread nD τ), SemLoc.dma sm) 0

/-- A slot at contents nothing names. -/
def free (c : Dev nD) (s : ℕ) : sProp 𝕄 := iprop(∃ f : HBuf F, HB.view.loc (c : Thread nD τ) ↦[hslot s]{fullShare} f)

theorem set_hslot {o : Fin 3 → ℕ} {s : ℕ} (ho : o = ![s, 0, 0]) (i : ∀ a, o a + S1x1024x512.size a ≤ S3x1024x512.size a) :
    (((HB.slice (Rect.unit (s := S3x1024x512) o S1x1024x512.size i) (fun _ => rfl)).squeeze S1024x512 squeezes_S1x1024x512_S1024x512).view).set = hslot s := by
  subst ho
  refine (View.set_reshape _ _).trans ((View.set_slice_whole _ _).trans ?_)
  ext x
  rw [Rect.mem_set_unit, mem_hslot]
  constructor
  · intro h
    have h0 := h 0
    change s ≤ (x 0 : ℕ) ∧ (x 0 : ℕ) < s + 1 at h0
    omega
  · intro h a
    fin_cases a
    · show s ≤ (x 0 : ℕ) ∧ (x 0 : ℕ) < s + 1
      omega
    · show 0 ≤ (x 1 : ℕ) ∧ (x 1 : ℕ) < 0 + 1024
      exact ⟨Nat.zero_le _, by have := (x 1).isLt; change (x 1 : ℕ) < 1024 at this; omega⟩
    · show 0 ≤ (x 2 : ℕ) ∧ (x 2 : ℕ) < 0 + 512
      exact ⟨Nat.zero_le _, by have := (x 2).isLt; change (x 2 : ℕ) < 512 at this; omega⟩

theorem set_tile {o : Fin 2 → ℕ} {t : ℕ} (ho : o = ![1024 * t, 0]) (i : ∀ a, o a + S1024x512.size a ≤ S16384x512.size a) :
    ((HH.slice (Rect.unit (s := S16384x512) o S1024x512.size i) (fun _ => rfl)).view).set = tile t := by
  subst ho
  refine (View.set_slice_whole _ _).trans ?_
  ext x
  rw [Rect.mem_set_unit, mem_tile]
  constructor
  · intro h
    exact h 0
  · intro h a
    fin_cases a
    · exact h
    · show 0 ≤ (x 1 : ℕ) ∧ (x 1 : ℕ) < 0 + 512
      exact ⟨Nat.zero_le _, by have := (x 1).isLt; change (x 1 : ℕ) < 512 at this; omega⟩

/-- What the load leaves in its slot: the tile. -/
theorem landed_tile {o3 : Fin 2 → ℕ} {o6 : Fin 3 → ℕ} {s t : ℕ} (h3 : o3 = ![1024 * t, 0]) (h6 : o6 = ![s, 0, 0])
    (i3 : ∀ a, o3 a + S1024x512.size a ≤ S16384x512.size a) (i6 : ∀ a, o6 a + S1x1024x512.size a ≤ S3x1024x512.size a)
    (f : HBuf F) (H : HHBuf F) (x : S3x1024x512.Idx) (hx : x ∈ hslot s) :
    (((HB.slice (Rect.unit (s := S3x1024x512) o6 S1x1024x512.size i6) (fun _ => rfl)).squeeze S1024x512 squeezes_S1x1024x512_S1024x512).view).write (Elt F) f
      ((ReadAs.same (Val := Elt F)).apply (((HH.slice (Rect.unit (s := S16384x512) o3 S1024x512.size i3) (fun _ => rfl)).view).read (Elt F) H))
      Finset.univ x = tileOf H t x := by
  have hx' : x ∈ (((HB.slice (Rect.unit (s := S3x1024x512) o6 S1x1024x512.size i6) (fun _ => rfl)).squeeze S1024x512 squeezes_S1x1024x512_S1024x512).view).set := by
    rw [set_hslot h6 i6]; exact hx
  subst h3 h6
  obtain ⟨y, -, rfl⟩ := Finset.mem_map.mp hx'
  rw [View.write_emb_of_mem _ _ (Finset.mem_univ _)]
  have hy : Shape.reshapeEquiv (squeezes_S1x1024x512_S1024x512).numel_eq y = ix3 (⟨0, Nat.one_pos⟩ : Fin 1) (y 0) (y 1) :=
    (congrArg _ (eq_ix2 y)).trans (reshapeEquiv_ix2_1ab _ _ _)
  have he : (((HB.slice (Rect.unit (s := S3x1024x512) ![s, 0, 0] S1x1024x512.size i6) (fun _ => rfl)).squeeze S1024x512 squeezes_S1x1024x512_S1024x512).view).emb y
      = (Rect.unit (s := S3x1024x512) ![s, 0, 0] S1x1024x512.size i6).emb (ix3 (⟨0, Nat.one_pos⟩ : Fin 1) (y 0) (y 1)) :=
    congrArg (Rect.unit (s := S3x1024x512) ![s, 0, 0] S1x1024x512.size i6).emb hy
  rw [he]
  unfold tileOf
  refine congrArg H ?_
  have hb : 1024 * t + 1024 ≤ 16384 := i3 0
  have h0 : (y 0 : ℕ) < 1024 := (y 0).isLt
  funext a
  match a with
  | ⟨0, _⟩ =>
    refine Fin.ext ?_
    show 1024 * t + 1 * (y 0 : ℕ) = (1024 * t + (0 + 1 * (y 0 : ℕ))) % 16384
    omega
  | ⟨1, _⟩ =>
    refine Fin.ext ?_
    show 0 + 1 * (y 1 : ℕ) = 0 + 1 * (y 1 : ℕ)
    rfl

/-- STARTING A LOAD. -/
theorem load_lift {c : Dev nD} {s t : ℕ} {H : HHBuf F} {o3 : Fin 2 → ℕ} {o6 : Fin 3 → ℕ}
    {i3 : ∀ a, o3 a + S1024x512.size a ≤ S16384x512.size a} {i6 : ∀ a, o6 a + S1x1024x512.size a ≤ S3x1024x512.size a} {sem : DmaSem sig}
    {hsrc : ((HH.slice (Rect.unit (s := S16384x512) o3 S1024x512.size i3) (fun _ => rfl)).view).WordExact}
    {hdst : (((HB.slice (Rect.unit (s := S3x1024x512) o6 S1x1024x512.size i6) (fun _ => rfl)).squeeze S1024x512 squeezes_S1x1024x512_S1024x512).view).WordExact} {hsem}
    {Q : PUnit → sProp 𝕄} (h3 : o3 = ![1024 * t, 0]) (h6 : o6 = ![s, 0, 0]) (hs : sem = lsem s) :
    iprop(free c s ∗ (HH.view.loc (c : Thread nD τ) ↦[tile t]{fullShare} H) ∗ idle c (lsem s))
      ⊢ iprop((loading c H s t -∗ Q ⟨⟩)
          -∗ (wpB c) (Prog.lift (.enqueueDma (HH.slice (Rect.unit (s := S16384x512) o3 S1024x512.size i3) (fun _ => rfl))
            (.here ((HB.slice (Rect.unit (s := S3x1024x512) o6 S1x1024x512.size i6) (fun _ => rfl)).squeeze S1024x512 squeezes_S1x1024x512_S1024x512))
            (.dma sem) hsrc hdst hsem)) Q) := by
  subst hs
  have hset3 := set_tile h3 i3
  have hset6 := set_hslot h6 i6
  have hland := fun f x hx => landed_tile h3 h6 i3 i6 f H x hx
  unfold free idle loading
  iintro ⟨⟨%f, Hf⟩, HH, Hs⟩ Hk
  imod (Transfers.batch_alloc' (Lvl := ℕ) EC (c : Thread nD τ) () tileN (loaded c H s t) (sm := .dma (lsem s)) (E := Set.univ)) $$ Hs with HB
  iapply (Transfers.wp_dmaBatch EC Variants.none (c : Thread nD τ) none
      (src := HH.slice (Rect.unit (s := S16384x512) o3 S1024x512.size i3) (fun _ => rfl))
      (dst := (HB.slice (Rect.unit (s := S3x1024x512) o6 S1x1024x512.size i6) (fun _ => rfl)).squeeze S1024x512 squeezes_S1x1024x512_S1024x512)
      (via := ReadAs.same) (q := fullShare) (fs := H) (fd := f) (Sd := hslot s)
      () tileN rfl hset6.subset Nat.one_pos (Nat.zero_le _) (D := loaded c H s t) ?hD) $$ [HB Hf HH]
  case hD =>
    unfold loaded
    refine sep_mono (Entails.of_eq (pointsTo_congr fun x hx => hland f x hx)) (Entails.of_eq ?_)
    rw [hset3]
  · isplitl [HH]
    · rw [hset3]; iexact HH
    · isplitl [Hf]
      · iexact Hf
      · iexact HB
  · iintro HB
    rw [wp_ret]
    imodintro
    iapply Hk
    iexact HB

/-- What a load delivers, taken apart. -/
theorem loaded_out {c : Dev nD} {H : HHBuf F} {s t : ℕ} :
    bigSep Finset.univ (loaded c H s t)
      ⊢ iprop((HB.view.loc (c : Thread nD τ) ↦[hslot s]{fullShare} tileOf H t) ∗ (HH.view.loc (c : Thread nD τ) ↦[tile t]{fullShare} H)) := by
  rw [show (Finset.univ : Finset (Fin 1)) = {0} from rfl, BI.bigSep_singleton]
  exact .rfl

/-- WAITING FOR A LOAD. -/
theorem load_wait {c : Dev nD} {s t : ℕ} {H : HHBuf F} {o3 : Fin 2 → ℕ} {o6 : Fin 3 → ℕ}
    {i3 : ∀ a, o3 a + S1024x512.size a ≤ S16384x512.size a} {i6 : ∀ a, o6 a + S1x1024x512.size a ≤ S3x1024x512.size a} {sem : DmaSem sig}
    {hsrc : ((HH.slice (Rect.unit (s := S16384x512) o3 S1024x512.size i3) (fun _ => rfl)).view).WordExact}
    {hdst : (((HB.slice (Rect.unit (s := S3x1024x512) o6 S1x1024x512.size i6) (fun _ => rfl)).squeeze S1024x512 squeezes_S1x1024x512_S1024x512).view).WordExact}
    {Q : PUnit → sProp 𝕄} (hs : sem = lsem s) :
    iprop(loading c H s t ∗ (∃ W, owes (c : Thread nD τ) 0 W))
      ⊢ iprop((iprop((HB.view.loc (c : Thread nD τ) ↦[hslot s]{fullShare} tileOf H t) ∗ (HH.view.loc (c : Thread nD τ) ↦[tile t]{fullShare} H)
            ∗ idle c (lsem s) ∗ (∃ W, owes (c : Thread nD τ) 0 W)) -∗ Q ⟨⟩)
          -∗ (wpB c) (Prog.lift (.waitDma2 sem (HH.slice (Rect.unit (s := S16384x512) o3 S1024x512.size i3) (fun _ => rfl))
            ((HB.slice (Rect.unit (s := S3x1024x512) o6 S1x1024x512.size i6) (fun _ => rfl)).squeeze S1024x512 squeezes_S1x1024x512_S1024x512)
            hsrc hdst)) Q) := by
  subst hs
  unfold loading idle
  iintro ⟨HB, ⟨%W, HW⟩⟩ Hk
  iapply (Transfers.wp_waitBatchLast EC Variants.none (c : Thread nD τ) none
      (srcw := HH.slice (Rect.unit (s := S16384x512) o3 S1024x512.size i3) (fun _ => rfl))
      (dstw := (HB.slice (Rect.unit (s := S3x1024x512) o6 S1x1024x512.size i6) (fun _ => rfl)).squeeze S1024x512 squeezes_S1x1024x512_S1024x512)
      () (N := tileN) rfl (View.dmaCredit_pos _ (by decide)) (D := loaded c H s t) (u := 0) (W := W) (by omega)) $$ [HB HW]
  · isplitl [HB]; · iexact HB
    iexact HW
  · iintro ⟨HD, HS, HW⟩
    rw [wp_ret]
    imodintro
    iapply Hk
    ihave HD' := loaded_out $$ HD
    icases HD' with ⟨H1, H2⟩
    isplitl [H1]; · iexact H1
    isplitl [H2]; · iexact H2
    isplitl [HS]; · iexact HS
    iexists _
    iexact HW

/-! ## A tile's rows on their way out -/

/-- `k` of the tile's 2048 copies waited for. -/
def draining (c : Dev nD) (sm : DmaSem sig) (s base : ℕ) (pl : ℕ → ℕ) (G : XBuf F) (hb : HBuf F) (k : ℕ) : sProp 𝕄 :=
  iprop((if k < 2048 then Transfers.Batch EC (c : Thread nD τ) (.dma sm) () rowN (delivered c s base pl G hb) 2048 (k * rowN)
      else iprop(bigSep Finset.univ (delivered c s base pl G hb) ∗ idle c sm))
    ∗ (∃ W, owes (c : Thread nD τ) 0 W))

/-- WAITING FOR ONE ROW. -/
theorem row_wait {c : Dev nD} {sm : DmaSem sig} {s base k : ℕ} {pl : ℕ → ℕ} {G : XBuf F} {hb : HBuf F} {o5 : Fin 2 → ℕ} {o6 : Fin 3 → ℕ}
    {i5 : ∀ a, o5 a + S1x512.size a ≤ S49152x512.size a} {i6 : ∀ a, o6 a + S1x1x512.size a ≤ S3x1024x512.size a} {sem : DmaSem sig}
    {hsrc : (((HB.slice (Rect.unit (s := S3x1024x512) o6 S1x1x512.size i6) (fun _ => rfl)).squeeze S1x512 squeezes_S1x1x512_S1x512).view).WordExact}
    {hdst : ((XB.slice (Rect.unit (s := S49152x512) o5 S1x512.size i5) (fun _ => rfl)).view).WordExact}
    {Q : PUnit → sProp 𝕄} (hs : sem = sm) (hk : k < 2048) :
    draining c sm s base pl G hb k
      ⊢ iprop((draining c sm s base pl G hb (k + 1) -∗ Q ⟨⟩)
          -∗ (wpB c) (Prog.lift (.waitDma2 sem ((HB.slice (Rect.unit (s := S3x1024x512) o6 S1x1x512.size i6) (fun _ => rfl)).squeeze S1x512 squeezes_S1x1x512_S1x512)
            (XB.slice (Rect.unit (s := S49152x512) o5 S1x512.size i5) (fun _ => rfl)) hsrc hdst)) Q) := by
  subst hs
  have hN : 0 < rowN := View.dmaCredit_pos _ (by decide)
  unfold draining idle
  rw [if_pos hk]
  iintro ⟨HB, ⟨%W, HW⟩⟩ Hk
  rcases Nat.lt_or_ge (k + 1) 2048 with hk' | hk'
  · rw [if_pos hk']
    iapply (Transfers.wp_waitBatch EC Variants.none (c : Thread nD τ) none
        (srcw := (HB.slice (Rect.unit (s := S3x1024x512) o6 S1x1x512.size i6) (fun _ => rfl)).squeeze S1x512 squeezes_S1x1x512_S1x512)
        (dstw := XB.slice (Rect.unit (s := S49152x512) o5 S1x512.size i5) (fun _ => rfl))
        () (N := rowN) rfl (D := delivered c s base pl G hb) (u := k * rowN) (W := W)
        (by rw [← Nat.succ_mul, Nat.mul_comm]; exact Nat.mul_lt_mul_of_pos_left hk' hN)) $$ [HB HW]
    · isplitl [HB]; · iexact HB
      iexact HW
    · iintro ⟨HB, HW⟩
      rw [wp_ret]
      imodintro
      iapply Hk
      isplitl [HB]
      · rw [Nat.succ_mul]; iexact HB
      · iexists _
        iexact HW
  · rw [if_neg (by omega)]
    obtain rfl : k = 2047 := by omega
    iapply (Transfers.wp_waitBatchLast EC Variants.none (c : Thread nD τ) none
        (srcw := (HB.slice (Rect.unit (s := S3x1024x512) o6 S1x1x512.size i6) (fun _ => rfl)).squeeze S1x512 squeezes_S1x1x512_S1x512)
        (dstw := XB.slice (Rect.unit (s := S49152x512) o5 S1x512.size i5) (fun _ => rfl))
        () (N := rowN) rfl hN (D := delivered c s base pl G hb) (u := 2047 * rowN) (W := W)
        (by rw [← Nat.succ_mul, Nat.mul_comm])) $$ [HB HW]
    · isplitl [HB]; · iexact HB
      iexact HW
    · iintro ⟨HD, HS, HW⟩
      rw [wp_ret]
      imodintro
      iapply Hk
      isplitl [HD HS]
      · isplitl [HD]; · iexact HD
        iexact HS
      · iexists _
        iexact HW

/-- THE WAITS of a later point for the rows of the tile before it. -/
theorem drain_prev (c : Dev nD) (i : grid0.Coords) (arg1 : Memref sig .tc .smem S1x1x1024 .i32) (harg1 : arg1.IsWhole)
    (arg2 : Memref sig .tc .smem S1x1x1024 .i32) (harg2 : arg2.IsWhole) (h3 : k0_cond3 i = 1#1) {s base : ℕ} {pl : ℕ → ℕ} {G : XBuf F} {hb : HBuf F}
    {Q : Unit → sProp 𝕄} :
    draining c (rsem (((i 0 : ℕ) + 1) % 2)) s base pl G hb 0
      ⊢ iprop((draining c (rsem (((i 0 : ℕ) + 1) % 2)) s base pl G hb 2048 -∗ Q ⟨⟩)
          -∗ (wpB c) (Scf.Loop.for k0_t2_loop (k0_t2_ok i h3) ⟨⟩ (k0_t2_body (F := F) i arg1 harg1 arg2 harg2 HH (Memref.isWhole_whole _) XB (Memref.isWhole_whole _)
            XB (Memref.isWhole_whole _) HB (Memref.isWhole_whole _) cc0_scratch1 cc0_scratch2 h3)) Q) := by
  iintro H Hk
  iapply (Scf.wp_for _ _ _ _ _ _ (k0_t2_ok i h3) _ _ (fun k _ => draining c (rsem (((i 0 : ℕ) + 1) % 2)) s base pl G hb k) ?step)
  case step =>
    intro k acc
    have hk : k.val < 2048 := trips2 ▸ k.isLt
    unfold k0_t2_body
    iintro H
    rw [wp_bind]
    iapply (row_wait (sem_rows (prevRowCell i h3) _) hk) $$ H
    iintro H
    rw [wp_pure]
    imodintro
    iexact H
  · isplitl [H]; · iexact H
    iintro %acc H
    iapply Hk
    rw [show Scf.trips k0_t2_loop.lb k0_t2_loop.ub k0_t2_loop.st = 2048 from trips2]
    iexact H

/-- THE WAITS of the last point for its own rows. -/
theorem drain_last (c : Dev nD) (i : grid0.Coords) (arg1 : Memref sig .tc .smem S1x1x1024 .i32) (harg1 : arg1.IsWhole)
    (arg2 : Memref sig .tc .smem S1x1x1024 .i32) (harg2 : arg2.IsWhole) (h4 : k0_cond4 i = 1#1) {s base : ℕ} {pl : ℕ → ℕ} {G : XBuf F} {hb : HBuf F}
    {Q : Unit → sProp 𝕄} :
    draining c (rsem ((i 0 : ℕ) % 2)) s base pl G hb 0
      ⊢ iprop((draining c (rsem ((i 0 : ℕ) % 2)) s base pl G hb 2048 -∗ Q ⟨⟩)
          -∗ (wpB c) (Scf.Loop.for k0_t3_loop (k0_t3_ok i h4) ⟨⟩ (k0_t3_body (F := F) i arg1 harg1 arg2 harg2 HH (Memref.isWhole_whole _) XB (Memref.isWhole_whole _)
            XB (Memref.isWhole_whole _) HB (Memref.isWhole_whole _) cc0_scratch1 cc0_scratch2 h4)) Q) := by
  iintro H Hk
  iapply (Scf.wp_for _ _ _ _ _ _ (k0_t3_ok i h4) _ _ (fun k _ => draining c (rsem ((i 0 : ℕ) % 2)) s base pl G hb k) ?step)
  case step =>
    intro k acc
    have hk : k.val < 2048 := trips3 ▸ k.isLt
    unfold k0_t3_body
    iintro H
    rw [wp_bind]
    iapply (row_wait (sem_rows (lastRowCell i) _) hk) $$ H
    iintro H
    rw [wp_pure]
    imodintro
    iexact H
  · isplitl [H]; · iexact H
    iintro %acc H
    iapply Hk
    rw [show Scf.trips k0_t3_loop.lb k0_t3_loop.ub k0_t3_loop.st = 2048 from trips3]
    iexact H

/-- THE COPIES of a tile: the loop, from none issued to all. -/
theorem copies (c : Dev nD) (i : grid0.Coords) (arg1 : Memref sig .tc .smem S1x1x1024 .i32) (harg1 : arg1.IsWhole)
    (arg2 : Memref sig .tc .smem S1x1x1024 .i32) (harg2 : arg2.IsWhole) {d1 d2 : S1x1x1024.Idx → Elt F .i32}
    {base : ℕ} {pl : ℕ → ℕ} {Z G : XBuf F} {hb : HBuf F} (T : Tile d1 d2 ((i 0 : ℕ) % 3) base pl G hb) (b1 b2 : BitVec 32) {Q : Unit → sProp 𝕄} :
    iprop(issuing c (rsem ((i 0 : ℕ) % 2)) ((i 0 : ℕ) % 3) base pl Z G hb 0
        ∗ owns (c : Thread nD τ) arg1 fullShare d1 ∗ owns (c : Thread nD τ) arg2 fullShare d2)
      ⊢ iprop((iprop(issuing c (rsem ((i 0 : ℕ) % 2)) ((i 0 : ℕ) % 3) base pl Z G hb 2048
            ∗ owns (c : Thread nD τ) arg1 fullShare d1 ∗ owns (c : Thread nD τ) arg2 fullShare d2) -∗ Q ⟨⟩)
          -∗ (wpB c) (Scf.Loop.for k0_t1_loop k0_t1_ok ⟨⟩ (k0_t1_body (F := F) i arg1 harg1 arg2 harg2 HH (Memref.isWhole_whole _) XB (Memref.isWhole_whole _)
            XB (Memref.isWhole_whole _) HB (Memref.isWhole_whole _) cc0_scratch1 cc0_scratch2 b1 b2)) Q) := by
  iintro H Hk
  iapply (Scf.wp_for _ _ _ _ _ _ k0_t1_ok _ _ (fun k _ => iprop(issuing c (rsem ((i 0 : ℕ) % 2)) ((i 0 : ℕ) % 3) base pl Z G hb (32 * k)
        ∗ owns (c : Thread nD τ) arg1 fullShare d1 ∗ owns (c : Thread nD τ) arg2 fullShare d2)) ?step)
  case step =>
    intro k acc
    exact trip_step c i arg1 harg1 arg2 harg2 T k b1 b2
  · isplitl [H]; · iexact H
    iintro %acc H
    iapply Hk
    rw [show Scf.trips k0_t1_loop.lb k0_t1_loop.ub k0_t1_loop.st = 64 from trips1]
    iexact H

/-! ## A tile's rows all out -/

theorem half_join (f : HBuf F) (I : Finset S3x1024x512.Idx) (c : Dev nD) :
    (HB.view.loc (c : Thread nD τ) ↦[I]{fullShare} f : sProp 𝕄)
      ⊣⊢ iprop((HB.view.loc (c : Thread nD τ) ↦[I]{half 0} f) ∗ (HB.view.loc (c : Thread nD τ) ↦[I]{half 1} f)) :=
  pointsTo_share (PosShare.mem_left_op_right _)

/-- The copies of one parity read the whole slot. -/
theorem slot_of_parity (s p : ℕ) (hp : p < 2) :
    ((Finset.univ : Finset (Fin 2048)).filter fun j : Fin 2048 => (j : ℕ) % 2 = p).biUnion (fun j => hrow s ((j : ℕ) / 2)) = hslot s := by
  ext x
  simp only [Finset.mem_biUnion, Finset.mem_filter, Finset.mem_univ, _root_.true_and, mem_hrow, mem_hslot]
  constructor
  · rintro ⟨j, -, h, -⟩; exact h
  · intro h
    have hx : (x 1 : ℕ) < 1024 := (x 1).isLt
    exact ⟨⟨2 * (x 1 : ℕ) + p, by omega⟩, by show (2 * (x 1 : ℕ) + p) % 2 = p; omega, h, by show (x 1 : ℕ) = (2 * (x 1 : ℕ) + p) / 2; omega⟩

theorem parity_join (c : Dev nD) (s p : ℕ) (hp : p < 2) (hb : HBuf F) :
    bigSep ((Finset.univ : Finset (Fin 2048)).filter fun j : Fin 2048 => (j : ℕ) % 2 = p)
        (fun j => (HB.view.loc (c : Thread nD τ) ↦[hrow s ((j : ℕ) / 2)]{half ((j : ℕ) % 2)} hb : sProp 𝕄))
      = (HB.view.loc (c : Thread nD τ) ↦[hslot s]{half p} hb) := by
  have e : ∀ j ∈ (Finset.univ : Finset (Fin 2048)).filter (fun j : Fin 2048 => (j : ℕ) % 2 = p),
      (HB.view.loc (c : Thread nD τ) ↦[hrow s ((j : ℕ) / 2)]{half ((j : ℕ) % 2)} hb : sProp 𝕄)
        = (HB.view.loc (c : Thread nD τ) ↦[hrow s ((j : ℕ) / 2)]{half p} hb) := fun j hj => by
    rw [(Finset.mem_filter.mp hj).2]
  refine (BI.bigSep_congr e).trans ?_
  rw [← slot_of_parity s p hp]
  refine (pointsTo_biUnion _ _ ?_).symm
  intro j hj j' hj' hne
  rw [Finset.disjoint_left]
  intro x hx hx'
  have h1 := (Finset.mem_filter.mp hj).2
  have h2 := (Finset.mem_filter.mp hj').2
  have h3 := (mem_hrow.mp hx).2
  have h4 := (mem_hrow.mp hx').2
  exact hne (Fin.ext (by omega))

theorem taken_step {pl : ℕ → ℕ} {base : ℕ} :
    taken pl (base + 2048) = taken pl base ∪ (Finset.univ : Finset (Fin 2048)).biUnion (fun j => xrow (pl (base + (j : ℕ)))) := by
  ext x
  simp only [mem_taken, Finset.mem_union, Finset.mem_biUnion, Finset.mem_univ, _root_.true_and, mem_xrow]
  constructor
  · rintro ⟨k, hk, h⟩
    rcases Nat.lt_or_ge k base with hb | hb
    · exact .inl ⟨k, hb, h⟩
    · exact .inr ⟨⟨k - base, by omega⟩, by show (x 0 : ℕ) = pl (base + (k - base)); rw [Nat.add_sub_cancel' hb, h]⟩
  · rintro (⟨k, hk, h⟩ | ⟨j, h⟩)
    · exact ⟨k, by omega, h⟩
    · exact ⟨base + j, by have := j.isLt; omega, h.symm⟩

/-- WHAT A TILE'S COPIES BROUGHT: its rows of the result, and its slot back. -/
theorem collect {c : Dev nD} {s base : ℕ} {pl : ℕ → ℕ} {G : XBuf F} {hb : HBuf F}
    (hfresh : ∀ j < 2048, ∀ k < base + j, pl k ≠ pl (base + j)) :
    iprop(bigSep Finset.univ (delivered c s base pl G hb) ∗ (XB.view.loc (c : Thread nD τ) ↦[taken pl base]{fullShare} G))
      ⊢ iprop((XB.view.loc (c : Thread nD τ) ↦[taken pl (base + 2048)]{fullShare} G) ∗ (HB.view.loc (c : Thread nD τ) ↦[hslot s]{fullShare} hb)) := by
  have h1 : bigSep Finset.univ (delivered c s base pl G hb)
      = iprop(bigSep Finset.univ (fun j : Fin 2048 => (XB.view.loc (c : Thread nD τ) ↦[xrow (pl (base + (j : ℕ)))]{fullShare} G : sProp 𝕄))
        ∗ bigSep Finset.univ (fun j : Fin 2048 => (HB.view.loc (c : Thread nD τ) ↦[hrow s ((j : ℕ) / 2)]{half ((j : ℕ) % 2)} hb : sProp 𝕄))) :=
    BI.bigSep_sep _ _ _
  have h2 : bigSep Finset.univ (fun j : Fin 2048 => (HB.view.loc (c : Thread nD τ) ↦[hrow s ((j : ℕ) / 2)]{half ((j : ℕ) % 2)} hb : sProp 𝕄))
      = iprop((HB.view.loc (c : Thread nD τ) ↦[hslot s]{half 0} hb) ∗ (HB.view.loc (c : Thread nD τ) ↦[hslot s]{half 1} hb)) := by
    rw [BI.bigSep_filter_split _ (fun j : Fin 2048 => (j : ℕ) % 2 = 0), parity_join c s 0 (by omega) hb,
      show ((Finset.univ : Finset (Fin 2048)).filter fun j : Fin 2048 => ¬ (j : ℕ) % 2 = 0) = (Finset.univ.filter fun j : Fin 2048 => (j : ℕ) % 2 = 1) from
        Finset.filter_congr fun j _ => by omega, parity_join c s 1 (by omega) hb]
    rfl
  have h3 : bigSep Finset.univ (fun j : Fin 2048 => (XB.view.loc (c : Thread nD τ) ↦[xrow (pl (base + (j : ℕ)))]{fullShare} G : sProp 𝕄))
      = (XB.view.loc (c : Thread nD τ) ↦[(Finset.univ : Finset (Fin 2048)).biUnion (fun j => xrow (pl (base + (j : ℕ))))]{fullShare} G) := by
    refine (pointsTo_biUnion _ _ ?_).symm
    intro j _ j' _ hne
    rw [Finset.disjoint_left]
    intro x hx hx'
    have e1 := mem_xrow.mp hx
    have e2 := mem_xrow.mp hx'
    have hj := j.isLt
    have hj' := j'.isLt
    rcases Nat.lt_or_gt_of_ne (fun h => hne (Fin.ext h)) with h | h
    · exact hfresh j' hj' (base + j) (by omega) (e1.symm.trans e2)
    · exact hfresh j hj (base + j') (by omega) (e2.symm.trans e1)
  have hd : Disjoint (taken pl base) ((Finset.univ : Finset (Fin 2048)).biUnion (fun j => xrow (pl (base + (j : ℕ))))) := by
    rw [Finset.disjoint_left]
    intro x hx hx'
    obtain ⟨k, hk, e1⟩ := mem_taken.mp hx
    simp only [Finset.mem_biUnion, Finset.mem_univ, _root_.true_and] at hx'
    obtain ⟨j, hj⟩ := hx'
    have e2 : (x 0 : ℕ) = pl (base + (j : ℕ)) := mem_xrow.mp hj
    have hk' : k < base + (j : ℕ) := Nat.lt_of_lt_of_le hk (Nat.le_add_right _ _)
    exact hfresh (j : ℕ) j.isLt k hk' (e1.trans e2)
  rw [h1, h2, h3, taken_step]
  iintro ⟨⟨HX, HH⟩, HT⟩
  isplitl [HX HT]
  · iapply (pointsTo_union hd).2
    isplitl [HT]; · iexact HT
    iexact HX
  · iapply (half_join hb (hslot s) c).2
    iexact HH

end Cert.KernelIdeal.Dispatch

end
-- ==== Proof.Body.lean ====
/-
  The dispatch's body at one grid point: the tile after this one set on its way in, this tile waited for, its 2048
  copies issued, and the copies of the tile before it — at the last point this tile's own too — waited for.
-/
module

public import proofs.«01_k».proof.Proof.Flights

@[expose] public section

set_option maxRecDepth 16384

noncomputable section

namespace Cert.KernelIdeal.Dispatch

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type} [FloatOps F]

local notation "𝕄" => MT nD τ sig Unit (Elt F) ℕ (Pipeline.UD sig nD τ) ℕ

local notation "wpB" c => wp Idealize.ShloMosaic.frame (wpE (defs₀ (F := F)) Variants.none (c : Thread nD τ) none) Set.univ

/-! ## What is held between the points -/

/-- What the core owes, whatever the record of its waits. -/
def owing (c : Dev nD) : sProp 𝕄 := iprop(∃ W, owes (c : Thread nD τ) 0 W)

/-- The copies of tile `t` all in flight, the rows of the tiles before it at the final contents. -/
def flying (c : Dev nD) (H : HHBuf F) (G : XBuf F) (pl : ℕ → ℕ) (t : ℕ) : sProp 𝕄 :=
  iprop(Transfers.Batch EC (c : Thread nD τ) (.dma (rsem (t % 2))) () rowN (delivered c (t % 3) (2048 * t) pl G (tileOf H t)) 2048 0
    ∗ (XB.view.loc (c : Thread nD τ) ↦[taken pl (2048 * t)]{fullShare} G))

/-- The copies of the tile before tile `t`. -/
def before (c : Dev nD) (H : HHBuf F) (G : XBuf F) (pl : ℕ → ℕ) : ℕ → sProp 𝕄
  | 0 => iprop((XB.view.loc (c : Thread nD τ) ↦[taken pl 0]{fullShare} G) ∗ free c 2 ∗ idle c (rsem 1))
  | t + 1 => flying c H G pl t

/-- Those copies, and what they held, done with. -/
def landed (c : Dev nD) (G : XBuf F) (pl : ℕ → ℕ) (n s p : ℕ) : sProp 𝕄 :=
  iprop((XB.view.loc (c : Thread nD τ) ↦[taken pl n]{fullShare} G) ∗ free c s ∗ idle c (rsem p))

/-- `h`, and tile `t` of it on its way in — before the first point, not yet. -/
def incoming (c : Dev nD) (H : HHBuf F) (t : ℕ) : sProp 𝕄 :=
  if t = 0 then iprop((HH.view.loc (c : Thread nD τ) ↦[Finset.univ]{fullShare} H) ∗ free c 0 ∗ idle c (lsem 0))
  else iprop(loading c H (t % 3) t ∗ (HH.view.loc (c : Thread nD τ) ↦[Finset.univ \ tile t]{fullShare} H))

/-- `h`, and the tile after tile `t` on its way in — after the last, none. -/
def coming (c : Dev nD) (H : HHBuf F) (t : ℕ) : sProp 𝕄 :=
  if t < 15 then iprop(loading c H ((t + 1) % 3) (t + 1) ∗ (HH.view.loc (c : Thread nD τ) ↦[Finset.univ \ tile (t + 1)]{fullShare} H))
  else iprop((HH.view.loc (c : Thread nD τ) ↦[Finset.univ]{fullShare} H) ∗ free c ((t + 1) % 3) ∗ idle c (lsem ((t + 1) % 3)))

/-- What is held before point `t`; `t = 16`: after the last. -/
def held (c : Dev nD) (H : HHBuf F) (Z G : XBuf F) (pl : ℕ → ℕ) (t : ℕ) : sProp 𝕄 :=
  if t = 16 then
    iprop((HH.view.loc (c : Thread nD τ) ↦[Finset.univ]{fullShare} H) ∗ (XB.view.loc (c : Thread nD τ) ↦[Finset.univ]{fullShare} G)
      ∗ free c 0 ∗ free c 1 ∗ free c 2 ∗ idle c (lsem 0) ∗ idle c (lsem 1) ∗ idle c (lsem 2) ∗ idle c (rsem 0) ∗ idle c (rsem 1))
  else
    iprop(incoming c H t ∗ free c ((t + 1) % 3) ∗ idle c (lsem ((t + 1) % 3)) ∗ idle c (lsem ((t + 2) % 3)) ∗ idle c (rsem (t % 2))
      ∗ (XB.view.loc (c : Thread nD τ) ↦[untaken pl (2048 * t)]{fullShare} Z) ∗ before c H G pl t)

/-! ## Steps of ownership -/

/-- A branch that does something or nothing and goes on with `K`. -/
theorem branch_step {α : Type} {c : Dev nD} {p : Prop} [Decidable p] {A : p → Prog (TpuEff nD τ sig (Elt F) Λ₀ .tc) α}
    {K : Prog (TpuEff nD τ sig (Elt F) Λ₀ .tc) α} {R R' : sProp 𝕄} {Q : α → sProp 𝕄}
    (hA : ∀ h, R ⊢ iprop((R' -∗ (wpB c) K Q) -∗ (wpB c) (A h) Q)) (hB : ¬ p → R ⊢ R') :
    R ⊢ iprop((R' -∗ (wpB c) K Q) -∗ (wpB c) (dite p A (fun _ => K)) Q) := by
  by_cases h : p
  · rw [dif_pos h]; exact hA h
  · rw [dif_neg h]
    iintro HR Hk
    iapply Hk
    iapply (hB h) $$ HR

/-- One operation, then the rest. -/
theorem bind_step {α β : Type} {c : Dev nD} {p : Prog (TpuEff nD τ sig (Elt F) Λ₀ .tc) α} {k : α → Prog (TpuEff nD τ sig (Elt F) Λ₀ .tc) β} {Q : β → sProp 𝕄} :
    ((wpB c) p (fun a => (wpB c) (k a) Q)) ⊢ (wpB c) (p >>= k) Q :=
  Entails.of_eq (wp_bind ..).symm

theorem hrest_zero (s p : ℕ) : hrest s p 0 = hslot s := by
  ext x
  simp only [mem_hrest, mem_hslot, Nat.zero_le, and_true]

theorem hrest_all {s p : ℕ} (hp : p < 2) : hrest s p 2048 = ∅ := by
  ext x
  have hx : (x 1 : ℕ) < 1024 := (x 1).isLt
  simp only [mem_hrest, Finset.notMem_empty, iff_false]
  omega

/-- Before a tile's copies. -/
theorem start {c : Dev nD} {sm : DmaSem sig} {s base : ℕ} {pl : ℕ → ℕ} {Z G : XBuf F} {hb : HBuf F} :
    iprop(idle c sm ∗ (XB.view.loc (c : Thread nD τ) ↦[untaken pl base]{fullShare} Z) ∗ (HB.view.loc (c : Thread nD τ) ↦[hslot s]{fullShare} hb))
      ⊢ |={Set.univ}=> issuing c sm s base pl Z G hb 0 := by
  unfold idle issuing
  rw [hrest_zero, hrest_zero, Nat.add_zero]
  iintro ⟨Hs, HX, HH⟩
  imod (Transfers.batch_alloc' (Lvl := ℕ) EC (c : Thread nD τ) () rowN (delivered c s base pl G hb) (sm := .dma sm) (E := Set.univ)) $$ Hs with HB
  ihave HH' := (half_join hb (hslot s) c).1 $$ HH
  icases HH' with ⟨H0, H1⟩
  imodintro
  isplitl [HB]; · iexact HB
  isplitl [HX]; · iexact HX
  isplitl [H0]; · iexact H0
  iexact H1

/-- After them. -/
theorem issued {c : Dev nD} {sm : DmaSem sig} {s base : ℕ} {pl : ℕ → ℕ} {Z G : XBuf F} {hb : HBuf F} :
    issuing c sm s base pl Z G hb 2048
      ⊢ iprop(Transfers.Batch EC (c : Thread nD τ) (.dma sm) () rowN (delivered c s base pl G hb) 2048 0
        ∗ (XB.view.loc (c : Thread nD τ) ↦[untaken pl (base + 2048)]{fullShare} Z)) := by
  unfold issuing
  rw [hrest_all (by omega), hrest_all (by omega), pointsTo_empty, pointsTo_empty]
  iintro ⟨HB, HX, -, -⟩
  isplitl [HB]; · iexact HB
  iexact HX

/-- Before the waits for a tile's copies. -/
theorem drain_start {c : Dev nD} {sm : DmaSem sig} {s base : ℕ} {pl : ℕ → ℕ} {G : XBuf F} {hb : HBuf F} :
    iprop(Transfers.Batch EC (c : Thread nD τ) (.dma sm) () rowN (delivered c s base pl G hb) 2048 0 ∗ owing c)
      ⊢ draining c sm s base pl G hb 0 := by
  unfold draining owing
  rw [if_pos (by decide), Nat.zero_mul]

/-- After them. -/
theorem drained {c : Dev nD} {p s base : ℕ} {pl : ℕ → ℕ} {G : XBuf F} {hb : HBuf F}
    (hfresh : ∀ j < 2048, ∀ k < base + j, pl k ≠ pl (base + j)) :
    iprop(draining c (rsem p) s base pl G hb 2048 ∗ (XB.view.loc (c : Thread nD τ) ↦[taken pl base]{fullShare} G))
      ⊢ iprop(landed c G pl (base + 2048) s p ∗ owing c) := by
  unfold draining landed owing
  rw [if_neg (by decide)]
  iintro ⟨⟨⟨HD, Hs⟩, HW⟩, HX⟩
  ihave HC := (collect hfresh) $$ [HD HX]
  · isplitl [HD]; · iexact HD
    iexact HX
  icases HC with ⟨HX, HH⟩
  isplitr [HW]
  · isplitl [HX]; · iexact HX
    isplitl [HH]
    · unfold free; iexists _; iexact HH
    iexact Hs
  iexact HW

theorem tile_disjoint (t : ℕ) : Disjoint (tile t) ((Finset.univ \ tile t) \ tile (t + 1)) := by
  rw [Finset.disjoint_left]
  intro x hx hx'
  simp only [Finset.mem_sdiff, Finset.mem_univ, _root_.true_and] at hx'
  exact hx'.1 hx

theorem tile_back (t : ℕ) : tile t ∪ ((Finset.univ \ tile t) \ tile (t + 1)) = Finset.univ \ tile (t + 1) := by
  ext x
  simp only [Finset.mem_union, Finset.mem_sdiff, Finset.mem_univ, _root_.true_and, mem_tile]
  omega

theorem tile_next (t : ℕ) : tile (t + 1) ⊆ Finset.univ \ tile t := by
  intro x
  simp only [Finset.mem_sdiff, Finset.mem_univ, _root_.true_and, mem_tile]
  omega

/-! ## The body up to its loop -/

theorem cond1_iff : ∀ i : grid0.Coords,
    Scalar.cmpi .ne (Scalar.extui (Scalar.cmpi .eq (BitVec.ofNat 32 (i 0).val) 0#32) : BitVec 32) 0#32 = 1#1 ↔ (i 0 : ℕ) = 0 :=
  of_coord (h := by decide +kernel)
theorem thisSlot : ∀ i : grid0.Coords, k0_off5 i = ![(i 0 : ℕ) % 3, 0, 0] := of_coord (h := by decide +kernel)
theorem thisTile : ∀ i : grid0.Coords, k0_off6 i = ![1024 * (i 0 : ℕ), 0] := of_coord (h := by decide +kernel)

/-- The tile waited for goes back to `h`. -/
theorem coming_intro {c : Dev nD} {H : HHBuf F} {t : ℕ} :
    iprop((if t < 15 then iprop(loading c H ((t + 1) % 3) (t + 1)
          ∗ (HH.view.loc (c : Thread nD τ) ↦[(Finset.univ \ tile t) \ tile (t + 1)]{fullShare} H))
        else iprop((HH.view.loc (c : Thread nD τ) ↦[Finset.univ \ tile t]{fullShare} H) ∗ free c ((t + 1) % 3) ∗ idle c (lsem ((t + 1) % 3))))
        ∗ (HH.view.loc (c : Thread nD τ) ↦[tile t]{fullShare} H))
      ⊢ coming c H t := by
  unfold coming
  by_cases h0 : t < 15
  · rw [if_pos h0, if_pos h0, ← tile_back]
    iintro ⟨⟨HL, HH⟩, HT⟩
    isplitl [HL]; · iexact HL
    iapply (pointsTo_union (tile_disjoint t)).2
    isplitl [HT]; · iexact HT
    iexact HH
  · rw [if_neg h0, if_neg h0]
    iintro ⟨⟨HH, HF, HS⟩, HT⟩
    isplitl [HT HH]
    · iapply (pointsTo_split_subset (Finset.subset_univ (tile t))).2
      isplitl [HT]; · iexact HT
      iexact HH
    isplitl [HF]; · iexact HF
    iexact HS

/-- THE LOADS: this tile's waited for, the next one's in flight. -/
theorem loads (c : Dev nD) (i : grid0.Coords) (arg1 : Memref sig .tc .smem S1x1x1024 .i32) (harg1 : arg1.IsWhole)
    (arg2 : Memref sig .tc .smem S1x1x1024 .i32) (harg2 : arg2.IsWhole) {H : HHBuf F}
    {Q : (Σ' (_ : BitVec 32) (_ : BitVec 32) (_ : BitVec 32), BitVec 32) → sProp 𝕄} :
    iprop(incoming c H (i 0) ∗ free c (((i 0 : ℕ) + 1) % 3) ∗ idle c (lsem (((i 0 : ℕ) + 1) % 3)) ∗ owing c)
      ⊢ iprop((∀ r, iprop(coming c H (i 0) ∗ (HB.view.loc (c : Thread nD τ) ↦[hslot ((i 0 : ℕ) % 3)]{fullShare} tileOf H (i 0))
            ∗ idle c (lsem ((i 0 : ℕ) % 3)) ∗ owing c) -∗ Q r)
          -∗ (wpB c) (k0_part9 (F := F) i arg1 harg1 arg2 harg2 HH (Memref.isWhole_whole _) XB (Memref.isWhole_whole _)
            XB (Memref.isWhole_whole _) HB (Memref.isWhole_whole _) cc0_scratch1 cc0_scratch2) Q) := by
  have hi : (i 0 : ℕ) < 16 := (i 0).isLt
  rw [k0_part9_eq_skeleton]
  unfold k0_part9_skel
  dsimp only
  iintro ⟨HI, HF, HS, HW⟩ Hk
  iapply (branch_step (R := incoming c H (i 0))
    (R' := iprop(loading c H ((i 0 : ℕ) % 3) (i 0) ∗ (HH.view.loc (c : Thread nD τ) ↦[Finset.univ \ tile (i 0)]{fullShare} H)))
    (hA := ?a1) (hB := ?b1)) $$ HI
  case a1 =>
    intro h
    have h0 : (i 0 : ℕ) = 0 := (cond1_iff i).mp h
    unfold incoming
    rw [if_pos h0, h0]
    iintro ⟨HH, HF, HS⟩ Hk
    ihave HH' := (pointsTo_split_subset (Finset.subset_univ (tile 0))).1 $$ HH
    icases HH' with ⟨HT, HH⟩
    iapply bind_step
    iapply (load_lift (t := 0) rfl rfl (sem_loads rfl _)) $$ [HF HT HS]
    · isplitl [HF]; · iexact HF
      isplitl [HT]; · iexact HT
      iexact HS
    iintro HL
    iapply Hk
    isplitl [HL]; · iexact HL
    iexact HH
  case b1 =>
    intro h
    have h0 : ¬ (i 0 : ℕ) = 0 := fun h0 => h ((cond1_iff i).mpr h0)
    unfold incoming
    rw [if_neg h0]
  iintro ⟨HL, HH⟩
  iapply (branch_step
    (R := iprop((HH.view.loc (c : Thread nD τ) ↦[Finset.univ \ tile (i 0)]{fullShare} H) ∗ free c (((i 0 : ℕ) + 1) % 3) ∗ idle c (lsem (((i 0 : ℕ) + 1) % 3))))
    (R' := if (i 0 : ℕ) < 15 then iprop(loading c H (((i 0 : ℕ) + 1) % 3) ((i 0 : ℕ) + 1)
        ∗ (HH.view.loc (c : Thread nD τ) ↦[(Finset.univ \ tile (i 0)) \ tile ((i 0 : ℕ) + 1)]{fullShare} H))
      else iprop((HH.view.loc (c : Thread nD τ) ↦[Finset.univ \ tile (i 0)]{fullShare} H) ∗ free c (((i 0 : ℕ) + 1) % 3) ∗ idle c (lsem (((i 0 : ℕ) + 1) % 3))))
    (hA := ?a2) (hB := ?b2)) $$ [HH HF HS]
  case a2 =>
    intro h
    have h0 : (i 0 : ℕ) < 15 := (cond2_iff i).mp h
    rw [if_pos h0]
    iintro ⟨HH, HF, HS⟩ Hk
    ihave HH' := (pointsTo_split_subset (tile_next (i 0))).1 $$ HH
    icases HH' with ⟨HT, HH⟩
    iapply bind_step
    iapply (load_lift (t := (i 0 : ℕ) + 1) (nextTile i) (nextSlot i) (sem_loads (nextCell i) _)) $$ [HF HT HS]
    · isplitl [HF]; · iexact HF
      isplitl [HT]; · iexact HT
      iexact HS
    iintro HL
    iapply Hk
    isplitl [HL]; · iexact HL
    iexact HH
  case b2 =>
    intro h
    have h0 : ¬ (i 0 : ℕ) < 15 := fun h0 => h ((cond2_iff i).mpr h0)
    rw [if_neg h0]
  · isplitl [HH]; · iexact HH
    isplitl [HF]; · iexact HF
    iexact HS
  iintro HN
  rw [wp_bind]
  iapply (load_wait (s := (i 0 : ℕ) % 3) (t := (i 0 : ℕ)) (H := H) (sem_loads (thisCell i) _)) $$ [HL HW]
  · isplitl [HL]; · iexact HL
    unfold owing
    iexact HW
  iintro ⟨HB, HT, HS, HW⟩
  rw [wp_pure]
  imodintro
  iapply Hk
  isplitl [HN HT]
  · iapply coming_intro
    isplitl [HN]; · iexact HN
    iexact HT
  isplitl [HB]; · iexact HB
  isplitl [HS]; · iexact HS
  unfold owing
  iexact HW

/-! ## After its loop -/

/-- What the last point leaves of its own copies. -/
def settled (c : Dev nD) (H : HHBuf F) (G : XBuf F) (pl : ℕ → ℕ) (t : ℕ) : sProp 𝕄 :=
  if t = 15 then landed c G pl (2048 * t + 2048) (t % 3) (t % 2) else flying c H G pl t

/-- What the points hold, before the next. -/
theorem held_next {c : Dev nD} {H : HHBuf F} {Z G : XBuf F} {pl : ℕ → ℕ} {t : ℕ} (ht : t < 16) (hZ : ∀ x ∈ untaken pl 32768, Z x = G x) :
    iprop(coming c H t ∗ free c ((t + 2) % 3) ∗ idle c (lsem (t % 3)) ∗ idle c (lsem ((t + 2) % 3)) ∗ idle c (rsem ((t + 1) % 2))
        ∗ (XB.view.loc (c : Thread nD τ) ↦[untaken pl (2048 * t + 2048)]{fullShare} Z) ∗ settled c H G pl t)
      ⊢ held c H Z G pl (t + 1) := by
  rcases Nat.lt_or_ge t 15 with h | h
  · unfold held coming settled incoming before
    rw [if_pos h, if_neg (show ¬ t = 15 by omega), if_neg (show ¬ t + 1 = 16 by omega), if_neg (show ¬ t + 1 = 0 by omega)]
    rw [show t + 1 + 1 = t + 2 from rfl, show (t + 1 + 2) % 3 = t % 3 from by omega]
    iintro ⟨HC, HF, HS0, HS2, HR, HX, HB⟩
    isplitl [HC]; · iexact HC
    isplitl [HF]; · iexact HF
    isplitl [HS2]; · iexact HS2
    isplitl [HS0]; · iexact HS0
    isplitl [HR]; · iexact HR
    isplitl [HX]; · iexact HX
    iexact HB
  · obtain rfl : t = 15 := by omega
    unfold held coming settled landed
    rw [if_neg (show ¬ 15 < 15 by omega), if_pos rfl, if_pos rfl]
    have hu : taken pl 32768 ∪ untaken pl 32768 = Finset.univ := by
      ext x
      simp only [Finset.mem_union, mem_taken, mem_untaken, Finset.mem_univ, iff_true]
      by_cases hx : ∃ k < 32768, pl k = (x 0 : ℕ)
      · exact .inl hx
      · exact .inr fun k hk he => hx ⟨k, hk, he⟩
    have hd : Disjoint (taken pl 32768) (untaken pl 32768) := by
      rw [Finset.disjoint_left]
      intro x hx hx'
      obtain ⟨k, hk, he⟩ := mem_taken.mp hx
      exact mem_untaken.mp hx' k hk he
    have hg : (XB.view.loc (c : Thread nD τ) ↦[untaken pl 32768]{fullShare} Z : sProp 𝕄) = (XB.view.loc (c : Thread nD τ) ↦[untaken pl 32768]{fullShare} G) :=
      pointsTo_congr hZ
    have hj : iprop((XB.view.loc (c : Thread nD τ) ↦[taken pl 32768]{fullShare} G) ∗ (XB.view.loc (c : Thread nD τ) ↦[untaken pl 32768]{fullShare} Z))
        ⊢ (XB.view.loc (c : Thread nD τ) ↦[Finset.univ]{fullShare} G : sProp 𝕄) := by
      rw [hg, ← hu]
      exact (pointsTo_union hd).2
    rw [show 2048 * 15 + 2048 = 32768 from rfl]
    iintro ⟨⟨HH, HF1, HS1⟩, HF2, HS0, HS2, HR0, HX, ⟨HT, HF0, HR1⟩⟩
    isplitl [HH]; · iexact HH
    isplitl [HT HX]
    · iapply hj
      isplitl [HT]; · iexact HT
      iexact HX
    isplitl [HF0]; · iexact HF0
    isplitl [HF1]; · iexact HF1
    isplitl [HF2]; · iexact HF2
    isplitl [HS0]; · iexact HS0
    isplitl [HS1]; · iexact HS1
    isplitl [HS2]; · iexact HS2
    isplitl [HR0]; · iexact HR0
    iexact HR1

/-- What is held before a point, taken apart. -/
theorem held_open {c : Dev nD} {H : HHBuf F} {Z G : XBuf F} {pl : ℕ → ℕ} {t : ℕ} (ht : t < 16) :
    held c H Z G pl t ⊢ iprop(incoming c H t ∗ free c ((t + 1) % 3) ∗ idle c (lsem ((t + 1) % 3)) ∗ idle c (lsem ((t + 2) % 3)) ∗ idle c (rsem (t % 2))
      ∗ (XB.view.loc (c : Thread nD τ) ↦[untaken pl (2048 * t)]{fullShare} Z) ∗ before c H G pl t) := by
  unfold held
  rw [if_neg (by omega)]

/-- What every point relies on. -/
structure Plan (D1 D2 : ℕ → S1x1x1024.Idx → Elt F .i32) (H : HHBuf F) (Z G : XBuf F) (pl : ℕ → ℕ) : Prop where
  tiles : ∀ t < 16, Tile (D1 t) (D2 t) (t % 3) (2048 * t) pl G (tileOf H t)
  rest : ∀ x ∈ untaken pl 32768, Z x = G x

theorem landed_open {c : Dev nD} {G : XBuf F} {pl : ℕ → ℕ} {n s p : ℕ} :
    landed c G pl n s p ⊢ iprop((XB.view.loc (c : Thread nD τ) ↦[taken pl n]{fullShare} G) ∗ free c s ∗ idle c (rsem p)) := .rfl

/-- THE BODY at one grid point. -/
theorem body (c : Dev nD) (i : grid0.Coords) (arg1 : Memref sig .tc .smem S1x1x1024 .i32) (harg1 : arg1.IsWhole)
    (arg2 : Memref sig .tc .smem S1x1x1024 .i32) (harg2 : arg2.IsWhole) {D1 D2 : ℕ → S1x1x1024.Idx → Elt F .i32} {H : HHBuf F} {Z G : XBuf F} {pl : ℕ → ℕ}
    (P : Plan D1 D2 H Z G pl) {Q : PUnit → sProp 𝕄} :
    iprop(held c H Z G pl (i 0) ∗ owing c ∗ owns (c : Thread nD τ) arg1 fullShare (D1 (i 0)) ∗ owns (c : Thread nD τ) arg2 fullShare (D2 (i 0)))
      ⊢ iprop((iprop(held c H Z G pl ((i 0 : ℕ) + 1) ∗ owing c ∗ owns (c : Thread nD τ) arg1 fullShare (D1 (i 0)) ∗ owns (c : Thread nD τ) arg2 fullShare (D2 (i 0)))
            -∗ Q ⟨⟩)
          -∗ (wpB c) (cc0_moe_dispatch (F := F) i arg1 harg1 arg2 harg2 HH (Memref.isWhole_whole _) XB (Memref.isWhole_whole _)
            XB (Memref.isWhole_whole _) HB (Memref.isWhole_whole _) cc0_scratch1 cc0_scratch2) Q) := by
  have hi : (i 0 : ℕ) < 16 := (i 0).isLt
  rw [cc0_moe_dispatch_eq_skeleton]
  unfold cc0_moe_dispatch_skel
  iintro ⟨HD, HW, H1, H2⟩ Hk
  ihave HD' := (held_open hi) $$ HD
  icases HD' with ⟨HI, HF, HS1, HS2, HR, HX, HB⟩
  iapply bind_step
  iapply (loads c i arg1 harg1 arg2 harg2 (H := H)) $$ [HI HF HS1 HW]
  · isplitl [HI]; · iexact HI
    isplitl [HF]; · iexact HF
    isplitl [HS1]; · iexact HS1
    iexact HW
  iintro %r ⟨HC, HH, HS0, HW⟩
  rcases r with ⟨r0, r1, r2, r3⟩
  dsimp only
  imod (start (s := (i 0 : ℕ) % 3) (base := 2048 * (i 0 : ℕ)) (pl := pl) (Z := Z) (G := G) (hb := tileOf H (i 0)) (sm := rsem ((i 0 : ℕ) % 2))) $$ [HR HX HH] with HJ
  · isplitl [HR]; · iexact HR
    isplitl [HX]; · iexact HX
    iexact HH
  iapply bind_step
  iapply (copies c i arg1 harg1 arg2 harg2 (P.tiles _ hi) r2 r3) $$ [HJ H1 H2]
  · isplitl [HJ]; · iexact HJ
    isplitl [H1]; · iexact H1
    iexact H2
  iintro ⟨HJ, H1, H2⟩
  ihave HJ' := issued $$ HJ
  icases HJ' with ⟨HJ, HX⟩
  iapply (branch_step (R := iprop(before c H G pl (i 0) ∗ owing c))
    (R' := iprop(landed c G pl (2048 * (i 0 : ℕ)) (((i 0 : ℕ) + 2) % 3) (((i 0 : ℕ) + 1) % 2) ∗ owing c)) (hA := ?a1) (hB := ?b1)) $$ [HB HW]
  case a1 =>
    intro h
    have h0 : 0 < (i 0 : ℕ) := (cond3_iff i).mp h
    obtain ⟨u, hu⟩ : ∃ u, (i 0 : ℕ) = u + 1 := ⟨(i 0 : ℕ) - 1, by omega⟩
    have e1 : ((i 0 : ℕ) + 1) % 2 = u % 2 := by omega
    have e2 : ((i 0 : ℕ) + 2) % 3 = u % 3 := by omega
    have e3 : 2048 * (i 0 : ℕ) = 2048 * u + 2048 := by omega
    have hw := fun Q => drain_prev c i arg1 harg1 arg2 harg2 h (s := u % 3) (base := 2048 * u) (pl := pl) (G := G) (hb := tileOf H u) (Q := Q)
    rw [e1] at hw
    rw [e1, e2, e3, hu]
    unfold before flying
    iintro ⟨⟨HB, HT⟩, HW⟩ Hk
    iapply bind_step
    iapply (hw _) $$ [HB HW]
    · iapply drain_start
      isplitl [HB]; · iexact HB
      iexact HW
    iintro HB
    iapply Hk
    iapply (drained (P.tiles u (by omega)).fresh)
    isplitl [HB]; · iexact HB
    iexact HT
  case b1 =>
    intro h
    have h0 : (i 0 : ℕ) = 0 := Nat.eq_zero_of_not_pos fun h0 => h ((cond3_iff i).mpr h0)
    rw [h0]
    exact .rfl
  · isplitl [HB]; · iexact HB
    iexact HW
  iintro ⟨HL, HW⟩
  ihave HL' := landed_open $$ HL
  icases HL' with ⟨HT, HF, HR⟩
  iapply (branch_step (R := iprop(flying c H G pl (i 0) ∗ owing c)) (R' := iprop(settled c H G pl (i 0) ∗ owing c)) (hA := ?a2) (hB := ?b2)) $$ [HJ HT HW]
  case a2 =>
    intro h
    have h0 : (i 0 : ℕ) = 15 := (cond4_iff i).mp h
    unfold settled flying
    rw [if_pos h0]
    iintro ⟨⟨HB, HT⟩, HW⟩ Hk
    iapply bind_step
    iapply (drain_last c i arg1 harg1 arg2 harg2 h (s := (i 0 : ℕ) % 3) (base := 2048 * (i 0 : ℕ)) (pl := pl) (G := G) (hb := tileOf H (i 0))) $$ [HB HW]
    · iapply drain_start
      isplitl [HB]; · iexact HB
      iexact HW
    iintro HB
    iapply Hk
    iapply (drained (P.tiles _ hi).fresh)
    isplitl [HB]; · iexact HB
    iexact HT
  case b2 =>
    intro h
    have h0 : ¬ (i 0 : ℕ) = 15 := fun h0 => h ((cond4_iff i).mpr h0)
    unfold settled
    rw [if_neg h0]
  · isplitr [HW]
    · unfold flying
      isplitl [HJ]; · iexact HJ
      iexact HT
    iexact HW
  iintro ⟨HB, HW⟩
  rw [wp_pure]
  imodintro
  iapply Hk
  isplitr [HW H1 H2]
  · iapply (held_next hi P.rest)
    isplitl [HC]; · iexact HC
    isplitl [HF]; · iexact HF
    isplitl [HS0]; · iexact HS0
    isplitl [HS2]; · iexact HS2
    isplitl [HR]; · iexact HR
    isplitl [HX]; · iexact HX
    iexact HB
  isplitl [HW]; · iexact HW
  isplitl [H1]; · iexact H1
  iexact H2

end Cert.KernelIdeal.Dispatch

end
-- ==== Proof.Run.lean ====
/-
  The dispatch's run: what the two index windows hold at each grid point, the body at every point, and the launch.
  From any memory in which the two index arrays have a `Plan`, the program ends with the argument arrays as they were,
  the planned contents `G` in the result, and every semaphore at zero.
-/
module

public import proofs.«01_k».proof.Proof.Body
public import proofs.«01_k».proof.Proof.Gen.KernelIdeal.Frame
public import Idealize.ShloMosaic.Lib.Pipeline.KitQuiescent
public import Idealize.ShloMosaic.Lib.StableHlo.Run

@[expose] public section

set_option maxRecDepth 16384

noncomputable section

namespace Cert.KernelIdeal.Dispatch

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## What the windows hold -/

/-- An index array's tile `t` of 1024 tokens, as the windows stage it. -/
def words (d : S16384.Idx → Elt F .i32) (t : ℕ) : S1x1x1024.Idx → Elt F .i32 :=
  fun x => d (ix1 ⟨(1024 * t + (x 2 : ℕ)) % 16384, Nat.mod_lt _ (by decide)⟩)

/-- The tokens' first destinations, their second ones, and their rows, as launched. -/
abbrev dst1 (c : Dev nD) : S16384.Idx → Elt F .i32 := m ((c : Thread nD τ).loc main_arg0)
abbrev dst2 (c : Dev nD) : S16384.Idx → Elt F .i32 := m ((c : Thread nD τ).loc main_arg1)
abbrev toks (c : Dev nD) : HHBuf F := m ((c : Thread nD τ).loc main_arg2)
/-- The result's zeros, as the host leaves them. -/
abbrev zeros (c : Dev nD) : XBuf F := V m c main_v0

theorem point_coord : ∀ t : Fin cfg0.N, (cfg0.grid.coords t 0 : ℕ) = t := by decide +kernel

theorem block_index0 : ∀ t : Fin cfg0.N, cc0_transform_0 (cfg0.grid.coords t) = ![(t : ℕ), 0, 0] := by decide +kernel
theorem block_index1 : ∀ t : Fin cfg0.N, cc0_transform_1 (cfg0.grid.coords t) = ![(t : ℕ), 0, 0] := by decide +kernel

theorem V_v1 (c : Dev nD) : V m c main_v1 = shapeCast S16x1x1024 (dst1 m c) shapeCasts_S16384_S16x1x1024 := by
  unfold V hostOps0
  after_results
  rfl

theorem V_v2 (c : Dev nD) : V m c main_v2 = shapeCast S16x1x1024 (dst2 m c) shapeCasts_S16384_S16x1x1024 := by
  unfold V hostOps0
  after_results
  rfl

theorem cast_words (d : S16384.Idx → Elt F .i32) (t : ℕ) (y : S16x1x1024.Idx) (x : S1x1x1024.Idx) (h0 : (y 0 : ℕ) = t) (h2 : (y 2 : ℕ) = x 2) :
    shapeCast S16x1x1024 d shapeCasts_S16384_S16x1x1024 y = words d t x := by
  unfold words
  refine shapeCast_apply d _ y _ ?_
  have hy0 : (y 0 : ℕ) < 16 := (y 0).isLt
  have hy1 : (y 1 : ℕ) < 1 := (y 1).isLt
  have hx : (x 2 : ℕ) < 1024 := (x 2).isLt
  rw [Shape.rowMajor_val_one, Shape.rowMajor_val_three]
  show (1024 * t + (x 2 : ℕ)) % 16384 = ((y 0 : ℕ) * 1 + (y 1 : ℕ)) * 1024 + (y 2 : ℕ)
  omega

theorem iblk0 (c : Dev nD) (t : Fin cfg0.N) : iblk m c 0 t = words (dst1 m c) t := by
  funext x
  show V m c main_v1 (((cfg0.win 0).blk t).view.emb x) = _
  rw [V_v1]
  have hx : (x 0 : ℕ) < 1 := (x 0).isLt
  have h := block_index0 t
  refine cast_words _ _ _ _ ?_ ?_
  · show cc0_transform_0 (cfg0.grid.coords t) 0 * 1 + 1 * (x 0 : ℕ) = t
    rw [h]
    show (t : ℕ) * 1 + 1 * (x 0 : ℕ) = t
    omega
  · show cc0_transform_0 (cfg0.grid.coords t) 2 * 1024 + 1 * (x 2 : ℕ) = x 2
    rw [h]
    show 0 * 1024 + 1 * (x 2 : ℕ) = x 2
    omega

theorem iblk1 (c : Dev nD) (t : Fin cfg0.N) : iblk m c 1 t = words (dst2 m c) t := by
  funext x
  show V m c main_v2 (((cfg0.win 1).blk t).view.emb x) = _
  rw [V_v2]
  have hx : (x 0 : ℕ) < 1 := (x 0).isLt
  have h := block_index1 t
  refine cast_words _ _ _ _ ?_ ?_
  · show cc0_transform_1 (cfg0.grid.coords t) 0 * 1 + 1 * (x 0 : ℕ) = t
    rw [h]
    show (t : ℕ) * 1 + 1 * (x 0 : ℕ) = t
    omega
  · show cc0_transform_1 (cfg0.grid.coords t) 2 * 1024 + 1 * (x 2 : ℕ) = x 2
    rw [h]
    show 0 * 1024 + 1 * (x 2 : ℕ) = x 2
    omega

/-! ## The body at every point -/

variable (G : Dev nD → XBuf F) (pl : Dev nD → ℕ → ℕ)

/-- The pipeline's data: the two index arrays, left as they are; between the points, what the dispatch holds. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
  Φ t := iprop(held c (toks m c) (zeros m c) (G c) (pl c) t ∗ ∃ r, prngReg c r)
  q _ := fullShare
  owed _ := 0

theorem A_eq (c : Dev nD) (w : Fin cfg0.W) : (dats m G pl 0 c).A w = V m c (Pipeline.arrRef spec0 w) := by dsimp only [dats]
theorem after0 (c : Dev nD) (t : Fin cfg0.N) : (dats m G pl 0 c).after 0 t = iblk m c 0 t := by dsimp only [dats]
theorem after1 (c : Dev nD) (t : Fin cfg0.N) : (dats m G pl 0 c).after 1 t = iblk m c 1 t := by dsimp only [dats]

theorem before0 (c : Dev nD) (t : Fin cfg0.N) (d) : (dats m G pl 0 c).before 0 t d = iblk m c 0 t :=
  ((dats m G pl 0 c).before_in_eq_fetched 0 rfl (fun _ => rfl) (fun _ _ _ => rfl)
    (fun t => by rw [after0]; unfold Dat.blockOf iblk; rw [A_eq]) t d).trans (by unfold Dat.fetched Dat.blockOf iblk; rw [A_eq]; rfl)
theorem before1 (c : Dev nD) (t : Fin cfg0.N) (d) : (dats m G pl 0 c).before 1 t d = iblk m c 1 t :=
  ((dats m G pl 0 c).before_in_eq_fetched 1 rfl (fun _ => rfl) (fun _ _ _ => rfl)
    (fun t => by rw [after1]; unfold Dat.blockOf iblk; rw [A_eq]) t d).trans (by unfold Dat.fetched Dat.blockOf iblk; rw [A_eq]; rfl)

def bodyPre (c : Dev nD) (t : Fin cfg0.N) : sProp 𝕄 :=
  iprop((dats m G pl 0 c).Φ t.castSucc ∗ (dats m G pl 0 c).owesAt () t.castSucc
    ∗ (∃ d, owns (c : Thread nD τ) (st0_0 t) fullShare ((dats m G pl 0 c).before 0 t d))
    ∗ (∃ d, owns (c : Thread nD τ) (st0_1 t) fullShare ((dats m G pl 0 c).before 1 t d)))
def bodyPost (c : Dev nD) (t : Fin cfg0.N) : sProp 𝕄 :=
  iprop((dats m G pl 0 c).Φ t.succ ∗ (dats m G pl 0 c).owesAt () t.succ
    ∗ owns (c : Thread nD τ) (st0_0 t) fullShare ((dats m G pl 0 c).after 0 t)
    ∗ owns (c : Thread nD τ) (st0_1 t) fullShare ((dats m G pl 0 c).after 1 t))

theorem sound_body (hP : ∀ c, Plan (words (dst1 m c)) (words (dst2 m c)) (toks m c) (zeros m c) (G c) (pl c)) (c : Dev nD) (t : Fin cfg0.N) :
    bodyPre m G pl c t ⊢ wp frame (wpE (defs₀ (F := F)) Variants.none (c : Thread nD τ) none) Set.univ (bodyAt0 t) (fun _ => bodyPost m G pl c t) := by
  unfold bodyPre bodyPost bodyAt0
  rw [show (dats m G pl 0 c).Φ t.castSucc = iprop(held c (toks m c) (zeros m c) (G c) (pl c) (cfg0.grid.coords t 0 : ℕ) ∗ ∃ r, prngReg c r) from by
      rw [point_coord]; rfl,
    show (dats m G pl 0 c).Φ t.succ = iprop(held c (toks m c) (zeros m c) (G c) (pl c) ((cfg0.grid.coords t 0 : ℕ) + 1) ∗ ∃ r, prngReg c r) from by
      rw [point_coord]; rfl]
  simp only [before0, before1, after0, after1, iblk0, iblk1]
  rw [show words (dst1 m c) (t : ℕ) = words (dst1 m c) (cfg0.grid.coords t 0 : ℕ) from by rw [point_coord],
    show words (dst2 m c) (t : ℕ) = words (dst2 m c) (cfg0.grid.coords t 0 : ℕ) from by rw [point_coord]]
  unfold Dat.owesAt Pipeline.owesWithin
  rw [show (dats m G pl 0 c).owed t.castSucc = 0 from rfl, show (dats m G pl 0 c).owed t.succ = 0 from rfl]
  iintro ⟨⟨HD, Hg⟩, ⟨%W, -, HW⟩, ⟨%d0, H0⟩, ⟨%d1, H1⟩⟩
  iapply (body c (cfg0.grid.coords t) _ _ _ _ (hP c)) $$ [HD HW H0 H1]
  · isplitl [HD]; · iexact HD
    isplitl [HW]
    · unfold owing; iexists W; iexact HW
    isplitl [H0]; · iexact H0
    iexact H1
  iintro ⟨HD, HW, H0, H1⟩
  isplitl [HD Hg]
  · isplitl [HD]; · iexact HD
    iexact Hg
  isplitl [HW]
  · ihave HW' := (show owing (F := F) c ⊢ iprop(∃ W, owes (c : Thread nD τ) 0 W) from .rfl) $$ HW
    icases HW' with ⟨%W', HW'⟩
    iexists W'; isplitr; · ipureintro; exact fun _ _ => Or.inl trivial
    iexact HW'
  isplitl [H0]; · iexact H0
  iexact H1

theorem defs₀_row (t : Fin cfg0.N) :
    defs₀ (F := F) .tc cfg0.body (cfg0.bodyArgs t (cfg0.slots t)) = bodyAt0 t := by
  unfold defs₀; rw [Defs.onTc_tc]

theorem body_obligation (hP : ∀ c, Plan (words (dst1 m c)) (words (dst2 m c)) (toks m c) (zeros m c) (G c) (pl c)) (c : Dev nD) :
    BodyObligation (dats m G pl 0 c) (defs₀ (F := F)) Variants.none () Set.univ := fun t => by
  rw [bigSep_W0, bigSep_W0, defs₀_row]
  exact triple_restated (sound_body m G pl hP c t) rfl .rfl fun _ => .rfl

/-! ## The launch -/

/-- The kernel's own semaphores: three for the tiles on their way in, two for the rows on their way out. -/
def osem : Fin 5 → SemLoc sig := ![.dma (lsem 0), .dma (lsem 1), .dma (lsem 2), .dma (rsem 0), .dma (rsem 1)]

theorem ownSemFacts : Pipeline.OwnSemFacts spec0 osem := by decide

theorem ownSems_eq (c : Dev nD) :
    (Pipeline.ownSems0 (Ix := Unit) (Name := ℕ) (U := Pipeline.UD sig nD τ) (Lvl := ℕ) (Val := Elt F) (τ := τ) osem c : sProp 𝕄)
      = iprop(idle c (lsem 0) ∗ idle c (lsem 1) ∗ idle c (lsem 2) ∗ idle c (rsem 0) ∗ idle c (rsem 1)) :=
  Pipeline.ownSems0_eq_of_list c osem [0, 1, 2, 3, 4] (by decide) (by decide)

theorem slots_univ : (Finset.univ : Finset S3x1024x512.Idx) = hslot 0 ∪ (hslot 1 ∪ hslot 2) := by
  ext x
  have hx : (x 0 : ℕ) < 3 := (x 0).isLt
  simp only [Finset.mem_union, Finset.mem_univ, mem_hslot, true_iff]
  omega

theorem slots_disjoint1 : Disjoint (hslot 1) (hslot 2) := by
  rw [Finset.disjoint_left]
  intro x h h'
  rw [mem_hslot] at h h'
  omega

theorem slots_disjoint0 : Disjoint (hslot 0) (hslot 1 ∪ hslot 2) := by
  rw [Finset.disjoint_left]
  intro x h h'
  rw [Finset.mem_union] at h'
  simp only [mem_hslot] at h h'
  omega

/-- The scratch whole is its three slots. -/
theorem slots_split (c : Dev nD) (f : HBuf F) :
    (HB.view.loc (c : Thread nD τ) ↦{fullShare} f : sProp 𝕄) ⊢ iprop(free c 0 ∗ free c 1 ∗ free c 2) := by
  rw [show (Finset.univ : Finset S3x1024x512.Idx) = hslot 0 ∪ (hslot 1 ∪ hslot 2) from slots_univ]
  refine (pointsTo_union slots_disjoint0).1.trans ?_
  unfold free
  iintro ⟨H0, H12⟩
  ihave H := (pointsTo_union slots_disjoint1).1 $$ H12
  icases H with ⟨H1, H2⟩
  isplitl [H0]; · iexists f; iexact H0
  isplitl [H1]; · iexists f; iexact H1
  iexists f; iexact H2

theorem slots_join (c : Dev nD) : iprop(free (F := F) c 0 ∗ free c 1 ∗ free c 2) ⊢ (iprop(∃ f : HBuf F, HB.view.loc (c : Thread nD τ) ↦{fullShare} f) : sProp 𝕄) := by
  unfold free
  iintro ⟨⟨%f0, H0⟩, ⟨%f1, H1⟩, ⟨%f2, H2⟩⟩
  ihave H := (pointsTo_join (ℓ := HB.view.loc (c : Thread nD τ)) slots_disjoint1) $$ [H1 H2]
  · isplitl [H1]; · iexact H1
    iexact H2
  ihave H' := (pointsTo_join (ℓ := HB.view.loc (c : Thread nD τ)) slots_disjoint0) $$ [H0 H]
  · isplitl [H0]; · iexact H0
    iexact H
  rw [← slots_univ]
  iexists _
  iexact H'

theorem held_start (c : Dev nD) {H : HHBuf F} {Z G : XBuf F} {pl : ℕ → ℕ} :
    iprop((HH.view.loc (c : Thread nD τ) ↦{fullShare} H) ∗ (XB.view.loc (c : Thread nD τ) ↦{fullShare} Z)
      ∗ (idle c (lsem 0) ∗ idle c (lsem 1) ∗ idle c (lsem 2) ∗ idle c (rsem 0) ∗ idle c (rsem 1))
      ∗ (∃ f : HBuf F, HB.view.loc (c : Thread nD τ) ↦{fullShare} f)) ⊢ held c H Z G pl 0 := by
  rw [show held c H Z G pl 0 = iprop(incoming c H 0 ∗ free c 1 ∗ idle c (lsem 1) ∗ idle c (lsem 2) ∗ idle c (rsem 0)
      ∗ (XB.view.loc (c : Thread nD τ) ↦[untaken pl 0]{fullShare} Z) ∗ before c H G pl 0) from rfl,
    show incoming c H 0 = iprop((HH.view.loc (c : Thread nD τ) ↦[Finset.univ]{fullShare} H) ∗ free c 0 ∗ idle c (lsem 0)) from rfl,
    show before c H G pl 0 = iprop((XB.view.loc (c : Thread nD τ) ↦[taken pl 0]{fullShare} G) ∗ free c 2 ∗ idle c (rsem 1)) from rfl,
    show untaken pl 0 = Finset.univ from by ext x; simp [untaken],
    show taken pl 0 = ∅ from by ext x; simp [taken]]
  iintro ⟨HH, HX, ⟨HL0, HL1, HL2, HR0, HR1⟩, ⟨%f, HB⟩⟩
  ihave HS := (slots_split c f) $$ HB
  icases HS with ⟨H0, H1, H2⟩
  isplitl [HH H0 HL0]
  · isplitl [HH]; · iexact HH
    isplitl [H0]; · iexact H0
    iexact HL0
  isplitl [H1]; · iexact H1
  isplitl [HL1]; · iexact HL1
  isplitl [HL2]; · iexact HL2
  isplitl [HR0]; · iexact HR0
  isplitl [HX]; · iexact HX
  isplitr [H2 HR1]
  · iapply (show (BI.emp : sProp 𝕄) ⊢ (XB.view.loc (c : Thread nD τ) ↦[∅]{fullShare} G) from by rw [pointsTo_empty]; exact .rfl)
    iempintro
  isplitl [H2]; · iexact H2
  iexact HR1

theorem held_end (c : Dev nD) {H : HHBuf F} {Z G : XBuf F} {pl : ℕ → ℕ} :
    held c H Z G pl 16 ⊢ iprop((HH.view.loc (c : Thread nD τ) ↦{fullShare} H) ∗ (XB.view.loc (c : Thread nD τ) ↦{fullShare} G)
      ∗ (idle c (lsem 0) ∗ idle c (lsem 1) ∗ idle c (lsem 2) ∗ idle c (rsem 0) ∗ idle c (rsem 1))
      ∗ (∃ f : HBuf F, HB.view.loc (c : Thread nD τ) ↦{fullShare} f)) := by
  rw [show held c H Z G pl 16 = iprop((HH.view.loc (c : Thread nD τ) ↦[Finset.univ]{fullShare} H) ∗ (XB.view.loc (c : Thread nD τ) ↦[Finset.univ]{fullShare} G)
      ∗ free c 0 ∗ free c 1 ∗ free c 2 ∗ idle c (lsem 0) ∗ idle c (lsem 1) ∗ idle c (lsem 2) ∗ idle c (rsem 0) ∗ idle c (rsem 1)) from rfl]
  iintro ⟨HH, HX, H0, H1, H2, HL0, HL1, HL2, HR0, HR1⟩
  isplitl [HH]; · iexact HH
  isplitl [HX]; · iexact HX
  isplitr [H0 H1 H2]
  · isplitl [HL0]; · iexact HL0
    isplitl [HL1]; · iexact HL1
    isplitl [HL2]; · iexact HL2
    isplitl [HR0]; · iexact HR0
    iexact HR1
  iapply (slots_join c)
  isplitl [H0]; · iexact H0
  isplitl [H1]; · iexact H1
  iexact H2

theorem read_one (ℓ : Loc nD τ sig) (f : Buf (Elt F) ℓ) (s' : Phys nD τ sig (Elt F)) :
    iprop((ℓ ↦{fullShare} f) ∗ SI s') ⊢ (iprop(⌜s'.mem.mem ℓ = f⌝ ∗ SI s') : sProp 𝕄) := by
  iintro ⟨H, HSI⟩
  ihave HA := (pointsTo_read_all ({ℓ} : Finset (Loc nD τ sig)) (fun ℓ' => ℓ') (fun ℓ' => if h : ℓ' = ℓ then h ▸ f else s'.mem.mem ℓ') s') $$ [H HSI]
  · isplitl [H]
    · rw [bigSep_singleton, dif_pos rfl]; iexact H
    iexact HSI
  icases HA with ⟨%h, HSI⟩
  isplitr
  · ipureintro
    have := h ℓ (Finset.mem_singleton_self ℓ)
    rwa [dif_pos rfl] at this
  iexact HSI

variable {G pl} in
set_option backward.isDefEq.respectTransparency.types false in
/-- THE RUN: given a plan for every device, the arguments end as they were, the result at the planned contents, every
    semaphore at zero. -/
theorem run_main (hP : ∀ c, Plan (words (dst1 m c)) (words (dst2 m c)) (toks m c) (zeros m c) (G c) (pl c)) :
    θ_run defs (onTc (τ := τ) (main (F := F))) ⟨m, fun _ => 0, ρ⟩ (fun r => (∀ c : Dev nD,
      r.2.mem ((c.tc : Thread nD τ).loc main_v0) = G c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  Pipeline.θ_run_region_kit_quiescent cfgs (dats m G pl) () (0 : Fin 1) launch0 ownSemFacts
    (embL : Emb _ (MT nD τ sig Unit (Elt F) ℕ (Pipeline.UD sig nD τ) ℕ)) defs₀ Variants.none m ρ main
    (hbody := fun c => (body_obligation m G pl hP c).loose) (hshare := fun c => (dats m G pl 0 c).share_full fun _ => rfl)
    (howed := fun _ _ => rfl) (G := fun _ => iprop(emp))
    (u₀ := (initOf (Pipeline.cells cfgs cellOf_inj) (Pipeline.launchToks cfgs cellOf_inj), 1))
    (hu₀ := by
      iintro Hu
      ihave H' := (ownU_pair _ _) $$ Hu
      icases H' with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (V := V m)
    (hmain := Pipeline.hmain_prefix cfgs 0 defs₀ Variants.none m main hostOps0 hostOps0_sub hostOps0_fresh main_chain)
    (hA := A_eq m G pl)
    (X := fun c => iprop((∃ r, prngReg c r) ∗ (HH.view.loc (c : Thread nD τ) ↦{fullShare} toks m c) ∗ (XB.view.loc (c : Thread nD τ) ↦{fullShare} zeros m c)
      ∗ (idle c (lsem 0) ∗ idle c (lsem 1) ∗ idle c (lsem 2) ∗ idle c (rsem 0) ∗ idle c (rsem 1))))
    (Y := fun c => iprop((HH.view.loc (c : Thread nD τ) ↦{fullShare} toks m c) ∗ (XB.view.loc (c : Thread nD τ) ↦{fullShare} G c)))
    (Z := fun c => iprop((((c : Thread nD τ).loc main_arg0) ↦{fullShare} dst1 m c) ∗ (((c : Thread nD τ).loc main_arg1) ↦{fullShare} dst2 m c)))
    (hX := fun c => by
      rw [unscopedRest0_eq, ownSems_eq, V_main_arg0, V_main_arg1, V_main_arg2]
      iintro ⟨⟨H0, H1, H2, -, HX⟩, Hs, -, Hp, -⟩
      imodintro
      isplitr [H0 H1]
      · isplitl [Hp]; · iexists _; iexact Hp
        isplitl [H2]; · iexact H2
        isplitl [HX]; · iexact HX
        iexact Hs
      isplitl [H0]; · iexact H0
      iexact H1)
    (hin := fun c => by
      rw [scopedRest0_eq, show (dats m G pl 0 c).Φ 0 = iprop(held c (toks m c) (zeros m c) (G c) (pl c) 0 ∗ ∃ r, prngReg c r) from rfl]
      iintro ⟨⟨Hp, H2, HX, Hs⟩, Hf⟩
      isplitr [Hp]
      · iapply (held_start c)
        isplitl [H2]; · iexact H2
        isplitl [HX]; · iexact HX
        isplitl [Hs]; · iexact Hs
        iexact Hf
      iexact Hp)
    (hout := fun c => by
      rw [scopedRest0_eq, ownSems_eq, show (dats m G pl 0 c).Φ (Fin.last cfg0.N) = iprop(held c (toks m c) (zeros m c) (G c) (pl c) 16 ∗ ∃ r, prngReg c r) from rfl]
      iintro ⟨HD, -⟩
      ihave H := (held_end c) $$ HD
      icases H with ⟨H2, HX, Hs, Hf⟩
      isplitl [H2 HX]
      · isplitl [H2]; · iexact H2
        iexact HX
      isplitl [Hs]; · iexact Hs
      iexact Hf)
    (QY := fun c s => s.mem ((c.tc : Thread nD τ).loc main_v0) = G c
      ∧ s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2))
    (hY := fun c s' => by
      iintro ⟨⟨H2, HX⟩, ⟨H0, H1⟩, HSI⟩
      ihave HA := (read_one ((c : Thread nD τ).loc main_arg0) (dst1 m c) s') $$ [H0 HSI]
      · isplitl [H0] <;> iassumption
      icases HA with ⟨%h0, HSI⟩
      ihave HA := (read_one ((c : Thread nD τ).loc main_arg1) (dst2 m c) s') $$ [H1 HSI]
      · isplitl [H1] <;> iassumption
      icases HA with ⟨%h1, HSI⟩
      ihave HA := (read_one ((c : Thread nD τ).loc main_arg2) (toks m c) s') $$ [H2 HSI]
      · isplitl [H2] <;> iassumption
      icases HA with ⟨%h2, HSI⟩
      ihave HA := (read_one ((c : Thread nD τ).loc main_v0) (G c) s') $$ [HX HSI]
      · isplitl [HX] <;> iassumption
      icases HA with ⟨%hx, HSI⟩
      imodintro
      isplitr
      · ipureintro; exact ⟨hx, h0, h1, h2⟩
      iexact HSI)
    (hQ := fun s h hz => ⟨fun c => (h c).2, hz⟩)

end Cert.KernelIdeal.Dispatch

end
-- ==== Proof.Text.lean ====
/-
  The dispatch as printed and as printed for the ideal instance are one text: their bodies, and so their body tables,
  are equal over any float values. What is proved of the one run is thereby proved of the other.
-/
module

public import proofs.«01_k».proof.Proof.Gen.Kernel
public import proofs.«01_k».proof.Proof.Gen.KernelIdeal

@[expose] public section

set_option maxRecDepth 100000

noncomputable section

namespace Cert.Dispatch

open Idealize.ShloMosaic

variable {F : FTy → Type} [FloatOps F]

set_option maxHeartbeats 400000 in
theorem same_body : @Cert.Kernel.cc0_moe_dispatch F _ = @Cert.KernelIdeal.cc0_moe_dispatch F _ := rfl

theorem same_bodies : Cert.Kernel.defs₀ (F := F) = Cert.KernelIdeal.defs₀ (F := F) := by
  unfold Cert.Kernel.defs₀
  rw [same_body]
  refine congrArg (Defs.onTc (Λ := Cert.KernelIdeal.Λ₀)) (funext fun l => funext fun a => ?_)
  match l, a with
  | ⟨0, _⟩, (t, s) => rfl

theorem same_defs : Cert.Kernel.defs (F := F) = Cert.KernelIdeal.defs (F := F) := by
  unfold Cert.Kernel.defs
  rw [same_bodies]
  rfl

end Cert.Dispatch

end
-- ==== Proof.Value.lean ====
/-
  What the dispatch computes, in integers: row `r` of the result is the row of the token that one of the destinations
  sends to `r`, and zero where none does. The precondition read out (the destinations are rows of the result, no two
  the same), the reference's scatter and gather read at an index, and the kernel's plan from both.
-/
module

public import proofs.«01_k».proof.Proof.Run
public import proofs.«01_k».proof.Proof.Gen.ReferenceIdeal.Run
public import proofs.«01_k».proof.Proof.Gen.Pre_rows_apart
public import Idealize.ShloMosaic.Lib.Routing.OpsSet
public import Idealize.ShloMosaic.Lib.WordCmp

@[expose] public section

set_option maxRecDepth 16384

noncomputable section

namespace Cert.Dispatch

open Idealize.SL.Sem
open Idealize.ShloMosaic Idealize.ShloMosaic.TcCoe Idealize.ShloMosaic.ValueIdx Idealize.ShloMosaic.Routing Idealize.ShloMosaic.WordCmp
open Cert.ReferenceIdeal Cert.ReferenceIdeal.Gen

/-- Assignment `i`'s destination: the first 16384 are the tokens' first ones, then their second ones. -/
def dest (d1 d2 : IVec S16384 32) (i : ℕ) : BitVec 32 :=
  if i < 16384 then d1 (ix1 ⟨i % 16384, Nat.mod_lt _ (by decide)⟩) else d2 (ix1 ⟨(i - 16384) % 16384, Nat.mod_lt _ (by decide)⟩)

/-- The destinations are rows of the result, no two the same. -/
structure Apart (d1 d2 : IVec S16384 32) : Prop where
  range : ∀ i < 32768, (dest d1 d2 i).toNat < 49152
  inj : ∀ i < 32768, ∀ j < 32768, dest d1 d2 i = dest d1 d2 j → i = j

/-! ## Vectors read at an index -/

theorem joined (a b : IVec S16384 32) (h : Shape.Concatenates [S16384, S16384] S32768 0) (i : Fin 32768) :
    concatenate S32768 0 [⟨S16384, a⟩, ⟨S16384, b⟩] h (ix1 i) = dest a b i := by
  unfold dest
  by_cases hi : (i : ℕ) < 16384
  · rw [if_pos hi]
    refine concatenate_pair_apply_left (t := S32768) 0 a b h (ix1 i) rfl _ fun x => ?_
    match x with
    | ⟨0, _⟩ => exact Nat.mod_eq_of_lt hi
  · rw [if_neg hi]
    have := i.isLt
    refine concatenate_pair_apply_right (t := S32768) 0 a b h (ix1 i) rfl rfl _ (fun x hx => ?_) ?_
    · match x with
      | ⟨0, _⟩ => exact absurd rfl hx
    · show ((i : ℕ) - 16384) % 16384 + 16384 = i
      omega

/-- An index word that is not negative is not wrapped. -/
theorem unwrapped {n : ℕ} (v z k : IVec (shape1 n) 32) (p : Fin n) (hz : z (ix1 p) = 0#32) (hv : (v (ix1 p)).toNat < 2 ^ 31) :
    select (cmpi .slt v z) (addi v k) v (ix1 p) = v (ix1 p) := by
  show (if IntOp.cmpi .slt (v (ix1 p)) (z (ix1 p)) = 1#1 then _ else _) = _
  rw [hz, cmpi_slt_zero, if_neg]
  rw [decide_eq_false (Nat.not_le.mpr hv)]
  decide

theorem unwrapped_col {n : ℕ} (v z k : IVec (shape1 n) 32) (h : (shape1 n).BroadcastsInDim (shape2 n 1) (![0] : Fin 1 → Fin (shape2 n 1).rank))
    (p : Fin n) (hz : z (ix1 p) = 0#32) (hv : (v (ix1 p)).toNat < 2 ^ 31) :
    broadcastInDim (shape2 n 1) ![0] h (select (cmpi .slt v z) (addi v k) v) (ix2 p (0 : Fin 1)) = v (ix1 p) := by
  rw [bcCol, unwrapped v z k p hz hv]

/-! ## The precondition -/

theorem both_one : ∀ a b : BitVec 1, IntOp.andi a b = 1#1 → a = 1#1 ∧ b = 1#1 := by decide

theorem ofBool_one {b : Bool} (h : BitVec.ofBool b = 1#1) : b = true := by
  cases b
  · exact absurd h (by decide)
  · rfl

theorem in_range (x : BitVec 32) (h0 : IntOp.cmpi .sge x 0#32 = 1#1) (h1 : IntOp.cmpi .slt x 49152#32 = 1#1) : x.toNat < 49152 := by
  rw [cmpi_sge_zero] at h0
  have h0' : x.toNat < 2 ^ 31 := of_decide_eq_true (ofBool_one h0)
  rw [cmpi_slt_of_lt (y := 49152#32) h0' (by decide)] at h1
  exact of_decide_eq_true (ofBool_one h1)

theorem eq_of_cmpi (x y : BitVec 32) (h : IntOp.cmpi .eq x y = 1#1) : x = y := by
  have := ofBool_one (b := x == y) h
  exact eq_of_beq this

/-- What the precondition computes, its record of the last assignment to each row left open. -/
def asked (owner : IVec S49152 32) (v : IVec S32768 32) : IVec S32768 1 :=
  andi (andi (cmpi .sge v (broadcastInDim S32768 ![] bcast_S_S32768 (constantI S_ 32 0#32)))
      (cmpi .slt v (broadcastInDim S32768 ![] bcast_S_S32768 (constantI S_ 32 49152#32))))
    (cmpi .eq
      (Host.gather Cert.Pre_rows_apart.gather_S49152_S32768x1_S32768_n_0_n_n_0_1_1 owner
        (broadcastInDim S32768x1 ![0] bcast_S32768_S32768x1_0
          (select (cmpi .slt v (broadcastInDim S32768 ![] bcast_S_S32768 (constantI S_ 32 0#32)))
            (addi v (broadcastInDim S32768 ![] bcast_S_S32768 (constantI S_ 32 49152#32))) v)))
      (iotaInDim S32768 32 0))

theorem asked_at (owner : IVec S49152 32) (v : IVec S32768 32) (h : asked owner v = fun _ => 1#1) (p : Fin 32768) :
    ∃ hr : (v (ix1 p)).toNat < 49152, owner (ix1 ⟨(v (ix1 p)).toNat, hr⟩) = BitVec.ofNat 32 p := by
  obtain ⟨h01, h2⟩ := both_one _ _ (congrFun h (ix1 p))
  obtain ⟨h0, h1⟩ := both_one _ _ h01
  have hr := in_range _ h0 h1
  refine ⟨hr, ?_⟩
  have h3 := eq_of_cmpi _ _ h2
  rw [gather_take1 (N := 49152) (n := 32768) _ rfl rfl rfl rfl owner _ p ⟨(v (ix1 p)).toNat, hr⟩
    ((unwrapped_col v _ _ _ p rfl (by omega)).trans (BitVec.eq_of_toNat_eq (by rw [BitVec.toNat_ofNat, Nat.mod_eq_of_lt (BitVec.isLt _)]))) (by decide)] at h3
  exact h3

theorem apart_of {F : FTy → Type} [FloatOps F] (d1 d2 : IVec S16384 32) (H : IVec S16384x512 32)
    (h : Cert.Pre_rows_apart.fn (F := F) d1 d2 H = fun _ => 1#1) : Apart d1 d2 := by
  obtain ⟨owner, ho⟩ : ∃ owner, asked owner (concatenate S32768 0 [⟨S16384, d1⟩, ⟨S16384, d2⟩] concatenates_S16384_S16384_S32768_d0) = fun _ => 1#1 :=
    ⟨_, h⟩
  have key := asked_at owner _ ho
  simp only [joined] at key
  refine ⟨fun i hi => (key ⟨i, hi⟩).1, fun i hi j hj e => ?_⟩
  obtain ⟨hr, ei⟩ := key ⟨i, hi⟩
  obtain ⟨hr', ej⟩ := key ⟨j, hj⟩
  have e' : BitVec.ofNat 32 i = BitVec.ofNat 32 j := by
    rw [← ei, ← ej]
    exact congrArg owner (congrArg ix1 (Fin.ext (congrArg BitVec.toNat e)))
  have := congrArg BitVec.toNat e'
  simp only [BitVec.toNat_ofNat] at this
  omega

/-! ## The reference -/

/-- The destinations as the scatter takes them. -/
def targets (d1 d2 : IVec S16384 32) : IVec S32768x1 32 :=
  let v := concatenate S32768 0 [⟨S16384, d1⟩, ⟨S16384, d2⟩] concatenates_S16384_S16384_S32768_d0
  broadcastInDim S32768x1 ![0] bcast_S32768_S32768x1_0
    (select (cmpi .slt v (broadcastInDim S32768 ![] bcast_S_S32768 (constantI S_ 32 0#32)))
      (addi v (broadcastInDim S32768 ![] bcast_S_S32768 (constantI S_ 32 49152#32))) v)

/-- The token of each row of the result; 16384, the zero row's number, where a row has none. -/
def owners (d1 d2 : IVec S16384 32) : IVec S49152 32 :=
  Host.scatter scatter_S49152_S32768x1_S32768_n_0_0_1 (fun _ b => b) (broadcastInDim S49152 ![] bcast_S_S49152 (constantI S_ 32 16384#32)) (targets d1 d2)
    (concatenate S32768 0 [⟨S16384, iotaInDim S16384 32 0⟩, ⟨S16384, iotaInDim S16384 32 0⟩] concatenates_S16384_S16384_S32768_d0)

/-- The reference's result. -/
def sent (d1 d2 : IVec S16384 32) (H : IVec S16384x512 32) : IVec S49152x512 32 :=
  Host.gather gather_S16385x512_S49152x1_S49152x512_1_0_n_n_0_1_1512
    (concatenate S16385x512 0 [⟨S16384x512, H⟩, ⟨S1x512, broadcastInDim S1x512 ![] bcast_S_S1x512 (constantI S_ 32 0#32)⟩] concatenates_S16384x512_S1x512_S16385x512_d0)
    (broadcastInDim S49152x1 ![0] bcast_S49152_S49152x1_0
      (select (cmpi .slt (owners d1 d2) (broadcastInDim S49152 ![] bcast_S_S49152 (constantI S_ 32 0#32)))
        (addi (owners d1 d2) (broadcastInDim S49152 ![] bcast_S_S49152 (constantI S_ 32 16385#32))) (owners d1 d2)))

/-- Update `i` lands at the entry that its index word names. -/
theorem lands (idx : IVec S32768x1 32) (i : Fin 32768) (x : Fin 49152) :
    scatter_S49152_S32768x1_S32768_n_0_0_1.resultIdx? (ix1 i) idx = some (ix1 x) ↔ (idx (ix2 i (0 : Fin 1))).toInt = (x : ℤ) := by
  have hw : scatter_S49152_S32768x1_S32768_n_0_0_1.window (ix1 i) 0 = 0 := rfl
  have hs : scatter_S49152_S32768x1_S32768_n_0_0_1.start (ix1 i) idx 0 = (idx (ix2 i (0 : Fin 1))).toInt := by
    refine congrArg (fun k => (idx k).toInt) (a₁ := scatter_S49152_S32768x1_S32768_n_0_0_1.siIdx (ix1 i) ⟨0, by decide⟩) (funext fun b => ?_)
    match b with
    | ⟨0, _⟩ => rfl
    | ⟨1, _⟩ => rfl
  have hx := x.isLt
  unfold ScatterDims.resultIdx?
  constructor
  · intro e
    split at e
    · next h =>
      have h0 := h 0
      have e0 : (scatter_S49152_S32768x1_S32768_n_0_0_1.start (ix1 i) idx 0 + (scatter_S49152_S32768x1_S32768_n_0_0_1.window (ix1 i) 0 : ℤ)).toNat = x :=
        congrArg Fin.val (congrFun (Option.some.inj e) 0)
      rw [hs, hw] at h0 e0
      have := h0.1
      omega
    · cases e
  · intro e
    have h : ∀ a, 0 ≤ scatter_S49152_S32768x1_S32768_n_0_0_1.start (ix1 i) idx a + scatter_S49152_S32768x1_S32768_n_0_0_1.window (ix1 i) a
        ∧ scatter_S49152_S32768x1_S32768_n_0_0_1.start (ix1 i) idx a + scatter_S49152_S32768x1_S32768_n_0_0_1.window (ix1 i) a < S49152.size a := fun a => by
      match a with
      | ⟨0, _⟩ =>
        show 0 ≤ scatter_S49152_S32768x1_S32768_n_0_0_1.start (ix1 i) idx 0 + (scatter_S49152_S32768x1_S32768_n_0_0_1.window (ix1 i) 0 : ℤ)
          ∧ scatter_S49152_S32768x1_S32768_n_0_0_1.start (ix1 i) idx 0 + (scatter_S49152_S32768x1_S32768_n_0_0_1.window (ix1 i) 0 : ℤ) < (49152 : ℤ)
        rw [hs, hw, e]
        omega
    rw [dif_pos h]
    refine congrArg some (funext fun a => Fin.ext ?_)
    match a with
    | ⟨0, _⟩ =>
      show (scatter_S49152_S32768x1_S32768_n_0_0_1.start (ix1 i) idx 0 + (scatter_S49152_S32768x1_S32768_n_0_0_1.window (ix1 i) 0 : ℤ)).toNat = x
      rw [hs, hw, e]
      omega

section

variable {d1 d2 : IVec S16384 32} (hA : Apart d1 d2)
include hA

theorem targets_at (i : Fin 32768) : targets d1 d2 (ix2 i (0 : Fin 1)) = dest d1 d2 i := by
  have h := hA.range i i.isLt
  rw [← joined d1 d2 concatenates_S16384_S16384_S32768_d0 i] at h ⊢
  exact unwrapped_col _ _ _ bcast_S32768_S32768x1_0 i rfl (by omega)

theorem lands_dest (i : Fin 32768) (x : Fin 49152) :
    scatter_S49152_S32768x1_S32768_n_0_0_1.resultIdx? (ix1 i) (targets d1 d2) = some (ix1 x) ↔ (dest d1 d2 i).toNat = x := by
  have h := hA.range i i.isLt
  rw [lands, targets_at hA, toInt_eq_toNat_of_lt_half (show (dest d1 d2 i).toNat < 2 ^ (32 - 1) by omega)]
  omega

theorem owners_hit (i : ℕ) (hi : i < 32768) (x : Fin 49152) (hx : (dest d1 d2 i).toNat = x) : owners d1 d2 (ix1 x) = BitVec.ofNat 32 (i % 16384) := by
  refine scatter_set_hit _ _ _ _ _ _ (fun k hk => ?_) (ix1 (⟨i, hi⟩ : Fin 32768)) ((lands_dest hA ⟨i, hi⟩ x).2 hx)
  obtain ⟨j, rfl⟩ : ∃ j : Fin 32768, k = ix1 j := ⟨k 0, eq_ix1 k⟩
  have e := hA.inj j j.isLt i hi (BitVec.eq_of_toNat_eq (((lands_dest hA j x).1 hk).trans hx.symm))
  rw [joined, e]
  unfold dest
  split
  · rfl
  · show BitVec.ofNat 32 ((i - 16384) % 16384) = _
    exact congrArg _ (by omega)

theorem owners_miss (x : Fin 49152) (hx : ∀ i < 32768, (dest d1 d2 i).toNat ≠ x) : owners d1 d2 (ix1 x) = 16384#32 := by
  refine scatter_set_miss _ _ _ _ _ fun k hk => ?_
  obtain ⟨j, rfl⟩ : ∃ j : Fin 32768, k = ix1 j := ⟨k 0, eq_ix1 k⟩
  exact hx j j.isLt ((lands_dest hA j x).1 hk)

omit hA in
theorem sent_at (H : IVec S16384x512 32) (x : Fin 49152) (y : Fin 512) (b : Fin 16385) (hb : owners d1 d2 (ix1 x) = BitVec.ofNat 32 b) :
    sent d1 d2 H (ix2 x y)
      = concatenate S16385x512 0 [⟨S16384x512, H⟩, ⟨S1x512, broadcastInDim S1x512 ![] bcast_S_S1x512 (constantI S_ 32 0#32)⟩]
          concatenates_S16384x512_S1x512_S16385x512_d0 (ix2 b y) := by
  have := b.isLt
  refine gather_row (nb := 16385) (B := 512) (n := 49152) _ rfl rfl rfl rfl rfl _ _ x y b ?_ (by decide)
  refine (unwrapped_col (owners d1 d2) _ _ _ x rfl ?_).trans hb
  rw [hb, BitVec.toNat_ofNat]
  omega

/-- A row that assignment `i` goes to holds its token's row. -/
theorem sent_hit (H : IVec S16384x512 32) (i : ℕ) (hi : i < 32768) (x : Fin 49152) (y : Fin 512) (hx : (dest d1 d2 i).toNat = x) :
    sent d1 d2 H (ix2 x y) = H (ix2 ⟨i % 16384, Nat.mod_lt _ (by decide)⟩ y) := by
  rw [sent_at H x y ⟨i % 16384, by omega⟩ (owners_hit hA i hi x hx)]
  refine concatenate_pair_apply_left (t := S16385x512) 0 H _ _ _ rfl _ fun a => ?_
  match a with
  | ⟨0, _⟩ => rfl
  | ⟨1, _⟩ => rfl

/-- A row that no assignment goes to is zero. -/
theorem sent_miss (H : IVec S16384x512 32) (x : Fin 49152) (y : Fin 512) (hx : ∀ i < 32768, (dest d1 d2 i).toNat ≠ x) :
    sent d1 d2 H (ix2 x y) = 0#32 := by
  rw [sent_at H x y ⟨16384, by decide⟩ (owners_miss hA x hx)]
  refine concatenate_pair_apply_right (t := S16385x512) (s₂ := S1x512) 0 H _ _ (ix2 (⟨16384, by decide⟩ : Fin 16385) y) rfl rfl (ix2 (0 : Fin 1) y) (fun a ha => ?_) ?_
  · match a with
    | ⟨0, _⟩ => exact absurd rfl ha
    | ⟨1, _⟩ => rfl
  · rfl

end

/-! ## The kernel's plan -/

/-- The assignment that copy `n` carries out: a token's two rows go out one after the other. -/
def turn (n : ℕ) : ℕ := if n % 2 = 0 then n / 2 else 16384 + n / 2

theorem turn_lt {n : ℕ} (h : n < 32768) : turn n < 32768 := by unfold turn; split <;> omega

theorem turn_mod {n : ℕ} (h : n < 32768) : turn n % 16384 = n / 2 := by unfold turn; split <;> omega

theorem turn_inj {n k : ℕ} (hn : n < 32768) (hk : k < 32768) (h : turn n = turn k) : n = k := by
  unfold turn at h
  split at h <;> split at h <;> omega

theorem turn_surj {i : ℕ} (hi : i < 32768) : ∃ n < 32768, turn n = i := by
  by_cases h : i < 16384
  · exact ⟨2 * i, by omega, by unfold turn; rw [if_pos (by omega)]; omega⟩
  · exact ⟨2 * (i - 16384) + 1, by omega, by unfold turn; rw [if_neg (by omega)]; omega⟩

/-- The row that copy `n` goes to. -/
def place (d1 d2 : IVec S16384 32) (n : ℕ) : ℕ := (dest d1 d2 (turn n)).toNat

theorem plan {F : FTy → Type} [FloatOps F] (d1 d2 : IVec S16384 32) (H : IVec S16384x512 32) (Z : IVec S49152x512 32) (hZ : ∀ x, Z x = 0#32)
    (hA : Apart d1 d2) :
    Cert.KernelIdeal.Dispatch.Plan (F := F) (Cert.KernelIdeal.Dispatch.words (F := F) d1) (Cert.KernelIdeal.Dispatch.words (F := F) d2) H Z (sent d1 d2 H) (place d1 d2) where
  tiles t ht :=
    { word1 := fun r hr => by
        unfold place turn dest
        have e : (2048 * t + 2 * r) % 2 = 0 := by omega
        rw [if_pos e, if_pos (by omega)]
        refine congrArg (fun k => BitVec.toNat (d1 (ix1 k))) (Fin.ext ?_)
        show (1024 * t + r) % 16384 = (2048 * t + 2 * r) / 2 % 16384
        omega
      word2 := fun r hr => by
        unfold place turn dest
        have e : ¬(2048 * t + (2 * r + 1)) % 2 = 0 := by omega
        rw [if_neg e, if_neg (by omega)]
        refine congrArg (fun k => BitVec.toNat (d2 (ix1 k))) (Fin.ext ?_)
        show (1024 * t + r) % 16384 = (16384 + (2048 * t + (2 * r + 1)) / 2 - 16384) % 16384
        omega
      bound := fun j hj => hA.range _ (turn_lt (by omega))
      fresh := fun j hj k hk e => by
        have := turn_inj (by omega) (by omega) (hA.inj _ (turn_lt (by omega)) _ (turn_lt (by omega)) (BitVec.eq_of_toNat_eq e))
        omega
      final := fun j hj x y hx hs hr hc => by
        have hm := turn_mod (n := 2048 * t + j) (by omega)
        have h := sent_hit hA H _ (turn_lt (n := 2048 * t + j) (by omega)) (x 0) (x 1) hx.symm
        rw [eq_ix2 x]
        refine h.trans (congrArg₂ (fun a b => H (ix2 a b)) (Fin.ext ?_) (Fin.ext hc))
        show turn (2048 * t + j) % 16384 = (1024 * t + (y 1 : ℕ)) % 16384
        rw [hm, hr]
        omega }
  rest x hx := by
    rw [hZ, eq_ix2 x]
    refine (sent_miss hA H (x 0) (x 1) fun i hi e => ?_).symm
    obtain ⟨n, hn, rfl⟩ := turn_surj hi
    exact Cert.KernelIdeal.Dispatch.mem_untaken.1 hx n hn e

/-- The host's zeros. -/
theorem zeros_at {F : FTy → Type} [FloatOps F] (m : (ℓ : Loc Cert.KernelIdeal.nD Cert.KernelIdeal.τ Cert.KernelIdeal.sig) → Buf (Elt F) ℓ) (c : Dev Cert.KernelIdeal.nD) (x : S49152x512.Idx) :
    Cert.KernelIdeal.Dispatch.zeros m c x = 0#32 := by
  unfold Cert.KernelIdeal.Dispatch.zeros Cert.KernelIdeal.Gen.V Cert.KernelIdeal.Gen.hostOps0
  after_results
  rfl

section

variable {F : FTy → Type} [FloatOps F]
variable (m : (ℓ : Loc Cert.KernelIdeal.nD Cert.KernelIdeal.τ Cert.KernelIdeal.sig) → Buf (Elt F) ℓ) (ρ : Dev Cert.KernelIdeal.nD → PrngReg)

open Cert.KernelIdeal.Dispatch in
/-- The dispatch's run under the precondition: the reference's result, the arguments as they were, every semaphore at zero. -/
theorem run_kernel (h : ∀ c, Cert.Pre_rows_apart.fn (F := F) (dst1 m c) (dst2 m c) (toks m c) = fun _ => 1#1) :
    θ_run Cert.KernelIdeal.defs (onTc (τ := Cert.KernelIdeal.τ) (Cert.KernelIdeal.main (F := F))) ⟨m, fun _ => 0, ρ⟩ (fun r => (∀ c : Dev Cert.KernelIdeal.nD,
      r.2.mem ((c.tc : Thread Cert.KernelIdeal.nD Cert.KernelIdeal.τ).loc Cert.KernelIdeal.main_v0) = sent (dst1 m c) (dst2 m c) (toks m c)
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0) :=
  run_main m ρ (G := fun c => sent (dst1 m c) (dst2 m c) (toks m c)) (pl := fun c => place (dst1 m c) (dst2 m c))
    fun c => plan (F := F) (dst1 m c) (dst2 m c) (toks m c) (zeros m c) (zeros_at m c) (apart_of _ _ _ (h c))

end

end Cert.Dispatch

end
-- ==== Proof.InBody.lean ====
/-
  The input projection's body at one grid point. At a tile's first point it fills its scratch with the tile's rows,
  normalised and modulated, 128 rows a trip, and multiplies them by the narrow weight; at every point it multiplies the
  scratch by one block of the wide weight.
-/
module

public import proofs.«01_k».proof.Proof.Gen.Kernel2Ideal.Loops
public import proofs.«01_k».proof.Proof.Gen.Kernel2Ideal.Frame
public import Idealize.ShloMosaic.Lib.VecWindow
public import Idealize.ShloMosaic.Lib.ValueIdx

@[expose] public section

set_option maxRecDepth 16384

noncomputable section

namespace Cert.Kernel2Ideal.Inproj

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type} [FloatOps F]

local notation "𝕄" => MT nD τ sig Unit (Elt F) ℕ (UR sig nD τ) ℕ

/-- Weakest preconditions at the projection's device, in the body. -/
local notation "wpB" c => wp Idealize.ShloMosaic.frame (wpE (defs₀ (F := F)) Variants.none (c : Thread nD τ) none) Set.univ

/-! ## Loads and stores of what a memref reads -/

/-- A LOAD of a window of what the memref reads. -/
theorem load_step {c : Dev nD} {s : Shape} {e : EltTy} {m : Memref sig .tc .vmem s e} {off off' size : Fin s.rank → ℕ}
    {inb : ∀ a, off a + size a ≤ s.size a} {hl : m.view.LoadsAt (Rect.unit off size inb).toLoadRect} {d : s.Idx → Elt F e}
    {Q : ((Rect.unit off size inb).shape.Idx → Elt F e) → sProp 𝕄} (h : off = off') (inb' : ∀ a, off' a + size a ≤ s.size a) :
    (owns (c : Thread nD τ) m fullShare d : sProp 𝕄)
      ⊢ iprop((owns (c : Thread nD τ) m fullShare d -∗ Q (VecWindow.window d off' size inb'))
          -∗ (wpB c) (Prog.lift (.load m (Rect.unit off size inb).toLoadRect hl)) Q) := by
  unfold owns
  iintro ⟨%f, %hf, Hf⟩ Hk
  iapply (wp_load Variants.none (c : Thread nD τ) none Set.univ (m := m) (S := m.view.set) (View.setOn_subset_set _ _)) $$ Hf
  iintro Hf
  rw [wp_ret]
  imodintro
  rw [View.readAt_unit m.view f inb h inb', hf]
  iapply Hk
  iexists f
  isplitr; · ipureintro; exact hf
  iexact Hf

/-- A LOAD of all the memref reads. -/
theorem load_all {c : Dev nD} {s : Shape} {e : EltTy} {m : Memref sig .tc .vmem s e} {off : Fin s.rank → ℕ}
    {inb : ∀ a, off a + s.size a ≤ s.size a} {hl : m.view.LoadsAt (Rect.unit off s.size inb).toLoadRect} {d : s.Idx → Elt F e}
    {Q : (s.Idx → Elt F e) → sProp 𝕄} :
    (owns (c : Thread nD τ) m fullShare d : sProp 𝕄)
      ⊢ iprop((owns (c : Thread nD τ) m fullShare d -∗ Q d) -∗ (wpB c) (Prog.lift (.load m (Rect.unit off s.size inb).toLoadRect hl)) Q) := by
  unfold owns
  iintro ⟨%f, %hf, Hf⟩ Hk
  iapply (wp_load Variants.none (c : Thread nD τ) none Set.univ (m := m) (S := m.view.set) (View.setOn_subset_set _ _)) $$ Hf
  iintro Hf
  rw [wp_ret]
  imodintro
  rw [View.readAt_full m.view f inb, hf]
  iapply Hk
  iexists f
  isplitr; · ipureintro; exact hf
  iexact Hf

/-- A STORE over a window of what the memref reads. -/
theorem store_step {c : Dev nD} {s : Shape} {e : EltTy} {m : Memref sig .tc .vmem s e} {off off' size : Fin s.rank → ℕ}
    {inb : ∀ a, off a + size a ≤ s.size a} {w : (Rect.unit off size inb).shape.Idx → Elt F e} {hx hm} {d : s.Idx → Elt F e}
    {Q : PUnit → sProp 𝕄} (h : off = off') :
    (owns (c : Thread nD τ) m fullShare d : sProp 𝕄)
      ⊢ iprop((owns (c : Thread nD τ) m fullShare (VecWindow.put d off' size w) -∗ Q ⟨⟩)
          -∗ (wpB c) (Prog.lift (.store m (Rect.unit off size inb) w Finset.univ hx hm)) Q) := by
  unfold owns
  iintro ⟨%f, %hf, Hf⟩ Hk
  iapply (wp_store_writes₀ Variants.none (c : Thread nD τ) none Set.univ (m := m) (S := m.view.set) (View.set_slice_subset _ _)) $$ Hf
  iintro Hf
  rw [wp_ret]
  imodintro
  iapply Hk
  iexists _
  isplitr
  rotate_left
  · iexact Hf
  ipureintro
  rw [View.read_writes_cons_put m.view f inb w [] h, View.writes_nil, hf]

/-- A STORE over all the memref reads. -/
theorem store_all {c : Dev nD} {s : Shape} {e : EltTy} {m : Memref sig .tc .vmem s e} {off : Fin s.rank → ℕ}
    {inb : ∀ a, off a + s.size a ≤ s.size a} {w : s.Idx → Elt F e} {hx hm} {d : s.Idx → Elt F e} {Q : PUnit → sProp 𝕄} :
    (owns (c : Thread nD τ) m fullShare d : sProp 𝕄)
      ⊢ iprop((owns (c : Thread nD τ) m fullShare w -∗ Q ⟨⟩)
          -∗ (wpB c) (Prog.lift (.store m (Rect.unit off s.size inb) w Finset.univ hx hm)) Q) := by
  unfold owns
  iintro ⟨%f, %hf, Hf⟩ Hk
  iapply (wp_store_writes₀ Variants.none (c : Thread nD τ) none Set.univ (m := m) (S := m.view.set) (View.set_slice_subset _ _)) $$ Hf
  iintro Hf
  rw [wp_ret]
  imodintro
  iapply Hk
  iexists _
  isplitr
  rotate_left
  · iexact Hf
  ipureintro
  exact View.read_writes_full m.view f inb w []

/-! ## A tile's rows, normalised and modulated -/

/-- Rows `128 k` to `128 k + 127` of a tile. -/
def rows (x : S2048x1024.Idx → F .f32) (k : ℕ) : S128x1024.Idx → F .f32 :=
  fun z => x (ix2 ⟨(128 * k + (z 0 : ℕ)) % 2048, Nat.mod_lt _ (by decide)⟩ (z 1))

/-- The tile's rows normalised, scaled and shifted: row `r` as the trip of its 128 rows leaves it. -/
def hid (sc sh : S1x1x1024.Idx → F .f32) (nw : S1x1024.Idx → F .f32) (x : S2048x1024.Idx → F .f32) : S2048x1024.Idx → F .bf16 :=
  fun y => k0_pay1 sc sh nw (rows x ((y 0 : ℕ) / 128)) (ix2 ⟨(y 0 : ℕ) % 128, Nat.mod_lt _ (by decide)⟩ (y 1))

theorem trips2 : k0_t1_loop.trips = 16 := by decide +kernel

/-- What a trip puts in the scratch is the tile's next 128 rows. -/
theorem put_rows {sc sh : S1x1x1024.Idx → F .f32} {nw : S1x1024.Idx → F .f32} {x : S2048x1024.Idx → F .f32} {f : S2048x1024.Idx → F .bf16} {k : ℕ}
    (hk : k < 16) (inb : ∀ a, (![128 * k, 0] : Fin 2 → ℕ) a + S128x1024.size a ≤ S2048x1024.size a)
    (hf : ∀ y : S2048x1024.Idx, (y 0 : ℕ) < 128 * k → f y = hid sc sh nw x y) (y : S2048x1024.Idx) (hy : (y 0 : ℕ) < 128 * (k + 1)) :
    VecWindow.put (s := S2048x1024) f ![128 * k, 0] S128x1024.size (k0_pay1 sc sh nw (VecWindow.window (s := S2048x1024) x ![128 * k, 0] S128x1024.size inb)) y = hid sc sh nw x y := by
  have hy1 : (y 1 : ℕ) < 1024 := (y 1).isLt
  unfold VecWindow.put
  by_cases h : 128 * k ≤ (y 0 : ℕ)
  · have hall : ∀ a : Fin 2, (![128 * k, 0] : Fin 2 → ℕ) a ≤ (y a : ℕ) ∧ (y a : ℕ) < (![128 * k, 0] : Fin 2 → ℕ) a + S128x1024.size a := by
      intro a
      fin_cases a
      · exact ⟨h, by show (y 0 : ℕ) < 128 * k + 128; omega⟩
      · exact ⟨Nat.zero_le _, by show (y 1 : ℕ) < 0 + 1024; omega⟩
    rw [dif_pos hall]
    unfold hid
    have hq : (y 0 : ℕ) / 128 = k := by omega
    have hw : VecWindow.window (s := S2048x1024) x ![128 * k, 0] S128x1024.size inb = rows x ((y 0 : ℕ) / 128) := by
      funext z
      have hz : (z 0 : ℕ) < 128 := (z 0).isLt
      rw [hq]
      refine congrArg x (funext fun a => Fin.ext ?_)
      fin_cases a
      · show 128 * k + 1 * (z 0 : ℕ) = (128 * k + (z 0 : ℕ)) % 2048
        omega
      · show 0 + 1 * (z 1 : ℕ) = (z 1 : ℕ)
        omega
    rw [hw]
    refine congrArg (k0_pay1 sc sh nw _) (funext fun a => Fin.ext ?_)
    fin_cases a
    · show (y 0 : ℕ) - 128 * k = (y 0 : ℕ) % 128
      omega
    · show (y 1 : ℕ) - 0 = (y 1 : ℕ)
      omega
  · rw [dif_neg fun hall => h (hall 0).1]
    exact hf y (by omega)

section Args

variable (c : Dev nD) (i : grid0.Coords) (arg2 : Memref sig .tc .vmem S2048x1024 .f32) (harg2 : arg2.IsWhole)
  (arg3 : Memref sig .tc .vmem S1x1x1024 .f32) (harg3 : arg3.IsWhole) (arg4 : Memref sig .tc .vmem S1x1x1024 .f32) (harg4 : arg4.IsWhole)
  (arg5 : Memref sig .tc .vmem S1x1024 .f32) (harg5 : arg5.IsWhole) (arg6 : Memref sig .tc .vmem S1024x1024 .bf16) (harg6 : arg6.IsWhole)
  (arg7 : Memref sig .tc .vmem S1024x1024 .bf16) (harg7 : arg7.IsWhole) (arg8 : Memref sig .tc .vmem S1024x128 .bf16) (harg8 : arg8.IsWhole)
  (arg9 : Memref sig .tc .vmem S2048x1024 .bf16) (harg9 : arg9.IsWhole) (arg10 : Memref sig .tc .vmem S2048x128 .f32) (harg10 : arg10.IsWhole)
  (arg11 : Memref sig .tc .vmem S2048x1024 .bf16) (harg11 : arg11.IsWhole)

/-- The scratch after `k` trips: the tile's first `128 k` rows in place. -/
def filled (H : S2048x1024.Idx → F .bf16) (k : ℕ) : sProp 𝕄 :=
  iprop(∃ f, ⌜∀ y : S2048x1024.Idx, (y 0 : ℕ) < 128 * k → f y = H y⌝ ∗ owns (c : Thread nD τ) arg11 fullShare f)

/-- ONE TRIP: the tile's next 128 rows. -/
theorem trip {sc sh : S1x1x1024.Idx → F .f32} {nw : S1x1024.Idx → F .f32} {x : S2048x1024.Idx → F .f32} (h1 : k0_cond1 i = 1#1) (k : Fin k0_t1_loop.trips) :
    iprop(owns (c : Thread nD τ) arg2 fullShare x ∗ filled c arg11 (hid sc sh nw x) k.val)
      ⊢ (wpB c) (k0_t1_body (F := F) i arg2 harg2 arg3 harg3 arg4 harg4 arg5 harg5 arg6 harg6 arg7 harg7 arg8 harg8 arg9 harg9 arg10 harg10 arg11 harg11 h1 sc sh nw k ⟨⟩)
        fun _ => iprop(owns (c : Thread nD τ) arg2 fullShare x ∗ filled c arg11 (hid sc sh nw x) (k.val + 1)) := by
  have hk : k.val < 16 := trips2 ▸ k.isLt
  have inb : ∀ a, (![128 * k.val, 0] : Fin 2 → ℕ) a + S128x1024.size a ≤ S2048x1024.size a := k0_off1_eq k ▸ k0_off1_inb i k h1
  unfold k0_t1_body filled
  iintro ⟨H2, ⟨%f, %hf, H11⟩⟩
  rw [wp_bind]
  iapply (load_step (k0_off1_eq k) inb) $$ H2
  iintro H2
  rw [wp_bind]
  iapply (load_step (k0_off1_eq k) inb) $$ H11
  iintro H11
  rw [wp_bind]
  iapply (store_step (k0_off1_eq k)) $$ H11
  iintro H11
  rw [wp_pure]
  imodintro
  isplitl [H2]; · iexact H2
  iexists _
  isplitr
  rotate_left
  · iexact H11
  ipureintro
  exact put_rows hk inb hf

/-- THE LOOP: the scratch filled. -/
theorem fill {sc sh : S1x1x1024.Idx → F .f32} {nw : S1x1024.Idx → F .f32} {x : S2048x1024.Idx → F .f32} (h1 : k0_cond1 i = 1#1) {Q : Unit → sProp 𝕄} :
    iprop(owns (c : Thread nD τ) arg2 fullShare x ∗ (∃ f, owns (c : Thread nD τ) arg11 fullShare f))
      ⊢ iprop((iprop(owns (c : Thread nD τ) arg2 fullShare x ∗ owns (c : Thread nD τ) arg11 fullShare (hid sc sh nw x)) -∗ Q ⟨⟩)
        -∗ (wpB c) (Scf.Loop.for k0_t1_loop (k0_t1_ok i h1) ⟨⟩ (k0_t1_body (F := F) i arg2 harg2 arg3 harg3 arg4 harg4 arg5 harg5 arg6 harg6 arg7 harg7
            arg8 harg8 arg9 harg9 arg10 harg10 arg11 harg11 h1 sc sh nw)) Q) := by
  iintro ⟨H2, ⟨%f, H11⟩⟩ Hk
  iapply (Scf.wp_for _ _ _ _ _ _ (k0_t1_ok i h1) _ _ (fun k _ => iprop(owns (c : Thread nD τ) arg2 fullShare x ∗ filled c arg11 (hid sc sh nw x) k)) ?step)
  case step =>
    intro k acc
    exact trip c i arg2 harg2 arg3 harg3 arg4 harg4 arg5 harg5 arg6 harg6 arg7 harg7 arg8 harg8 arg9 harg9 arg10 harg10 arg11 harg11 h1 k
  isplitl [H2 H11]
  · isplitl [H2]; · iexact H2
    unfold filled
    iexists f
    isplitr; · ipureintro; intro y hy; omega
    iexact H11
  iintro %acc ⟨H2, H11⟩
  iapply Hk
  isplitl [H2]; · iexact H2
  rw [show Scf.trips k0_t1_loop.lb k0_t1_loop.ub k0_t1_loop.st = 16 from trips2]
  unfold filled
  icases H11 with ⟨%g, %hg, H11⟩
  rw [show g = hid sc sh nw x from funext fun y => hg y (by have : (y 0 : ℕ) < 2048 := (y 0).isLt; omega)]
  iexact H11

/-! ## The body -/

/-- One operation, then the rest. -/
theorem bind_step {α β : Type} {p : Prog (TpuEff nD τ sig (Elt F) Λ₀ .tc) α} {k : α → Prog (TpuEff nD τ sig (Elt F) Λ₀ .tc) β} {Q : β → sProp 𝕄} :
    ((wpB c) p (fun a => (wpB c) (k a) Q)) ⊢ (wpB c) (p >>= k) Q :=
  Entails.of_eq (wp_bind ..).symm

/-- The inputs a point reads: the tile's rows, its shift, its scale, the norm's weight, the two wide blocks, the narrow one. -/
def ins (x : S2048x1024.Idx → F .f32) (sh sc : S1x1x1024.Idx → F .f32) (nw : S1x1024.Idx → F .f32) (wa wb : S1024x1024.Idx → F .bf16) (wd : S1024x128.Idx → F .bf16) : sProp 𝕄 :=
  iprop(owns (c : Thread nD τ) arg2 fullShare x ∗ owns (c : Thread nD τ) arg3 fullShare sh ∗ owns (c : Thread nD τ) arg4 fullShare sc
    ∗ owns (c : Thread nD τ) arg5 fullShare nw ∗ owns (c : Thread nD τ) arg6 fullShare wa ∗ owns (c : Thread nD τ) arg7 fullShare wb
    ∗ owns (c : Thread nD τ) arg8 fullShare wd)

/-- A point of the wide product's first kind of block. -/
abbrev wideA (H : S2048x1024.Idx → F .bf16) (w : S1024x1024.Idx → F .bf16) : S2048x1024.Idx → F .bf16 := k0_pay3 H w
/-- A point of its second kind. -/
abbrev wideB (H : S2048x1024.Idx → F .bf16) (w : S1024x1024.Idx → F .bf16) : S2048x1024.Idx → F .bf16 := k0_pay4 H w
/-- The narrow product. -/
abbrev narrow (H : S2048x1024.Idx → F .bf16) (w : S1024x128.Idx → F .bf16) : S2048x128.Idx → F .f32 := k0_pay2 H w

variable {x : S2048x1024.Idx → F .f32} {sh sc : S1x1x1024.Idx → F .f32} {nw : S1x1024.Idx → F .f32} {wa wb : S1024x1024.Idx → F .bf16} {wd : S1024x128.Idx → F .bf16}

/-- THE BODY AT A TILE'S FIRST POINT. -/
theorem body_first (h1 : k0_cond1 i = 1#1) (h2 : k0_cond2 i = 1#1) (h3 : ¬ k0_cond3 i = 1#1) {g9 : S2048x1024.Idx → F .bf16} {g10 : S2048x128.Idx → F .f32} {Q : PUnit → sProp 𝕄} :
    iprop(ins c arg2 arg3 arg4 arg5 arg6 arg7 arg8 x sh sc nw wa wb wd ∗ owns (c : Thread nD τ) arg9 fullShare g9 ∗ owns (c : Thread nD τ) arg10 fullShare g10
        ∗ (∃ f, owns (c : Thread nD τ) arg11 fullShare f))
      ⊢ iprop((iprop(ins c arg2 arg3 arg4 arg5 arg6 arg7 arg8 x sh sc nw wa wb wd ∗ owns (c : Thread nD τ) arg9 fullShare (wideA (hid sc sh nw x) wa)
            ∗ owns (c : Thread nD τ) arg10 fullShare (narrow (hid sc sh nw x) wd) ∗ owns (c : Thread nD τ) arg11 fullShare (hid sc sh nw x)) -∗ Q ⟨⟩)
        -∗ (wpB c) (cc0_inproj (F := F) i arg2 harg2 arg3 harg3 arg4 harg4 arg5 harg5 arg6 harg6 arg7 harg7 arg8 harg8 arg9 harg9 arg10 harg10 arg11 harg11) Q) := by
  rw [cc0_inproj_eq_skeleton]
  unfold cc0_inproj_skel ins
  rw [dif_pos h1, dif_pos h2, dif_neg h3]
  iintro ⟨⟨H2, H3, H4, H5, H6, H7, H8⟩, H9, H10, H11⟩ Hk
  iapply bind_step
  iapply load_all $$ H4
  iintro H4
  iapply bind_step
  iapply load_all $$ H3
  iintro H3
  iapply bind_step
  iapply load_all $$ H5
  iintro H5
  iapply bind_step
  iapply (fill c i arg2 harg2 arg3 harg3 arg4 harg4 arg5 harg5 arg6 harg6 arg7 harg7 arg8 harg8 arg9 harg9 arg10 harg10 arg11 harg11 h1) $$ [H2 H11]
  · isplitl [H2]; · iexact H2
    iexact H11
  iintro ⟨H2, H11⟩
  iapply bind_step
  iapply load_all $$ H11
  iintro H11
  iapply bind_step
  iapply load_all $$ H8
  iintro H8
  iapply bind_step
  iapply load_all $$ H10
  iintro H10
  iapply bind_step
  iapply store_all $$ H10
  iintro H10
  iapply bind_step
  iapply load_all $$ H11
  iintro H11
  iapply bind_step
  iapply load_all $$ H6
  iintro H6
  iapply bind_step
  iapply load_all $$ H9
  iintro H9
  iapply bind_step
  iapply store_all $$ H9
  iintro H9
  rw [wp_pure]
  imodintro
  iapply Hk
  isplitr [H9 H10 H11]
  · isplitl [H2]; · iexact H2
    isplitl [H3]; · iexact H3
    isplitl [H4]; · iexact H4
    isplitl [H5]; · iexact H5
    isplitl [H6]; · iexact H6
    isplitl [H7]; · iexact H7
    iexact H8
  isplitl [H9]; · iexact H9
  isplitl [H10]; · iexact H10
  iexact H11

/-- THE BODY AT A LATER POINT of the first kind. -/
theorem body_mid (h1 : ¬ k0_cond1 i = 1#1) (h2 : k0_cond2 i = 1#1) (h3 : ¬ k0_cond3 i = 1#1) {H : S2048x1024.Idx → F .bf16} {g9 : S2048x1024.Idx → F .bf16} {Q : PUnit → sProp 𝕄} :
    iprop(owns (c : Thread nD τ) arg6 fullShare wa ∗ owns (c : Thread nD τ) arg9 fullShare g9 ∗ owns (c : Thread nD τ) arg11 fullShare H)
      ⊢ iprop((iprop(owns (c : Thread nD τ) arg6 fullShare wa ∗ owns (c : Thread nD τ) arg9 fullShare (wideA H wa) ∗ owns (c : Thread nD τ) arg11 fullShare H) -∗ Q ⟨⟩)
        -∗ (wpB c) (cc0_inproj (F := F) i arg2 harg2 arg3 harg3 arg4 harg4 arg5 harg5 arg6 harg6 arg7 harg7 arg8 harg8 arg9 harg9 arg10 harg10 arg11 harg11) Q) := by
  rw [cc0_inproj_eq_skeleton]
  unfold cc0_inproj_skel
  rw [dif_neg h1, dif_pos h2, dif_neg h3]
  iintro ⟨H6, H9, H11⟩ Hk
  iapply bind_step
  iapply load_all $$ H11
  iintro H11
  iapply bind_step
  iapply load_all $$ H6
  iintro H6
  iapply bind_step
  iapply load_all $$ H9
  iintro H9
  iapply bind_step
  iapply store_all $$ H9
  iintro H9
  rw [wp_pure]
  imodintro
  iapply Hk
  isplitl [H6]; · iexact H6
  isplitl [H9]; · iexact H9
  iexact H11

/-- THE BODY AT A POINT of the second kind. -/
theorem body_last (h1 : ¬ k0_cond1 i = 1#1) (h2 : ¬ k0_cond2 i = 1#1) (h3 : k0_cond3 i = 1#1) {H : S2048x1024.Idx → F .bf16} {g9 : S2048x1024.Idx → F .bf16} {Q : PUnit → sProp 𝕄} :
    iprop(owns (c : Thread nD τ) arg7 fullShare wb ∗ owns (c : Thread nD τ) arg9 fullShare g9 ∗ owns (c : Thread nD τ) arg11 fullShare H)
      ⊢ iprop((iprop(owns (c : Thread nD τ) arg7 fullShare wb ∗ owns (c : Thread nD τ) arg9 fullShare (wideB H wb) ∗ owns (c : Thread nD τ) arg11 fullShare H) -∗ Q ⟨⟩)
        -∗ (wpB c) (cc0_inproj (F := F) i arg2 harg2 arg3 harg3 arg4 harg4 arg5 harg5 arg6 harg6 arg7 harg7 arg8 harg8 arg9 harg9 arg10 harg10 arg11 harg11) Q) := by
  rw [cc0_inproj_eq_skeleton]
  unfold cc0_inproj_skel
  rw [dif_neg h1, dif_neg h2, dif_pos h3]
  iintro ⟨H7, H9, H11⟩ Hk
  iapply bind_step
  iapply load_all $$ H11
  iintro H11
  iapply bind_step
  iapply load_all $$ H7
  iintro H7
  iapply bind_step
  iapply load_all $$ H9
  iintro H9
  iapply bind_step
  iapply store_all $$ H9
  iintro H9
  rw [wp_pure]
  imodintro
  iapply Hk
  isplitl [H7]; · iexact H7
  isplitl [H9]; · iexact H9
  iexact H11

end Args

end Cert.Kernel2Ideal.Inproj

end
-- ==== Proof.InRun.lean ====
/-
  The input projection's run: what every window holds at each grid point, the body at every point, and the launch. From
  any memory the program ends with the argument arrays as they were, the two results as the points' blocks leave them,
  and every semaphore at zero.
-/
module

public import proofs.«01_k».proof.Proof.InBody
public import Idealize.ShloMosaic.Lib.StableHlo.Run

@[expose] public section

set_option maxRecDepth 16384

noncomputable section

namespace Cert.Kernel2Ideal.Inproj

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Where a point stands in its tile: eleven points a tile -/

theorem cond1_iff : ∀ t : Fin cfg0.N, k0_cond1 (cfg0.grid.coords t) = 1#1 ↔ t.val % 11 = 0 := by decide +kernel
theorem cond2_iff : ∀ t : Fin cfg0.N, k0_cond2 (cfg0.grid.coords t) = 1#1 ↔ t.val % 11 < 6 := by decide +kernel
theorem cond3_iff : ∀ t : Fin cfg0.N, k0_cond3 (cfg0.grid.coords t) = 1#1 ↔ 6 ≤ t.val % 11 := by decide +kernel

theorem idle7 : ∀ t : Fin cfg0.N, cfg0.idle 7 (cfg0.grid.coords t) = false := by decide +kernel
theorem idle8_first : ∀ t : Fin cfg0.N, t.val % 11 = 0 → cfg0.idle 8 (cfg0.grid.coords t) = false := by decide +kernel
theorem idle8_later : ∀ t : Fin cfg0.N, t.val % 11 ≠ 0 → cfg0.idle 8 (cfg0.grid.coords t) = true := by decide +kernel

/-- Tile `n`'s first point. -/
def first (n : ℕ) : Fin cfg0.N := ⟨11 * n % 88, by rw [show cfg0.N = 88 from N_0]; exact Nat.mod_lt _ (by decide)⟩

theorem first_eq (t : Fin cfg0.N) (h : t.val % 11 = 0) : first (t.val / 11) = t := by
  have ht : t.val < 88 := N_0 ▸ t.isLt
  exact Fin.ext (by show 11 * (t.val / 11) % 88 = t.val; omega)

/-! ## What the points leave -/

/-- Tile `n`'s rows, normalised and modulated, from the blocks its first point reads. -/
def hidAt (c : Dev nD) (n : ℕ) : S2048x1024.Idx → F .bf16 :=
  hid (iblk m c 2 (first n)) (iblk m c 1 (first n)) (iblk m c 3 (first n)) (iblk m c 0 (first n))

/-- The wide result's block at point `t`. -/
def wideAt (c : Dev nD) (t : Fin cfg0.N) : S2048x1024.Idx → F .bf16 :=
  if t.val % 11 < 6 then wideA (hidAt m c (t.val / 11)) (X0_4 m c t) else wideB (hidAt m c (t.val / 11)) (iblk m c 5 t)

/-- The narrow result's block of tile `n`. -/
def narrowAt (c : Dev nD) (n : ℕ) : S2048x128.Idx → F .f32 := narrow (hidAt m c n) (iblk m c 6 (first n))

/-- Between the points: from a tile's second point on, the scratch holds the tile's rows. -/
def held (c : Dev nD) (t : ℕ) : sProp 𝕄 :=
  iprop((∃ f, ⌜t % 11 ≠ 0 → f = hidAt m c (t / 11)⌝ ∗ owns (c : Thread nD τ) (Memref.whole cc0_scratch0) fullShare f) ∗ ∃ r, prngReg c r)

/-- The pipeline's data. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => X0_4 m c t
    | ⟨5, _⟩ => iblk m c 5 t
    | ⟨6, _⟩ => iblk m c 6 t
    | ⟨7, _⟩ => wideAt m c t
    | ⟨8, _⟩ => narrowAt m c (t.val / 11)
  Φ t := held m c t
  q := Pipeline.shareOf spec0
  owed _ := 0

theorem A_eq (c : Dev nD) (w : Fin cfg0.W) : (dats m 0 c).A w = V m c (Pipeline.arrRef spec0 w) := by dsimp only [dats]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = X0_4 m c t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = wideAt m c t := by dsimp only [dats]
theorem after8 (c : Dev nD) (t : Fin cfg0.N) : (dats m 0 c).after 8 t = narrowAt m c (t.val / 11) := by dsimp only [dats]

theorem before0 (c : Dev nD) (t : Fin cfg0.N) (d) : (dats m 0 c).before 0 t d = iblk m c 0 t := before0_0_of m _ (A_eq m c 0) (after0 m c) t d
theorem before1 (c : Dev nD) (t : Fin cfg0.N) (d) : (dats m 0 c).before 1 t d = iblk m c 1 t := before0_1_of m _ (A_eq m c 1) (after1 m c) t d
theorem before2 (c : Dev nD) (t : Fin cfg0.N) (d) : (dats m 0 c).before 2 t d = iblk m c 2 t := before0_2_of m _ (A_eq m c 2) (after2 m c) t d
theorem before3 (c : Dev nD) (t : Fin cfg0.N) (d) : (dats m 0 c).before 3 t d = iblk m c 3 t := before0_3_of m _ (A_eq m c 3) (after3 m c) t d
theorem before4 (c : Dev nD) (t : Fin cfg0.N) (d) : (dats m 0 c).before 4 t d = X0_4 m c t := before0_4_of m _ (A_eq m c 4) (after4 m c) t d
theorem before5 (c : Dev nD) (t : Fin cfg0.N) (d) : (dats m 0 c).before 5 t d = iblk m c 5 t := before0_5_of m _ (A_eq m c 5) (after5 m c) t d
theorem before6 (c : Dev nD) (t : Fin cfg0.N) (d) : (dats m 0 c).before 6 t d = iblk m c 6 t := before0_6_of m _ (A_eq m c 6) (after6 m c) t d

/-- From a tile's second point on, the narrow result's buffer holds what the first point left there. -/
theorem before8 (c : Dev nD) (d) : ∀ (n : ℕ) (t : Fin cfg0.N), t.val = n → n % 11 ≠ 0 → (dats m 0 c).before 8 t d = narrowAt m c (t.val / 11)
  | 0, _, _, h => absurd rfl h
  | n + 1, t, ht, h => by
    rw [(dats m 0 c).before_of_pos 8 t (by omega) ((cfg0.win 8).fetch_out rfl t)]
    have hlt : n < cfg0.N := by have := t.isLt; omega
    rw [show (⟨t.val - 1, Nat.lt_of_le_of_lt (Nat.sub_le _ _) t.isLt⟩ : Fin cfg0.N) = ⟨n, hlt⟩ from Fin.ext (by show t.val - 1 = n; omega)]
    rw [if_neg (fun e => by have := (flush0_8 ⟨n, hlt⟩).mp e; have h' : n % 11 = 10 := this; omega)]
    have hq : narrowAt m c (t.val / 11) = narrowAt m c (n / 11) := congrArg (narrowAt m c) (by omega)
    unfold Dat.left
    by_cases h0 : n % 11 = 0
    · rw [idle8_first ⟨n, hlt⟩ h0]
      exact (after8 m c ⟨n, hlt⟩).trans hq.symm
    · rw [idle8_later ⟨n, hlt⟩ h0]
      exact (before8 c d n ⟨n, hlt⟩ rfl h0).trans hq.symm

/-! ## The body at every point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d)) ∗ (∃ d, owns (c : Thread nD τ) (st0_1 t) fullShare ((dats m 0 c).before 1 t d))
    ∗ (∃ d, owns (c : Thread nD τ) (st0_2 t) fullShare ((dats m 0 c).before 2 t d)) ∗ (∃ d, owns (c : Thread nD τ) (st0_3 t) fullShare ((dats m 0 c).before 3 t d))
    ∗ (∃ d, owns (c : Thread nD τ) (st0_4 t) fullShare ((dats m 0 c).before 4 t d)) ∗ (∃ d, owns (c : Thread nD τ) (st0_5 t) fullShare ((dats m 0 c).before 5 t d))
    ∗ (∃ d, owns (c : Thread nD τ) (st0_6 t) fullShare ((dats m 0 c).before 6 t d)) ∗ (∃ d, owns (c : Thread nD τ) (st0_7 t) fullShare ((dats m 0 c).before 7 t d))
    ∗ (∃ d, owns (c : Thread nD τ) (st0_8 t) fullShare ((dats m 0 c).before 8 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t) ∗ owns (c : Thread nD τ) (st0_1 t) fullShare ((dats m 0 c).after 1 t)
    ∗ owns (c : Thread nD τ) (st0_2 t) fullShare ((dats m 0 c).after 2 t) ∗ owns (c : Thread nD τ) (st0_3 t) fullShare ((dats m 0 c).after 3 t)
    ∗ owns (c : Thread nD τ) (st0_4 t) fullShare ((dats m 0 c).after 4 t) ∗ owns (c : Thread nD τ) (st0_5 t) fullShare ((dats m 0 c).after 5 t)
    ∗ owns (c : Thread nD τ) (st0_6 t) fullShare ((dats m 0 c).after 6 t) ∗ owns (c : Thread nD τ) (st0_7 t) fullShare ((dats m 0 c).after 7 t)
    ∗ owns (c : Thread nD τ) (st0_8 t) fullShare ((dats m 0 c).after 8 t))

theorem sound_body (c : Dev nD) (t : Fin cfg0.N) :
    bodyPre m c t ⊢ wp frame (wpE (defs₀ (F := F)) Variants.none (c : Thread nD τ) none) Set.univ (bodyAt0 t) (fun _ => bodyPost m c t) := by
  have ht : t.val < 88 := N_0 ▸ t.isLt
  unfold bodyPre bodyPost bodyAt0
  rw [show (dats m 0 c).Φ t.castSucc = held m c t.val from rfl, show (dats m 0 c).Φ t.succ = held m c (t.val + 1) from rfl]
  simp only [before0, before1, before2, before3, before4, before5, before6, after0, after1, after2, after3, after4, after5, after6, after7, after8]
  unfold Dat.owesAt Pipeline.owesWithin
  rw [show (dats m 0 c).owed t.castSucc = 0 from rfl, show (dats m 0 c).owed t.succ = 0 from rfl]
  by_cases h1 : t.val % 11 = 0
  · unfold held
    iintro ⟨⟨⟨%f, -, H11⟩, Hg⟩, HW, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (body_first c (cfg0.grid.coords t) (st0_0 t) _ (st0_1 t) _ (st0_2 t) _ (st0_3 t) _ (st0_4 t) _ (st0_5 t) _ (st0_6 t) _ (st0_7 t) _ (st0_8 t) _
      (Memref.whole cc0_scratch0) _ ((cond1_iff t).mpr h1) ((cond2_iff t).mpr (by omega)) (fun e => by have := (cond3_iff t).mp e; omega)
      (x := iblk m c 0 t) (sh := iblk m c 1 t) (sc := iblk m c 2 t) (nw := iblk m c 3 t) (wa := X0_4 m c t) (wb := iblk m c 5 t) (wd := iblk m c 6 t)) $$ [H0 H1 H2 H3 H4 H5 H6 H7 H8 H11]
    · unfold ins
      isplitr [H7 H8 H11]
      · isplitl [H0]; · iexact H0
        isplitl [H1]; · iexact H1
        isplitl [H2]; · iexact H2
        isplitl [H3]; · iexact H3
        isplitl [H4]; · iexact H4
        isplitl [H5]; · iexact H5
        iexact H6
      isplitl [H7]; · iexact H7
      isplitl [H8]; · iexact H8
      iexists f; iexact H11
    have hh : hidAt m c (t.val / 11) = hid (iblk m c 2 t) (iblk m c 1 t) (iblk m c 3 t) (iblk m c 0 t) := by
      unfold hidAt; rw [first_eq t h1]
    have hn : narrowAt m c (t.val / 11) = narrow (hid (iblk m c 2 t) (iblk m c 1 t) (iblk m c 3 t) (iblk m c 0 t)) (iblk m c 6 t) := by
      unfold narrowAt; rw [hh, first_eq t h1]
    have hw : wideAt m c t = wideA (hid (iblk m c 2 t) (iblk m c 1 t) (iblk m c 3 t) (iblk m c 0 t)) (X0_4 m c t) := by
      unfold wideAt; rw [if_pos (by omega), hh]
    rw [hn, hw]
    unfold ins
    iintro ⟨⟨H0, H1, H2, H3, H4, H5, H6⟩, H7, H8, H11⟩
    isplitl [H11 Hg]
    · isplitl [H11]
      · iexists _
        isplitr
        rotate_left
        · iexact H11
        ipureintro
        intro _
        rw [← hh]
        exact congrArg (hidAt m c) (by omega)
      iexact Hg
    isplitl [HW]; · iexact HW
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · unfold held
    iintro ⟨⟨⟨%f, %hf, H11⟩, Hg⟩, HW, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    rw [before8 m c d8 t.val t rfl h1]
    have hf' : f = hidAt m c (t.val / 11) := hf h1
    subst hf'
    have hnext : (t.val + 1) % 11 ≠ 0 → hidAt m c (t.val / 11) = hidAt m c ((t.val + 1) / 11) := fun h => congrArg (hidAt m c) (by omega)
    by_cases h2 : t.val % 11 < 6
    · have hw : wideAt m c t = wideA (hidAt m c (t.val / 11)) (X0_4 m c t) := by unfold wideAt; rw [if_pos h2]
      rw [hw]
      iapply (body_mid c (cfg0.grid.coords t) (st0_0 t) _ (st0_1 t) _ (st0_2 t) _ (st0_3 t) _ (st0_4 t) _ (st0_5 t) _ (st0_6 t) _ (st0_7 t) _ (st0_8 t) _
        (Memref.whole cc0_scratch0) _ (fun e => h1 ((cond1_iff t).mp e)) ((cond2_iff t).mpr h2) (fun e => by have := (cond3_iff t).mp e; omega)) $$ [H4 H7 H11]
      · isplitl [H4]; · iexact H4
        isplitl [H7]; · iexact H7
        iexact H11
      iintro ⟨H4, H7, H11⟩
      isplitl [H11 Hg]
      · isplitl [H11]
        · iexists _
          isplitr
          rotate_left
          · iexact H11
          ipureintro
          exact hnext
        iexact Hg
      isplitl [HW]; · iexact HW
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    · have hw : wideAt m c t = wideB (hidAt m c (t.val / 11)) (iblk m c 5 t) := by unfold wideAt; rw [if_neg h2]
      rw [hw]
      iapply (body_last c (cfg0.grid.coords t) (st0_0 t) _ (st0_1 t) _ (st0_2 t) _ (st0_3 t) _ (st0_4 t) _ (st0_5 t) _ (st0_6 t) _ (st0_7 t) _ (st0_8 t) _
        (Memref.whole cc0_scratch0) _ (fun e => h1 ((cond1_iff t).mp e)) (fun e => h2 ((cond2_iff t).mp e)) ((cond3_iff t).mpr (by omega))) $$ [H5 H7 H11]
      · isplitl [H5]; · iexact H5
        isplitl [H7]; · iexact H7
        iexact H11
      iintro ⟨H5, H7, H11⟩
      isplitl [H11 Hg]
      · isplitl [H11]
        · iexists _
          isplitr
          rotate_left
          · iexact H11
          ipureintro
          exact hnext
        iexact Hg
      isplitl [HW]; · iexact HW
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8

theorem defs₀_row (t : Fin cfg0.N) :
    defs₀ (F := F) .tc cfg0.body (cfg0.bodyArgs t (cfg0.slots t)) = bodyAt0 t := by
  unfold defs₀; rw [Defs.onTc_tc]

/-- What a point leaves in the wide result's buffer, as the obligation words it. -/
theorem leaves7 (c : Dev nD) (t : Fin cfg0.N) :
    (owns (c : Thread nD τ) (st0_7 t) fullShare ((dats m 0 c).after 7 t) : sProp 𝕄) ⊢ (dats m 0 c).leavesExact 7 t := by
  unfold Dat.leavesExact
  rw [idle7 t]

/-- What it leaves in the narrow one's. -/
theorem leaves8 (c : Dev nD) (t : Fin cfg0.N) :
    (owns (c : Thread nD τ) (st0_8 t) fullShare ((dats m 0 c).after 8 t) : sProp 𝕄) ⊢ (dats m 0 c).leavesExact 8 t := by
  unfold Dat.leavesExact
  by_cases h : t.val % 11 = 0
  · rw [idle8_first t h]
  · rw [idle8_later t h]
    cases hfl : (cfg0.win 8).flush t
    · rw [after8]
      iintro H
      iexists (fun _ => Classical.choice inferInstance)
      rw [before8 m c _ t.val t rfl h]
      iexact H
    · exact .rfl

theorem body_obligation (c : Dev nD) : BodyObligation (dats m 0 c) (defs₀ (F := F)) Variants.none () Set.univ := fun t => by
  rw [bigSep_W0, bigSep_W0, defs₀_row]
  refine triple_restated (sound_body m c t) rfl .rfl fun _ => ?_
  have h (w : Fin 9) (hw : cfg0.idle w (cfg0.grid.coords t) = false) :
      (owns (c : Thread nD τ) ((cfg0.win w).stage (cfg0.slots t w)) fullShare ((dats m 0 c).after w t) : sProp 𝕄) ⊢ (dats m 0 c).leavesExact w t := by
    unfold Dat.leavesExact
    rw [hw]
  unfold bodyPost
  refine sep_mono_right (sep_mono_right ?_)
  refine BI.sep_mono (h 0 rfl) ?_
  refine BI.sep_mono (h 1 rfl) ?_
  refine BI.sep_mono (h 2 rfl) ?_
  refine BI.sep_mono (h 3 rfl) ?_
  refine BI.sep_mono (h 4 rfl) ?_
  refine BI.sep_mono (h 5 rfl) ?_
  refine BI.sep_mono (h 6 rfl) ?_
  exact BIClass.sep_mono (leaves7 m c t) (leaves8 m c t)

/-! ## The launch -/

theorem held_start (c : Dev nD) : Pipeline.ΦA (Val := Elt F) spec0 c ⊢ (dats m 0 c).Φ 0 := by
  rw [show (dats m 0 c).Φ 0 = held m c 0 from rfl]
  unfold Pipeline.ΦA held
  rw [scopedRest0_eq]
  iintro ⟨⟨%f, Hf⟩, Hg⟩
  isplitl [Hf]
  · iexists f
    isplitr; · ipureintro; exact fun h => absurd rfl h
    rw [owns_whole (c : Thread nD τ) cc0_scratch0 fullShare f]
    iexact Hf
  iexact Hg

theorem held_end (c : Dev nD) : (dats m 0 c).Φ (Fin.last cfg0.N) ⊢ Pipeline.ΦA (Val := Elt F) spec0 c := by
  rw [show (dats m 0 c).Φ (Fin.last cfg0.N) = held m c cfg0.N from rfl]
  unfold Pipeline.ΦA held
  rw [scopedRest0_eq]
  iintro ⟨⟨%f, -, Hf⟩, Hg⟩
  isplitl [Hf]
  · iexists f
    iapply (BIBase.Entails.of_eq (owns_whole (Val := Elt F) (c : Thread nD τ) cc0_scratch0 fullShare f))
    iexact Hf
  iexact Hg

set_option backward.isDefEq.respectTransparency.types false in
/-- THE RUN: the two results end at what the points wrote back, the arguments as they were, every semaphore at zero. -/
theorem run_main :
    θ_run defs (onTc (τ := τ) (main (F := F))) ⟨m, fun _ => 0, ρ⟩ (fun r => (∀ c : Dev nD,
      (r.2.mem ((c.tc : Thread nD τ).loc main_v9_0) = (dats m 0 c).arrAt 7 cfg0.N
      ∧ r.2.mem ((c.tc : Thread nD τ).loc main_v9_1) = (dats m 0 c).arrAt 8 cfg0.N)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  Pipeline.θ_run_frame_track_shared cfgs (dats m) (0 : Fin 1) launch₀0 defs₀ Variants.none m ρ main
    (hbody := fun c => (body_obligation m c).loose) (hq := fun _ _ _ => rfl) (howed := fun _ _ => rfl) (V := V m)
    (hmain := hmain m Variants.none) (hA := A_eq m)
    (hin := held_start m) (hout := held_end m)
    (Q' := _)
    (hQ' := fun _ h => ⟨fun c => ⟨⟨(h.1 c).1 7, (h.1 c).1 8⟩,
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c)⟩, h.2⟩)

end Cert.Kernel2Ideal.Inproj

end
-- ==== Proof.InText.lean ====
/-
  The input projection as printed and as printed for the ideal instance are one text, as the dispatch's are: equal
  bodies, equal body tables.
-/
module

public import proofs.«01_k».proof.Proof.Gen.Kernel2
public import proofs.«01_k».proof.Proof.Gen.Kernel2Ideal

@[expose] public section

set_option maxRecDepth 100000

noncomputable section

namespace Cert.Inproj

open Idealize.ShloMosaic

variable {F : FTy → Type} [FloatOps F]

set_option maxHeartbeats 400000 in
theorem same_body : Cert.Kernel2.cc0_inproj (F := F) = Cert.Kernel2Ideal.cc0_inproj (F := F) := rfl

theorem same_bodies : Cert.Kernel2.defs₀ (F := F) = Cert.Kernel2Ideal.defs₀ (F := F) := by
  unfold Cert.Kernel2.defs₀
  rw [same_body]
  refine congrArg (Defs.onTc (Λ := Cert.Kernel2Ideal.Λ₀)) (funext fun l => funext fun a => ?_)
  match l, a with
  | ⟨0, _⟩, (t, s) => rfl

theorem same_defs : Cert.Kernel2.defs (F := F) = Cert.Kernel2Ideal.defs (F := F) := by
  unfold Cert.Kernel2.defs
  rw [same_bodies]
  rfl

end Cert.Inproj

end
-- ==== Proof.InRef.lean ====
/-
  The latent input projection at an index: what each element of the two results is, as a function of the four argument
  arrays, and that the reference computes it. An element is the inner product of a normalised, modulated row of `x`
  with a column of the weights; the wide result takes the columns in another order than the weights have them, and the
  narrow one takes the step columns followed by zeros.
-/
module

public import proofs.«01_k».proof.Proof.Gen.Reference2Ideal.Run
public import Idealize.ShloMosaic.Lib.Pointwise

@[expose] public section

set_option maxRecDepth 16384

noncomputable section

namespace Cert.Inproj

open Idealize.ShloMosaic Idealize.ShloMosaic.TcCoe
open Cert.Reference2Ideal Cert.Reference2Ideal.Gen Cert.Reference2Ideal.Value

/-- Element `k` of the row at position `p` of batch `b`, normalised by the row's root mean square and modulated. -/
def normed (x : FVec Ideal S4x4096x1024 .f32) (md : FVec Ideal S8x6144 .f32) (nw : FVec Ideal S1x1024 .f32)
    (b : Fin 4) (p : Fin 4096) (k : Fin 1024) : Ideal .f32 :=
  x (ix3 b p k) *
        Ideal.rsqrt
          (Ideal.div (∑ l : Fin 1024, x (ix3 b p l) * x (ix3 b p l)) (Ideal.ofBits FTy.f32 0x44800000#32) +
            Ideal.ofBits FTy.f32 0x358637BD#32) *
      nw (ix2 0 k) *
    (1 + md (ix2 ⟨b.val, by omega⟩ ⟨1024 + k.val, by omega⟩)) +
  md (ix2 ⟨b.val, by omega⟩ ⟨k.val, by omega⟩)

/-- The row's inner product with a column of the weights. -/
def rowDot (x : FVec Ideal S4x4096x1024 .f32) (md : FVec Ideal S8x6144 .f32) (nw : FVec Ideal S1x1024 .f32)
    (w : FVec Ideal S1x1024x11328 .f32) (b : Fin 4) (p : Fin 4096) (q : Fin 11328) : Ideal .f32 :=
  ∑ k : Fin 1024, normed x md nw b p k * w (ix3 0 k q)

/-- The weights' column that column `q` of the wide result comes from. -/
def source (q : ℕ) : ℕ :=
  if q < 4096 then 2048 + q else if q < 6144 then q - 4096 else if q < 8192 then 3136 + q else q - 1984

theorem source_lt {q : ℕ} (h : q < 11264) : source q < 11328 := by
  unfold source; split_ifs <;> omega

/-- The wide result. -/
def wideSpec (x : FVec Ideal S4x4096x1024 .f32) (md : FVec Ideal S8x6144 .f32) (nw : FVec Ideal S1x1024 .f32)
    (w : FVec Ideal S1x1024x11328 .f32) : FVec Ideal S16384x11264 .bf16 := fun z =>
  have h0 : (z 0).val < 16384 := (z 0).isLt
  have h1 : (z 1).val < 11264 := (z 1).isLt
  rowDot x md nw w ⟨(z 0).val / 4096, by omega⟩ ⟨(z 0).val % 4096, by omega⟩ ⟨source (z 1).val, source_lt h1⟩

/-- The narrow result. -/
def narrowSpec (x : FVec Ideal S4x4096x1024 .f32) (md : FVec Ideal S8x6144 .f32) (nw : FVec Ideal S1x1024 .f32)
    (w : FVec Ideal S1x1024x11328 .f32) : FVec Ideal S16384x128 .f32 := fun z =>
  have h0 : (z 0).val < 16384 := (z 0).isLt
  if h : (z 1).val < 64 then
    rowDot x md nw w ⟨(z 0).val / 4096, by omega⟩ ⟨(z 0).val % 4096, by omega⟩ ⟨6144 + (z 1).val, by omega⟩
  else 0

theorem wideSpec_at (x : FVec Ideal S4x4096x1024 .f32) (md : FVec Ideal S8x6144 .f32) (nw : FVec Ideal S1x1024 .f32)
    (w : FVec Ideal S1x1024x11328 .f32) (r : Fin 16384) (q : Fin 11264) (b : Fin 4) (p : Fin 4096)
    (hb : b.val = r.val / 4096) (hp : p.val = r.val % 4096) :
    wideSpec x md nw w (ix2 r q) = rowDot x md nw w b p ⟨source q.val, source_lt q.isLt⟩ := by
  obtain ⟨b, _⟩ := b
  obtain ⟨p, _⟩ := p
  obtain rfl : b = _ := hb
  obtain rfl : p = _ := hp
  rfl

theorem narrowSpec_at (x : FVec Ideal S4x4096x1024 .f32) (md : FVec Ideal S8x6144 .f32) (nw : FVec Ideal S1x1024 .f32)
    (w : FVec Ideal S1x1024x11328 .f32) (r : Fin 16384) (q : Fin 128) (b : Fin 4) (p : Fin 4096)
    (hb : b.val = r.val / 4096) (hp : p.val = r.val % 4096) :
    narrowSpec x md nw w (ix2 r q) = if h : q.val < 64 then rowDot x md nw w b p ⟨6144 + q.val, by omega⟩ else 0 := by
  obtain ⟨b, _⟩ := b
  obtain ⟨p, _⟩ := p
  obtain rfl : b = _ := hb
  obtain rfl : p = _ := hp
  rfl

/-! ## The reference's lines -/

/-- The normalised and modulated input, as the reference writes it. -/
def hRef (x : FVec Ideal S4x4096x1024 .f32) (md : FVec Ideal S8x6144 .f32) (nw : FVec Ideal S1x1024 .f32) :
    FVec Ideal S4x4096x1024 .f32 :=
  addf (mulf (mulf (mulf x (broadcastInDim S4x4096x1024 ![0, 1, 2] bcast_S4x4096x1_S4x4096x1024_0_1_2 (Host.rsqrt (addf (Host.divf (broadcastInDim S4x4096x1 ![0, 1] bcast_S4x4096_S4x4096x1_0_1 (Host.reduceAdd (mulf x x) (constant S_ .f32 0x00000000#32) reducesTo_S4x4096x1024_S4x4096_d2 h_S_)) (broadcastInDim S4x4096x1 ![] bcast_S_S4x4096x1 (constant S_ .f32 0x44800000#32))) (broadcastInDim S4x4096x1 ![] bcast_S_S4x4096x1 (constant S_ .f32 0x358637BD#32)))))) (broadcastInDim S4x4096x1024 ![0, 1, 2] bcast_S1x1x1024_S4x4096x1024_0_1_2 (broadcastInDim S1x1x1024 ![2] bcast_S1024_S1x1x1024_2 (shapeCast _ nw shapeCasts_S1x1024_S1024)))) (broadcastInDim S4x4096x1024 ![0, 1, 2] bcast_S4x1x1024_S4x4096x1024_0_1_2 (addf (broadcastInDim S4x1x1024 ![] bcast_S_S4x1x1024 (constant S_ .f32 0x3F800000#32)) (broadcastInDim S4x1x1024 ![0, 2] bcast_S4x1024_S4x1x1024_0_2 (extractStridedSlice S4x1024 ![0, 1024] (extractStridedSlice S4x6144 ![0, 0] md slices_S8x6144_S4x6144_0_0) slices_S4x6144_S4x1024_0_1024))))) (broadcastInDim S4x4096x1024 ![0, 1, 2] bcast_S4x1x1024_S4x4096x1024_0_1_2 (broadcastInDim S4x1x1024 ![0, 2] bcast_S4x1024_S4x1x1024_0_2 (extractStridedSlice S4x1024 ![0, 0] (extractStridedSlice S4x6144 ![0, 0] md slices_S8x6144_S4x6144_0_0) slices_S4x6144_S4x1024_0_0)))

/-- Its product with the weights. -/
def dotRef (h : FVec Ideal S4x4096x1024 .f32) (w : FVec Ideal S1x1024x11328 .f32) : FVec Ideal S4x4096x11328 .f32 :=
  Host.dotGeneral (F := Ideal) dot_S4x4096x1024_S1024x11328_S4x4096x11328_2_0_01_1_n_n none h
    (shapeCast _ w shapeCasts_S1x1024x11328_S1024x11328)

/-- The wide result from the product. -/
def wideRef (d : FVec Ideal S4x4096x11328 .f32) : FVec Ideal S16384x11264 .bf16 :=
  truncf .bf16 (shapeCast _ (fn_main_v36 (F := Ideal)
    (extractStridedSlice S4x4096x4096 ![0, 0, 2048] d slices_S4x4096x11328_S4x4096x4096_0_0_2048)
    (extractStridedSlice S4x4096x2048 ![0, 0, 0] d slices_S4x4096x11328_S4x4096x2048_0_0_0)
    (extractStridedSlice S4x4096x2048 ![0, 0, 9280] d slices_S4x4096x11328_S4x4096x2048_0_0_9280)
    (extractStridedSlice S4x4096x3072 ![0, 0, 6208] d slices_S4x4096x11328_S4x4096x3072_0_0_6208))
    shapeCasts_S4x4096x11264_S16384x11264) bitsLt_bf16_f32

/-- The narrow result from the product. -/
def narrowRef (d : FVec Ideal S4x4096x11328 .f32) : FVec Ideal S16384x128 .f32 :=
  shapeCast _ (fn_main_v38 (F := Ideal)
    (extractStridedSlice S4x4096x64 ![0, 0, 6144] d slices_S4x4096x11328_S4x4096x64_0_0_6144)
    (broadcastInDim (α := Ideal .f32) S4x4096x64 ![] bcast_S_S4x4096x64 (constant S_ .f32 0x00000000#32)))
    shapeCasts_S4x4096x128_S16384x128

theorem hRef_at (x : FVec Ideal S4x4096x1024 .f32) (md : FVec Ideal S8x6144 .f32) (nw : FVec Ideal S1x1024 .f32)
    (b : Fin 4) (p : Fin 4096) (k : Fin 1024) : hRef x md nw (ix3 b p k) = normed x md nw b p k := by
  pointwise [hRef, normed]

theorem dotRef_at (h : FVec Ideal S4x4096x1024 .f32) (w : FVec Ideal S1x1024x11328 .f32)
    (b : Fin 4) (p : Fin 4096) (q : Fin 11328) :
    dotRef h w (ix3 b p q) = ∑ k : Fin 1024, h (ix3 b p k) * w (ix3 0 k q) := by
  pointwise [dotRef]

theorem wideRef_at (d : FVec Ideal S4x4096x11328 .f32) (r : Fin 16384) (q : Fin 11264) :
    wideRef d (ix2 r q) = d (ix3 ⟨r.val / 4096, by omega⟩ ⟨r.val % 4096, by omega⟩ ⟨source q.val, source_lt q.isLt⟩) := by
  pointwise [wideRef, fn_main_v36]
  have e : ∀ (s s' : Fin 11328), s.val = s'.val → ∀ b p, d (ix3 b p s) = d (ix3 b p s') :=
    fun s s' h b p => by rw [Fin.ext h]
  have hq := q.isLt
  split_ifs <;> refine e _ _ ?_ _ _ <;> simp only [source] <;> split_ifs <;> omega

theorem narrowRef_at (d : FVec Ideal S4x4096x11328 .f32) (r : Fin 16384) (q : Fin 128) :
    narrowRef d (ix2 r q) = if h : q.val < 64 then
      d (ix3 ⟨r.val / 4096, by omega⟩ ⟨r.val % 4096, by omega⟩ ⟨6144 + q.val, by omega⟩) else 0 := by
  pointwise [narrowRef, fn_main_v38]

theorem wideRef_eq (x : FVec Ideal S4x4096x1024 .f32) (md : FVec Ideal S8x6144 .f32) (nw : FVec Ideal S1x1024 .f32)
    (w : FVec Ideal S1x1024x11328 .f32) : wideRef (dotRef (hRef x md nw) w) = wideSpec x md nw w := by
  funext z
  idx_vars z
  rw [wideRef_at, dotRef_at]
  simp only [hRef_at]
  rfl

theorem narrowRef_eq (x : FVec Ideal S4x4096x1024 .f32) (md : FVec Ideal S8x6144 .f32) (nw : FVec Ideal S1x1024 .f32)
    (w : FVec Ideal S1x1024x11328 .f32) : narrowRef (dotRef (hRef x md nw) w) = narrowSpec x md nw w := by
  funext z
  idx_vars z
  rw [narrowRef_at]
  simp only [dotRef_at, hRef_at]
  rfl

open Idealize.SL.Sem Idealize.ShloMosaic.StableHlo in
/-- The reference's run, its results by the index. -/
theorem run_ref (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v40) =
          wideSpec (m ((c.tc : Thread nD τ).loc main_arg0)) (m ((c.tc : Thread nD τ).loc main_arg1))
            (m ((c.tc : Thread nD τ).loc main_arg2)) (m ((c.tc : Thread nD τ).loc main_arg3)) ∧
        r.2.mem ((c.tc : Thread nD τ).loc main_v41) =
          narrowSpec (m ((c.tc : Thread nD τ).loc main_arg0)) (m ((c.tc : Thread nD τ).loc main_arg1))
            (m ((c.tc : Thread nD τ).loc main_arg2)) (m ((c.tc : Thread nD τ).loc main_arg3)) ∧
        r.2.mem ((c.tc : Thread nD τ).loc main_arg0) = m ((c.tc : Thread nD τ).loc main_arg0) ∧
        r.2.mem ((c.tc : Thread nD τ).loc main_arg1) = m ((c.tc : Thread nD τ).loc main_arg1) ∧
        r.2.mem ((c.tc : Thread nD τ).loc main_arg2) = m ((c.tc : Thread nD τ).loc main_arg2) ∧
        r.2.mem ((c.tc : Thread nD τ).loc main_arg3) = m ((c.tc : Thread nD τ).loc main_arg3)) :=
  (θ_run defs _ _).mono (fun _ q c => ⟨(q c).1.trans ((rfl : res_main_v40 m c = wideRef (dotRef (hRef _ _ _) _)).trans
      (wideRef_eq _ _ _ _)), (q c).2.1.trans (narrowRef_eq _ _ _ _), (q c).2.2⟩)
    (Value.run (F := Ideal) m ρ)

end Cert.Inproj

end
-- ==== Proof.InValue.lean ====
/-
  The input projection's results by the index: each block a grid point writes is the block of the specification's
  array, and the blocks cover the two results.
-/
module

public import proofs.«01_k».proof.Proof.InRun
public import proofs.«01_k».proof.Proof.InRef
public import Idealize.ShloMosaic.Lib.Pipeline.ValueKit

@[expose] public section

set_option maxRecDepth 16384

noncomputable section

namespace Cert.Kernel2Ideal.Inproj

open Idealize.ShloMosaic Idealize.ShloMosaic.TcCoe
open Idealize.ShloMosaic.StableHlo
open Idealize.ShloMosaic.Pipeline (Dat Cfg Window)
open Cert.Kernel2Ideal Cert.Kernel2Ideal.Gen
open Cert.Inproj (normed rowDot source source_lt wideSpec narrowSpec wideSpec_at narrowSpec_at)

/-! ## The body's values at an index -/

theorem pay1_at (sc sh : FVec Ideal S1x1x1024 .f32) (nw : FVec Ideal S1x1024 .f32) (x : FVec Ideal S128x1024 .f32)
    (r : Fin 128) (k : Fin 1024) :
    k0_pay1 (F := Ideal) sc sh nw x (ix2 r k) =
      x (ix2 r k) *
            Ideal.rsqrt
              (Ideal.div (∑ l : Fin 1024, x (ix2 r l) * x (ix2 r l)) (Ideal.ofBits FTy.f32 0x44800000#32) +
                Ideal.ofBits FTy.f32 0x358637BD#32) *
          nw (ix2 0 k) *
        (1 + sc (ix3 0 0 k)) +
      sh (ix3 0 0 k) := by
  pointwise [k0_pay1]

theorem narrow_at (h : FVec Ideal S2048x1024 .bf16) (w : FVec Ideal S1024x128 .bf16) (r : Fin 2048) (q : Fin 128) :
    narrow (F := Ideal) h w (ix2 r q) = ∑ k : Fin 1024, h (ix2 r k) * w (ix2 k q) := by
  pointwise [narrow, k0_pay2]

theorem wideA_at (h : FVec Ideal S2048x1024 .bf16) (w : FVec Ideal S1024x1024 .bf16) (r : Fin 2048) (q : Fin 1024) :
    wideA (F := Ideal) h w (ix2 r q) = ∑ k : Fin 1024, h (ix2 r k) * w (ix2 k q) := by
  pointwise [wideA, k0_pay3]

theorem wideB_at (h : FVec Ideal S2048x1024 .bf16) (w : FVec Ideal S1024x1024 .bf16) (r : Fin 2048) (q : Fin 1024) :
    wideB (F := Ideal) h w (ix2 r q) = ∑ k : Fin 1024, h (ix2 r k) * w (ix2 k q) := by
  pointwise [wideB, k0_pay4]

/-! ## The arrays the windows read, in terms of the arguments -/

variable (m : (ℓ : Loc nD τ sig) → Buf (Elt Ideal) ℓ) (c : Dev nD)

/-- The four arguments. -/
def argX : FVec Ideal S4x4096x1024 .f32 := m ((c.tc : Thread nD τ).loc main_arg0)
def argM : FVec Ideal S8x6144 .f32 := m ((c.tc : Thread nD τ).loc main_arg1)
def argN : FVec Ideal S1x1024 .f32 := m ((c.tc : Thread nD τ).loc main_arg2)
def argW : FVec Ideal S1x1024x11328 .f32 := m ((c.tc : Thread nD τ).loc main_arg3)

theorem V_x : V m c main_v8 = shapeCast S16384x1024 (argX m c) shapeCasts_S4x4096x1024_S16384x1024 := by
  unfold V hostOps0 hostOps0_1 hostOps0_2
  after_results
  rfl

theorem V_m : V m c main_v0 = shapeCast S48x1x1024 (argM m c) shapeCasts_S8x6144_S48x1x1024 := by
  unfold V hostOps0 hostOps0_1 hostOps0_2
  after_results
  rfl

theorem V_n : V m c main_v7 = shapeCast S1x1024 (shapeCast S1024 (argN m c) shapeCasts_S1x1024_S1024) shapeCasts_S1024_S1x1024 := by
  unfold V hostOps0 hostOps0_1 hostOps0_2
  after_results
  rfl

/-- The weights, a matrix. -/
def mat : FVec Ideal S1024x11328 .bf16 :=
  truncf .bf16 (shapeCast S1024x11328 (argW m c) shapeCasts_S1x1024x11328_S1024x11328) bitsLt_bf16_f32

theorem V_w : V m c main_v2 = mat m c := by
  unfold V hostOps0 hostOps0_1 hostOps0_2
  after_results
  rfl

theorem V_wb : V m c main_v3 = extractStridedSlice S1024x5120 ![0, 6208] (mat m c) slices_S1024x11328_S1024x5120_0_6208 := by
  unfold V hostOps0 hostOps0_1 hostOps0_2
  after_results
  rfl

theorem V_wd : V m c main_v5 = pad S1024x128 ![0, 0] ![0, 64] ![0, 0]
    (extractStridedSlice S1024x64 ![0, 6144] (mat m c) slices_S1024x11328_S1024x64_0_6144)
    (sitofp .bf16 (constantI S_ 32 0#32)) pads_S1024x64_S1024x128_000_0640 h_S_ := by
  unfold V hostOps0 hostOps0_1 hostOps0_2
  after_results
  rfl

theorem mat_at (k : Fin 1024) (q : Fin 11328) : mat m c (ix2 k q) = argW m c (ix3 0 k q) := by
  pointwise [mat]

theorem Vx_at (r : Fin 16384) (k : Fin 1024) :
    (V m c main_v8 : FVec Ideal S16384x1024 .f32) (ix2 r k) = argX m c (ix3 ⟨r.val / 4096, by omega⟩ ⟨r.val % 4096, by omega⟩ k) := by
  rw [V_x]; pointwise

theorem Vn_at (k : Fin 1024) : (V m c main_v7 : FVec Ideal S1x1024 .f32) (ix2 0 k) = argN m c (ix2 0 k) := by
  rw [V_n]; pointwise

theorem Vm_at (b : Fin 8) (j : Fin 6) (k : Fin 1024) :
    (V m c main_v0 : FVec Ideal S48x1x1024 .f32) (ix3 ⟨6 * b.val + j.val, by omega⟩ 0 k) =
      argM m c (ix2 b ⟨1024 * j.val + k.val, by omega⟩) := by
  rw [V_m]
  refine shapeCast_apply _ _ _ _ ?_
  rw [Shape.rowMajor_val_two, Shape.rowMajor_val_three]
  show b.val * 6144 + (1024 * j.val + k.val) = ((6 * b.val + j.val) * 1 + 0) * 1024 + k.val
  omega

theorem Vwb_at (k : Fin 1024) (q : Fin 5120) :
    (V m c main_v3 : FVec Ideal S1024x5120 .bf16) (ix2 k q) = argW m c (ix3 0 k ⟨6208 + q.val, by omega⟩) := by
  rw [V_wb]
  pointwise [mat_at]

theorem Vwd_at (k : Fin 1024) (q : Fin 128) :
    (V m c main_v5 : FVec Ideal S1024x128 .bf16) (ix2 k q) =
      if h : q.val < 64 then argW m c (ix3 0 k ⟨6144 + q.val, by omega⟩) else 0 := by
  rw [V_wd]
  pointwise [mat_at]
  rw [show (FloatOps.sitofp FTy.bf16 0#32 : Ideal .bf16) = 0 from by
    show ((((0#32 : BitVec 32).toInt : ℤ) : ℝ) : EReal) = 0
    simp]

/-! ## The blocks: eleven points a tile of 2048 rows -/

theorem index0 : ∀ t : Fin cfg0.N, win0_0.index t = ![t.val / 11, 0] :=
  (by decide +kernel : ∀ t : Fin grid0.N, win0_0.index t = ![t.val / 11, 0])
theorem index1 : ∀ t : Fin cfg0.N, win0_1.index t = ![6 * (t.val / 22), 0, 0] :=
  (by decide +kernel : ∀ t : Fin grid0.N, win0_1.index t = ![6 * (t.val / 22), 0, 0])
theorem index2 : ∀ t : Fin cfg0.N, win0_2.index t = ![6 * (t.val / 22) + 1, 0, 0] :=
  (by decide +kernel : ∀ t : Fin grid0.N, win0_2.index t = ![6 * (t.val / 22) + 1, 0, 0])
theorem index3 : ∀ t : Fin cfg0.N, win0_3.index t = ![0, 0] :=
  (by decide +kernel : ∀ t : Fin grid0.N, win0_3.index t = ![0, 0])
theorem index4 : ∀ t : Fin cfg0.N, t.val % 11 < 6 → win0_4.index t = ![0, if t.val % 11 < 4 then t.val % 11 + 2 else t.val % 11 - 4] :=
  (by decide +kernel : ∀ t : Fin grid0.N, t.val % 11 < 6 → win0_4.index t = ![0, if t.val % 11 < 4 then t.val % 11 + 2 else t.val % 11 - 4])
theorem index5 : ∀ t : Fin cfg0.N, 6 ≤ t.val % 11 → win0_5.index t = ![0, if t.val % 11 < 8 then t.val % 11 - 3 else t.val % 11 - 8] :=
  (by decide +kernel : ∀ t : Fin grid0.N, 6 ≤ t.val % 11 → win0_5.index t = ![0, if t.val % 11 < 8 then t.val % 11 - 3 else t.val % 11 - 8])
theorem index6 : ∀ t : Fin cfg0.N, win0_6.index t = ![0, 0] :=
  (by decide +kernel : ∀ t : Fin grid0.N, win0_6.index t = ![0, 0])
theorem index7 : ∀ t : Fin cfg0.N, win0_7.index t = ![t.val / 11, t.val % 11] :=
  (by decide +kernel : ∀ t : Fin grid0.N, win0_7.index t = ![t.val / 11, t.val % 11])
theorem index8 : ∀ t : Fin cfg0.N, win0_8.index t = ![t.val / 11, 0] :=
  (by decide +kernel : ∀ t : Fin grid0.N, win0_8.index t = ![t.val / 11, 0])

theorem point_lt (t : Fin cfg0.N) : t.val < 88 := N_0 ▸ t.isLt

/-- The row of the whole input that a point's row is, its batch and its position there. -/
def batch (t : Fin cfg0.N) : Fin 4 := ⟨t.val / 22, by have := point_lt t; omega⟩
def place (t : Fin cfg0.N) (r : Fin 2048) : Fin 4096 := ⟨2048 * (t.val / 11 % 2) + r.val, by omega⟩

theorem blk0_at (t : Fin cfg0.N) (r : Fin 2048) (k : Fin 1024) :
    (iblk m c 0 t : FVec Ideal S2048x1024 .f32) (ix2 r k) = argX m c (ix3 (batch t) (place t r) k) := by
  have ht := point_lt t
  have h : (iblk m c 0 t : FVec Ideal S2048x1024 .f32) (ix2 r k)
      = (V m c main_v8 : FVec Ideal S16384x1024 .f32) (ix2 ⟨2048 * (t.val / 11) + r.val, by omega⟩ k) := by
    blk_ext [iblk, index0 t]
  rw [h, Vx_at]
  refine congrArg (argX m c) ?_
  congr 1 <;> refine Fin.ext ?_
  · show (2048 * (t.val / 11) + r.val) / 4096 = t.val / 22
    omega
  · show (2048 * (t.val / 11) + r.val) % 4096 = 2048 * (t.val / 11 % 2) + r.val
    omega

theorem blk1_at (t : Fin cfg0.N) (k : Fin 1024) :
    (iblk m c 1 t : FVec Ideal S1x1x1024 .f32) (ix3 0 0 k) = argM m c (ix2 ⟨(batch t).val, by omega⟩ ⟨k.val, by omega⟩) := by
  have ht := point_lt t
  have h : (iblk m c 1 t : FVec Ideal S1x1x1024 .f32) (ix3 0 0 k)
      = (V m c main_v0 : FVec Ideal S48x1x1024 .f32) (ix3 ⟨6 * (t.val / 22) + 0, by omega⟩ 0 k) := by
    blk_ext [iblk, index1 t]
  rw [h]
  refine (Vm_at m c ⟨t.val / 22, by omega⟩ 0 k).trans (congrArg (argM m c) ?_)
  congr 1
  exact Fin.ext (by show 1024 * 0 + k.val = k.val; omega)

theorem blk2_at (t : Fin cfg0.N) (k : Fin 1024) :
    (iblk m c 2 t : FVec Ideal S1x1x1024 .f32) (ix3 0 0 k) = argM m c (ix2 ⟨(batch t).val, by omega⟩ ⟨1024 + k.val, by omega⟩) := by
  have ht := point_lt t
  have h : (iblk m c 2 t : FVec Ideal S1x1x1024 .f32) (ix3 0 0 k)
      = (V m c main_v0 : FVec Ideal S48x1x1024 .f32) (ix3 ⟨6 * (t.val / 22) + 1, by omega⟩ 0 k) := by
    blk_ext [iblk, index2 t]
  rw [h]
  refine (Vm_at m c ⟨t.val / 22, by omega⟩ 1 k).trans (congrArg (argM m c) ?_)
  congr 1

theorem blk3_at (t : Fin cfg0.N) (k : Fin 1024) :
    (iblk m c 3 t : FVec Ideal S1x1024 .f32) (ix2 0 k) = argN m c (ix2 0 k) := by
  refine Eq.trans ?_ (Vn_at m c k)
  blk_ext [iblk, index3 t]

theorem blk4_at (t : Fin cfg0.N) (h4 : t.val % 11 < 6) (k q : Fin 1024) :
    (X0_4 m c t : FVec Ideal S1024x1024 .bf16) (ix2 k q) = argW m c (ix3 0 k ⟨source (1024 * (t.val % 11) + q.val), source_lt (by omega)⟩) := by
  have h : (X0_4 m c t : FVec Ideal S1024x1024 .bf16) (ix2 k q)
      = (V m c main_v2 : FVec Ideal S1024x11328 .bf16) (ix2 k ⟨source (1024 * (t.val % 11) + q.val), source_lt (by omega)⟩) := by
    unfold X0_4 Pipeline.Window.fill
    rw [dif_pos (moved0_4 t (ix2 k q))]
    unfold source
    split_ifs <;> blk_ext [iblk, index4 t h4]
    all_goals split_ifs <;> omega
  rw [h, V_w, mat_at]

theorem blk5_at (t : Fin cfg0.N) (h5 : 6 ≤ t.val % 11) (k q : Fin 1024) :
    (iblk m c 5 t : FVec Ideal S1024x1024 .bf16) (ix2 k q) = argW m c (ix3 0 k ⟨source (1024 * (t.val % 11) + q.val), source_lt (by omega)⟩) := by
  have hs : 6208 ≤ source (1024 * (t.val % 11) + q.val) ∧ source (1024 * (t.val % 11) + q.val) < 11328 :=
    ⟨by unfold source; split_ifs <;> omega, source_lt (by omega)⟩
  have h : (iblk m c 5 t : FVec Ideal S1024x1024 .bf16) (ix2 k q)
      = (V m c main_v3 : FVec Ideal S1024x5120 .bf16) (ix2 k ⟨source (1024 * (t.val % 11) + q.val) - 6208, by omega⟩) := by
    unfold source
    split_ifs <;> blk_ext [iblk, index5 t h5]
    all_goals split_ifs <;> omega
  rw [h, Vwb_at]
  refine congrArg (fun j => argW m c (ix3 0 k j)) (Fin.ext ?_)
  dsimp only
  omega

theorem blk6_at (t : Fin cfg0.N) (k : Fin 1024) (q : Fin 128) :
    (iblk m c 6 t : FVec Ideal S1024x128 .bf16) (ix2 k q) =
      if h : q.val < 64 then argW m c (ix3 0 k ⟨6144 + q.val, by omega⟩) else 0 := by
  refine Eq.trans ?_ (Vwd_at m c k q)
  blk_ext [iblk, index6 t]

/-! ## What the scratch holds, and the two results -/

theorem rows_at (x : FVec Ideal S2048x1024 .f32) (n : ℕ) (a : Fin 128) (l : Fin 1024) :
    rows (F := Ideal) x n (ix2 a l) = x (ix2 ⟨(128 * n + a.val) % 2048, Nat.mod_lt _ (by decide)⟩ l) := by
  rw [ix2_eq_valueIdx ⟨(128 * n + a.val) % 2048, Nat.mod_lt _ (by decide)⟩ l]
  rfl

theorem hid_at (sc sh : FVec Ideal S1x1x1024 .f32) (nw : FVec Ideal S1x1024 .f32) (x : FVec Ideal S2048x1024 .f32)
    (r : Fin 2048) (k : Fin 1024) :
    hid (F := Ideal) sc sh nw x (ix2 r k) = k0_pay1 sc sh nw (rows x (r.val / 128)) (ix2 ⟨r.val % 128, Nat.mod_lt _ (by decide)⟩ k) := by
  rw [ix2_eq_valueIdx ⟨r.val % 128, Nat.mod_lt _ (by decide)⟩ k]
  rfl

theorem hidAt_at (t : Fin cfg0.N) (r : Fin 2048) (k : Fin 1024) :
    hidAt m c (t.val / 11) (ix2 r k) = normed (argX m c) (argM m c) (argN m c) (batch t) (place t r) k := by
  have ht := point_lt t
  have hf : (first (t.val / 11)).val = 11 * (t.val / 11) := by show 11 * (t.val / 11) % 88 = _; omega
  have hb : batch (first (t.val / 11)) = batch t := Fin.ext (by show (first (t.val / 11)).val / 22 = t.val / 22; omega)
  have hp : place (first (t.val / 11)) r = place t r :=
    Fin.ext (by show 2048 * ((first (t.val / 11)).val / 11 % 2) + r.val = 2048 * (t.val / 11 % 2) + r.val; omega)
  have hrow : ∀ l : Fin 1024, rows (F := Ideal) (iblk m c 0 (first (t.val / 11))) (r.val / 128) (ix2 ⟨r.val % 128, by omega⟩ l)
      = argX m c (ix3 (batch t) (place t r) l) := by
    intro l
    rw [← hb, ← hp, ← blk0_at]
    refine (rows_at _ _ _ l).trans (congrArg (fun j => (iblk m c 0 (first (t.val / 11)) : FVec Ideal S2048x1024 .f32) (ix2 j l)) (Fin.ext ?_))
    show (128 * (r.val / 128) + r.val % 128) % 2048 = r.val
    omega
  refine (hid_at _ _ _ _ r k).trans ((pay1_at _ _ _ _ ⟨r.val % 128, by omega⟩ k).trans ?_)
  rw [blk1_at, blk2_at, blk3_at]
  simp only [hrow, hb]
  rfl

theorem wideAt_at (t : Fin cfg0.N) (r : Fin 2048) (q : Fin 1024) :
    wideAt m c t (ix2 r q) = rowDot (argX m c) (argM m c) (argN m c) (argW m c) (batch t) (place t r)
      ⟨source (1024 * (t.val % 11) + q.val), source_lt (by omega)⟩ := by
  unfold wideAt rowDot
  split_ifs with h
  · rw [wideA_at]
    exact Finset.sum_congr rfl fun k _ => by rw [hidAt_at, blk4_at m c t h]
  · rw [wideB_at]
    exact Finset.sum_congr rfl fun k _ => by rw [hidAt_at, blk5_at m c t (by omega)]

theorem narrowAt_at (t : Fin cfg0.N) (r : Fin 2048) (q : Fin 128) :
    narrowAt m c (t.val / 11) (ix2 r q) = if h : q.val < 64 then
      rowDot (argX m c) (argM m c) (argN m c) (argW m c) (batch t) (place t r) ⟨6144 + q.val, by omega⟩ else 0 := by
  unfold narrowAt rowDot
  rw [narrow_at]
  split_ifs with h
  · exact Finset.sum_congr rfl fun k _ => by rw [hidAt_at, blk6_at, dif_pos h]
  · exact Finset.sum_eq_zero fun k _ => by rw [blk6_at, dif_neg h, mul_zero]

/-- The wide result is the specification's. -/
theorem wide_eq : (dats m 0 c).arrAt 7 cfg0.N = wideSpec (argX m c) (argM m c) (argN m c) (argW m c) := by
  refine (dats m 0 c).arrAt_eq_of_covers 7 _ (by decide +kernel) fun t _ y => ?_
  have ht := point_lt t
  obtain ⟨r, q, rfl⟩ : ∃ (r : Fin 2048) (q : Fin 1024), y = ix2 r q := ⟨y 0, y 1, eq_ix2 y⟩
  blk_simp
  rw [after7]
  refine (wideAt_at m c t r q).trans ?_
  have he : (win0_7.blk t).view.emb (ix2 r q)
      = (ix2 ⟨2048 * (t.val / 11) + r.val, by omega⟩ ⟨1024 * (t.val % 11) + q.val, by omega⟩ : S16384x11264.Idx) := by
    blk_ext [index7 t]
  rw [he]
  refine (wideSpec_at (argX m c) (argM m c) (argN m c) (argW m c) ⟨2048 * (t.val / 11) + r.val, by omega⟩
    ⟨1024 * (t.val % 11) + q.val, by omega⟩ (batch t) (place t r) ?_ ?_).symm
  · show t.val / 22 = (2048 * (t.val / 11) + r.val) / 4096
    omega
  · show 2048 * (t.val / 11 % 2) + r.val = (2048 * (t.val / 11) + r.val) % 4096
    omega

/-- The narrow result is the specification's. -/
theorem narrow_eq : (dats m 0 c).arrAt 8 cfg0.N = narrowSpec (argX m c) (argM m c) (argN m c) (argW m c) := by
  refine (dats m 0 c).arrAt_eq_of_covers 8 _ (by decide +kernel) fun t _ y => ?_
  have ht := point_lt t
  obtain ⟨r, q, rfl⟩ : ∃ (r : Fin 2048) (q : Fin 128), y = ix2 r q := ⟨y 0, y 1, eq_ix2 y⟩
  blk_simp
  rw [after8]
  refine (narrowAt_at m c t r q).trans ?_
  have he : (win0_8.blk t).view.emb (ix2 r q)
      = (ix2 ⟨2048 * (t.val / 11) + r.val, by omega⟩ q : S16384x128.Idx) := by
    blk_ext [index8 t]
  rw [he]
  refine (narrowSpec_at (argX m c) (argM m c) (argN m c) (argW m c) ⟨2048 * (t.val / 11) + r.val, by omega⟩
    q (batch t) (place t r) ?_ ?_).symm
  · show t.val / 22 = (2048 * (t.val / 11) + r.val) / 4096
    omega
  · show 2048 * (t.val / 11 % 2) + r.val = (2048 * (t.val / 11) + r.val) % 4096
    omega

end Cert.Kernel2Ideal.Inproj

end
-- ==== Proof.MgRef.lean ====
/-
  The merge at an index: what each element of the call's results is, as a function of the row it lies in, and that the
  reference computes it. A row of the two scans' sum is gated, normalised and multiplied into the first branch, a row of
  the attention's result into the second; the two branches are weighted, added, multiplied by the output weights and
  added to the input (`x1`); the sum is normalised and modulated (`h2`) and multiplied by the router's weights (`lg`).
-/
module

public import proofs.«01_k».proof.Proof.Gen.Reference3Ideal.Run
public import Idealize.ShloMosaic.Lib.Pointwise

@[expose] public section

set_option maxRecDepth 16384

noncomputable section

namespace Cert.Merge

open Idealize.ShloMosaic Idealize.ShloMosaic.TcCoe
open Cert.Reference3Ideal Cert.Reference3Ideal.Gen Cert.Reference3Ideal.Value

/-! ## One row -/

/-- What a row of the results is made from: the row of each of the large arrays, and its batch's modulation. -/
@[ext] structure Row where
  yf : Fin 2048 → EReal
  yb : Fin 2048 → EReal
  z : Fin 2048 → EReal
  gs : Fin 1024 → EReal
  gn : Fin 1024 → EReal
  yna : Fin 1024 → EReal
  x : Fin 1024 → EReal
  g1 : Fin 1024 → EReal
  sh : Fin 1024 → EReal
  sc : Fin 1024 → EReal

/-- The weights, the same for every row. -/
@[ext] structure Weights where
  snw : Fin 2048 → EReal
  n2w : Fin 1024 → EReal
  wbs : Fin 2048 → Fin 1024 → EReal
  wbn : Fin 1024 → Fin 1024 → EReal
  wo : Fin 1024 → Fin 1024 → EReal
  wr : Fin 1024 → Fin 128 → EReal
  br : Fin 128 → EReal

/-- The logistic function as its quotient. -/
def gate (u : EReal) : EReal := Ideal.div 1 (1 + Ideal.exp (-u))

/-- The reciprocal root of a sum of squares over a count, with the small constant added. -/
def scale (count : BitVec 32) (s : EReal) : EReal :=
  Ideal.rsqrt (Ideal.div s (Ideal.ofBits FTy.f32 count) + Ideal.ofBits FTy.f32 0x358637BD#32)

variable (ρ : Row) (w : Weights)

/-- The scans' sum, gated. -/
def gated (k : Fin 2048) : EReal := (ρ.yf k + ρ.yb k) * (ρ.z k * gate (ρ.z k))

/-- … normalised. -/
def yn (k : Fin 2048) : EReal := gated ρ k * scale 0x45000000#32 (∑ l : Fin 2048, gated ρ l * gated ρ l) * w.snw k

/-- The branches, weighted and added. -/
def mg (j : Fin 1024) : EReal :=
  gate (ρ.gs j) * (∑ k : Fin 2048, yn ρ w k * w.wbs k j) + gate (ρ.gn j) * (∑ k : Fin 1024, ρ.yna k * w.wbn k j)

/-- The input with the mixer's result added. -/
def x1 (j : Fin 1024) : EReal := ρ.x j + ρ.g1 j * (∑ k : Fin 1024, mg ρ w k * w.wo k j)

/-- The feed-forward layer's input. -/
def h2 (j : Fin 1024) : EReal :=
  x1 ρ w j * scale 0x44800000#32 (∑ l : Fin 1024, x1 ρ w l * x1 ρ w l) * w.n2w j * (1 + ρ.sc j) + ρ.sh j

/-- The router's logits. -/
def lg (q : Fin 128) : EReal := (∑ k : Fin 1024, h2 ρ w k * w.wr k q) + w.br q

/-! ## The arguments -/

/-- The fifteen arguments. -/
structure Args where
  yf : FVec Ideal S16384x2048 .bf16
  yb : FVec Ideal S16384x2048 .bf16
  big : FVec Ideal S16384x11264 .bf16
  yna : FVec Ideal S16384x1024 .bf16
  x : FVec Ideal S4x4096x1024 .f32
  md : FVec Ideal S8x6144 .f32
  snw : FVec Ideal S1x2048 .f32
  n2w : FVec Ideal S1x1024 .f32
  wbs : FVec Ideal S1x2048x1024 .f32
  wbn : FVec Ideal S1x1024x1024 .f32
  wo : FVec Ideal S1x1024x1024 .f32
  wrt : FVec Ideal S1x1024x32 .f32
  brt : FVec Ideal S1x32 .f32
  wgr : FVec Ideal S1x1024x4 .f32
  bgr : FVec Ideal S1x4 .f32

/-- The row at position `p` of batch `b`. -/
def Args.row (a : Args) (b : Fin 4) (p : Fin 4096) : Row where
  yf k := a.yf (ix2 ⟨b.val * 4096 + p.val, by omega⟩ k)
  yb k := a.yb (ix2 ⟨b.val * 4096 + p.val, by omega⟩ k)
  z k := a.big (ix2 ⟨b.val * 4096 + p.val, by omega⟩ ⟨4096 + k.val, by omega⟩)
  gs k := a.big (ix2 ⟨b.val * 4096 + p.val, by omega⟩ ⟨6144 + k.val, by omega⟩)
  gn k := a.big (ix2 ⟨b.val * 4096 + p.val, by omega⟩ ⟨7168 + k.val, by omega⟩)
  yna k := a.yna (ix2 ⟨b.val * 4096 + p.val, by omega⟩ k)
  x k := a.x (ix3 b p k)
  g1 k := a.md (ix2 ⟨b.val, by omega⟩ ⟨2048 + k.val, by omega⟩)
  sh k := a.md (ix2 ⟨b.val, by omega⟩ ⟨3072 + k.val, by omega⟩)
  sc k := a.md (ix2 ⟨b.val, by omega⟩ ⟨4096 + k.val, by omega⟩)

/-- The weights: the router's and the groups' side by side, then zeros. -/
def Args.weights (a : Args) : Weights where
  snw k := a.snw (ix2 0 k)
  n2w k := a.n2w (ix2 0 k)
  wbs k j := a.wbs (ix3 0 k j)
  wbn k j := a.wbn (ix3 0 k j)
  wo k j := a.wo (ix3 0 k j)
  wr k q := if h : q.val < 32 then a.wrt (ix3 0 k ⟨q.val, h⟩)
    else if h' : q.val < 36 then a.wgr (ix3 0 k ⟨q.val - 32, by omega⟩) else 0
  br q := if h : q.val < 32 then a.brt (ix2 0 ⟨q.val, h⟩)
    else if h' : q.val < 36 then a.bgr (ix2 0 ⟨q.val - 32, by omega⟩) else 0

def batchOf (r : Fin 16384) : Fin 4 := ⟨r.val / 4096, by omega⟩
def placeOf (r : Fin 16384) : Fin 4096 := ⟨r.val % 4096, by omega⟩

def x1Spec (a : Args) : FVec Ideal S16384x1024 .f32 := fun i => x1 (a.row (batchOf (i 0)) (placeOf (i 0))) a.weights (i 1)
def h2Spec (a : Args) : FVec Ideal S16384x1024 .bf16 := fun i => h2 (a.row (batchOf (i 0)) (placeOf (i 0))) a.weights (i 1)
def lgSpec (a : Args) : FVec Ideal S16384x128 .f32 := fun i => lg (a.row (batchOf (i 0)) (placeOf (i 0))) a.weights (i 1)

theorem x1Spec_at (a : Args) (r : Fin 16384) (j : Fin 1024) :
    x1Spec a (ix2 r j) = x1 (a.row (batchOf r) (placeOf r)) a.weights j := rfl
theorem h2Spec_at (a : Args) (r : Fin 16384) (j : Fin 1024) :
    h2Spec a (ix2 r j) = h2 (a.row (batchOf r) (placeOf r)) a.weights j := rfl
theorem lgSpec_at (a : Args) (r : Fin 16384) (q : Fin 128) :
    lgSpec a (ix2 r q) = lg (a.row (batchOf r) (placeOf r)) a.weights q := rfl

/-! ## The reference's lines -/

def oneWide : FVec Ideal S4x4096x2048 .f32 :=
  broadcastInDim (α := Ideal .f32) S4x4096x2048 ![] bcast_S_S4x4096x2048 (constant S_ .f32 0x3F800000#32)

def oneNarrow : FVec Ideal S4x4096x1024 .f32 :=
  broadcastInDim (α := Ideal .f32) S4x4096x1024 ![] bcast_S_S4x4096x1024 (constant S_ .f32 0x3F800000#32)

def bigRef (big : FVec Ideal S16384x11264 .bf16) : FVec Ideal S4x4096x11264 .f32 :=
  shapeCast _ (extf .f32 big bitsLt_bf16_f32) shapeCasts_S16384x11264_S4x4096x11264

def zRef (big : FVec Ideal S16384x11264 .bf16) : FVec Ideal S4x4096x2048 .f32 :=
  extractStridedSlice S4x4096x2048 ![0, 0, 4096] (bigRef big) slices_S4x4096x11264_S4x4096x2048_0_0_4096

def gsRef (big : FVec Ideal S16384x11264 .bf16) : FVec Ideal S4x4096x1024 .f32 :=
  extractStridedSlice S4x4096x1024 ![0, 0, 0] (extractStridedSlice S4x4096x2048 ![0, 0, 6144] (bigRef big) slices_S4x4096x11264_S4x4096x2048_0_0_6144) slices_S4x4096x2048_S4x4096x1024_0_0_0

def gnRef (big : FVec Ideal S16384x11264 .bf16) : FVec Ideal S4x4096x1024 .f32 :=
  extractStridedSlice S4x4096x1024 ![0, 0, 1024] (extractStridedSlice S4x4096x2048 ![0, 0, 6144] (bigRef big) slices_S4x4096x11264_S4x4096x2048_0_0_6144) slices_S4x4096x2048_S4x4096x1024_0_0_1024

def gatedRef (yf yb : FVec Ideal S16384x2048 .bf16) (z : FVec Ideal S4x4096x2048 .f32) : FVec Ideal S4x4096x2048 .f32 :=
  mulf (addf (shapeCast _ (extf .f32 yf bitsLt_bf16_f32) shapeCasts_S16384x2048_S4x4096x2048)
      (shapeCast _ (extf .f32 yb bitsLt_bf16_f32) shapeCasts_S16384x2048_S4x4096x2048))
    (mulf z (Host.divf oneWide (addf oneWide (Host.exp (Host.negf z)))))

def ynRef (g : FVec Ideal S4x4096x2048 .f32) (snw : FVec Ideal S1x2048 .f32) : FVec Ideal S4x4096x2048 .f32 :=
  mulf (mulf g (broadcastInDim S4x4096x2048 ![0, 1, 2] bcast_S4x4096x1_S4x4096x2048_0_1_2 (Host.rsqrt (addf (Host.divf (broadcastInDim S4x4096x1 ![0, 1] bcast_S4x4096_S4x4096x1_0_1 (Host.reduceAdd (mulf g g) (constant S_ .f32 0x00000000#32) reducesTo_S4x4096x2048_S4x4096_d2 h_S_)) (broadcastInDim S4x4096x1 ![] bcast_S_S4x4096x1 (constant S_ .f32 0x45000000#32))) (broadcastInDim S4x4096x1 ![] bcast_S_S4x4096x1 (constant S_ .f32 0x358637BD#32)))))) (broadcastInDim S4x4096x2048 ![0, 1, 2] bcast_S1x1x2048_S4x4096x2048_0_1_2 (broadcastInDim S1x1x2048 ![2] bcast_S2048_S1x1x2048_2 (shapeCast _ snw shapeCasts_S1x2048_S2048)))

def aRef (y : FVec Ideal S4x4096x2048 .f32) (w : FVec Ideal S1x2048x1024 .f32) : FVec Ideal S4x4096x1024 .f32 :=
  Host.dotGeneral (F := Ideal) dot_S4x4096x2048_S2048x1024_S4x4096x1024_2_0_01_1_n_n none y
    (shapeCast _ w shapeCasts_S1x2048x1024_S2048x1024)

def bRef (y : FVec Ideal S4x4096x1024 .f32) (w : FVec Ideal S1x1024x1024 .f32) : FVec Ideal S4x4096x1024 .f32 :=
  Host.dotGeneral (F := Ideal) dot_S4x4096x1024_S1024x1024_S4x4096x1024_2_0_01_1_n_n none y
    (shapeCast _ w shapeCasts_S1x1024x1024_S1024x1024)

def ynaRef (y : FVec Ideal S16384x1024 .bf16) : FVec Ideal S4x4096x1024 .f32 :=
  shapeCast _ (extf .f32 y bitsLt_bf16_f32) shapeCasts_S16384x1024_S4x4096x1024

def mgRef (gs gn a b : FVec Ideal S4x4096x1024 .f32) : FVec Ideal S4x4096x1024 .f32 :=
  addf (mulf (Host.divf oneNarrow (addf oneNarrow (Host.exp (Host.negf gs)))) a)
    (mulf (Host.divf oneNarrow (addf oneNarrow (Host.exp (Host.negf gn)))) b)

def g1Ref (md : FVec Ideal S8x6144 .f32) : FVec Ideal S4x4096x1024 .f32 :=
  broadcastInDim S4x4096x1024 ![0, 1, 2] bcast_S4x1x1024_S4x4096x1024_0_1_2 (broadcastInDim S4x1x1024 ![0, 2] bcast_S4x1024_S4x1x1024_0_2 (extractStridedSlice S4x1024 ![0, 2048] (extractStridedSlice S4x6144 ![0, 0] md slices_S8x6144_S4x6144_0_0) slices_S4x6144_S4x1024_0_2048))

def x1Ref (x : FVec Ideal S4x4096x1024 .f32) (md : FVec Ideal S8x6144 .f32) (o : FVec Ideal S4x4096x1024 .f32) :
    FVec Ideal S4x4096x1024 .f32 :=
  addf x (mulf (g1Ref md) o)

def h2Ref (x : FVec Ideal S4x4096x1024 .f32) (md : FVec Ideal S8x6144 .f32) (nw : FVec Ideal S1x1024 .f32) :
    FVec Ideal S4x4096x1024 .f32 :=
  addf (mulf (mulf (mulf x (broadcastInDim S4x4096x1024 ![0, 1, 2] bcast_S4x4096x1_S4x4096x1024_0_1_2 (Host.rsqrt (addf (Host.divf (broadcastInDim S4x4096x1 ![0, 1] bcast_S4x4096_S4x4096x1_0_1 (Host.reduceAdd (mulf x x) (constant S_ .f32 0x00000000#32) reducesTo_S4x4096x1024_S4x4096_d2 h_S_)) (broadcastInDim S4x4096x1 ![] bcast_S_S4x4096x1 (constant S_ .f32 0x44800000#32))) (broadcastInDim S4x4096x1 ![] bcast_S_S4x4096x1 (constant S_ .f32 0x358637BD#32)))))) (broadcastInDim S4x4096x1024 ![0, 1, 2] bcast_S1x1x1024_S4x4096x1024_0_1_2 (broadcastInDim S1x1x1024 ![2] bcast_S1024_S1x1x1024_2 (shapeCast _ nw shapeCasts_S1x1024_S1024)))) (broadcastInDim S4x4096x1024 ![0, 1, 2] bcast_S4x1x1024_S4x4096x1024_0_1_2 (addf (broadcastInDim S4x1x1024 ![] bcast_S_S4x1x1024 (constant S_ .f32 0x3F800000#32)) (broadcastInDim S4x1x1024 ![0, 2] bcast_S4x1024_S4x1x1024_0_2 (extractStridedSlice S4x1024 ![0, 4096] (extractStridedSlice S4x6144 ![0, 0] md slices_S8x6144_S4x6144_0_0) slices_S4x6144_S4x1024_0_4096))))) (broadcastInDim S4x4096x1024 ![0, 1, 2] bcast_S4x1x1024_S4x4096x1024_0_1_2 (broadcastInDim S4x1x1024 ![0, 2] bcast_S4x1024_S4x1x1024_0_2 (extractStridedSlice S4x1024 ![0, 3072] (extractStridedSlice S4x6144 ![0, 0] md slices_S8x6144_S4x6144_0_0) slices_S4x6144_S4x1024_0_3072)))

def flat (x : FVec Ideal S4x4096x1024 .f32) : FVec Ideal S16384x1024 .f32 :=
  shapeCast _ x shapeCasts_S4x4096x1024_S16384x1024

def rtRef (h : FVec Ideal S16384x1024 .f32) (w : FVec Ideal S1x1024x32 .f32) (b : FVec Ideal S1x32 .f32) :
    FVec Ideal S16384x32 .f32 :=
  addf (Host.dotGeneral (F := Ideal) dot_S16384x1024_S1024x32_S16384x32_1_0_0_1_n_n none h (shapeCast _ w shapeCasts_S1x1024x32_S1024x32))
    (broadcastInDim S16384x32 ![0, 1] bcast_S1x32_S16384x32_0_1 (broadcastInDim S1x32 ![1] bcast_S32_S1x32_1 (shapeCast _ b shapeCasts_S1x32_S32)))

def grRef (h : FVec Ideal S16384x1024 .f32) (w : FVec Ideal S1x1024x4 .f32) (b : FVec Ideal S1x4 .f32) :
    FVec Ideal S16384x4 .f32 :=
  addf (Host.dotGeneral (F := Ideal) dot_S16384x1024_S1024x4_S16384x4_1_0_0_1_n_n none h (shapeCast _ w shapeCasts_S1x1024x4_S1024x4))
    (broadcastInDim S16384x4 ![0, 1] bcast_S1x4_S16384x4_0_1 (broadcastInDim S1x4 ![1] bcast_S4_S1x4_1 (shapeCast _ b shapeCasts_S1x4_S4)))

def lgRef (u : FVec Ideal S16384x32 .f32) (v : FVec Ideal S16384x4 .f32) : FVec Ideal S16384x128 .f32 :=
  fn_main_v99 (F := Ideal) u v
    (broadcastInDim (α := Ideal .f32) S16384x92 ![] bcast_S_S16384x92 (constant S_ .f32 0x00000000#32))

/-! ## … at an index -/

theorem zRef_at (big : FVec Ideal S16384x11264 .bf16) (b : Fin 4) (p : Fin 4096) (k : Fin 2048) :
    zRef big (ix3 b p k) = big (ix2 ⟨b.val * 4096 + p.val, by omega⟩ ⟨4096 + k.val, by omega⟩) := by
  pointwise [zRef, bigRef]

theorem gsRef_at (big : FVec Ideal S16384x11264 .bf16) (b : Fin 4) (p : Fin 4096) (k : Fin 1024) :
    gsRef big (ix3 b p k) = big (ix2 ⟨b.val * 4096 + p.val, by omega⟩ ⟨6144 + k.val, by omega⟩) := by
  pointwise [gsRef, bigRef]

theorem gnRef_at (big : FVec Ideal S16384x11264 .bf16) (b : Fin 4) (p : Fin 4096) (k : Fin 1024) :
    gnRef big (ix3 b p k) = big (ix2 ⟨b.val * 4096 + p.val, by omega⟩ ⟨7168 + k.val, by omega⟩) := by
  pointwise [gnRef, bigRef]
  exact congrArg (fun j => big (ix2 _ j)) (Fin.ext (by dsimp only; omega))

theorem ynaRef_at (y : FVec Ideal S16384x1024 .bf16) (b : Fin 4) (p : Fin 4096) (k : Fin 1024) :
    ynaRef y (ix3 b p k) = y (ix2 ⟨b.val * 4096 + p.val, by omega⟩ k) := by
  pointwise [ynaRef]

theorem gatedRef_at (yf yb : FVec Ideal S16384x2048 .bf16) (z : FVec Ideal S4x4096x2048 .f32)
    (b : Fin 4) (p : Fin 4096) (k : Fin 2048) :
    gatedRef yf yb z (ix3 b p k) = (yf (ix2 ⟨b.val * 4096 + p.val, by omega⟩ k) + yb (ix2 ⟨b.val * 4096 + p.val, by omega⟩ k)) *
      (z (ix3 b p k) * gate (z (ix3 b p k))) := by
  pointwise [gatedRef, oneWide, gate]

theorem ynRef_at (g : FVec Ideal S4x4096x2048 .f32) (snw : FVec Ideal S1x2048 .f32) (b : Fin 4) (p : Fin 4096) (k : Fin 2048) :
    ynRef g snw (ix3 b p k) =
      g (ix3 b p k) * scale 0x45000000#32 (∑ l : Fin 2048, g (ix3 b p l) * g (ix3 b p l)) * snw (ix2 0 k) := by
  pointwise [ynRef, scale]

theorem aRef_at (y : FVec Ideal S4x4096x2048 .f32) (w : FVec Ideal S1x2048x1024 .f32) (b : Fin 4) (p : Fin 4096) (j : Fin 1024) :
    aRef y w (ix3 b p j) = ∑ k : Fin 2048, y (ix3 b p k) * w (ix3 0 k j) := by
  pointwise [aRef]

theorem bRef_at (y : FVec Ideal S4x4096x1024 .f32) (w : FVec Ideal S1x1024x1024 .f32) (b : Fin 4) (p : Fin 4096) (j : Fin 1024) :
    bRef y w (ix3 b p j) = ∑ k : Fin 1024, y (ix3 b p k) * w (ix3 0 k j) := by
  pointwise [bRef]

theorem mgRef_at (gs gn a b : FVec Ideal S4x4096x1024 .f32) (i : S4x4096x1024.Idx) :
    mgRef gs gn a b i = gate (gs i) * a i + gate (gn i) * b i := by
  idx_vars i
  pointwise [mgRef, oneNarrow, gate]

theorem x1Ref_at (x : FVec Ideal S4x4096x1024 .f32) (md : FVec Ideal S8x6144 .f32) (o : FVec Ideal S4x4096x1024 .f32)
    (b : Fin 4) (p : Fin 4096) (j : Fin 1024) :
    x1Ref x md o (ix3 b p j) = x (ix3 b p j) + md (ix2 ⟨b.val, by omega⟩ ⟨2048 + j.val, by omega⟩) * o (ix3 b p j) := by
  pointwise [x1Ref, g1Ref]

theorem h2Ref_at (x : FVec Ideal S4x4096x1024 .f32) (md : FVec Ideal S8x6144 .f32) (nw : FVec Ideal S1x1024 .f32)
    (b : Fin 4) (p : Fin 4096) (j : Fin 1024) :
    h2Ref x md nw (ix3 b p j) =
      x (ix3 b p j) * scale 0x44800000#32 (∑ l : Fin 1024, x (ix3 b p l) * x (ix3 b p l)) * nw (ix2 0 j) *
          (1 + md (ix2 ⟨b.val, by omega⟩ ⟨4096 + j.val, by omega⟩)) +
        md (ix2 ⟨b.val, by omega⟩ ⟨3072 + j.val, by omega⟩) := by
  pointwise [h2Ref, scale]

theorem flat_at (x : FVec Ideal S4x4096x1024 .f32) (r : Fin 16384) (j : Fin 1024) :
    flat x (ix2 r j) = x (ix3 (batchOf r) (placeOf r) j) := by
  pointwise [flat, batchOf, placeOf]

theorem rtRef_at (h : FVec Ideal S16384x1024 .f32) (w : FVec Ideal S1x1024x32 .f32) (b : FVec Ideal S1x32 .f32)
    (r : Fin 16384) (q : Fin 32) :
    rtRef h w b (ix2 r q) = (∑ k : Fin 1024, h (ix2 r k) * w (ix3 0 k q)) + b (ix2 0 q) := by
  pointwise [rtRef]

theorem grRef_at (h : FVec Ideal S16384x1024 .f32) (w : FVec Ideal S1x1024x4 .f32) (b : FVec Ideal S1x4 .f32)
    (r : Fin 16384) (q : Fin 4) :
    grRef h w b (ix2 r q) = (∑ k : Fin 1024, h (ix2 r k) * w (ix3 0 k q)) + b (ix2 0 q) := by
  pointwise [grRef]

theorem lgRef_at (u : FVec Ideal S16384x32 .f32) (v : FVec Ideal S16384x4 .f32) (r : Fin 16384) (q : Fin 128) :
    lgRef u v (ix2 r q) = if h : q.val < 32 then u (ix2 r ⟨q.val, h⟩)
      else if h' : q.val < 36 then v (ix2 r ⟨q.val - 32, by omega⟩) else 0 := by
  pointwise [lgRef, fn_main_v99]
  by_cases h : q.val < 32
  · rw [dif_pos h, dif_pos h]
  · rw [dif_neg h, dif_neg h]
    by_cases h' : q.val < 36
    · rw [dif_pos h', dif_pos (show q.val - 32 < 4 by omega)]
    · rw [dif_neg h', dif_neg (show ¬ q.val - 32 < 4 by omega)]

/-! ## The whole reference -/

/-- The reference's second normalisation's input and output, as arrays over batches and positions. -/
def refX1 (a : Args) : FVec Ideal S4x4096x1024 .f32 :=
  x1Ref a.x a.md (bRef (mgRef (gsRef a.big) (gnRef a.big) (aRef (ynRef (gatedRef a.yf a.yb (zRef a.big)) a.snw) a.wbs)
    (bRef (ynaRef a.yna) a.wbn)) a.wo)

def refH2 (a : Args) : FVec Ideal S4x4096x1024 .f32 := h2Ref (refX1 a) a.md a.n2w

theorem refX1_at (a : Args) (b : Fin 4) (p : Fin 4096) (j : Fin 1024) :
    refX1 a (ix3 b p j) = x1 (a.row b p) a.weights j := by
  unfold refX1
  rw [x1Ref_at, bRef_at]
  simp only [mgRef_at, aRef_at, bRef_at, ynRef_at, gatedRef_at, zRef_at, gsRef_at, gnRef_at, ynaRef_at]
  rfl

theorem refH2_at (a : Args) (b : Fin 4) (p : Fin 4096) (j : Fin 1024) :
    refH2 a (ix3 b p j) = h2 (a.row b p) a.weights j := by
  unfold refH2
  rw [h2Ref_at]
  simp only [refX1_at]
  rfl

theorem x1_ref (a : Args) : flat (refX1 a) = x1Spec a := by
  funext i
  obtain ⟨r, j, rfl⟩ : ∃ (r : Fin 16384) (j : Fin 1024), i = ix2 r j := ⟨i 0, i 1, eq_ix2 i⟩
  rw [flat_at, refX1_at, x1Spec_at]

theorem h2_ref (a : Args) : (truncf .bf16 (flat (refH2 a)) bitsLt_bf16_f32 : FVec Ideal S16384x1024 .bf16) = h2Spec a := by
  funext i
  obtain ⟨r, j, rfl⟩ : ∃ (r : Fin 16384) (j : Fin 1024), i = ix2 r j := ⟨i 0, i 1, eq_ix2 i⟩
  exact (flat_at _ r j).trans ((refH2_at _ _ _ _).trans (h2Spec_at _ _ _).symm)

theorem lg_ref (a : Args) : lgRef (rtRef (flat (refH2 a)) a.wrt a.brt) (grRef (flat (refH2 a)) a.wgr a.bgr) = lgSpec a := by
  funext i
  obtain ⟨r, q, rfl⟩ : ∃ (r : Fin 16384) (q : Fin 128), i = ix2 r q := ⟨i 0, i 1, eq_ix2 i⟩
  rw [lgRef_at, lgSpec_at]
  unfold lg Args.weights
  dsimp only
  split_ifs with h h'
  · rw [rtRef_at]
    simp only [flat_at, refH2_at]
    rfl
  · rw [grRef_at]
    simp only [flat_at, refH2_at]
    rfl
  · simp only [mul_zero, Finset.sum_const_zero, add_zero]

/-- The arguments of a memory. -/
def args (m : (ℓ : Loc nD τ sig) → Buf (Elt Ideal) ℓ) (c : Dev nD) : Args where
  yf := m ((c.tc : Thread nD τ).loc main_arg0)
  yb := m ((c.tc : Thread nD τ).loc main_arg1)
  big := m ((c.tc : Thread nD τ).loc main_arg2)
  yna := m ((c.tc : Thread nD τ).loc main_arg3)
  x := m ((c.tc : Thread nD τ).loc main_arg4)
  md := m ((c.tc : Thread nD τ).loc main_arg5)
  snw := m ((c.tc : Thread nD τ).loc main_arg6)
  n2w := m ((c.tc : Thread nD τ).loc main_arg7)
  wbs := m ((c.tc : Thread nD τ).loc main_arg8)
  wbn := m ((c.tc : Thread nD τ).loc main_arg9)
  wo := m ((c.tc : Thread nD τ).loc main_arg10)
  wrt := m ((c.tc : Thread nD τ).loc main_arg11)
  brt := m ((c.tc : Thread nD τ).loc main_arg12)
  wgr := m ((c.tc : Thread nD τ).loc main_arg13)
  bgr := m ((c.tc : Thread nD τ).loc main_arg14)

theorem term0 (m : (ℓ : Loc nD τ sig) → Buf (Elt Ideal) ℓ) (c : Dev nD) :
    res_main_v100 m c = flat (refX1 (args m c)) := by
  unfold res_main_v100
  rfl

theorem term1 (m : (ℓ : Loc nD τ sig) → Buf (Elt Ideal) ℓ) (c : Dev nD) :
    res_main_v101 m c = truncf .bf16 (flat (refH2 (args m c))) bitsLt_bf16_f32 := by
  unfold res_main_v101
  rfl

theorem term2 (m : (ℓ : Loc nD τ sig) → Buf (Elt Ideal) ℓ) (c : Dev nD) :
    res_main_v99 m c = lgRef (rtRef (flat (refH2 (args m c))) (args m c).wrt (args m c).brt)
      (grRef (flat (refH2 (args m c))) (args m c).wgr (args m c).bgr) := by
  unfold res_main_v99
  rfl

theorem out0_eq (m : (ℓ : Loc nD τ sig) → Buf (Elt Ideal) ℓ) (c : Dev nD) : res_out0 m c = x1Spec (args m c) :=
  (term0 m c).trans (x1_ref (args m c))

theorem out1_eq (m : (ℓ : Loc nD τ sig) → Buf (Elt Ideal) ℓ) (c : Dev nD) : res_out1 m c = h2Spec (args m c) :=
  (term1 m c).trans (h2_ref (args m c))

theorem out2_eq (m : (ℓ : Loc nD τ sig) → Buf (Elt Ideal) ℓ) (c : Dev nD) : res_out2 m c = lgSpec (args m c) :=
  (term2 m c).trans (lg_ref (args m c))

end Cert.Merge

end
-- ==== Proof.MgReal.lean ====
/-
  The merge where its finite arguments are finite. The kernel writes the gated scan with the hyperbolic tangent where the
  reference has the logistic function, and the logits with each factor split into what a bf16 holds and the rest, which
  at the ideal instance is the factor itself and its difference from itself. At an infinity neither is the reference's
  value: the product of an infinity with zero, and an infinity's difference from itself, are other numbers. The gate needs
  its own argument finite. The split needs the modulated row finite, and it is, whatever the row before the norm holds:
  a row with an infinity has infinite squares, and the norm multiplies it by zero.
-/
module

public import proofs.«01_k».proof.Proof.MgRef
public import proofs.«01_k».proof.Proof.Gen.Pre_all_finite
public import Idealize.ShloMosaic.Lib.ReduceAll

@[expose] public section

set_option maxRecDepth 16384

noncomputable section

namespace Cert.Merge

open Idealize.ShloMosaic Idealize.ShloMosaic.TcCoe

/-- A value that is no infinity. -/
def Finite (u : EReal) : Prop := ∃ r : ℝ, u = (r : EReal)

theorem Finite.coe (r : ℝ) : Finite (r : EReal) := ⟨r, rfl⟩

theorem Finite.zero : Finite 0 := ⟨0, EReal.coe_zero.symm⟩

theorem Finite.one : Finite 1 := ⟨1, EReal.coe_one.symm⟩

theorem Finite.add {u v : EReal} : Finite u → Finite v → Finite (u + v)
  | ⟨a, ha⟩, ⟨b, hb⟩ => ⟨a + b, by rw [ha, hb, EReal.coe_add]⟩

theorem Finite.mul {u v : EReal} : Finite u → Finite v → Finite (u * v)
  | ⟨a, ha⟩, ⟨b, hb⟩ => ⟨a * b, by rw [ha, hb, EReal.coe_mul]⟩

theorem Finite.sub_self {u : EReal} : Finite u → u - u = 0
  | ⟨a, ha⟩ => by rw [ha, ← EReal.coe_sub, _root_.sub_self, EReal.coe_zero]

theorem gate_coe (r : ℝ) : gate (r : EReal) = (((1 + Real.exp (-r))⁻¹ : ℝ) : EReal) := Ideal.logistic_coe r

/-! ## The constants -/

theorem half_bits : Ideal.ofBits FTy.f32 0x3F000000#32 = ((1 / 2 : ℝ) : EReal) := by
  simp [Ideal.ofBits, Ideal.ieee, -EReal.coe_mul]; norm_num

theorem count1024 : Ideal.ofBits FTy.f32 0x44800000#32 = ((1024 : ℝ) : EReal) := by
  simp [Ideal.ofBits, Ideal.ieee, -EReal.coe_mul]; norm_num

theorem small : ∃ e : ℝ, 0 < e ∧ Ideal.ofBits FTy.f32 0x358637BD#32 = (e : EReal) := by
  refine ⟨8796093 * 2 ^ (-43 : ℤ), by positivity, ?_⟩
  simp [Ideal.ofBits, Ideal.ieee, -EReal.coe_mul]
  try norm_num

/-! ## The two ways to write the gate -/

theorem half_tanh (r : ℝ) : r / 2 * Real.tanh (r / 2) + r / 2 = r * (1 + Real.exp (-r))⁻¹ := by
  rw [Real.tanh_eq_sinh_div_cosh, Real.sinh_eq, Real.cosh_eq]
  have e : Real.exp (-r) = Real.exp (-(r / 2)) * Real.exp (-(r / 2)) := by rw [← Real.exp_add]; ring_nf
  have i : Real.exp (r / 2) * Real.exp (-(r / 2)) = 1 := by rw [← Real.exp_add]; simp
  rw [e]
  field_simp
  linear_combination (2 * r * Real.exp (-(r / 2))) * i

/-- The kernel's spelling of an argument times its logistic function. -/
def half (u : EReal) : EReal := Ideal.ofBits FTy.f32 0x3F000000#32 * u

theorem half_gate {u : EReal} : Finite u → half u * Ideal.tanh (half u) + half u = u * gate u
  | ⟨r, hr⟩ => by
    have e : half u = ((r / 2 : ℝ) : EReal) := by
      unfold half
      rw [hr, half_bits, ← EReal.coe_mul]
      congr 1
      ring
    rw [e, hr, Ideal.tanh_coe, gate_coe, ← EReal.coe_mul, ← EReal.coe_add, ← EReal.coe_mul, half_tanh]

/-! ## The reciprocal root -/

theorem Finite.scale {count : BitVec 32} {n s : ℝ} (hn : 0 < n) (hs : 0 ≤ s)
    (hc : Ideal.ofBits FTy.f32 count = (n : EReal)) : Finite (Merge.scale count (s : EReal)) := by
  obtain ⟨e, he, h⟩ := small
  unfold Merge.scale
  rw [hc, h, Ideal.div_coe hn.ne', ← EReal.coe_mul, ← EReal.coe_add]
  have p : 0 < s * (1 / n) + e := by positivity
  rw [Ideal.rsqrt_coe, if_neg (not_lt.2 p.le), if_neg p.ne']
  exact Finite.coe _

theorem sum_squares {n : ℕ} (f : Fin n → EReal) (h : ∀ k, Finite (f k)) : ∃ s : ℝ, 0 ≤ s ∧ ∑ k, f k * f k = (s : EReal) :=
  Finset.sum_induction (fun k => f k * f k) (fun u : EReal => ∃ s : ℝ, 0 ≤ s ∧ u = (s : EReal))
    (fun _ _ ⟨a, pa, ha⟩ ⟨b, pb, hb⟩ => ⟨a + b, add_nonneg pa pb, by rw [ha, hb, EReal.coe_add]⟩)
    ⟨0, le_refl _, EReal.coe_zero.symm⟩
    fun k _ => by
      obtain ⟨r, hr⟩ := h k
      exact ⟨r * r, mul_self_nonneg r, by rw [hr, EReal.coe_mul]⟩

theorem Finite.scale_squares {count : BitVec 32} {n : ℝ} (hn : 0 < n) (hc : Ideal.ofBits FTy.f32 count = (n : EReal))
    {l : ℕ} (f : Fin l → EReal) (h : ∀ k, Finite (f k)) : Finite (Merge.scale count (∑ k, f k * f k)) := by
  obtain ⟨s, hs, e⟩ := sum_squares f h
  rw [e]
  exact Finite.scale hn hs hc

theorem square_nonneg (u : EReal) : 0 ≤ u * u := by
  induction u with
  | bot => rw [EReal.bot_mul_bot]; exact le_top
  | top => rw [EReal.top_mul_top]; exact le_top
  | coe r => rw [← EReal.coe_mul]; exact EReal.coe_nonneg.2 (mul_self_nonneg r)

theorem square_infinite {u : EReal} (h : ¬ Finite u) : u * u = ⊤ := by
  induction u with
  | bot => exact EReal.bot_mul_bot
  | top => exact EReal.top_mul_top
  | coe r => exact absurd (Finite.coe r) h

/-- A normalised row is finite, the row being finite or not. -/
theorem Finite.normed {count : BitVec 32} {n : ℝ} (hn : 0 < n) (hc : Ideal.ofBits FTy.f32 count = (n : EReal))
    {l : ℕ} (f : Fin l → EReal) (k : Fin l) : Finite (f k * Merge.scale count (∑ k, f k * f k)) := by
  by_cases h : ∀ k, Finite (f k)
  · exact (h k).mul (Finite.scale_squares hn hc f h)
  · obtain ⟨j, hj⟩ := not_forall.1 h
    have all : ∑ k, f k * f k = ⊤ := by
      refine top_le_iff.1 ?_
      rw [← square_infinite hj]
      exact Finset.single_le_sum (f := fun k => f k * f k) (fun i _ => square_nonneg (f i)) (Finset.mem_univ j)
    obtain ⟨e, he, hs⟩ := small
    have zero : Merge.scale count ⊤ = 0 := by
      unfold Merge.scale
      rw [hc, hs, Ideal.div_coe hn.ne', EReal.top_mul_coe_of_pos (by positivity), EReal.top_add_coe, Ideal.rsqrt_top]
    rw [all, zero, mul_zero]
    exact Finite.zero

/-! ## The modulated row is finite -/

structure Row.Finite (ρ : Row) : Prop where
  z : ∀ k, Merge.Finite (ρ.z k)
  sh : ∀ k, Merge.Finite (ρ.sh k)
  sc : ∀ k, Merge.Finite (ρ.sc k)

structure Weights.Finite (w : Weights) : Prop where
  n2w : ∀ k, Merge.Finite (w.n2w k)
  wr : ∀ k q, Merge.Finite (w.wr k q)

variable {ρ : Row} {w : Weights}

theorem h2_finite (hρ : ρ.Finite) (hw : w.Finite) (j : Fin 1024) : Finite (h2 ρ w j) :=
  (((Finite.normed (by norm_num) count1024 (x1 ρ w) j).mul (hw.n2w j)).mul (Finite.one.add (hρ.sc j))).add (hρ.sh j)

/-- The logits with both factors split. -/
theorem lg_split (hρ : ρ.Finite) (hw : w.Finite) (q : Fin 128) :
    (∑ k : Fin 1024, h2 ρ w k * w.wr k q) + (∑ k : Fin 1024, (h2 ρ w k - h2 ρ w k) * w.wr k q) +
        (∑ k : Fin 1024, h2 ρ w k * (w.wr k q - w.wr k q)) + w.br q = lg ρ w q := by
  have e1 : ∑ k : Fin 1024, (h2 ρ w k - h2 ρ w k) * w.wr k q = 0 :=
    Finset.sum_eq_zero fun k _ => by rw [(h2_finite hρ hw k).sub_self, zero_mul]
  have e2 : ∑ k : Fin 1024, h2 ρ w k * (w.wr k q - w.wr k q) = 0 :=
    Finset.sum_eq_zero fun k _ => by rw [(hw.wr k q).sub_self, mul_zero]
  rw [e1, e2, add_zero, add_zero]
  rfl

/-! ## What the precondition says -/

theorem finite_of_lt (u : EReal) (h : Ideal.cmp .olt (max u (-u)) ⊤ = 1#1) : Finite u := by
  induction u with
  | bot => simp [Ideal.cmp] at h
  | top => simp [Ideal.cmp] at h
  | coe r => exact Finite.coe r

theorem inf32 : Ideal.ofBits FTy.f32 0x7F800000#32 = ⊤ := by simp [Ideal.ofBits, Ideal.ieee]
theorem inf16 : Ideal.ofBits FTy.bf16 0x7F80#16 = ⊤ := by simp [Ideal.ofBits, Ideal.ieee]

/-- The arguments the precondition names, all of whose entries are finite. -/
structure Args.Finite (a : Args) : Prop where
  z : ∀ (r : Fin 16384) (k : Fin 2048), Merge.Finite (a.big (ix2 r ⟨4096 + k.val, by omega⟩))
  md : ∀ (b : Fin 4) (k : Fin 2048), Merge.Finite (a.md (ix2 ⟨b.val, by omega⟩ ⟨3072 + k.val, by omega⟩))
  n2w : ∀ i, Merge.Finite (a.n2w i)
  wrt : ∀ i, Merge.Finite (a.wrt i)
  wgr : ∀ i, Merge.Finite (a.wgr i)

theorem Args.Finite.row {a : Args} (h : a.Finite) (b : Fin 4) (p : Fin 4096) : (a.row b p).Finite where
  z k := h.z _ k
  sh k := h.md b ⟨k.val, by omega⟩
  sc k := by
    have e := h.md b ⟨1024 + k.val, by omega⟩
    refine (congrArg (fun j => Merge.Finite (a.md (ix2 ⟨b.val, by omega⟩ j))) (Fin.ext ?_)).mp e
    show 3072 + (1024 + k.val) = 4096 + k.val
    omega

theorem Args.Finite.weights {a : Args} (h : a.Finite) : a.weights.Finite where
  n2w k := h.n2w _
  wr k q := by
    show Merge.Finite (dite _ _ _)
    split_ifs
    · exact h.wrt _
    · exact h.wgr _
    · exact Finite.zero

section Pre

open Cert.Pre_all_finite

theorem all32 {s : Shape} {l : List (Fin s.rank)} (x : FVec Ideal s .f32) (hb : S_.BroadcastsInDim s (![] : Fin 0 → Fin s.rank))
    (hr : s.ReducesTo l S_) (hu : 0 < S_.numel) (init : IVec S_ 1) (j : S_.Idx)
    (h : Host.reduce IntOp.andi (cmpf .olt (Host.absf x) (broadcastInDim s ![] hb (constant (F := Ideal) S_ .f32 0x7F800000#32))) init hr hu j = 1#1)
    (i : s.Idx) : Finite (x i) := by
  haveI : Subsingleton S_.Idx := ⟨fun a b => funext fun d => d.elim0⟩
  have e := Host.reduce_andi_all _ _ _ _ _ h i
  refine finite_of_lt _ ?_
  rw [← inf32]
  exact e

theorem all16 {s : Shape} {l : List (Fin s.rank)} (x : FVec Ideal s .bf16) (hb : S_.BroadcastsInDim s (![] : Fin 0 → Fin s.rank))
    (hr : s.ReducesTo l S_) (hu : 0 < S_.numel) (init : IVec S_ 1) (j : S_.Idx)
    (h : Host.reduce IntOp.andi (cmpf .olt (Host.absf x) (broadcastInDim s ![] hb (constant (F := Ideal) S_ .bf16 0x7F80#16))) init hr hu j = 1#1)
    (i : s.Idx) : Finite (x i) := by
  haveI : Subsingleton S_.Idx := ⟨fun a b => funext fun d => d.elim0⟩
  have e := Host.reduce_andi_all _ _ _ _ _ h i
  refine finite_of_lt _ ?_
  rw [← inf16]
  exact e

theorem finite_of (a : Args)
    (h : Cert.Pre_all_finite.fn (F := Ideal) a.yf a.yb a.big a.yna a.x a.md a.snw a.n2w a.wbs a.wbn a.wo a.wrt a.brt a.wgr a.bgr
      = fun _ => 1#1) : a.Finite := by
  have e := congrFun h fun d => d.elim0
  dsimp only [fn] at e
  obtain ⟨e, wgr⟩ := IntOp.andi_eq_one.1 e
  obtain ⟨e, wrt⟩ := IntOp.andi_eq_one.1 e
  obtain ⟨e, n2w⟩ := IntOp.andi_eq_one.1 e
  obtain ⟨e, md⟩ := IntOp.andi_eq_one.1 e
  obtain ⟨_, z⟩ := IntOp.andi_eq_one.1 e
  refine ⟨fun r k => ?_, fun b k => ?_, all32 _ _ _ _ _ _ n2w, all32 _ _ _ _ _ _ wrt, all32 _ _ _ _ _ _ wgr⟩
  · have f := all16 _ _ _ _ _ _ z (ix2 r k)
    refine (congrArg Merge.Finite ?_).mp f
    pointwise
  · have f := all32 _ _ _ _ _ _ md (ix2 b k)
    refine (congrArg Merge.Finite ?_).mp f
    pointwise

end Pre

end Cert.Merge

end
-- ==== Proof.MgRun.lean ====
/-
  What the merge's body leaves in its four result blocks. A block of 512 rows is worked in four parts of 128 rows, the
  same arithmetic on each; the parts' stages are interleaved in the program's text. Here each of the four stores of a
  result is read as that arithmetic (`yn`, `branches`, `mixed`, `x1`, `h2`, `lg`) on the part's loads.
-/
module

public import proofs.«01_k».proof.Proof.Gen.Kernel3Ideal.Value

@[expose] public section

set_option maxRecDepth 65536

noncomputable section

namespace Cert.Kernel3Ideal.Merge

open Idealize.ShloMosaic Idealize.ShloMosaic.TcCoe
open Cert.Kernel3Ideal Cert.Kernel3Ideal.Gen

variable {F : FTy → Type} [FloatOps F]

/-- What a part of 128 rows is computed from: its rows of the tile's blocks, and the whole of the small ones. -/
@[ext] structure Part (F : FTy → Type) where
  z : Vec F S128x2048 .bf16
  yf : Vec F S128x2048 .bf16
  yb : Vec F S128x2048 .bf16
  snw : Vec F S1x2048 .f32
  wbs : Vec F S2048x1024 .bf16
  yna : Vec F S128x1024 .bf16
  wbn : Vec F S1024x1024 .bf16
  gs : Vec F S128x1024 .bf16
  gn : Vec F S128x1024 .bf16
  wo : Vec F S1024x1024 .bf16
  x : Vec F S128x1024 .f32
  g1 : Vec F S1x1x1024 .f32
  n2w : Vec F S1x1024 .f32
  sc : Vec F S1x1x1024 .f32
  sh : Vec F S1x1x1024 .f32
  wrh : Vec F S1024x128 .bf16
  wrl : Vec F S1024x128 .bf16
  br : Vec F S1x128 .f32

/-! ## The arithmetic of a part -/

namespace Part

variable (p : Part F)

/-- The scans' sum, gated and normalised. -/
def yn : FVec F S128x2048 .bf16 := k0_pay3 p.z p.yf p.yb p.snw

/-- The two branches' products, weighted and added. -/
def branches : FVec F S128x1024 .bf16 := k0_pay23 (k0_pay13 p.yn p.wbs) (k0_pay14 p.yna p.wbn) p.gs p.gn

/-- … multiplied by the output weights. -/
def mixed : FVec F S128x1024 .f32 := k0_pay28 p.branches p.wo

/-- The input with the mixer's result added. -/
def x1 : FVec F S128x1024 .f32 := k0_pay32 p.mixed p.x p.g1

/-- The feed-forward layer's input, before its shift is added. -/
def scaled : FVec F S128x1024 .f32 := k0_pay33 p.mixed p.x p.g1 p.n2w p.sc

/-- The feed-forward layer's input. -/
def h2 : FVec F S128x1024 .bf16 := k0_pay37 p.scaled p.sh

/-- The router's logits. -/
def lg : FVec F S128x128 .f32 :=
  k0_pay60 (k0_pay35 p.scaled p.sh) (k0_pay36 p.scaled p.sh) p.wrh p.wrh p.wrl p.br

end Part

/-! ## The parts of a tile -/

section Loads

variable (arg1 : Memref sig .tc .vmem S512x2048 .bf16) (harg1 : arg1.IsWhole) (arg2 : Memref sig .tc .vmem S512x2048 .bf16) (harg2 : arg2.IsWhole) (arg3 : Memref sig .tc .vmem S512x2048 .bf16) (harg3 : arg3.IsWhole) (arg4 : Memref sig .tc .vmem S512x2048 .bf16) (harg4 : arg4.IsWhole) (arg5 : Memref sig .tc .vmem S512x1024 .bf16) (harg5 : arg5.IsWhole) (arg6 : Memref sig .tc .vmem S512x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S1x2048 .f32) (harg10 : arg10.IsWhole) (arg11 : Memref sig .tc .vmem S1x1024 .f32) (harg11 : arg11.IsWhole) (arg12 : Memref sig .tc .vmem S2048x1024 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S1024x128 .bf16) (harg15 : arg15.IsWhole) (arg16 : Memref sig .tc .vmem S1024x128 .bf16) (harg16 : arg16.IsWhole) (arg17 : Memref sig .tc .vmem S1x128 .f32) (harg17 : arg17.IsWhole)
  (x0 : Vec F S512x2048 .bf16) (x1 : Vec F S512x2048 .bf16) (x2 : Vec F S512x2048 .bf16) (x3 : Vec F S512x2048 .bf16) (x4 : Vec F S512x1024 .bf16) (x5 : Vec F S512x1024 .f32) (x6 : Vec F S1x1x1024 .f32) (x7 : Vec F S1x1x1024 .f32) (x8 : Vec F S1x1x1024 .f32) (x9 : Vec F S1x2048 .f32) (x10 : Vec F S1x1024 .f32) (x11 : Vec F S2048x1024 .bf16) (x12 : Vec F S1024x1024 .bf16) (x13 : Vec F S1024x1024 .bf16) (x14 : Vec F S1024x128 .bf16) (x15 : Vec F S1024x128 .bf16) (x16 : Vec F S1x128 .f32)

/-- The loads of part 0. -/
def loads0 : Part F where
  z := View.readAt (Elt F) arg3.view (Rect.unit (s := S512x2048) ![0, 0] S128x2048.size inb_S512x2048_S128x2048_0_0).toLoadRect (harg3.unread x2)
  yf := View.readAt (Elt F) arg1.view (Rect.unit (s := S512x2048) ![0, 0] S128x2048.size inb_S512x2048_S128x2048_0_0).toLoadRect (harg1.unread x0)
  yb := View.readAt (Elt F) arg2.view (Rect.unit (s := S512x2048) ![0, 0] S128x2048.size inb_S512x2048_S128x2048_0_0).toLoadRect (harg2.unread x1)
  snw := View.readAt (Elt F) arg10.view (Rect.unit (s := S1x2048) ![0, 0] S1x2048.size inb_S1x2048_S1x2048_0_0).toLoadRect (harg10.unread x9)
  wbs := View.readAt (Elt F) arg12.view (Rect.unit (s := S2048x1024) ![0, 0] S2048x1024.size inb_S2048x1024_S2048x1024_0_0).toLoadRect (harg12.unread x11)
  yna := View.readAt (Elt F) arg5.view (Rect.unit (s := S512x1024) ![0, 0] S128x1024.size inb_S512x1024_S128x1024_0_0).toLoadRect (harg5.unread x4)
  wbn := View.readAt (Elt F) arg13.view (Rect.unit (s := S1024x1024) ![0, 0] S1024x1024.size inb_S1024x1024_S1024x1024_0_0).toLoadRect (harg13.unread x12)
  gs := View.readAt (Elt F) arg4.view (Rect.unit (s := S512x2048) ![0, 0] S128x1024.size inb_S512x2048_S128x1024_0_0).toLoadRect (harg4.unread x3)
  gn := View.readAt (Elt F) arg4.view (Rect.unit (s := S512x2048) ![0, 1024] S128x1024.size inb_S512x2048_S128x1024_0_1024).toLoadRect (harg4.unread x3)
  wo := View.readAt (Elt F) arg14.view (Rect.unit (s := S1024x1024) ![0, 0] S1024x1024.size inb_S1024x1024_S1024x1024_0_0).toLoadRect (harg14.unread x13)
  x := View.readAt (Elt F) arg6.view (Rect.unit (s := S512x1024) ![0, 0] S128x1024.size inb_S512x1024_S128x1024_0_0).toLoadRect (harg6.unread x5)
  g1 := View.readAt (Elt F) arg7.view (Rect.unit (s := S1x1x1024) ![0, 0, 0] S1x1x1024.size inb_S1x1x1024_S1x1x1024_0_0_0).toLoadRect (harg7.unread x6)
  n2w := View.readAt (Elt F) arg11.view (Rect.unit (s := S1x1024) ![0, 0] S1x1024.size inb_S1x1024_S1x1024_0_0).toLoadRect (harg11.unread x10)
  sc := View.readAt (Elt F) arg9.view (Rect.unit (s := S1x1x1024) ![0, 0, 0] S1x1x1024.size inb_S1x1x1024_S1x1x1024_0_0_0).toLoadRect (harg9.unread x8)
  sh := View.readAt (Elt F) arg8.view (Rect.unit (s := S1x1x1024) ![0, 0, 0] S1x1x1024.size inb_S1x1x1024_S1x1x1024_0_0_0).toLoadRect (harg8.unread x7)
  wrh := View.readAt (Elt F) arg15.view (Rect.unit (s := S1024x128) ![0, 0] S1024x128.size inb_S1024x128_S1024x128_0_0).toLoadRect (harg15.unread x14)
  wrl := View.readAt (Elt F) arg16.view (Rect.unit (s := S1024x128) ![0, 0] S1024x128.size inb_S1024x128_S1024x128_0_0).toLoadRect (harg16.unread x15)
  br := View.readAt (Elt F) arg17.view (Rect.unit (s := S1x128) ![0, 0] S1x128.size inb_S1x128_S1x128_0_0).toLoadRect (harg17.unread x16)

/-- The loads of part 1. -/
def loads128 : Part F where
  z := View.readAt (Elt F) arg3.view (Rect.unit (s := S512x2048) ![128, 0] S128x2048.size inb_S512x2048_S128x2048_128_0).toLoadRect (harg3.unread x2)
  yf := View.readAt (Elt F) arg1.view (Rect.unit (s := S512x2048) ![128, 0] S128x2048.size inb_S512x2048_S128x2048_128_0).toLoadRect (harg1.unread x0)
  yb := View.readAt (Elt F) arg2.view (Rect.unit (s := S512x2048) ![128, 0] S128x2048.size inb_S512x2048_S128x2048_128_0).toLoadRect (harg2.unread x1)
  snw := View.readAt (Elt F) arg10.view (Rect.unit (s := S1x2048) ![0, 0] S1x2048.size inb_S1x2048_S1x2048_0_0).toLoadRect (harg10.unread x9)
  wbs := View.readAt (Elt F) arg12.view (Rect.unit (s := S2048x1024) ![0, 0] S2048x1024.size inb_S2048x1024_S2048x1024_0_0).toLoadRect (harg12.unread x11)
  yna := View.readAt (Elt F) arg5.view (Rect.unit (s := S512x1024) ![128, 0] S128x1024.size inb_S512x1024_S128x1024_128_0).toLoadRect (harg5.unread x4)
  wbn := View.readAt (Elt F) arg13.view (Rect.unit (s := S1024x1024) ![0, 0] S1024x1024.size inb_S1024x1024_S1024x1024_0_0).toLoadRect (harg13.unread x12)
  gs := View.readAt (Elt F) arg4.view (Rect.unit (s := S512x2048) ![128, 0] S128x1024.size inb_S512x2048_S128x1024_128_0).toLoadRect (harg4.unread x3)
  gn := View.readAt (Elt F) arg4.view (Rect.unit (s := S512x2048) ![128, 1024] S128x1024.size inb_S512x2048_S128x1024_128_1024).toLoadRect (harg4.unread x3)
  wo := View.readAt (Elt F) arg14.view (Rect.unit (s := S1024x1024) ![0, 0] S1024x1024.size inb_S1024x1024_S1024x1024_0_0).toLoadRect (harg14.unread x13)
  x := View.readAt (Elt F) arg6.view (Rect.unit (s := S512x1024) ![128, 0] S128x1024.size inb_S512x1024_S128x1024_128_0).toLoadRect (harg6.unread x5)
  g1 := View.readAt (Elt F) arg7.view (Rect.unit (s := S1x1x1024) ![0, 0, 0] S1x1x1024.size inb_S1x1x1024_S1x1x1024_0_0_0).toLoadRect (harg7.unread x6)
  n2w := View.readAt (Elt F) arg11.view (Rect.unit (s := S1x1024) ![0, 0] S1x1024.size inb_S1x1024_S1x1024_0_0).toLoadRect (harg11.unread x10)
  sc := View.readAt (Elt F) arg9.view (Rect.unit (s := S1x1x1024) ![0, 0, 0] S1x1x1024.size inb_S1x1x1024_S1x1x1024_0_0_0).toLoadRect (harg9.unread x8)
  sh := View.readAt (Elt F) arg8.view (Rect.unit (s := S1x1x1024) ![0, 0, 0] S1x1x1024.size inb_S1x1x1024_S1x1x1024_0_0_0).toLoadRect (harg8.unread x7)
  wrh := View.readAt (Elt F) arg15.view (Rect.unit (s := S1024x128) ![0, 0] S1024x128.size inb_S1024x128_S1024x128_0_0).toLoadRect (harg15.unread x14)
  wrl := View.readAt (Elt F) arg16.view (Rect.unit (s := S1024x128) ![0, 0] S1024x128.size inb_S1024x128_S1024x128_0_0).toLoadRect (harg16.unread x15)
  br := View.readAt (Elt F) arg17.view (Rect.unit (s := S1x128) ![0, 0] S1x128.size inb_S1x128_S1x128_0_0).toLoadRect (harg17.unread x16)

/-- The loads of part 2. -/
def loads256 : Part F where
  z := View.readAt (Elt F) arg3.view (Rect.unit (s := S512x2048) ![256, 0] S128x2048.size inb_S512x2048_S128x2048_256_0).toLoadRect (harg3.unread x2)
  yf := View.readAt (Elt F) arg1.view (Rect.unit (s := S512x2048) ![256, 0] S128x2048.size inb_S512x2048_S128x2048_256_0).toLoadRect (harg1.unread x0)
  yb := View.readAt (Elt F) arg2.view (Rect.unit (s := S512x2048) ![256, 0] S128x2048.size inb_S512x2048_S128x2048_256_0).toLoadRect (harg2.unread x1)
  snw := View.readAt (Elt F) arg10.view (Rect.unit (s := S1x2048) ![0, 0] S1x2048.size inb_S1x2048_S1x2048_0_0).toLoadRect (harg10.unread x9)
  wbs := View.readAt (Elt F) arg12.view (Rect.unit (s := S2048x1024) ![0, 0] S2048x1024.size inb_S2048x1024_S2048x1024_0_0).toLoadRect (harg12.unread x11)
  yna := View.readAt (Elt F) arg5.view (Rect.unit (s := S512x1024) ![256, 0] S128x1024.size inb_S512x1024_S128x1024_256_0).toLoadRect (harg5.unread x4)
  wbn := View.readAt (Elt F) arg13.view (Rect.unit (s := S1024x1024) ![0, 0] S1024x1024.size inb_S1024x1024_S1024x1024_0_0).toLoadRect (harg13.unread x12)
  gs := View.readAt (Elt F) arg4.view (Rect.unit (s := S512x2048) ![256, 0] S128x1024.size inb_S512x2048_S128x1024_256_0).toLoadRect (harg4.unread x3)
  gn := View.readAt (Elt F) arg4.view (Rect.unit (s := S512x2048) ![256, 1024] S128x1024.size inb_S512x2048_S128x1024_256_1024).toLoadRect (harg4.unread x3)
  wo := View.readAt (Elt F) arg14.view (Rect.unit (s := S1024x1024) ![0, 0] S1024x1024.size inb_S1024x1024_S1024x1024_0_0).toLoadRect (harg14.unread x13)
  x := View.readAt (Elt F) arg6.view (Rect.unit (s := S512x1024) ![256, 0] S128x1024.size inb_S512x1024_S128x1024_256_0).toLoadRect (harg6.unread x5)
  g1 := View.readAt (Elt F) arg7.view (Rect.unit (s := S1x1x1024) ![0, 0, 0] S1x1x1024.size inb_S1x1x1024_S1x1x1024_0_0_0).toLoadRect (harg7.unread x6)
  n2w := View.readAt (Elt F) arg11.view (Rect.unit (s := S1x1024) ![0, 0] S1x1024.size inb_S1x1024_S1x1024_0_0).toLoadRect (harg11.unread x10)
  sc := View.readAt (Elt F) arg9.view (Rect.unit (s := S1x1x1024) ![0, 0, 0] S1x1x1024.size inb_S1x1x1024_S1x1x1024_0_0_0).toLoadRect (harg9.unread x8)
  sh := View.readAt (Elt F) arg8.view (Rect.unit (s := S1x1x1024) ![0, 0, 0] S1x1x1024.size inb_S1x1x1024_S1x1x1024_0_0_0).toLoadRect (harg8.unread x7)
  wrh := View.readAt (Elt F) arg15.view (Rect.unit (s := S1024x128) ![0, 0] S1024x128.size inb_S1024x128_S1024x128_0_0).toLoadRect (harg15.unread x14)
  wrl := View.readAt (Elt F) arg16.view (Rect.unit (s := S1024x128) ![0, 0] S1024x128.size inb_S1024x128_S1024x128_0_0).toLoadRect (harg16.unread x15)
  br := View.readAt (Elt F) arg17.view (Rect.unit (s := S1x128) ![0, 0] S1x128.size inb_S1x128_S1x128_0_0).toLoadRect (harg17.unread x16)

/-- The loads of part 3. -/
def loads384 : Part F where
  z := View.readAt (Elt F) arg3.view (Rect.unit (s := S512x2048) ![384, 0] S128x2048.size inb_S512x2048_S128x2048_384_0).toLoadRect (harg3.unread x2)
  yf := View.readAt (Elt F) arg1.view (Rect.unit (s := S512x2048) ![384, 0] S128x2048.size inb_S512x2048_S128x2048_384_0).toLoadRect (harg1.unread x0)
  yb := View.readAt (Elt F) arg2.view (Rect.unit (s := S512x2048) ![384, 0] S128x2048.size inb_S512x2048_S128x2048_384_0).toLoadRect (harg2.unread x1)
  snw := View.readAt (Elt F) arg10.view (Rect.unit (s := S1x2048) ![0, 0] S1x2048.size inb_S1x2048_S1x2048_0_0).toLoadRect (harg10.unread x9)
  wbs := View.readAt (Elt F) arg12.view (Rect.unit (s := S2048x1024) ![0, 0] S2048x1024.size inb_S2048x1024_S2048x1024_0_0).toLoadRect (harg12.unread x11)
  yna := View.readAt (Elt F) arg5.view (Rect.unit (s := S512x1024) ![384, 0] S128x1024.size inb_S512x1024_S128x1024_384_0).toLoadRect (harg5.unread x4)
  wbn := View.readAt (Elt F) arg13.view (Rect.unit (s := S1024x1024) ![0, 0] S1024x1024.size inb_S1024x1024_S1024x1024_0_0).toLoadRect (harg13.unread x12)
  gs := View.readAt (Elt F) arg4.view (Rect.unit (s := S512x2048) ![384, 0] S128x1024.size inb_S512x2048_S128x1024_384_0).toLoadRect (harg4.unread x3)
  gn := View.readAt (Elt F) arg4.view (Rect.unit (s := S512x2048) ![384, 1024] S128x1024.size inb_S512x2048_S128x1024_384_1024).toLoadRect (harg4.unread x3)
  wo := View.readAt (Elt F) arg14.view (Rect.unit (s := S1024x1024) ![0, 0] S1024x1024.size inb_S1024x1024_S1024x1024_0_0).toLoadRect (harg14.unread x13)
  x := View.readAt (Elt F) arg6.view (Rect.unit (s := S512x1024) ![384, 0] S128x1024.size inb_S512x1024_S128x1024_384_0).toLoadRect (harg6.unread x5)
  g1 := View.readAt (Elt F) arg7.view (Rect.unit (s := S1x1x1024) ![0, 0, 0] S1x1x1024.size inb_S1x1x1024_S1x1x1024_0_0_0).toLoadRect (harg7.unread x6)
  n2w := View.readAt (Elt F) arg11.view (Rect.unit (s := S1x1024) ![0, 0] S1x1024.size inb_S1x1024_S1x1024_0_0).toLoadRect (harg11.unread x10)
  sc := View.readAt (Elt F) arg9.view (Rect.unit (s := S1x1x1024) ![0, 0, 0] S1x1x1024.size inb_S1x1x1024_S1x1x1024_0_0_0).toLoadRect (harg9.unread x8)
  sh := View.readAt (Elt F) arg8.view (Rect.unit (s := S1x1x1024) ![0, 0, 0] S1x1x1024.size inb_S1x1x1024_S1x1x1024_0_0_0).toLoadRect (harg8.unread x7)
  wrh := View.readAt (Elt F) arg15.view (Rect.unit (s := S1024x128) ![0, 0] S1024x128.size inb_S1024x128_S1024x128_0_0).toLoadRect (harg15.unread x14)
  wrl := View.readAt (Elt F) arg16.view (Rect.unit (s := S1024x128) ![0, 0] S1024x128.size inb_S1024x128_S1024x128_0_0).toLoadRect (harg16.unread x15)
  br := View.readAt (Elt F) arg17.view (Rect.unit (s := S1x128) ![0, 0] S1x128.size inb_S1x128_S1x128_0_0).toLoadRect (harg17.unread x16)

end Loads

section Parts

variable (x0 : Vec F S512x2048 .bf16) (x1 : Vec F S512x2048 .bf16) (x2 : Vec F S512x2048 .bf16) (x3 : Vec F S512x2048 .bf16) (x4 : Vec F S512x1024 .bf16) (x5 : Vec F S512x1024 .f32) (x6 : Vec F S1x1x1024 .f32) (x7 : Vec F S1x1x1024 .f32) (x8 : Vec F S1x1x1024 .f32) (x9 : Vec F S1x2048 .f32) (x10 : Vec F S1x1024 .f32) (x11 : Vec F S2048x1024 .bf16) (x12 : Vec F S1024x1024 .bf16) (x13 : Vec F S1024x1024 .bf16) (x14 : Vec F S1024x128 .bf16) (x15 : Vec F S1024x128 .bf16) (x16 : Vec F S1x128 .f32)

/-- Part 0, of the blocks' contents. -/
def part0 : Part F where
  z := View.ld x2 (Rect.unit (s := S512x2048) ![0, 0] S128x2048.size inb_S512x2048_S128x2048_0_0)
  yf := View.ld x0 (Rect.unit (s := S512x2048) ![0, 0] S128x2048.size inb_S512x2048_S128x2048_0_0)
  yb := View.ld x1 (Rect.unit (s := S512x2048) ![0, 0] S128x2048.size inb_S512x2048_S128x2048_0_0)
  snw := x9
  wbs := x11
  yna := View.ld x4 (Rect.unit (s := S512x1024) ![0, 0] S128x1024.size inb_S512x1024_S128x1024_0_0)
  wbn := x12
  gs := View.ld x3 (Rect.unit (s := S512x2048) ![0, 0] S128x1024.size inb_S512x2048_S128x1024_0_0)
  gn := View.ld x3 (Rect.unit (s := S512x2048) ![0, 1024] S128x1024.size inb_S512x2048_S128x1024_0_1024)
  wo := x13
  x := View.ld x5 (Rect.unit (s := S512x1024) ![0, 0] S128x1024.size inb_S512x1024_S128x1024_0_0)
  g1 := x6
  n2w := x10
  sc := x8
  sh := x7
  wrh := x14
  wrl := x15
  br := x16

/-- Part 1, of the blocks' contents. -/
def part128 : Part F where
  z := View.ld x2 (Rect.unit (s := S512x2048) ![128, 0] S128x2048.size inb_S512x2048_S128x2048_128_0)
  yf := View.ld x0 (Rect.unit (s := S512x2048) ![128, 0] S128x2048.size inb_S512x2048_S128x2048_128_0)
  yb := View.ld x1 (Rect.unit (s := S512x2048) ![128, 0] S128x2048.size inb_S512x2048_S128x2048_128_0)
  snw := x9
  wbs := x11
  yna := View.ld x4 (Rect.unit (s := S512x1024) ![128, 0] S128x1024.size inb_S512x1024_S128x1024_128_0)
  wbn := x12
  gs := View.ld x3 (Rect.unit (s := S512x2048) ![128, 0] S128x1024.size inb_S512x2048_S128x1024_128_0)
  gn := View.ld x3 (Rect.unit (s := S512x2048) ![128, 1024] S128x1024.size inb_S512x2048_S128x1024_128_1024)
  wo := x13
  x := View.ld x5 (Rect.unit (s := S512x1024) ![128, 0] S128x1024.size inb_S512x1024_S128x1024_128_0)
  g1 := x6
  n2w := x10
  sc := x8
  sh := x7
  wrh := x14
  wrl := x15
  br := x16

/-- Part 2, of the blocks' contents. -/
def part256 : Part F where
  z := View.ld x2 (Rect.unit (s := S512x2048) ![256, 0] S128x2048.size inb_S512x2048_S128x2048_256_0)
  yf := View.ld x0 (Rect.unit (s := S512x2048) ![256, 0] S128x2048.size inb_S512x2048_S128x2048_256_0)
  yb := View.ld x1 (Rect.unit (s := S512x2048) ![256, 0] S128x2048.size inb_S512x2048_S128x2048_256_0)
  snw := x9
  wbs := x11
  yna := View.ld x4 (Rect.unit (s := S512x1024) ![256, 0] S128x1024.size inb_S512x1024_S128x1024_256_0)
  wbn := x12
  gs := View.ld x3 (Rect.unit (s := S512x2048) ![256, 0] S128x1024.size inb_S512x2048_S128x1024_256_0)
  gn := View.ld x3 (Rect.unit (s := S512x2048) ![256, 1024] S128x1024.size inb_S512x2048_S128x1024_256_1024)
  wo := x13
  x := View.ld x5 (Rect.unit (s := S512x1024) ![256, 0] S128x1024.size inb_S512x1024_S128x1024_256_0)
  g1 := x6
  n2w := x10
  sc := x8
  sh := x7
  wrh := x14
  wrl := x15
  br := x16

/-- Part 3, of the blocks' contents. -/
def part384 : Part F where
  z := View.ld x2 (Rect.unit (s := S512x2048) ![384, 0] S128x2048.size inb_S512x2048_S128x2048_384_0)
  yf := View.ld x0 (Rect.unit (s := S512x2048) ![384, 0] S128x2048.size inb_S512x2048_S128x2048_384_0)
  yb := View.ld x1 (Rect.unit (s := S512x2048) ![384, 0] S128x2048.size inb_S512x2048_S128x2048_384_0)
  snw := x9
  wbs := x11
  yna := View.ld x4 (Rect.unit (s := S512x1024) ![384, 0] S128x1024.size inb_S512x1024_S128x1024_384_0)
  wbn := x12
  gs := View.ld x3 (Rect.unit (s := S512x2048) ![384, 0] S128x1024.size inb_S512x2048_S128x1024_384_0)
  gn := View.ld x3 (Rect.unit (s := S512x2048) ![384, 1024] S128x1024.size inb_S512x2048_S128x1024_384_1024)
  wo := x13
  x := View.ld x5 (Rect.unit (s := S512x1024) ![384, 0] S128x1024.size inb_S512x1024_S128x1024_384_0)
  g1 := x6
  n2w := x10
  sc := x8
  sh := x7
  wrh := x14
  wrl := x15
  br := x16

end Parts

theorem zero2 : (![0, 0] : Fin 2 → Nat) = fun _ => 0 := funext fun a => by fin_cases a <;> rfl
theorem zero3 : (![0, 0, 0] : Fin 3 → Nat) = fun _ => 0 := funext fun a => by fin_cases a <;> rfl

section Whole

variable (arg1 : Memref sig .tc .vmem S512x2048 .bf16) (harg1 : arg1.IsWhole) (arg2 : Memref sig .tc .vmem S512x2048 .bf16) (harg2 : arg2.IsWhole) (arg3 : Memref sig .tc .vmem S512x2048 .bf16) (harg3 : arg3.IsWhole) (arg4 : Memref sig .tc .vmem S512x2048 .bf16) (harg4 : arg4.IsWhole) (arg5 : Memref sig .tc .vmem S512x1024 .bf16) (harg5 : arg5.IsWhole) (arg6 : Memref sig .tc .vmem S512x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S1x2048 .f32) (harg10 : arg10.IsWhole) (arg11 : Memref sig .tc .vmem S1x1024 .f32) (harg11 : arg11.IsWhole) (arg12 : Memref sig .tc .vmem S2048x1024 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S1024x128 .bf16) (harg15 : arg15.IsWhole) (arg16 : Memref sig .tc .vmem S1024x128 .bf16) (harg16 : arg16.IsWhole) (arg17 : Memref sig .tc .vmem S1x128 .f32) (harg17 : arg17.IsWhole)
  (x0 : Vec F S512x2048 .bf16) (x1 : Vec F S512x2048 .bf16) (x2 : Vec F S512x2048 .bf16) (x3 : Vec F S512x2048 .bf16) (x4 : Vec F S512x1024 .bf16) (x5 : Vec F S512x1024 .f32) (x6 : Vec F S1x1x1024 .f32) (x7 : Vec F S1x1x1024 .f32) (x8 : Vec F S1x1x1024 .f32) (x9 : Vec F S1x2048 .f32) (x10 : Vec F S1x1024 .f32) (x11 : Vec F S2048x1024 .bf16) (x12 : Vec F S1024x1024 .bf16) (x13 : Vec F S1024x1024 .bf16) (x14 : Vec F S1024x128 .bf16) (x15 : Vec F S1024x128 .bf16) (x16 : Vec F S1x128 .f32)

theorem loads0_eq : loads0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 x11 x12 x13 x14 x15 x16 = part0 x0 x1 x2 x3 x4 x5 x6 x7 x8 x9 x10 x11 x12 x13 x14 x15 x16 := by
  apply Part.ext
  · exact congrArg (fun X => View.ld X (Rect.unit (s := S512x2048) ![0, 0] S128x2048.size inb_S512x2048_S128x2048_0_0)) (harg3.read_unread x2)
  · exact congrArg (fun X => View.ld X (Rect.unit (s := S512x2048) ![0, 0] S128x2048.size inb_S512x2048_S128x2048_0_0)) (harg1.read_unread x0)
  · exact congrArg (fun X => View.ld X (Rect.unit (s := S512x2048) ![0, 0] S128x2048.size inb_S512x2048_S128x2048_0_0)) (harg2.read_unread x1)
  · exact (congrArg (fun X => View.ld X (Rect.unit (s := S1x2048) ![0, 0] S1x2048.size inb_S1x2048_S1x2048_0_0)) (harg10.read_unread x9)).trans
      (View.ld_unit_zero (S := S1x2048) zero2 _ x9)
  · exact (congrArg (fun X => View.ld X (Rect.unit (s := S2048x1024) ![0, 0] S2048x1024.size inb_S2048x1024_S2048x1024_0_0)) (harg12.read_unread x11)).trans
      (View.ld_unit_zero (S := S2048x1024) zero2 _ x11)
  · exact congrArg (fun X => View.ld X (Rect.unit (s := S512x1024) ![0, 0] S128x1024.size inb_S512x1024_S128x1024_0_0)) (harg5.read_unread x4)
  · exact (congrArg (fun X => View.ld X (Rect.unit (s := S1024x1024) ![0, 0] S1024x1024.size inb_S1024x1024_S1024x1024_0_0)) (harg13.read_unread x12)).trans
      (View.ld_unit_zero (S := S1024x1024) zero2 _ x12)
  · exact congrArg (fun X => View.ld X (Rect.unit (s := S512x2048) ![0, 0] S128x1024.size inb_S512x2048_S128x1024_0_0)) (harg4.read_unread x3)
  · exact congrArg (fun X => View.ld X (Rect.unit (s := S512x2048) ![0, 1024] S128x1024.size inb_S512x2048_S128x1024_0_1024)) (harg4.read_unread x3)
  · exact (congrArg (fun X => View.ld X (Rect.unit (s := S1024x1024) ![0, 0] S1024x1024.size inb_S1024x1024_S1024x1024_0_0)) (harg14.read_unread x13)).trans
      (View.ld_unit_zero (S := S1024x1024) zero2 _ x13)
  · exact congrArg (fun X => View.ld X (Rect.unit (s := S512x1024) ![0, 0] S128x1024.size inb_S512x1024_S128x1024_0_0)) (harg6.read_unread x5)
  · exact (congrArg (fun X => View.ld X (Rect.unit (s := S1x1x1024) ![0, 0, 0] S1x1x1024.size inb_S1x1x1024_S1x1x1024_0_0_0)) (harg7.read_unread x6)).trans
      (View.ld_unit_zero (S := S1x1x1024) zero3 _ x6)
  · exact (congrArg (fun X => View.ld X (Rect.unit (s := S1x1024) ![0, 0] S1x1024.size inb_S1x1024_S1x1024_0_0)) (harg11.read_unread x10)).trans
      (View.ld_unit_zero (S := S1x1024) zero2 _ x10)
  · exact (congrArg (fun X => View.ld X (Rect.unit (s := S1x1x1024) ![0, 0, 0] S1x1x1024.size inb_S1x1x1024_S1x1x1024_0_0_0)) (harg9.read_unread x8)).trans
      (View.ld_unit_zero (S := S1x1x1024) zero3 _ x8)
  · exact (congrArg (fun X => View.ld X (Rect.unit (s := S1x1x1024) ![0, 0, 0] S1x1x1024.size inb_S1x1x1024_S1x1x1024_0_0_0)) (harg8.read_unread x7)).trans
      (View.ld_unit_zero (S := S1x1x1024) zero3 _ x7)
  · exact (congrArg (fun X => View.ld X (Rect.unit (s := S1024x128) ![0, 0] S1024x128.size inb_S1024x128_S1024x128_0_0)) (harg15.read_unread x14)).trans
      (View.ld_unit_zero (S := S1024x128) zero2 _ x14)
  · exact (congrArg (fun X => View.ld X (Rect.unit (s := S1024x128) ![0, 0] S1024x128.size inb_S1024x128_S1024x128_0_0)) (harg16.read_unread x15)).trans
      (View.ld_unit_zero (S := S1024x128) zero2 _ x15)
  · exact (congrArg (fun X => View.ld X (Rect.unit (s := S1x128) ![0, 0] S1x128.size inb_S1x128_S1x128_0_0)) (harg17.read_unread x16)).trans
      (View.ld_unit_zero (S := S1x128) zero2 _ x16)

theorem loads128_eq : loads128 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 x11 x12 x13 x14 x15 x16 = part128 x0 x1 x2 x3 x4 x5 x6 x7 x8 x9 x10 x11 x12 x13 x14 x15 x16 := by
  apply Part.ext
  · exact congrArg (fun X => View.ld X (Rect.unit (s := S512x2048) ![128, 0] S128x2048.size inb_S512x2048_S128x2048_128_0)) (harg3.read_unread x2)
  · exact congrArg (fun X => View.ld X (Rect.unit (s := S512x2048) ![128, 0] S128x2048.size inb_S512x2048_S128x2048_128_0)) (harg1.read_unread x0)
  · exact congrArg (fun X => View.ld X (Rect.unit (s := S512x2048) ![128, 0] S128x2048.size inb_S512x2048_S128x2048_128_0)) (harg2.read_unread x1)
  · exact (congrArg (fun X => View.ld X (Rect.unit (s := S1x2048) ![0, 0] S1x2048.size inb_S1x2048_S1x2048_0_0)) (harg10.read_unread x9)).trans
      (View.ld_unit_zero (S := S1x2048) zero2 _ x9)
  · exact (congrArg (fun X => View.ld X (Rect.unit (s := S2048x1024) ![0, 0] S2048x1024.size inb_S2048x1024_S2048x1024_0_0)) (harg12.read_unread x11)).trans
      (View.ld_unit_zero (S := S2048x1024) zero2 _ x11)
  · exact congrArg (fun X => View.ld X (Rect.unit (s := S512x1024) ![128, 0] S128x1024.size inb_S512x1024_S128x1024_128_0)) (harg5.read_unread x4)
  · exact (congrArg (fun X => View.ld X (Rect.unit (s := S1024x1024) ![0, 0] S1024x1024.size inb_S1024x1024_S1024x1024_0_0)) (harg13.read_unread x12)).trans
      (View.ld_unit_zero (S := S1024x1024) zero2 _ x12)
  · exact congrArg (fun X => View.ld X (Rect.unit (s := S512x2048) ![128, 0] S128x1024.size inb_S512x2048_S128x1024_128_0)) (harg4.read_unread x3)
  · exact congrArg (fun X => View.ld X (Rect.unit (s := S512x2048) ![128, 1024] S128x1024.size inb_S512x2048_S128x1024_128_1024)) (harg4.read_unread x3)
  · exact (congrArg (fun X => View.ld X (Rect.unit (s := S1024x1024) ![0, 0] S1024x1024.size inb_S1024x1024_S1024x1024_0_0)) (harg14.read_unread x13)).trans
      (View.ld_unit_zero (S := S1024x1024) zero2 _ x13)
  · exact congrArg (fun X => View.ld X (Rect.unit (s := S512x1024) ![128, 0] S128x1024.size inb_S512x1024_S128x1024_128_0)) (harg6.read_unread x5)
  · exact (congrArg (fun X => View.ld X (Rect.unit (s := S1x1x1024) ![0, 0, 0] S1x1x1024.size inb_S1x1x1024_S1x1x1024_0_0_0)) (harg7.read_unread x6)).trans
      (View.ld_unit_zero (S := S1x1x1024) zero3 _ x6)
  · exact (congrArg (fun X => View.ld X (Rect.unit (s := S1x1024) ![0, 0] S1x1024.size inb_S1x1024_S1x1024_0_0)) (harg11.read_unread x10)).trans
      (View.ld_unit_zero (S := S1x1024) zero2 _ x10)
  · exact (congrArg (fun X => View.ld X (Rect.unit (s := S1x1x1024) ![0, 0, 0] S1x1x1024.size inb_S1x1x1024_S1x1x1024_0_0_0)) (harg9.read_unread x8)).trans
      (View.ld_unit_zero (S := S1x1x1024) zero3 _ x8)
  · exact (congrArg (fun X => View.ld X (Rect.unit (s := S1x1x1024) ![0, 0, 0] S1x1x1024.size inb_S1x1x1024_S1x1x1024_0_0_0)) (harg8.read_unread x7)).trans
      (View.ld_unit_zero (S := S1x1x1024) zero3 _ x7)
  · exact (congrArg (fun X => View.ld X (Rect.unit (s := S1024x128) ![0, 0] S1024x128.size inb_S1024x128_S1024x128_0_0)) (harg15.read_unread x14)).trans
      (View.ld_unit_zero (S := S1024x128) zero2 _ x14)
  · exact (congrArg (fun X => View.ld X (Rect.unit (s := S1024x128) ![0, 0] S1024x128.size inb_S1024x128_S1024x128_0_0)) (harg16.read_unread x15)).trans
      (View.ld_unit_zero (S := S1024x128) zero2 _ x15)
  · exact (congrArg (fun X => View.ld X (Rect.unit (s := S1x128) ![0, 0] S1x128.size inb_S1x128_S1x128_0_0)) (harg17.read_unread x16)).trans
      (View.ld_unit_zero (S := S1x128) zero2 _ x16)

theorem loads256_eq : loads256 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 x11 x12 x13 x14 x15 x16 = part256 x0 x1 x2 x3 x4 x5 x6 x7 x8 x9 x10 x11 x12 x13 x14 x15 x16 := by
  apply Part.ext
  · exact congrArg (fun X => View.ld X (Rect.unit (s := S512x2048) ![256, 0] S128x2048.size inb_S512x2048_S128x2048_256_0)) (harg3.read_unread x2)
  · exact congrArg (fun X => View.ld X (Rect.unit (s := S512x2048) ![256, 0] S128x2048.size inb_S512x2048_S128x2048_256_0)) (harg1.read_unread x0)
  · exact congrArg (fun X => View.ld X (Rect.unit (s := S512x2048) ![256, 0] S128x2048.size inb_S512x2048_S128x2048_256_0)) (harg2.read_unread x1)
  · exact (congrArg (fun X => View.ld X (Rect.unit (s := S1x2048) ![0, 0] S1x2048.size inb_S1x2048_S1x2048_0_0)) (harg10.read_unread x9)).trans
      (View.ld_unit_zero (S := S1x2048) zero2 _ x9)
  · exact (congrArg (fun X => View.ld X (Rect.unit (s := S2048x1024) ![0, 0] S2048x1024.size inb_S2048x1024_S2048x1024_0_0)) (harg12.read_unread x11)).trans
      (View.ld_unit_zero (S := S2048x1024) zero2 _ x11)
  · exact congrArg (fun X => View.ld X (Rect.unit (s := S512x1024) ![256, 0] S128x1024.size inb_S512x1024_S128x1024_256_0)) (harg5.read_unread x4)
  · exact (congrArg (fun X => View.ld X (Rect.unit (s := S1024x1024) ![0, 0] S1024x1024.size inb_S1024x1024_S1024x1024_0_0)) (harg13.read_unread x12)).trans
      (View.ld_unit_zero (S := S1024x1024) zero2 _ x12)
  · exact congrArg (fun X => View.ld X (Rect.unit (s := S512x2048) ![256, 0] S128x1024.size inb_S512x2048_S128x1024_256_0)) (harg4.read_unread x3)
  · exact congrArg (fun X => View.ld X (Rect.unit (s := S512x2048) ![256, 1024] S128x1024.size inb_S512x2048_S128x1024_256_1024)) (harg4.read_unread x3)
  · exact (congrArg (fun X => View.ld X (Rect.unit (s := S1024x1024) ![0, 0] S1024x1024.size inb_S1024x1024_S1024x1024_0_0)) (harg14.read_unread x13)).trans
      (View.ld_unit_zero (S := S1024x1024) zero2 _ x13)
  · exact congrArg (fun X => View.ld X (Rect.unit (s := S512x1024) ![256, 0] S128x1024.size inb_S512x1024_S128x1024_256_0)) (harg6.read_unread x5)
  · exact (congrArg (fun X => View.ld X (Rect.unit (s := S1x1x1024) ![0, 0, 0] S1x1x1024.size inb_S1x1x1024_S1x1x1024_0_0_0)) (harg7.read_unread x6)).trans
      (View.ld_unit_zero (S := S1x1x1024) zero3 _ x6)
  · exact (congrArg (fun X => View.ld X (Rect.unit (s := S1x1024) ![0, 0] S1x1024.size inb_S1x1024_S1x1024_0_0)) (harg11.read_unread x10)).trans
      (View.ld_unit_zero (S := S1x1024) zero2 _ x10)
  · exact (congrArg (fun X => View.ld X (Rect.unit (s := S1x1x1024) ![0, 0, 0] S1x1x1024.size inb_S1x1x1024_S1x1x1024_0_0_0)) (harg9.read_unread x8)).trans
      (View.ld_unit_zero (S := S1x1x1024) zero3 _ x8)
  · exact (congrArg (fun X => View.ld X (Rect.unit (s := S1x1x1024) ![0, 0, 0] S1x1x1024.size inb_S1x1x1024_S1x1x1024_0_0_0)) (harg8.read_unread x7)).trans
      (View.ld_unit_zero (S := S1x1x1024) zero3 _ x7)
  · exact (congrArg (fun X => View.ld X (Rect.unit (s := S1024x128) ![0, 0] S1024x128.size inb_S1024x128_S1024x128_0_0)) (harg15.read_unread x14)).trans
      (View.ld_unit_zero (S := S1024x128) zero2 _ x14)
  · exact (congrArg (fun X => View.ld X (Rect.unit (s := S1024x128) ![0, 0] S1024x128.size inb_S1024x128_S1024x128_0_0)) (harg16.read_unread x15)).trans
      (View.ld_unit_zero (S := S1024x128) zero2 _ x15)
  · exact (congrArg (fun X => View.ld X (Rect.unit (s := S1x128) ![0, 0] S1x128.size inb_S1x128_S1x128_0_0)) (harg17.read_unread x16)).trans
      (View.ld_unit_zero (S := S1x128) zero2 _ x16)

theorem loads384_eq : loads384 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 x11 x12 x13 x14 x15 x16 = part384 x0 x1 x2 x3 x4 x5 x6 x7 x8 x9 x10 x11 x12 x13 x14 x15 x16 := by
  apply Part.ext
  · exact congrArg (fun X => View.ld X (Rect.unit (s := S512x2048) ![384, 0] S128x2048.size inb_S512x2048_S128x2048_384_0)) (harg3.read_unread x2)
  · exact congrArg (fun X => View.ld X (Rect.unit (s := S512x2048) ![384, 0] S128x2048.size inb_S512x2048_S128x2048_384_0)) (harg1.read_unread x0)
  · exact congrArg (fun X => View.ld X (Rect.unit (s := S512x2048) ![384, 0] S128x2048.size inb_S512x2048_S128x2048_384_0)) (harg2.read_unread x1)
  · exact (congrArg (fun X => View.ld X (Rect.unit (s := S1x2048) ![0, 0] S1x2048.size inb_S1x2048_S1x2048_0_0)) (harg10.read_unread x9)).trans
      (View.ld_unit_zero (S := S1x2048) zero2 _ x9)
  · exact (congrArg (fun X => View.ld X (Rect.unit (s := S2048x1024) ![0, 0] S2048x1024.size inb_S2048x1024_S2048x1024_0_0)) (harg12.read_unread x11)).trans
      (View.ld_unit_zero (S := S2048x1024) zero2 _ x11)
  · exact congrArg (fun X => View.ld X (Rect.unit (s := S512x1024) ![384, 0] S128x1024.size inb_S512x1024_S128x1024_384_0)) (harg5.read_unread x4)
  · exact (congrArg (fun X => View.ld X (Rect.unit (s := S1024x1024) ![0, 0] S1024x1024.size inb_S1024x1024_S1024x1024_0_0)) (harg13.read_unread x12)).trans
      (View.ld_unit_zero (S := S1024x1024) zero2 _ x12)
  · exact congrArg (fun X => View.ld X (Rect.unit (s := S512x2048) ![384, 0] S128x1024.size inb_S512x2048_S128x1024_384_0)) (harg4.read_unread x3)
  · exact congrArg (fun X => View.ld X (Rect.unit (s := S512x2048) ![384, 1024] S128x1024.size inb_S512x2048_S128x1024_384_1024)) (harg4.read_unread x3)
  · exact (congrArg (fun X => View.ld X (Rect.unit (s := S1024x1024) ![0, 0] S1024x1024.size inb_S1024x1024_S1024x1024_0_0)) (harg14.read_unread x13)).trans
      (View.ld_unit_zero (S := S1024x1024) zero2 _ x13)
  · exact congrArg (fun X => View.ld X (Rect.unit (s := S512x1024) ![384, 0] S128x1024.size inb_S512x1024_S128x1024_384_0)) (harg6.read_unread x5)
  · exact (congrArg (fun X => View.ld X (Rect.unit (s := S1x1x1024) ![0, 0, 0] S1x1x1024.size inb_S1x1x1024_S1x1x1024_0_0_0)) (harg7.read_unread x6)).trans
      (View.ld_unit_zero (S := S1x1x1024) zero3 _ x6)
  · exact (congrArg (fun X => View.ld X (Rect.unit (s := S1x1024) ![0, 0] S1x1024.size inb_S1x1024_S1x1024_0_0)) (harg11.read_unread x10)).trans
      (View.ld_unit_zero (S := S1x1024) zero2 _ x10)
  · exact (congrArg (fun X => View.ld X (Rect.unit (s := S1x1x1024) ![0, 0, 0] S1x1x1024.size inb_S1x1x1024_S1x1x1024_0_0_0)) (harg9.read_unread x8)).trans
      (View.ld_unit_zero (S := S1x1x1024) zero3 _ x8)
  · exact (congrArg (fun X => View.ld X (Rect.unit (s := S1x1x1024) ![0, 0, 0] S1x1x1024.size inb_S1x1x1024_S1x1x1024_0_0_0)) (harg8.read_unread x7)).trans
      (View.ld_unit_zero (S := S1x1x1024) zero3 _ x7)
  · exact (congrArg (fun X => View.ld X (Rect.unit (s := S1024x128) ![0, 0] S1024x128.size inb_S1024x128_S1024x128_0_0)) (harg15.read_unread x14)).trans
      (View.ld_unit_zero (S := S1024x128) zero2 _ x14)
  · exact (congrArg (fun X => View.ld X (Rect.unit (s := S1024x128) ![0, 0] S1024x128.size inb_S1024x128_S1024x128_0_0)) (harg16.read_unread x15)).trans
      (View.ld_unit_zero (S := S1024x128) zero2 _ x15)
  · exact (congrArg (fun X => View.ld X (Rect.unit (s := S1x128) ![0, 0] S1x128.size inb_S1x128_S1x128_0_0)) (harg17.read_unread x16)).trans
      (View.ld_unit_zero (S := S1x128) zero2 _ x16)

end Whole

/-! ## The stores -/

section Stores

variable (c : Dev nD) (i : grid0.Coords) (arg1 : Memref sig .tc .vmem S512x2048 .bf16) (harg1 : arg1.IsWhole) (arg2 : Memref sig .tc .vmem S512x2048 .bf16) (harg2 : arg2.IsWhole) (arg3 : Memref sig .tc .vmem S512x2048 .bf16) (harg3 : arg3.IsWhole) (arg4 : Memref sig .tc .vmem S512x2048 .bf16) (harg4 : arg4.IsWhole) (arg5 : Memref sig .tc .vmem S512x1024 .bf16) (harg5 : arg5.IsWhole) (arg6 : Memref sig .tc .vmem S512x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S1x2048 .f32) (harg10 : arg10.IsWhole) (arg11 : Memref sig .tc .vmem S1x1024 .f32) (harg11 : arg11.IsWhole) (arg12 : Memref sig .tc .vmem S2048x1024 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S1024x128 .bf16) (harg15 : arg15.IsWhole) (arg16 : Memref sig .tc .vmem S1024x128 .bf16) (harg16 : arg16.IsWhole) (arg17 : Memref sig .tc .vmem S1x128 .f32) (harg17 : arg17.IsWhole) (arg18 : Memref sig .tc .vmem S512x1024 .f32) (harg18 : arg18.IsWhole) (arg19 : Memref sig .tc .vmem S512x1024 .bf16) (harg19 : arg19.IsWhole) (arg20 : Memref sig .tc .vmem S512x128 .f32) (harg20 : arg20.IsWhole) (arg21 : Memref sig .tc .vmem S1536x512 .i32) (harg21 : arg21.IsWhole) (x0 : Vec F S512x2048 .bf16) (x1 : Vec F S512x2048 .bf16) (x2 : Vec F S512x2048 .bf16) (x3 : Vec F S512x2048 .bf16) (x4 : Vec F S512x1024 .bf16) (x5 : Vec F S512x1024 .f32) (x6 : Vec F S1x1x1024 .f32) (x7 : Vec F S1x1x1024 .f32) (x8 : Vec F S1x1x1024 .f32) (x9 : Vec F S1x2048 .f32) (x10 : Vec F S1x1024 .f32) (x11 : Vec F S2048x1024 .bf16) (x12 : Vec F S1024x1024 .bf16) (x13 : Vec F S1024x1024 .bf16) (x14 : Vec F S1024x128 .bf16) (x15 : Vec F S1024x128 .bf16) (x16 : Vec F S1x128 .f32)

set_option maxHeartbeats 0 in
theorem stores17 : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 x14 x15 x16).1 =
      ([⟨Rect.unit (s := S512x1024) ![384, 0] S128x1024.size inb_S512x1024_S128x1024_384_0, (part384 x0 x1 x2 x3 x4 x5 x6 x7 x8 x9 x10 x11 x12 x13 x14 x15 x16).x1⟩,
       ⟨Rect.unit (s := S512x1024) ![256, 0] S128x1024.size inb_S512x1024_S128x1024_256_0, (part256 x0 x1 x2 x3 x4 x5 x6 x7 x8 x9 x10 x11 x12 x13 x14 x15 x16).x1⟩,
       ⟨Rect.unit (s := S512x1024) ![128, 0] S128x1024.size inb_S512x1024_S128x1024_128_0, (part128 x0 x1 x2 x3 x4 x5 x6 x7 x8 x9 x10 x11 x12 x13 x14 x15 x16).x1⟩,
       ⟨Rect.unit (s := S512x1024) ![0, 0] S128x1024.size inb_S512x1024_S128x1024_0_0, (part0 x0 x1 x2 x3 x4 x5 x6 x7 x8 x9 x10 x11 x12 x13 x14 x15 x16).x1⟩] :
      List (View.Piece (Elt F) S512x1024 .f32)) := by
  rw [← loads0_eq arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17, ← loads128_eq arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17, ← loads256_eq arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17, ← loads384_eq arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17]
  rfl

set_option maxHeartbeats 0 in
theorem stores18 : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 x14 x15 x16).2.1 =
      ([⟨Rect.unit (s := S512x1024) ![384, 0] S128x1024.size inb_S512x1024_S128x1024_384_0, (part384 x0 x1 x2 x3 x4 x5 x6 x7 x8 x9 x10 x11 x12 x13 x14 x15 x16).h2⟩,
       ⟨Rect.unit (s := S512x1024) ![256, 0] S128x1024.size inb_S512x1024_S128x1024_256_0, (part256 x0 x1 x2 x3 x4 x5 x6 x7 x8 x9 x10 x11 x12 x13 x14 x15 x16).h2⟩,
       ⟨Rect.unit (s := S512x1024) ![128, 0] S128x1024.size inb_S512x1024_S128x1024_128_0, (part128 x0 x1 x2 x3 x4 x5 x6 x7 x8 x9 x10 x11 x12 x13 x14 x15 x16).h2⟩,
       ⟨Rect.unit (s := S512x1024) ![0, 0] S128x1024.size inb_S512x1024_S128x1024_0_0, (part0 x0 x1 x2 x3 x4 x5 x6 x7 x8 x9 x10 x11 x12 x13 x14 x15 x16).h2⟩] :
      List (View.Piece (Elt F) S512x1024 .bf16)) := by
  rw [← loads0_eq arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17, ← loads128_eq arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17, ← loads256_eq arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17, ← loads384_eq arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17]
  rfl

set_option maxHeartbeats 0 in
theorem stores19 : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 x14 x15 x16).2.2.1 =
      ([⟨Rect.unit (s := S512x128) ![384, 0] S128x128.size inb_S512x128_S128x128_384_0, (part384 x0 x1 x2 x3 x4 x5 x6 x7 x8 x9 x10 x11 x12 x13 x14 x15 x16).lg⟩,
       ⟨Rect.unit (s := S512x128) ![256, 0] S128x128.size inb_S512x128_S128x128_256_0, (part256 x0 x1 x2 x3 x4 x5 x6 x7 x8 x9 x10 x11 x12 x13 x14 x15 x16).lg⟩,
       ⟨Rect.unit (s := S512x128) ![128, 0] S128x128.size inb_S512x128_S128x128_128_0, (part128 x0 x1 x2 x3 x4 x5 x6 x7 x8 x9 x10 x11 x12 x13 x14 x15 x16).lg⟩,
       ⟨Rect.unit (s := S512x128) ![0, 0] S128x128.size inb_S512x128_S128x128_0_0, (part0 x0 x1 x2 x3 x4 x5 x6 x7 x8 x9 x10 x11 x12 x13 x14 x15 x16).lg⟩] :
      List (View.Piece (Elt F) S512x128 .f32)) := by
  rw [← loads0_eq arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17, ← loads128_eq arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17, ← loads256_eq arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17, ← loads384_eq arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17]
  rfl

end Stores

end Cert.Kernel3Ideal.Merge

end
-- ==== Proof.MgStage.lean ====
/-
  The merge's arithmetic on a part of 128 rows, at an index: on finite contents, each row of the part's results is the
  function of the row and the weights which the reference's row is.
-/
module

public import proofs.«01_k».proof.Proof.MgRun
public import proofs.«01_k».proof.Proof.MgReal

@[expose] public section

set_option maxRecDepth 16384

noncomputable section

namespace Cert.Kernel3Ideal.Merge

open Idealize.ShloMosaic Idealize.ShloMosaic.TcCoe
open Cert.Kernel3Ideal Cert.Kernel3Ideal.Gen
open Cert.Merge (Row Weights gate scale half half_gate)

namespace Part

variable (p : Part Ideal)

/-- A row of the part. -/
def row (r : Fin 128) : Row where
  yf k := p.yf (ix2 r k)
  yb k := p.yb (ix2 r k)
  z k := p.z (ix2 r k)
  gs k := p.gs (ix2 r k)
  gn k := p.gn (ix2 r k)
  yna k := p.yna (ix2 r k)
  x k := p.x (ix2 r k)
  g1 k := p.g1 (ix3 0 0 k)
  sh k := p.sh (ix3 0 0 k)
  sc k := p.sc (ix3 0 0 k)

/-- The part's weights. -/
def weights : Weights where
  snw k := p.snw (ix2 0 k)
  n2w k := p.n2w (ix2 0 k)
  wbs k j := p.wbs (ix2 k j)
  wbn k j := p.wbn (ix2 k j)
  wo k j := p.wo (ix2 k j)
  wr k q := p.wrh (ix2 k q)
  br q := p.br (ix2 0 q)

/-- The gated sum as the program spells it. -/
def spelt (r : Fin 128) (k : Fin 2048) : EReal :=
  (p.yf (ix2 r k) + p.yb (ix2 r k)) * (half (p.z (ix2 r k)) * Ideal.tanh (half (p.z (ix2 r k))) + half (p.z (ix2 r k)))

theorem yn_spelt (r : Fin 128) (k : Fin 2048) :
    p.yn (ix2 r k) = p.spelt r k * scale 0x45000000#32 (∑ l : Fin 2048, p.spelt r l * p.spelt r l) * p.snw (ix2 0 k) := by
  pointwise [yn, k0_pay3, spelt, half, scale]

theorem branches_spelt (r : Fin 128) (j : Fin 1024) :
    p.branches (ix2 r j) =
      gate (p.gs (ix2 r j)) * (∑ k : Fin 2048, p.yn (ix2 r k) * p.wbs (ix2 k j)) +
        gate (p.gn (ix2 r j)) * (∑ k : Fin 1024, p.yna (ix2 r k) * p.wbn (ix2 k j)) := by
  pointwise [branches, k0_pay23, k0_pay13, k0_pay14, gate]
  simp only [zero_sub]

theorem mixed_spelt (r : Fin 128) (j : Fin 1024) :
    p.mixed (ix2 r j) = ∑ k : Fin 1024, p.branches (ix2 r k) * p.wo (ix2 k j) := by
  pointwise [mixed, k0_pay28]

theorem x1_spelt (r : Fin 128) (j : Fin 1024) :
    p.x1 (ix2 r j) = p.x (ix2 r j) + p.g1 (ix3 0 0 j) * p.mixed (ix2 r j) := by
  pointwise [x1, k0_pay32]

theorem scaled_spelt (r : Fin 128) (j : Fin 1024) :
    p.scaled (ix2 r j) =
      p.x1 (ix2 r j) * scale 0x44800000#32 (∑ l : Fin 1024, p.x1 (ix2 r l) * p.x1 (ix2 r l)) * p.n2w (ix2 0 j) *
        (1 + p.sc (ix3 0 0 j)) := by
  show k0_pay33 p.mixed p.x p.g1 p.n2w p.sc (ix2 r j) = _
  unfold k0_pay33
  rw [show k0_pay32 p.mixed p.x p.g1 = p.x1 from rfl]
  generalize p.x1 = u
  pointwise [scale]

theorem h2_spelt (r : Fin 128) (j : Fin 1024) : p.h2 (ix2 r j) = p.scaled (ix2 r j) + p.sh (ix3 0 0 j) := by
  pointwise [h2, k0_pay37, k0_pay34]

theorem lg_spelt (r : Fin 128) (q : Fin 128) :
    p.lg (ix2 r q) =
      (∑ k : Fin 1024, p.h2 (ix2 r k) * p.wrh (ix2 k q)) +
          (∑ k : Fin 1024, (p.h2 (ix2 r k) - p.h2 (ix2 r k)) * p.wrh (ix2 k q)) +
          (∑ k : Fin 1024, p.h2 (ix2 r k) * p.wrl (ix2 k q)) + p.br (ix2 0 q) := by
  pointwise [lg, k0_pay60, k0_pay35, k0_pay36, k0_pay34, h2, k0_pay37]

/-! ## On finite contents -/

variable {p} {r : Fin 128} (hρ : (p.row r).Finite) (hw : p.weights.Finite)

include hρ in
theorem spelt_eq (k : Fin 2048) : p.spelt r k = Cert.Merge.gated (p.row r) k := by
  unfold spelt
  exact congrArg ((p.yf (ix2 r k) + p.yb (ix2 r k)) * ·) (half_gate (hρ.z k))

include hρ in
theorem yn_at (k : Fin 2048) : p.yn (ix2 r k) = Cert.Merge.yn (p.row r) p.weights k := by
  rw [yn_spelt]
  simp only [spelt_eq hρ]
  rfl

include hρ in
theorem branches_at (j : Fin 1024) : p.branches (ix2 r j) = Cert.Merge.mg (p.row r) p.weights j := by
  rw [branches_spelt]
  simp only [yn_at hρ]
  rfl

include hρ in
theorem x1_at (j : Fin 1024) : p.x1 (ix2 r j) = Cert.Merge.x1 (p.row r) p.weights j := by
  rw [x1_spelt, mixed_spelt]
  simp only [branches_at hρ]
  rfl

include hρ in
theorem h2_at (j : Fin 1024) : p.h2 (ix2 r j) = Cert.Merge.h2 (p.row r) p.weights j := by
  rw [h2_spelt, scaled_spelt]
  simp only [x1_at hρ]
  rfl

include hρ hw in
theorem lg_at (hl : ∀ k q, p.wrl (ix2 k q) = p.wrh (ix2 k q) - p.wrh (ix2 k q)) (q : Fin 128) :
    p.lg (ix2 r q) = Cert.Merge.lg (p.row r) p.weights q := by
  rw [lg_spelt]
  simp only [h2_at hρ, hl]
  exact Cert.Merge.lg_split hρ hw q

end Part

end Cert.Kernel3Ideal.Merge

end
-- ==== Proof.MgTile.lean ====
/-
  What the merge's body leaves in its result blocks, row by row: the four stores of a result cover its block, and each
  holds the block's rows of the row function.
-/
module

public import proofs.«01_k».proof.Proof.MgStage

@[expose] public section

set_option maxRecDepth 65536

noncomputable section

namespace Cert.Kernel3Ideal.Merge

open Idealize.ShloMosaic Idealize.ShloMosaic.TcCoe
open Cert.Kernel3Ideal Cert.Kernel3Ideal.Gen
open Cert.Merge (Row Weights)

/-- Rows of a block, read through a rectangle of whole columns or of some of them. -/
theorem ld_at {n l w : ℕ} {e : EltTy} (X : Vec Ideal ⟨2, ![n, w]⟩ e) (o q : ℕ)
    (h : ∀ a, (![o, q] : Fin 2 → ℕ) a + (⟨2, ![128, l]⟩ : Shape).size a ≤ (⟨2, ![n, w]⟩ : Shape).size a)
    (r : Fin 128) (k : Fin l) (hr : o + r.val < n) (hk : q + k.val < w) :
    (View.ld X (Rect.unit (s := ⟨2, ![n, w]⟩) ![o, q] (⟨2, ![128, l]⟩ : Shape).size h) : Vec Ideal ⟨2, ![128, l]⟩ e) (ix2 r k)
      = X (ix2 ⟨o + r.val, hr⟩ ⟨q + k.val, hk⟩) := by
  rw [View.ld_unit]
  refine congrArg X (funext fun a => Fin.ext ?_)
  fin_cases a <;> rfl

/-- Where a rectangle of a result block's rows places an index. -/
theorem emb_at {n l : ℕ} (o : ℕ)
    (h : ∀ a, (![o, 0] : Fin 2 → ℕ) a + (⟨2, ![128, l]⟩ : Shape).size a ≤ (⟨2, ![n, l]⟩ : Shape).size a)
    (r : Fin 128) (k : Fin l) (hr : o + r.val < n) :
    (Rect.unit (s := ⟨2, ![n, l]⟩) ![o, 0] (⟨2, ![128, l]⟩ : Shape).size h).emb (ix2 r k) = ix2 ⟨o + r.val, hr⟩ k := by
  funext a
  refine Fin.ext ?_
  fin_cases a
  · show o + 1 * r.val = o + r.val
    omega
  · show 0 + 1 * k.val = k.val
    omega

/-- The blocks a tile of 512 rows reads hold the rows `R` and the weights `w`. -/
structure Reads (x0 : Vec Ideal S512x2048 .bf16) (x1 : Vec Ideal S512x2048 .bf16) (x2 : Vec Ideal S512x2048 .bf16) (x3 : Vec Ideal S512x2048 .bf16) (x4 : Vec Ideal S512x1024 .bf16) (x5 : Vec Ideal S512x1024 .f32) (x6 : Vec Ideal S1x1x1024 .f32) (x7 : Vec Ideal S1x1x1024 .f32) (x8 : Vec Ideal S1x1x1024 .f32) (x9 : Vec Ideal S1x2048 .f32) (x10 : Vec Ideal S1x1024 .f32) (x11 : Vec Ideal S2048x1024 .bf16) (x12 : Vec Ideal S1024x1024 .bf16) (x13 : Vec Ideal S1024x1024 .bf16) (x14 : Vec Ideal S1024x128 .bf16) (x15 : Vec Ideal S1024x128 .bf16) (x16 : Vec Ideal S1x128 .f32)
    (R : Fin 512 → Row) (w : Weights) : Prop where
  yf : ∀ r k, x0 (ix2 r k) = (R r).yf k
  yb : ∀ r k, x1 (ix2 r k) = (R r).yb k
  z : ∀ r k, x2 (ix2 r k) = (R r).z k
  gs : ∀ r (k : Fin 1024), x3 (ix2 r ⟨k.val, by omega⟩) = (R r).gs k
  gn : ∀ r (k : Fin 1024), x3 (ix2 r ⟨1024 + k.val, by omega⟩) = (R r).gn k
  yna : ∀ r k, x4 (ix2 r k) = (R r).yna k
  x : ∀ r k, x5 (ix2 r k) = (R r).x k
  g1 : ∀ r k, x6 (ix3 0 0 k) = (R r).g1 k
  sh : ∀ r k, x7 (ix3 0 0 k) = (R r).sh k
  sc : ∀ r k, x8 (ix3 0 0 k) = (R r).sc k
  snw : ∀ k, x9 (ix2 0 k) = w.snw k
  n2w : ∀ k, x10 (ix2 0 k) = w.n2w k
  wbs : ∀ k j, x11 (ix2 k j) = w.wbs k j
  wbn : ∀ k j, x12 (ix2 k j) = w.wbn k j
  wo : ∀ k j, x13 (ix2 k j) = w.wo k j
  wrh : ∀ k q, x14 (ix2 k q) = w.wr k q
  wrl : ∀ k q, x15 (ix2 k q) = w.wr k q - w.wr k q
  br : ∀ q, x16 (ix2 0 q) = w.br q

section Parts

variable {x0 : Vec Ideal S512x2048 .bf16} {x1 : Vec Ideal S512x2048 .bf16} {x2 : Vec Ideal S512x2048 .bf16} {x3 : Vec Ideal S512x2048 .bf16} {x4 : Vec Ideal S512x1024 .bf16} {x5 : Vec Ideal S512x1024 .f32} {x6 : Vec Ideal S1x1x1024 .f32} {x7 : Vec Ideal S1x1x1024 .f32} {x8 : Vec Ideal S1x1x1024 .f32} {x9 : Vec Ideal S1x2048 .f32} {x10 : Vec Ideal S1x1024 .f32} {x11 : Vec Ideal S2048x1024 .bf16} {x12 : Vec Ideal S1024x1024 .bf16} {x13 : Vec Ideal S1024x1024 .bf16} {x14 : Vec Ideal S1024x128 .bf16} {x15 : Vec Ideal S1024x128 .bf16} {x16 : Vec Ideal S1x128 .f32}
  {R : Fin 512 → Row} {w : Weights} (H : Reads x0 x1 x2 x3 x4 x5 x6 x7 x8 x9 x10 x11 x12 x13 x14 x15 x16 R w)

include H

theorem row0 (r : Fin 128) : (part0 x0 x1 x2 x3 x4 x5 x6 x7 x8 x9 x10 x11 x12 x13 x14 x15 x16).row r = R ⟨0 + r.val, by omega⟩ := by
  apply Row.ext <;> funext k
  · refine (ld_at x0 0 0 _ r k (by omega) (by omega)).trans (Eq.trans ?_ (H.yf _ k))
    exact congrArg (fun j => x0 (ix2 ⟨0 + r.val, by omega⟩ j)) (Fin.ext (by show 0 + k.val = k.val; omega))
  · refine (ld_at x1 0 0 _ r k (by omega) (by omega)).trans (Eq.trans ?_ (H.yb _ k))
    exact congrArg (fun j => x1 (ix2 ⟨0 + r.val, by omega⟩ j)) (Fin.ext (by show 0 + k.val = k.val; omega))
  · refine (ld_at x2 0 0 _ r k (by omega) (by omega)).trans (Eq.trans ?_ (H.z _ k))
    exact congrArg (fun j => x2 (ix2 ⟨0 + r.val, by omega⟩ j)) (Fin.ext (by show 0 + k.val = k.val; omega))
  · refine (ld_at x3 0 0 _ r k (by omega) (by omega)).trans (Eq.trans ?_ (H.gs _ k))
    exact congrArg (fun j => x3 (ix2 ⟨0 + r.val, by omega⟩ j)) (Fin.ext (by show 0 + k.val = k.val; omega))
  · exact (ld_at x3 0 1024 _ r k (by omega) (by omega)).trans (H.gn _ k)
  · refine (ld_at x4 0 0 _ r k (by omega) (by omega)).trans (Eq.trans ?_ (H.yna _ k))
    exact congrArg (fun j => x4 (ix2 ⟨0 + r.val, by omega⟩ j)) (Fin.ext (by show 0 + k.val = k.val; omega))
  · refine (ld_at x5 0 0 _ r k (by omega) (by omega)).trans (Eq.trans ?_ (H.x _ k))
    exact congrArg (fun j => x5 (ix2 ⟨0 + r.val, by omega⟩ j)) (Fin.ext (by show 0 + k.val = k.val; omega))
  · exact H.g1 _ k
  · exact H.sh _ k
  · exact H.sc _ k

theorem weights0 : (part0 x0 x1 x2 x3 x4 x5 x6 x7 x8 x9 x10 x11 x12 x13 x14 x15 x16).weights = w := by
  apply Weights.ext <;> funext k
  · exact H.snw k
  · exact H.n2w k
  · exact funext fun j => H.wbs k j
  · exact funext fun j => H.wbn k j
  · exact funext fun j => H.wo k j
  · exact funext fun j => H.wrh k j
  · exact H.br k

theorem row128 (r : Fin 128) : (part128 x0 x1 x2 x3 x4 x5 x6 x7 x8 x9 x10 x11 x12 x13 x14 x15 x16).row r = R ⟨128 + r.val, by omega⟩ := by
  apply Row.ext <;> funext k
  · refine (ld_at x0 128 0 _ r k (by omega) (by omega)).trans (Eq.trans ?_ (H.yf _ k))
    exact congrArg (fun j => x0 (ix2 ⟨128 + r.val, by omega⟩ j)) (Fin.ext (by show 0 + k.val = k.val; omega))
  · refine (ld_at x1 128 0 _ r k (by omega) (by omega)).trans (Eq.trans ?_ (H.yb _ k))
    exact congrArg (fun j => x1 (ix2 ⟨128 + r.val, by omega⟩ j)) (Fin.ext (by show 0 + k.val = k.val; omega))
  · refine (ld_at x2 128 0 _ r k (by omega) (by omega)).trans (Eq.trans ?_ (H.z _ k))
    exact congrArg (fun j => x2 (ix2 ⟨128 + r.val, by omega⟩ j)) (Fin.ext (by show 0 + k.val = k.val; omega))
  · refine (ld_at x3 128 0 _ r k (by omega) (by omega)).trans (Eq.trans ?_ (H.gs _ k))
    exact congrArg (fun j => x3 (ix2 ⟨128 + r.val, by omega⟩ j)) (Fin.ext (by show 0 + k.val = k.val; omega))
  · exact (ld_at x3 128 1024 _ r k (by omega) (by omega)).trans (H.gn _ k)
  · refine (ld_at x4 128 0 _ r k (by omega) (by omega)).trans (Eq.trans ?_ (H.yna _ k))
    exact congrArg (fun j => x4 (ix2 ⟨128 + r.val, by omega⟩ j)) (Fin.ext (by show 0 + k.val = k.val; omega))
  · refine (ld_at x5 128 0 _ r k (by omega) (by omega)).trans (Eq.trans ?_ (H.x _ k))
    exact congrArg (fun j => x5 (ix2 ⟨128 + r.val, by omega⟩ j)) (Fin.ext (by show 0 + k.val = k.val; omega))
  · exact H.g1 _ k
  · exact H.sh _ k
  · exact H.sc _ k

theorem weights128 : (part128 x0 x1 x2 x3 x4 x5 x6 x7 x8 x9 x10 x11 x12 x13 x14 x15 x16).weights = w := by
  apply Weights.ext <;> funext k
  · exact H.snw k
  · exact H.n2w k
  · exact funext fun j => H.wbs k j
  · exact funext fun j => H.wbn k j
  · exact funext fun j => H.wo k j
  · exact funext fun j => H.wrh k j
  · exact H.br k

theorem row256 (r : Fin 128) : (part256 x0 x1 x2 x3 x4 x5 x6 x7 x8 x9 x10 x11 x12 x13 x14 x15 x16).row r = R ⟨256 + r.val, by omega⟩ := by
  apply Row.ext <;> funext k
  · refine (ld_at x0 256 0 _ r k (by omega) (by omega)).trans (Eq.trans ?_ (H.yf _ k))
    exact congrArg (fun j => x0 (ix2 ⟨256 + r.val, by omega⟩ j)) (Fin.ext (by show 0 + k.val = k.val; omega))
  · refine (ld_at x1 256 0 _ r k (by omega) (by omega)).trans (Eq.trans ?_ (H.yb _ k))
    exact congrArg (fun j => x1 (ix2 ⟨256 + r.val, by omega⟩ j)) (Fin.ext (by show 0 + k.val = k.val; omega))
  · refine (ld_at x2 256 0 _ r k (by omega) (by omega)).trans (Eq.trans ?_ (H.z _ k))
    exact congrArg (fun j => x2 (ix2 ⟨256 + r.val, by omega⟩ j)) (Fin.ext (by show 0 + k.val = k.val; omega))
  · refine (ld_at x3 256 0 _ r k (by omega) (by omega)).trans (Eq.trans ?_ (H.gs _ k))
    exact congrArg (fun j => x3 (ix2 ⟨256 + r.val, by omega⟩ j)) (Fin.ext (by show 0 + k.val = k.val; omega))
  · exact (ld_at x3 256 1024 _ r k (by omega) (by omega)).trans (H.gn _ k)
  · refine (ld_at x4 256 0 _ r k (by omega) (by omega)).trans (Eq.trans ?_ (H.yna _ k))
    exact congrArg (fun j => x4 (ix2 ⟨256 + r.val, by omega⟩ j)) (Fin.ext (by show 0 + k.val = k.val; omega))
  · refine (ld_at x5 256 0 _ r k (by omega) (by omega)).trans (Eq.trans ?_ (H.x _ k))
    exact congrArg (fun j => x5 (ix2 ⟨256 + r.val, by omega⟩ j)) (Fin.ext (by show 0 + k.val = k.val; omega))
  · exact H.g1 _ k
  · exact H.sh _ k
  · exact H.sc _ k

theorem weights256 : (part256 x0 x1 x2 x3 x4 x5 x6 x7 x8 x9 x10 x11 x12 x13 x14 x15 x16).weights = w := by
  apply Weights.ext <;> funext k
  · exact H.snw k
  · exact H.n2w k
  · exact funext fun j => H.wbs k j
  · exact funext fun j => H.wbn k j
  · exact funext fun j => H.wo k j
  · exact funext fun j => H.wrh k j
  · exact H.br k

theorem row384 (r : Fin 128) : (part384 x0 x1 x2 x3 x4 x5 x6 x7 x8 x9 x10 x11 x12 x13 x14 x15 x16).row r = R ⟨384 + r.val, by omega⟩ := by
  apply Row.ext <;> funext k
  · refine (ld_at x0 384 0 _ r k (by omega) (by omega)).trans (Eq.trans ?_ (H.yf _ k))
    exact congrArg (fun j => x0 (ix2 ⟨384 + r.val, by omega⟩ j)) (Fin.ext (by show 0 + k.val = k.val; omega))
  · refine (ld_at x1 384 0 _ r k (by omega) (by omega)).trans (Eq.trans ?_ (H.yb _ k))
    exact congrArg (fun j => x1 (ix2 ⟨384 + r.val, by omega⟩ j)) (Fin.ext (by show 0 + k.val = k.val; omega))
  · refine (ld_at x2 384 0 _ r k (by omega) (by omega)).trans (Eq.trans ?_ (H.z _ k))
    exact congrArg (fun j => x2 (ix2 ⟨384 + r.val, by omega⟩ j)) (Fin.ext (by show 0 + k.val = k.val; omega))
  · refine (ld_at x3 384 0 _ r k (by omega) (by omega)).trans (Eq.trans ?_ (H.gs _ k))
    exact congrArg (fun j => x3 (ix2 ⟨384 + r.val, by omega⟩ j)) (Fin.ext (by show 0 + k.val = k.val; omega))
  · exact (ld_at x3 384 1024 _ r k (by omega) (by omega)).trans (H.gn _ k)
  · refine (ld_at x4 384 0 _ r k (by omega) (by omega)).trans (Eq.trans ?_ (H.yna _ k))
    exact congrArg (fun j => x4 (ix2 ⟨384 + r.val, by omega⟩ j)) (Fin.ext (by show 0 + k.val = k.val; omega))
  · refine (ld_at x5 384 0 _ r k (by omega) (by omega)).trans (Eq.trans ?_ (H.x _ k))
    exact congrArg (fun j => x5 (ix2 ⟨384 + r.val, by omega⟩ j)) (Fin.ext (by show 0 + k.val = k.val; omega))
  · exact H.g1 _ k
  · exact H.sh _ k
  · exact H.sc _ k

theorem weights384 : (part384 x0 x1 x2 x3 x4 x5 x6 x7 x8 x9 x10 x11 x12 x13 x14 x15 x16).weights = w := by
  apply Weights.ext <;> funext k
  · exact H.snw k
  · exact H.n2w k
  · exact funext fun j => H.wbs k j
  · exact funext fun j => H.wbn k j
  · exact funext fun j => H.wo k j
  · exact funext fun j => H.wrh k j
  · exact H.br k

end Parts

section Tile

variable (c : Dev nD) (i : grid0.Coords) (arg1 : Memref sig .tc .vmem S512x2048 .bf16) (harg1 : arg1.IsWhole) (arg2 : Memref sig .tc .vmem S512x2048 .bf16) (harg2 : arg2.IsWhole) (arg3 : Memref sig .tc .vmem S512x2048 .bf16) (harg3 : arg3.IsWhole) (arg4 : Memref sig .tc .vmem S512x2048 .bf16) (harg4 : arg4.IsWhole) (arg5 : Memref sig .tc .vmem S512x1024 .bf16) (harg5 : arg5.IsWhole) (arg6 : Memref sig .tc .vmem S512x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S1x2048 .f32) (harg10 : arg10.IsWhole) (arg11 : Memref sig .tc .vmem S1x1024 .f32) (harg11 : arg11.IsWhole) (arg12 : Memref sig .tc .vmem S2048x1024 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S1024x128 .bf16) (harg15 : arg15.IsWhole) (arg16 : Memref sig .tc .vmem S1024x128 .bf16) (harg16 : arg16.IsWhole) (arg17 : Memref sig .tc .vmem S1x128 .f32) (harg17 : arg17.IsWhole) (arg18 : Memref sig .tc .vmem S512x1024 .f32) (harg18 : arg18.IsWhole) (arg19 : Memref sig .tc .vmem S512x1024 .bf16) (harg19 : arg19.IsWhole) (arg20 : Memref sig .tc .vmem S512x128 .f32) (harg20 : arg20.IsWhole) (arg21 : Memref sig .tc .vmem S1536x512 .i32) (harg21 : arg21.IsWhole) (x0 : Vec Ideal S512x2048 .bf16) (x1 : Vec Ideal S512x2048 .bf16) (x2 : Vec Ideal S512x2048 .bf16) (x3 : Vec Ideal S512x2048 .bf16) (x4 : Vec Ideal S512x1024 .bf16) (x5 : Vec Ideal S512x1024 .f32) (x6 : Vec Ideal S1x1x1024 .f32) (x7 : Vec Ideal S1x1x1024 .f32) (x8 : Vec Ideal S1x1x1024 .f32) (x9 : Vec Ideal S1x2048 .f32) (x10 : Vec Ideal S1x1024 .f32) (x11 : Vec Ideal S2048x1024 .bf16) (x12 : Vec Ideal S1024x1024 .bf16) (x13 : Vec Ideal S1024x1024 .bf16) (x14 : Vec Ideal S1024x128 .bf16) (x15 : Vec Ideal S1024x128 .bf16) (x16 : Vec Ideal S1x128 .f32)

set_option maxHeartbeats 0 in
theorem tile20 (y : S1536x512.Idx) : out0_A_20 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 x14 x15 x16 y = 0#32 := by
  unfold out0_A_20
  rw [View.read_writes_junk_eq_canon]
  refine View.canon_apply_of_pieces (fun _ => (0#32 : Elt Ideal .i32)) _ ?_ y (cover0_A_20 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 x14 x15 x16 y)
  rw [show (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 x14 x15 x16).2.2.2.1 = ([⟨Rect.unit (s := S1536x512) ![0, 0] S1536x512.size inb_S1536x512_S1536x512_0_0, k0_pay2⟩] :
    List (View.Piece (Elt Ideal) S1536x512 .i32)) from rfl]
  intro p hp
  simp only [List.mem_cons, List.not_mem_nil, or_false] at hp
  rcases hp with rfl
  intro x
  rfl

variable {R : Fin 512 → Row} {w : Weights} (H : Reads x0 x1 x2 x3 x4 x5 x6 x7 x8 x9 x10 x11 x12 x13 x14 x15 x16 R w) (hR : ∀ r, (R r).Finite)

include H hR

theorem tile17 (y : S512x1024.Idx) :
    out0_A_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 x14 x15 x16 y = Cert.Merge.x1 (R (y 0)) w (y 1) := by
  unfold out0_A_17
  rw [View.read_writes_junk_eq_canon]
  refine View.canon_apply_of_pieces (fun y => Cert.Merge.x1 (R (y 0)) w (y 1)) _ ?_ y
    (cover0_A_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 x14 x15 x16 y)
  rw [stores17]
  intro p hp
  simp only [List.mem_cons, List.not_mem_nil, or_false] at hp
  rcases hp with rfl | rfl | rfl | rfl
  · intro x
    obtain ⟨r, j, rfl⟩ : ∃ (r : Fin 128) (j : Fin 1024), x = ix2 r j := ⟨x 0, x 1, eq_ix2 x⟩
    dsimp only
    rw [emb_at 384 inb_S512x1024_S128x1024_384_0 r j (by omega)]
    refine (Part.x1_at (p := part384 x0 x1 x2 x3 x4 x5 x6 x7 x8 x9 x10 x11 x12 x13 x14 x15 x16) (r := r) ?_ j).trans ?_
    · rw [row384 H]; exact hR _
    · rw [row384 H, weights384 H]
      rfl
  · intro x
    obtain ⟨r, j, rfl⟩ : ∃ (r : Fin 128) (j : Fin 1024), x = ix2 r j := ⟨x 0, x 1, eq_ix2 x⟩
    dsimp only
    rw [emb_at 256 inb_S512x1024_S128x1024_256_0 r j (by omega)]
    refine (Part.x1_at (p := part256 x0 x1 x2 x3 x4 x5 x6 x7 x8 x9 x10 x11 x12 x13 x14 x15 x16) (r := r) ?_ j).trans ?_
    · rw [row256 H]; exact hR _
    · rw [row256 H, weights256 H]
      rfl
  · intro x
    obtain ⟨r, j, rfl⟩ : ∃ (r : Fin 128) (j : Fin 1024), x = ix2 r j := ⟨x 0, x 1, eq_ix2 x⟩
    dsimp only
    rw [emb_at 128 inb_S512x1024_S128x1024_128_0 r j (by omega)]
    refine (Part.x1_at (p := part128 x0 x1 x2 x3 x4 x5 x6 x7 x8 x9 x10 x11 x12 x13 x14 x15 x16) (r := r) ?_ j).trans ?_
    · rw [row128 H]; exact hR _
    · rw [row128 H, weights128 H]
      rfl
  · intro x
    obtain ⟨r, j, rfl⟩ : ∃ (r : Fin 128) (j : Fin 1024), x = ix2 r j := ⟨x 0, x 1, eq_ix2 x⟩
    dsimp only
    rw [emb_at 0 inb_S512x1024_S128x1024_0_0 r j (by omega)]
    refine (Part.x1_at (p := part0 x0 x1 x2 x3 x4 x5 x6 x7 x8 x9 x10 x11 x12 x13 x14 x15 x16) (r := r) ?_ j).trans ?_
    · rw [row0 H]; exact hR _
    · rw [row0 H, weights0 H]
      rfl

theorem tile18 (y : S512x1024.Idx) :
    out0_A_18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 x14 x15 x16 y = Cert.Merge.h2 (R (y 0)) w (y 1) := by
  unfold out0_A_18
  rw [View.read_writes_junk_eq_canon]
  refine View.canon_apply_of_pieces (fun y => Cert.Merge.h2 (R (y 0)) w (y 1)) _ ?_ y
    (cover0_A_18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 x14 x15 x16 y)
  rw [stores18]
  intro p hp
  simp only [List.mem_cons, List.not_mem_nil, or_false] at hp
  rcases hp with rfl | rfl | rfl | rfl
  · intro x
    obtain ⟨r, j, rfl⟩ : ∃ (r : Fin 128) (j : Fin 1024), x = ix2 r j := ⟨x 0, x 1, eq_ix2 x⟩
    dsimp only
    rw [emb_at 384 inb_S512x1024_S128x1024_384_0 r j (by omega)]
    refine (Part.h2_at (p := part384 x0 x1 x2 x3 x4 x5 x6 x7 x8 x9 x10 x11 x12 x13 x14 x15 x16) (r := r) ?_ j).trans ?_
    · rw [row384 H]; exact hR _
    · rw [row384 H, weights384 H]
      rfl
  · intro x
    obtain ⟨r, j, rfl⟩ : ∃ (r : Fin 128) (j : Fin 1024), x = ix2 r j := ⟨x 0, x 1, eq_ix2 x⟩
    dsimp only
    rw [emb_at 256 inb_S512x1024_S128x1024_256_0 r j (by omega)]
    refine (Part.h2_at (p := part256 x0 x1 x2 x3 x4 x5 x6 x7 x8 x9 x10 x11 x12 x13 x14 x15 x16) (r := r) ?_ j).trans ?_
    · rw [row256 H]; exact hR _
    · rw [row256 H, weights256 H]
      rfl
  · intro x
    obtain ⟨r, j, rfl⟩ : ∃ (r : Fin 128) (j : Fin 1024), x = ix2 r j := ⟨x 0, x 1, eq_ix2 x⟩
    dsimp only
    rw [emb_at 128 inb_S512x1024_S128x1024_128_0 r j (by omega)]
    refine (Part.h2_at (p := part128 x0 x1 x2 x3 x4 x5 x6 x7 x8 x9 x10 x11 x12 x13 x14 x15 x16) (r := r) ?_ j).trans ?_
    · rw [row128 H]; exact hR _
    · rw [row128 H, weights128 H]
      rfl
  · intro x
    obtain ⟨r, j, rfl⟩ : ∃ (r : Fin 128) (j : Fin 1024), x = ix2 r j := ⟨x 0, x 1, eq_ix2 x⟩
    dsimp only
    rw [emb_at 0 inb_S512x1024_S128x1024_0_0 r j (by omega)]
    refine (Part.h2_at (p := part0 x0 x1 x2 x3 x4 x5 x6 x7 x8 x9 x10 x11 x12 x13 x14 x15 x16) (r := r) ?_ j).trans ?_
    · rw [row0 H]; exact hR _
    · rw [row0 H, weights0 H]
      rfl

theorem tile19 (hw : w.Finite) (y : S512x128.Idx) :
    out0_A_19 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 x14 x15 x16 y = Cert.Merge.lg (R (y 0)) w (y 1) := by
  unfold out0_A_19
  rw [View.read_writes_junk_eq_canon]
  refine View.canon_apply_of_pieces (fun y => Cert.Merge.lg (R (y 0)) w (y 1)) _ ?_ y
    (cover0_A_19 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 x14 x15 x16 y)
  rw [stores19]
  intro p hp
  simp only [List.mem_cons, List.not_mem_nil, or_false] at hp
  rcases hp with rfl | rfl | rfl | rfl
  · intro x
    obtain ⟨r, j, rfl⟩ : ∃ (r : Fin 128) (j : Fin 128), x = ix2 r j := ⟨x 0, x 1, eq_ix2 x⟩
    dsimp only
    rw [emb_at 384 inb_S512x128_S128x128_384_0 r j (by omega)]
    refine (Part.lg_at (p := part384 x0 x1 x2 x3 x4 x5 x6 x7 x8 x9 x10 x11 x12 x13 x14 x15 x16) (r := r) ?_ ?_ ?_ j).trans ?_
    · rw [row384 H]; exact hR _
    · rw [weights384 H]; exact hw
    · exact fun k q => (H.wrl k q).trans (congrArg₂ (· - ·) (H.wrh k q) (H.wrh k q)).symm
    · rw [row384 H, weights384 H]
      rfl
  · intro x
    obtain ⟨r, j, rfl⟩ : ∃ (r : Fin 128) (j : Fin 128), x = ix2 r j := ⟨x 0, x 1, eq_ix2 x⟩
    dsimp only
    rw [emb_at 256 inb_S512x128_S128x128_256_0 r j (by omega)]
    refine (Part.lg_at (p := part256 x0 x1 x2 x3 x4 x5 x6 x7 x8 x9 x10 x11 x12 x13 x14 x15 x16) (r := r) ?_ ?_ ?_ j).trans ?_
    · rw [row256 H]; exact hR _
    · rw [weights256 H]; exact hw
    · exact fun k q => (H.wrl k q).trans (congrArg₂ (· - ·) (H.wrh k q) (H.wrh k q)).symm
    · rw [row256 H, weights256 H]
      rfl
  · intro x
    obtain ⟨r, j, rfl⟩ : ∃ (r : Fin 128) (j : Fin 128), x = ix2 r j := ⟨x 0, x 1, eq_ix2 x⟩
    dsimp only
    rw [emb_at 128 inb_S512x128_S128x128_128_0 r j (by omega)]
    refine (Part.lg_at (p := part128 x0 x1 x2 x3 x4 x5 x6 x7 x8 x9 x10 x11 x12 x13 x14 x15 x16) (r := r) ?_ ?_ ?_ j).trans ?_
    · rw [row128 H]; exact hR _
    · rw [weights128 H]; exact hw
    · exact fun k q => (H.wrl k q).trans (congrArg₂ (· - ·) (H.wrh k q) (H.wrh k q)).symm
    · rw [row128 H, weights128 H]
      rfl
  · intro x
    obtain ⟨r, j, rfl⟩ : ∃ (r : Fin 128) (j : Fin 128), x = ix2 r j := ⟨x 0, x 1, eq_ix2 x⟩
    dsimp only
    rw [emb_at 0 inb_S512x128_S128x128_0_0 r j (by omega)]
    refine (Part.lg_at (p := part0 x0 x1 x2 x3 x4 x5 x6 x7 x8 x9 x10 x11 x12 x13 x14 x15 x16) (r := r) ?_ ?_ ?_ j).trans ?_
    · rw [row0 H]; exact hR _
    · rw [weights0 H]; exact hw
    · exact fun k q => (H.wrl k q).trans (congrArg₂ (· - ·) (H.wrh k q) (H.wrh k q)).symm
    · rw [row0 H, weights0 H]
      rfl

end Tile

end Cert.Kernel3Ideal.Merge

end
-- ==== Proof.MgValue.lean ====
/-
  The merge's four results by the index: the arrays the windows read, in terms of the arguments; the blocks of a tile;
  and that the blocks a tile writes cover each result.
-/
module

public import proofs.«01_k».proof.Proof.MgTile
public import Idealize.ShloMosaic.Lib.Pipeline.ValueKit

@[expose] public section

set_option maxRecDepth 16384

noncomputable section

namespace Cert.Kernel3Ideal.Merge

open Idealize.ShloMosaic Idealize.ShloMosaic.TcCoe
open Idealize.ShloMosaic.StableHlo
open Idealize.ShloMosaic.Pipeline (Dat Cfg Window)
open Cert.Kernel3Ideal Cert.Kernel3Ideal.Gen Cert.Kernel3Ideal.Value
open Cert.Merge (Row Weights Args x1Spec h2Spec lgSpec x1Spec_at h2Spec_at lgSpec_at batchOf placeOf)

variable (m : (ℓ : Loc nD τ sig) → Buf (Elt Ideal) ℓ) (c : Dev nD)

/-- The fifteen arguments. -/
def args : Args where
  yf := m ((c.tc : Thread nD τ).loc main_arg0)
  yb := m ((c.tc : Thread nD τ).loc main_arg1)
  big := m ((c.tc : Thread nD τ).loc main_arg2)
  yna := m ((c.tc : Thread nD τ).loc main_arg3)
  x := m ((c.tc : Thread nD τ).loc main_arg4)
  md := m ((c.tc : Thread nD τ).loc main_arg5)
  snw := m ((c.tc : Thread nD τ).loc main_arg6)
  n2w := m ((c.tc : Thread nD τ).loc main_arg7)
  wbs := m ((c.tc : Thread nD τ).loc main_arg8)
  wbn := m ((c.tc : Thread nD τ).loc main_arg9)
  wo := m ((c.tc : Thread nD τ).loc main_arg10)
  wrt := m ((c.tc : Thread nD τ).loc main_arg11)
  brt := m ((c.tc : Thread nD τ).loc main_arg12)
  wgr := m ((c.tc : Thread nD τ).loc main_arg13)
  bgr := m ((c.tc : Thread nD τ).loc main_arg14)

/-! ## The arrays the windows read -/

/-- The router's weights and the groups' side by side, then zeros. -/
def side : FVec Ideal S1024x128 .f32 :=
  pad S1024x128 ![0, 0] ![0, 92] ![0, 0]
    (concatenate S1024x36 1
      [⟨S1024x32, shapeCast S1024x32 (args m c).wrt shapeCasts_S1x1024x32_S1024x32⟩,
        ⟨S1024x4, shapeCast S1024x4 (args m c).wgr shapeCasts_S1x1024x4_S1024x4⟩]
      concatenates_S1024x32_S1024x4_S1024x36_d1)
    (sitofp .f32 (constantI S_ 32 0#32)) pads_S1024x36_S1024x128_000_0920 h_S_

/-- … and the biases'. -/
def sideBias : FVec Ideal S1x128 .f32 :=
  pad S1x128 ![0, 0] ![0, 92] ![0, 0]
    (shapeCast S1x36
      (concatenate S36 0
        [⟨S32, shapeCast S32 (args m c).brt shapeCasts_S1x32_S32⟩, ⟨S4, shapeCast S4 (args m c).bgr shapeCasts_S1x4_S4⟩]
        concatenates_S32_S4_S36_d0)
      shapeCasts_S36_S1x36)
    (sitofp .f32 (constantI S_ 32 0#32)) pads_S1x36_S1x128_000_0920 h_S_

theorem V_v0 : V m c main_v0 = shapeCast S48x1x1024 (args m c).md shapeCasts_S8x6144_S48x1x1024 := by
  unfold V hostOps0 hostOps0_1 hostOps0_2 hostOps0_3 hostOps0_4
  after_results
  rfl

theorem V_v1 : V m c main_v1 = shapeCast S16384x1024 (args m c).x shapeCasts_S4x4096x1024_S16384x1024 := by
  unfold V hostOps0 hostOps0_1 hostOps0_2 hostOps0_3 hostOps0_4
  after_results
  rfl

theorem V_v6 : V m c main_v6 = truncf .bf16 (side m c) bitsLt_bf16_f32 := by
  unfold V hostOps0 hostOps0_1 hostOps0_2 hostOps0_3 hostOps0_4
  after_results
  rfl

theorem V_v9 : V m c main_v9 = truncf .bf16 (subf (side m c) (extf .f32 (truncf .bf16 (side m c) bitsLt_bf16_f32) bitsLt_bf16_f32)) bitsLt_bf16_f32 := by
  unfold V hostOps0 hostOps0_1 hostOps0_2 hostOps0_3 hostOps0_4
  after_results
  rfl

theorem V_v14 : V m c main_v14 = sideBias m c := by
  unfold V hostOps0 hostOps0_1 hostOps0_2 hostOps0_3 hostOps0_4
  after_results
  rfl

theorem V_v16 : V m c main_v16 = shapeCast S1x2048 (shapeCast S2048 (args m c).snw shapeCasts_S1x2048_S2048) shapeCasts_S2048_S1x2048 := by
  unfold V hostOps0 hostOps0_1 hostOps0_2 hostOps0_3 hostOps0_4
  after_results
  rfl

theorem V_v18 : V m c main_v18 = shapeCast S1x1024 (shapeCast S1024 (args m c).n2w shapeCasts_S1x1024_S1024) shapeCasts_S1024_S1x1024 := by
  unfold V hostOps0 hostOps0_1 hostOps0_2 hostOps0_3 hostOps0_4
  after_results
  rfl

theorem V_v20 : V m c main_v20 = truncf .bf16 (shapeCast S2048x1024 (args m c).wbs shapeCasts_S1x2048x1024_S2048x1024) bitsLt_bf16_f32 := by
  unfold V hostOps0 hostOps0_1 hostOps0_2 hostOps0_3 hostOps0_4
  after_results
  rfl

theorem V_v22 : V m c main_v22 = truncf .bf16 (shapeCast S1024x1024 (args m c).wbn shapeCasts_S1x1024x1024_S1024x1024) bitsLt_bf16_f32 := by
  unfold V hostOps0 hostOps0_1 hostOps0_2 hostOps0_3 hostOps0_4
  after_results
  rfl

theorem V_v24 : V m c main_v24 = truncf .bf16 (shapeCast S1024x1024 (args m c).wo shapeCasts_S1x1024x1024_S1024x1024) bitsLt_bf16_f32 := by
  unfold V hostOps0 hostOps0_1 hostOps0_2 hostOps0_3 hostOps0_4
  after_results
  rfl

theorem zero_bits : (FloatOps.sitofp FTy.f32 0#32 : Ideal .f32) = 0 := by
  show ((((0#32 : BitVec 32).toInt : ℤ) : ℝ) : EReal) = 0
  simp

theorem side_at (k : Fin 1024) (q : Fin 128) : side m c (ix2 k q) = (args m c).weights.wr k q := by
  show _ = dite _ _ _
  pointwise [side]
  rw [zero_bits]
  split_ifs <;> first | rfl | omega

theorem sideBias_at (q : Fin 128) : sideBias m c (ix2 0 q) = (args m c).weights.br q := by
  show _ = dite _ _ _
  pointwise [sideBias]
  rw [zero_bits]
  split_ifs <;> first | rfl | omega

theorem Vx_at (r : Fin 16384) (k : Fin 1024) :
    (V m c main_v1 : FVec Ideal S16384x1024 .f32) (ix2 r k) = (args m c).x (ix3 (batchOf r) (placeOf r) k) := by
  rw [V_v1]; pointwise [batchOf, placeOf]

theorem Vm_at (b : Fin 8) (j : Fin 6) (k : Fin 1024) :
    (V m c main_v0 : FVec Ideal S48x1x1024 .f32) (ix3 ⟨6 * b.val + j.val, by omega⟩ 0 k) =
      (args m c).md (ix2 b ⟨1024 * j.val + k.val, by omega⟩) := by
  rw [V_v0]
  refine shapeCast_apply _ _ _ _ ?_
  rw [Shape.rowMajor_val_two, Shape.rowMajor_val_three]
  show b.val * 6144 + (1024 * j.val + k.val) = ((6 * b.val + j.val) * 1 + 0) * 1024 + k.val
  omega

/-! ## The blocks: a point a tile of 512 rows, eight to a batch -/

theorem point_lt (t : Fin cfg0.N) : t.val < 32 := N_0 ▸ t.isLt

/-- A tile's batch, and the place of its row there. -/
def batch (t : Fin cfg0.N) : Fin 4 := ⟨t.val / 8, by have := point_lt t; omega⟩
def place (t : Fin cfg0.N) (r : Fin 512) : Fin 4096 := ⟨512 * (t.val % 8) + r.val, by omega⟩

theorem index0 : ∀ t : Fin cfg0.N, win0_0.index t = ![t.val, 0] :=
  (by decide +kernel : ∀ t : Fin grid0.N, win0_0.index t = ![t.val, 0])
theorem index1 : ∀ t : Fin cfg0.N, win0_1.index t = ![t.val, 0] :=
  (by decide +kernel : ∀ t : Fin grid0.N, win0_1.index t = ![t.val, 0])
theorem index2 : ∀ t : Fin cfg0.N, win0_2.index t = ![t.val, 2] :=
  (by decide +kernel : ∀ t : Fin grid0.N, win0_2.index t = ![t.val, 2])
theorem index3 : ∀ t : Fin cfg0.N, win0_3.index t = ![t.val, 3] :=
  (by decide +kernel : ∀ t : Fin grid0.N, win0_3.index t = ![t.val, 3])
theorem index4 : ∀ t : Fin cfg0.N, win0_4.index t = ![t.val, 0] :=
  (by decide +kernel : ∀ t : Fin grid0.N, win0_4.index t = ![t.val, 0])
theorem index5 : ∀ t : Fin cfg0.N, win0_5.index t = ![t.val, 0] :=
  (by decide +kernel : ∀ t : Fin grid0.N, win0_5.index t = ![t.val, 0])
theorem index6 : ∀ t : Fin cfg0.N, win0_6.index t = ![6 * (t.val / 8) + 2, 0, 0] :=
  (by decide +kernel : ∀ t : Fin grid0.N, win0_6.index t = ![6 * (t.val / 8) + 2, 0, 0])
theorem index7 : ∀ t : Fin cfg0.N, win0_7.index t = ![6 * (t.val / 8) + 3, 0, 0] :=
  (by decide +kernel : ∀ t : Fin grid0.N, win0_7.index t = ![6 * (t.val / 8) + 3, 0, 0])
theorem index8 : ∀ t : Fin cfg0.N, win0_8.index t = ![6 * (t.val / 8) + 4, 0, 0] :=
  (by decide +kernel : ∀ t : Fin grid0.N, win0_8.index t = ![6 * (t.val / 8) + 4, 0, 0])
theorem index9 : ∀ t : Fin cfg0.N, win0_9.index t = ![0, 0] :=
  (by decide +kernel : ∀ t : Fin grid0.N, win0_9.index t = ![0, 0])
theorem index10 : ∀ t : Fin cfg0.N, win0_10.index t = ![0, 0] :=
  (by decide +kernel : ∀ t : Fin grid0.N, win0_10.index t = ![0, 0])
theorem index11 : ∀ t : Fin cfg0.N, win0_11.index t = ![0, 0] :=
  (by decide +kernel : ∀ t : Fin grid0.N, win0_11.index t = ![0, 0])
theorem index12 : ∀ t : Fin cfg0.N, win0_12.index t = ![0, 0] :=
  (by decide +kernel : ∀ t : Fin grid0.N, win0_12.index t = ![0, 0])
theorem index13 : ∀ t : Fin cfg0.N, win0_13.index t = ![0, 0] :=
  (by decide +kernel : ∀ t : Fin grid0.N, win0_13.index t = ![0, 0])
theorem index14 : ∀ t : Fin cfg0.N, win0_14.index t = ![0, 0] :=
  (by decide +kernel : ∀ t : Fin grid0.N, win0_14.index t = ![0, 0])
theorem index15 : ∀ t : Fin cfg0.N, win0_15.index t = ![0, 0] :=
  (by decide +kernel : ∀ t : Fin grid0.N, win0_15.index t = ![0, 0])
theorem index16 : ∀ t : Fin cfg0.N, win0_16.index t = ![0, 0] :=
  (by decide +kernel : ∀ t : Fin grid0.N, win0_16.index t = ![0, 0])
theorem index17 : ∀ t : Fin cfg0.N, win0_17.index t = ![t.val, 0] :=
  (by decide +kernel : ∀ t : Fin grid0.N, win0_17.index t = ![t.val, 0])
theorem index18 : ∀ t : Fin cfg0.N, win0_18.index t = ![t.val, 0] :=
  (by decide +kernel : ∀ t : Fin grid0.N, win0_18.index t = ![t.val, 0])
theorem index19 : ∀ t : Fin cfg0.N, win0_19.index t = ![t.val, 0] :=
  (by decide +kernel : ∀ t : Fin grid0.N, win0_19.index t = ![t.val, 0])
theorem index20 : ∀ t : Fin cfg0.N, win0_20.index t = ![t.val, 0] :=
  (by decide +kernel : ∀ t : Fin grid0.N, win0_20.index t = ![t.val, 0])

theorem blk0_at (t : Fin cfg0.N) (r : Fin 512) (k : Fin 2048) :
    (iblk m c 0 t : FVec Ideal S512x2048 .bf16) (ix2 r k) = (args m c).yf (ix2 ⟨(batch t).val * 4096 + (place t r).val, by have := (batch t).isLt; have := (place t r).isLt; omega⟩ k) := by
  have ht := point_lt t
  have hb : (batch t).val = t.val / 8 := rfl
  have hp : (place t r).val = 512 * (t.val % 8) + r.val := rfl
  have e : (args m c).yf = (V m c main_arg0 : FVec Ideal S16384x2048 .bf16) := (V_main_arg0 m c).symm
  rw [e]
  blk_ext [iblk, index0 t]

theorem blk1_at (t : Fin cfg0.N) (r : Fin 512) (k : Fin 2048) :
    (iblk m c 1 t : FVec Ideal S512x2048 .bf16) (ix2 r k) = (args m c).yb (ix2 ⟨(batch t).val * 4096 + (place t r).val, by have := (batch t).isLt; have := (place t r).isLt; omega⟩ k) := by
  have ht := point_lt t
  have hb : (batch t).val = t.val / 8 := rfl
  have hp : (place t r).val = 512 * (t.val % 8) + r.val := rfl
  have e : (args m c).yb = (V m c main_arg1 : FVec Ideal S16384x2048 .bf16) := (V_main_arg1 m c).symm
  rw [e]
  blk_ext [iblk, index1 t]

theorem blk2_at (t : Fin cfg0.N) (r : Fin 512) (k : Fin 2048) :
    (X0_2 m c t : FVec Ideal S512x2048 .bf16) (ix2 r k) = (args m c).big (ix2 ⟨(batch t).val * 4096 + (place t r).val, by have := (batch t).isLt; have := (place t r).isLt; omega⟩ ⟨4096 + k.val, by omega⟩) := by
  have ht := point_lt t
  have hb : (batch t).val = t.val / 8 := rfl
  have hp : (place t r).val = 512 * (t.val % 8) + r.val := rfl
  have e : (args m c).big = (V m c main_arg2 : FVec Ideal S16384x11264 .bf16) := (V_main_arg2 m c).symm
  rw [e]
  unfold X0_2 Pipeline.Window.fill
  rw [dif_pos (moved0_2 t (ix2 r k))]
  blk_ext [iblk, index2 t]

theorem blk3_at (t : Fin cfg0.N) (r : Fin 512) (k : Fin 2048) :
    (X0_3 m c t : FVec Ideal S512x2048 .bf16) (ix2 r k) = (args m c).big (ix2 ⟨(batch t).val * 4096 + (place t r).val, by have := (batch t).isLt; have := (place t r).isLt; omega⟩ ⟨6144 + k.val, by omega⟩) := by
  have ht := point_lt t
  have hb : (batch t).val = t.val / 8 := rfl
  have hp : (place t r).val = 512 * (t.val % 8) + r.val := rfl
  have e : (args m c).big = (V m c main_arg2 : FVec Ideal S16384x11264 .bf16) := (V_main_arg2 m c).symm
  rw [e]
  unfold X0_3 Pipeline.Window.fill
  rw [dif_pos (moved0_3 t (ix2 r k))]
  blk_ext [iblk, index3 t]

theorem blk4_at (t : Fin cfg0.N) (r : Fin 512) (k : Fin 1024) :
    (iblk m c 4 t : FVec Ideal S512x1024 .bf16) (ix2 r k) = (args m c).yna (ix2 ⟨(batch t).val * 4096 + (place t r).val, by have := (batch t).isLt; have := (place t r).isLt; omega⟩ k) := by
  have ht := point_lt t
  have hb : (batch t).val = t.val / 8 := rfl
  have hp : (place t r).val = 512 * (t.val % 8) + r.val := rfl
  have e : (args m c).yna = (V m c main_arg3 : FVec Ideal S16384x1024 .bf16) := (V_main_arg3 m c).symm
  rw [e]
  blk_ext [iblk, index4 t]

theorem blk5_at (t : Fin cfg0.N) (r : Fin 512) (k : Fin 1024) :
    (iblk m c 5 t : FVec Ideal S512x1024 .f32) (ix2 r k) = (args m c).x (ix3 (batch t) (place t r) k) := by
  have ht := point_lt t
  have h : (iblk m c 5 t : FVec Ideal S512x1024 .f32) (ix2 r k)
      = (V m c main_v1 : FVec Ideal S16384x1024 .f32) (ix2 ⟨512 * t.val + r.val, by omega⟩ k) := by
    blk_ext [iblk, index5 t]
  rw [h, Vx_at]
  refine congrArg₂ (fun b p => (args m c).x (ix3 b p k)) (Fin.ext ?_) (Fin.ext ?_)
  · show (512 * t.val + r.val) / 4096 = t.val / 8
    omega
  · show (512 * t.val + r.val) % 4096 = 512 * (t.val % 8) + r.val
    omega

theorem blk6_at (t : Fin cfg0.N) (k : Fin 1024) :
    (iblk m c 6 t : FVec Ideal S1x1x1024 .f32) (ix3 0 0 k) =
      (args m c).md (ix2 ⟨(batch t).val, by omega⟩ ⟨2048 + k.val, by omega⟩) := by
  have ht := point_lt t
  have h : (iblk m c 6 t : FVec Ideal S1x1x1024 .f32) (ix3 0 0 k)
      = (V m c main_v0 : FVec Ideal S48x1x1024 .f32) (ix3 ⟨6 * (t.val / 8) + 2, by omega⟩ 0 k) := by
    blk_ext [iblk, index6 t]
  rw [h]
  exact Vm_at m c ⟨t.val / 8, by omega⟩ 2 k

theorem blk7_at (t : Fin cfg0.N) (k : Fin 1024) :
    (iblk m c 7 t : FVec Ideal S1x1x1024 .f32) (ix3 0 0 k) =
      (args m c).md (ix2 ⟨(batch t).val, by omega⟩ ⟨3072 + k.val, by omega⟩) := by
  have ht := point_lt t
  have h : (iblk m c 7 t : FVec Ideal S1x1x1024 .f32) (ix3 0 0 k)
      = (V m c main_v0 : FVec Ideal S48x1x1024 .f32) (ix3 ⟨6 * (t.val / 8) + 3, by omega⟩ 0 k) := by
    blk_ext [iblk, index7 t]
  rw [h]
  exact Vm_at m c ⟨t.val / 8, by omega⟩ 3 k

theorem blk8_at (t : Fin cfg0.N) (k : Fin 1024) :
    (iblk m c 8 t : FVec Ideal S1x1x1024 .f32) (ix3 0 0 k) =
      (args m c).md (ix2 ⟨(batch t).val, by omega⟩ ⟨4096 + k.val, by omega⟩) := by
  have ht := point_lt t
  have h : (iblk m c 8 t : FVec Ideal S1x1x1024 .f32) (ix3 0 0 k)
      = (V m c main_v0 : FVec Ideal S48x1x1024 .f32) (ix3 ⟨6 * (t.val / 8) + 4, by omega⟩ 0 k) := by
    blk_ext [iblk, index8 t]
  rw [h]
  exact Vm_at m c ⟨t.val / 8, by omega⟩ 4 k

theorem blk9_at (t : Fin cfg0.N) (k : Fin 2048) :
    (iblk m c 9 t : FVec Ideal S1x2048 .f32) (ix2 0 k) = (args m c).snw (ix2 0 k) := by
  have h : (iblk m c 9 t : FVec Ideal S1x2048 .f32) (ix2 0 k) = (V m c main_v16 : FVec Ideal S1x2048 .f32) (ix2 0 k) := by
    blk_ext [iblk, index9 t]
  rw [h, V_v16]; pointwise

theorem blk10_at (t : Fin cfg0.N) (k : Fin 1024) :
    (iblk m c 10 t : FVec Ideal S1x1024 .f32) (ix2 0 k) = (args m c).n2w (ix2 0 k) := by
  have h : (iblk m c 10 t : FVec Ideal S1x1024 .f32) (ix2 0 k) = (V m c main_v18 : FVec Ideal S1x1024 .f32) (ix2 0 k) := by
    blk_ext [iblk, index10 t]
  rw [h, V_v18]; pointwise

theorem blk11_at (t : Fin cfg0.N) (k : Fin 2048) (j : Fin 1024) :
    (iblk m c 11 t : FVec Ideal S2048x1024 .bf16) (ix2 k j) = (args m c).wbs (ix3 0 k j) := by
  have h : (iblk m c 11 t : FVec Ideal S2048x1024 .bf16) (ix2 k j) = (V m c main_v20 : FVec Ideal S2048x1024 .bf16) (ix2 k j) := by
    blk_ext [iblk, index11 t]
  rw [h, V_v20]; pointwise

theorem blk12_at (t : Fin cfg0.N) (k : Fin 1024) (j : Fin 1024) :
    (iblk m c 12 t : FVec Ideal S1024x1024 .bf16) (ix2 k j) = (args m c).wbn (ix3 0 k j) := by
  have h : (iblk m c 12 t : FVec Ideal S1024x1024 .bf16) (ix2 k j) = (V m c main_v22 : FVec Ideal S1024x1024 .bf16) (ix2 k j) := by
    blk_ext [iblk, index12 t]
  rw [h, V_v22]; pointwise

theorem blk13_at (t : Fin cfg0.N) (k : Fin 1024) (j : Fin 1024) :
    (iblk m c 13 t : FVec Ideal S1024x1024 .bf16) (ix2 k j) = (args m c).wo (ix3 0 k j) := by
  have h : (iblk m c 13 t : FVec Ideal S1024x1024 .bf16) (ix2 k j) = (V m c main_v24 : FVec Ideal S1024x1024 .bf16) (ix2 k j) := by
    blk_ext [iblk, index13 t]
  rw [h, V_v24]; pointwise

theorem blk14_at (t : Fin cfg0.N) (k : Fin 1024) (q : Fin 128) :
    (iblk m c 14 t : FVec Ideal S1024x128 .bf16) (ix2 k q) = (args m c).weights.wr k q := by
  have h : (iblk m c 14 t : FVec Ideal S1024x128 .bf16) (ix2 k q) = (V m c main_v6 : FVec Ideal S1024x128 .bf16) (ix2 k q) := by
    blk_ext [iblk, index14 t]
  rw [h, V_v6]
  exact side_at m c k q

theorem blk15_at (t : Fin cfg0.N) (k : Fin 1024) (q : Fin 128) :
    (iblk m c 15 t : FVec Ideal S1024x128 .bf16) (ix2 k q) = (args m c).weights.wr k q - (args m c).weights.wr k q := by
  have h : (iblk m c 15 t : FVec Ideal S1024x128 .bf16) (ix2 k q) = (V m c main_v9 : FVec Ideal S1024x128 .bf16) (ix2 k q) := by
    blk_ext [iblk, index15 t]
  rw [h, V_v9]
  exact congrArg₂ (· - ·) (side_at m c k q) (side_at m c k q)

theorem blk16_at (t : Fin cfg0.N) (q : Fin 128) :
    (iblk m c 16 t : FVec Ideal S1x128 .f32) (ix2 0 q) = (args m c).weights.br q := by
  have h : (iblk m c 16 t : FVec Ideal S1x128 .f32) (ix2 0 q) = (V m c main_v14 : FVec Ideal S1x128 .f32) (ix2 0 q) := by
    blk_ext [iblk, index16 t]
  rw [h, V_v14]
  exact sideBias_at m c q

/-- The tile's blocks hold its rows of the arguments. -/
theorem reads (t : Fin cfg0.N) :
    Reads (iblk m c 0 t) (iblk m c 1 t) (X0_2 m c t) (X0_3 m c t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)
      (fun r => (args m c).row (batch t) (place t r)) (args m c).weights where
  yf := blk0_at m c t
  yb := blk1_at m c t
  z := blk2_at m c t
  gs r k := by
    refine (blk3_at m c t r ⟨k.val, by omega⟩).trans ?_
    rfl
  gn r k := by
    refine (blk3_at m c t r ⟨1024 + k.val, by omega⟩).trans ?_
    refine congrArg (fun j => (args m c).big (ix2 ⟨(batch t).val * 4096 + (place t r).val, by have := (batch t).isLt; have := (place t r).isLt; omega⟩ j)) (Fin.ext ?_)
    show 6144 + (1024 + k.val) = 7168 + k.val
    omega
  yna := blk4_at m c t
  x := blk5_at m c t
  g1 _ := blk6_at m c t
  sh _ := blk7_at m c t
  sc _ := blk8_at m c t
  snw := blk9_at m c t
  n2w := blk10_at m c t
  wbs := blk11_at m c t
  wbn := blk12_at m c t
  wo := blk13_at m c t
  wrh := blk14_at m c t
  wrl := blk15_at m c t
  br := blk16_at m c t

/-! ## The results -/

variable (hf : (args m c).Finite)

include hf in
theorem x1_eq : (dats m 0 c).arrAt 17 cfg0.N = x1Spec (args m c) := by
  refine (dats m 0 c).arrAt_eq_of_covers 17 _ (by decide +kernel) fun t _ y => ?_
  have ht := point_lt t
  obtain ⟨r, q, rfl⟩ : ∃ (r : Fin 512) (q : Fin 1024), y = ix2 r q := ⟨y 0, y 1, eq_ix2 y⟩
  have he : (win0_17.blk t).view.emb (ix2 r q) = (ix2 ⟨512 * t.val + r.val, by omega⟩ q : S16384x1024.Idx) := by
    blk_ext [index17 t]
  blk_simp
  rw [he, after0_17]
  unfold outsAt0
  dsimp only
  refine (tile17 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t)
    (iblk m c 0 t) (iblk m c 1 t) (X0_2 m c t) (X0_3 m c t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (reads m c t) (fun r => hf.row _ _) (ix2 r q)).trans ?_
  refine Eq.trans ?_ (x1Spec_at (args m c) ⟨512 * t.val + r.val, by omega⟩ q).symm
  refine congrArg₂ (fun b p => Cert.Merge.x1 ((args m c).row b p) (args m c).weights q) (Fin.ext ?_) (Fin.ext ?_)
  · show t.val / 8 = (512 * t.val + r.val) / 4096
    omega
  · show 512 * (t.val % 8) + r.val = (512 * t.val + r.val) % 4096
    omega

include hf in
theorem h2_eq : (dats m 0 c).arrAt 18 cfg0.N = h2Spec (args m c) := by
  refine (dats m 0 c).arrAt_eq_of_covers 18 _ (by decide +kernel) fun t _ y => ?_
  have ht := point_lt t
  obtain ⟨r, q, rfl⟩ : ∃ (r : Fin 512) (q : Fin 1024), y = ix2 r q := ⟨y 0, y 1, eq_ix2 y⟩
  have he : (win0_18.blk t).view.emb (ix2 r q) = (ix2 ⟨512 * t.val + r.val, by omega⟩ q : S16384x1024.Idx) := by
    blk_ext [index18 t]
  blk_simp
  rw [he, after0_18]
  unfold outsAt0
  dsimp only
  refine (tile18 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t)
    (iblk m c 0 t) (iblk m c 1 t) (X0_2 m c t) (X0_3 m c t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (reads m c t) (fun r => hf.row _ _) (ix2 r q)).trans ?_
  refine Eq.trans ?_ (h2Spec_at (args m c) ⟨512 * t.val + r.val, by omega⟩ q).symm
  refine congrArg₂ (fun b p => Cert.Merge.h2 ((args m c).row b p) (args m c).weights q) (Fin.ext ?_) (Fin.ext ?_)
  · show t.val / 8 = (512 * t.val + r.val) / 4096
    omega
  · show 512 * (t.val % 8) + r.val = (512 * t.val + r.val) % 4096
    omega

include hf in
theorem lg_eq : (dats m 0 c).arrAt 19 cfg0.N = lgSpec (args m c) := by
  refine (dats m 0 c).arrAt_eq_of_covers 19 _ (by decide +kernel) fun t _ y => ?_
  have ht := point_lt t
  obtain ⟨r, q, rfl⟩ : ∃ (r : Fin 512) (q : Fin 128), y = ix2 r q := ⟨y 0, y 1, eq_ix2 y⟩
  have he : (win0_19.blk t).view.emb (ix2 r q) = (ix2 ⟨512 * t.val + r.val, by omega⟩ q : S16384x128.Idx) := by
    blk_ext [index19 t]
  blk_simp
  rw [he, after0_19]
  unfold outsAt0
  dsimp only
  refine (tile19 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t)
    (iblk m c 0 t) (iblk m c 1 t) (X0_2 m c t) (X0_3 m c t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (reads m c t) (fun r => hf.row _ _) hf.weights (ix2 r q)).trans ?_
  refine Eq.trans ?_ (lgSpec_at (args m c) ⟨512 * t.val + r.val, by omega⟩ q).symm
  refine congrArg₂ (fun b p => Cert.Merge.lg ((args m c).row b p) (args m c).weights q) (Fin.ext ?_) (Fin.ext ?_)
  · show t.val / 8 = (512 * t.val + r.val) / 4096
    omega
  · show 512 * (t.val % 8) + r.val = (512 * t.val + r.val) % 4096
    omega

theorem zeros_eq : (dats m 0 c).arrAt 20 cfg0.N = fun _ => (0#32 : BitVec 32) := by
  refine (dats m 0 c).arrAt_eq_of_covers 20 _ (by decide +kernel) fun t _ y => ?_
  obtain ⟨r, q, rfl⟩ : ∃ (r : Fin 1536) (q : Fin 512), y = ix2 r q := ⟨y 0, y 1, eq_ix2 y⟩
  blk_simp
  rw [after0_20]
  unfold outsAt0
  dsimp only
  exact tile20 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t)
    (iblk m c 0 t) (iblk m c 1 t) (X0_2 m c t) (X0_3 m c t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (ix2 r q)

end Cert.Kernel3Ideal.Merge

end
-- ==== Proof.lean ====
/-
  The claims. Those of the dispatch and of the input projection come from runs stated once over any float values; the
  programs at hand have the same text at both instances. Those of the merge set the blocks its run leaves beside the
  reference's results, both as one specification of a row.
-/
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.Reference
public import proofs.«01_k».proof.Proof.Gen.ReferenceIdeal
public import proofs.«01_k».proof.Proof.Gen.ReferenceIdeal.Run
public import proofs.«01_k».proof.Proof.Gen.Pre_rows_apart
public import proofs.«01_k».proof.Proof.Gen.Kernel2
public import proofs.«01_k».proof.Proof.Gen.Kernel2Ideal
public import proofs.«01_k».proof.Proof.Gen.Kernel2Ideal.Skeleton
public import proofs.«01_k».proof.Proof.Gen.Kernel2Ideal.Loops
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Pre_all_finite
public import proofs.«01_k».proof.Proof.Run
public import proofs.«01_k».proof.Proof.Text
public import proofs.«01_k».proof.Proof.Value
public import proofs.«01_k».proof.Proof.InRun
public import proofs.«01_k».proof.Proof.InText
public import proofs.«01_k».proof.Proof.InValue
public import proofs.«01_k».proof.Proof.MgReal
public import proofs.«01_k».proof.Proof.MgValue

@[expose] public section

noncomputable section

namespace Cert.Proof

open Idealize.ShloMosaic Idealize.SL.Sem

theorem frame_kernel : Cert.quiescent_Kernel := fun m ρ h => by
  rw [Cert.Dispatch.same_defs]
  exact (θ_run Cert.KernelIdeal.defs _ _).mono (fun _ q => ⟨fun c => (q.1 c).2, q.2⟩) (Cert.Dispatch.run_kernel (F := Bits) m ρ h)

theorem frame_kernelIdeal : Cert.quiescent_KernelIdeal := fun m ρ h =>
  (θ_run Cert.KernelIdeal.defs _ _).mono (fun _ q => ⟨fun c => (q.1 c).2, q.2⟩) (Cert.Dispatch.run_kernel (F := Ideal) m ρ h)

theorem frame_referenceIdeal : Cert.quiescent_ReferenceIdeal := fun m ρ _ =>
  (θ_run Cert.ReferenceIdeal.defs _ _).mono (fun r q => ⟨fun c => (q c).2, sem_eq_zero_of_no_sems (by decide) r.2⟩)
    (Cert.ReferenceIdeal.Value.run (F := Ideal) m ρ)

theorem frame_reference : Cert.quiescent_Reference := fun m ρ _ =>
  (θ_run Cert.ReferenceIdeal.defs _ _).mono (fun r q => ⟨fun c => (q c).2, sem_eq_zero_of_no_sems (by decide) r.2⟩)
    (Cert.ReferenceIdeal.Value.run (F := Bits) m ρ)

theorem preserves : Cert.preserves_Kernel_KernelIdeal := trivial

theorem algebraic : Cert.algebraic_KernelIdeal_ReferenceIdeal := fun m ρ m' ρ' h e =>
  ⟨_, (θ_run Cert.KernelIdeal.defs _ _).mono (fun _ q => q.1) (Cert.Dispatch.run_kernel (F := Ideal) m ρ h),
    (θ_run Cert.ReferenceIdeal.defs _ _).mono
      (fun r q c => ⟨(show _ = Cert.Dispatch.sent _ _ _ from (q c).1).trans (by rw [(e c).1, (e c).2.1, (e c).2.2]), (q c).2⟩)
      (Cert.ReferenceIdeal.Value.run (F := Ideal) m' ρ')⟩

theorem bitexact : Cert.bitexact_Kernel_Reference := fun m ρ m' ρ' h e => by
  rw [Cert.Dispatch.same_defs]
  exact ⟨_, (θ_run Cert.KernelIdeal.defs _ _).mono (fun _ q => q.1) (Cert.Dispatch.run_kernel (F := Bits) m ρ h),
    (θ_run Cert.ReferenceIdeal.defs _ _).mono
      (fun r q c => ⟨(show _ = Cert.Dispatch.sent _ _ _ from (q c).1).trans (by rw [(e c).1, (e c).2.1, (e c).2.2]), (q c).2⟩)
      (Cert.ReferenceIdeal.Value.run (F := Bits) m' ρ')⟩

theorem frame_kernel2 : Cert.quiescent_Kernel2 := fun m ρ _ => by
  rw [Cert.Inproj.same_defs]
  exact (θ_run Cert.Kernel2Ideal.defs _ _).mono (fun _ q => ⟨fun c => (q.1 c).2, q.2⟩) (Cert.Kernel2Ideal.Inproj.run_main (F := Bits) m ρ)

theorem frame_kernel2Ideal : Cert.quiescent_Kernel2Ideal := fun m ρ _ =>
  (θ_run Cert.Kernel2Ideal.defs _ _).mono (fun _ q => ⟨fun c => (q.1 c).2, q.2⟩) (Cert.Kernel2Ideal.Inproj.run_main (F := Ideal) m ρ)

theorem frame_reference2Ideal : Cert.quiescent_Reference2Ideal := fun m ρ _ =>
  (θ_run Cert.Reference2Ideal.defs _ _).mono (fun r q => ⟨fun c => (q c).2.2, sem_eq_zero_of_no_sems (by decide) r.2⟩)
    (Cert.Inproj.run_ref m ρ)

theorem preserves2 : Cert.preserves_Kernel2_Kernel2Ideal := trivial

theorem algebraic2 : Cert.algebraic_Kernel2Ideal_Reference2Ideal := fun m ρ m' ρ' _ e =>
  ⟨_, _, (θ_run Cert.Kernel2Ideal.defs _ _).mono
      (fun _ q c => ⟨(q.1 c).1.1.trans (Cert.Kernel2Ideal.Inproj.wide_eq m c),
        (q.1 c).1.2.trans (Cert.Kernel2Ideal.Inproj.narrow_eq m c), (q.1 c).2⟩)
      (Cert.Kernel2Ideal.Inproj.run_main (F := Ideal) m ρ),
    (θ_run Cert.Reference2Ideal.defs _ _).mono
      (fun r q c => ⟨(q c).1.trans (by rw [(e c).1, (e c).2.1, (e c).2.2.1, (e c).2.2.2]; rfl),
        (q c).2.1.trans (by rw [(e c).1, (e c).2.1, (e c).2.2.1, (e c).2.2.2]; rfl), (q c).2.2⟩)
      (Cert.Inproj.run_ref m' ρ')⟩

theorem frame_kernel3 : Cert.quiescent_Kernel3 := fun m ρ _ => Cert.Kernel3.Gen.frame m ρ

theorem frame_kernel3Ideal : Cert.quiescent_Kernel3Ideal := fun m ρ _ => Cert.Kernel3Ideal.Gen.frame m ρ

theorem frame_kernel3Ideal_finite : Cert.quiescent_Kernel3Ideal_pre_all_finite := fun m ρ _ => frame_kernel3Ideal m ρ trivial

theorem frame_reference3Ideal : Cert.quiescent_Reference3Ideal := fun m ρ _ =>
  (θ_run Cert.Reference3Ideal.defs _ _).mono (fun r q => ⟨fun c => (q c).2.2.2.2, sem_eq_zero_of_no_sems (by decide) r.2⟩)
    (Cert.Reference3Ideal.Value.run (F := Ideal) m ρ)

theorem frame_reference3Ideal_finite : Cert.quiescent_Reference3Ideal_pre_all_finite := fun m ρ _ =>
  frame_reference3Ideal m ρ trivial

theorem preserves3 : Cert.preserves_Kernel3_Kernel3Ideal := trivial

theorem algebraic3 : Cert.algebraic_Kernel3Ideal_Reference3Ideal_pre_all_finite := fun m ρ m' ρ' h e => by
  have hf : ∀ c, (Cert.Kernel3Ideal.Merge.args m c).Finite := fun c => Cert.Merge.finite_of (Cert.Kernel3Ideal.Merge.args m c) (h c)
  have same : ∀ c, Cert.Merge.args m' c = Cert.Kernel3Ideal.Merge.args m c := fun c => by
    unfold Cert.Merge.args Cert.Kernel3Ideal.Merge.args
    rw [Cert.Merge.Args.mk.injEq]
    exact e c
  exact ⟨_, _, _, _,
    (θ_run Cert.Kernel3Ideal.defs _ _).mono
      (fun _ q c => ⟨(q c).1.trans (Cert.Kernel3Ideal.Merge.x1_eq m c (hf c)),
        (q c).2.1.trans (Cert.Kernel3Ideal.Merge.h2_eq m c (hf c)),
        (q c).2.2.1.trans (Cert.Kernel3Ideal.Merge.lg_eq m c (hf c)),
        (q c).2.2.2.1.trans (Cert.Kernel3Ideal.Merge.zeros_eq m c), (q c).2.2.2.2⟩)
      (Cert.Kernel3Ideal.Value.run_blocks (F := Ideal) m ρ),
    (θ_run Cert.Reference3Ideal.defs _ _).mono
      (fun r q c => ⟨((q c).1.trans (Cert.Merge.out0_eq m' c)).trans (by rw [same c]),
        ((q c).2.1.trans (Cert.Merge.out1_eq m' c)).trans (by rw [same c]),
        ((q c).2.2.1.trans (Cert.Merge.out2_eq m' c)).trans (by rw [same c]),
        (q c).2.2.2.1.trans rfl, (q c).2.2.2.2⟩)
      (Cert.Reference3Ideal.Value.run (F := Ideal) m' ρ')⟩

theorem claim : Cert.Claim :=
  ⟨Cert.Kernel.Gen.facts, Cert.KernelIdeal.Gen.facts, Cert.ReferenceIdeal.Gen.facts, Cert.Reference.Gen.facts, Cert.Kernel2.Gen.facts,
    Cert.Kernel2Ideal.Gen.facts, Cert.Reference2Ideal.Gen.facts, Cert.Kernel3.Gen.facts, Cert.Kernel3Ideal.Gen.facts,
    Cert.Reference3Ideal.Gen.facts, Cert.Pre_rows_apart.Gen.facts, Cert.Pre_all_finite.Gen.facts,
    frame_kernel, frame_kernelIdeal, frame_referenceIdeal, frame_reference, frame_kernel2, frame_kernel2Ideal, frame_reference2Ideal,
    frame_kernel3, frame_kernel3Ideal, frame_kernel3Ideal_finite, frame_reference3Ideal, frame_reference3Ideal_finite,
    preserves, algebraic, bitexact, preserves2, algebraic2, preserves3, algebraic3⟩

end Cert.Proof

end
